-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_pre6 [hPre_pre6 : Cert.Pre_pre6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_pre6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_pre6 [hPre_pre6 : Cert.Pre_pre6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_pre6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_pre7 [hPre_pre7 : Cert.Pre_pre7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_pre7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_pre7 [hPre_pre7 : Cert.Pre_pre7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_pre7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_pre6 [hKernel6Ideal : Cert.Kernel6Ideal.Facts] [hPre_pre6 : Cert.Pre_pre6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_pre6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_pre6 [hReference6Ideal : Cert.Reference6Ideal.Facts] [hPre_pre6 : Cert.Pre_pre6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_pre6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_pre7 [hKernel7Ideal : Cert.Kernel7Ideal.Facts] [hPre_pre7 : Cert.Pre_pre7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_pre7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_pre7 [hReference7Ideal : Cert.Reference7Ideal.Facts] [hPre_pre7 : Cert.Pre_pre7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_pre7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v23)) (v1 : (c : Dev Cert.Kernel3Ideal.nD) → Buf (Elt Ideal) ((c.tc : Thread Cert.Kernel3Ideal.nD Cert.Kernel3Ideal.τ).loc Cert.Kernel3Ideal.main_v24)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23) = v0 c
          ∧ r.2.mem ((c.tc : Thread Cert.Kernel3Ideal.nD Cert.Kernel3Ideal.τ).loc Cert.Kernel3Ideal.main_v24) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_v60) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_v37) = v1 c
          ∧ r.2.mem ((c.tc : Thread Cert.Reference4Ideal.nD Cert.Reference4Ideal.τ).loc Cert.Reference4Ideal.main_v19) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)) (v3 : (c : Dev Cert.Kernel5Ideal.nD) → Buf (Elt Ideal) ((c.tc : Thread Cert.Kernel5Ideal.nD Cert.Kernel5Ideal.τ).loc Cert.Kernel5Ideal.main_v2_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_v2_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v51) = v0 c
          ∧ r.2.mem ((c.tc : Thread Cert.Reference5Ideal.nD Cert.Reference5Ideal.τ).loc Cert.Reference5Ideal.main_v52) = v1 c
          ∧ r.2.mem ((c.tc : Thread Cert.Reference5Ideal.nD Cert.Reference5Ideal.τ).loc Cert.Reference5Ideal.main_v53) = v2 c
          ∧ r.2.mem ((c.tc : Thread Cert.Reference5Ideal.nD Cert.Reference5Ideal.τ).loc Cert.Reference5Ideal.main_v35) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_pre6 [hKernel6Ideal : Cert.Kernel6Ideal.Facts] [hReference6Ideal : Cert.Reference6Ideal.Facts] [hPre_pre6 : Cert.Pre_pre6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_pre6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v18_0)) (v1 : (c : Dev Cert.Kernel6Ideal.nD) → Buf (Elt Ideal) ((c.tc : Thread Cert.Kernel6Ideal.nD Cert.Kernel6Ideal.τ).loc Cert.Kernel6Ideal.main_v18_1)) (v2 : (c : Dev Cert.Kernel6Ideal.nD) → Buf (Elt Ideal) ((c.tc : Thread Cert.Kernel6Ideal.nD Cert.Kernel6Ideal.τ).loc Cert.Kernel6Ideal.main_v18_2)) (v3 : (c : Dev Cert.Kernel6Ideal.nD) → Buf (Elt Ideal) ((c.tc : Thread Cert.Kernel6Ideal.nD Cert.Kernel6Ideal.τ).loc Cert.Kernel6Ideal.main_v18_3)) (v4 : (c : Dev Cert.Kernel6Ideal.nD) → Buf (Elt Ideal) ((c.tc : Thread Cert.Kernel6Ideal.nD Cert.Kernel6Ideal.τ).loc Cert.Kernel6Ideal.main_v18_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v18_0) = v0 c
          ∧ r.2.mem ((c.tc : Thread Cert.Kernel6Ideal.nD Cert.Kernel6Ideal.τ).loc Cert.Kernel6Ideal.main_v18_1) = v1 c
          ∧ r.2.mem ((c.tc : Thread Cert.Kernel6Ideal.nD Cert.Kernel6Ideal.τ).loc Cert.Kernel6Ideal.main_v18_2) = v2 c
          ∧ r.2.mem ((c.tc : Thread Cert.Kernel6Ideal.nD Cert.Kernel6Ideal.τ).loc Cert.Kernel6Ideal.main_v18_3) = v3 c
          ∧ r.2.mem ((c.tc : Thread Cert.Kernel6Ideal.nD Cert.Kernel6Ideal.τ).loc Cert.Kernel6Ideal.main_v18_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v103) = v0 c
          ∧ r.2.mem ((c.tc : Thread Cert.Reference6Ideal.nD Cert.Reference6Ideal.τ).loc Cert.Reference6Ideal.main_v104) = v1 c
          ∧ r.2.mem ((c.tc : Thread Cert.Reference6Ideal.nD Cert.Reference6Ideal.τ).loc Cert.Reference6Ideal.main_v81) = v2 c
          ∧ r.2.mem ((c.tc : Thread Cert.Reference6Ideal.nD Cert.Reference6Ideal.τ).loc Cert.Reference6Ideal.main_v80) = v3 c
          ∧ r.2.mem ((c.tc : Thread Cert.Reference6Ideal.nD Cert.Reference6Ideal.τ).loc Cert.Reference6Ideal.main_v86) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal_pre_pre7 [hKernel7Ideal : Cert.Kernel7Ideal.Facts] [hReference7Ideal : Cert.Reference7Ideal.Facts] [hPre_pre7 : Cert.Pre_pre7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_pre7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v87)) (v1 : (c : Dev Cert.Kernel7Ideal.nD) → Buf (Elt Ideal) ((c.tc : Thread Cert.Kernel7Ideal.nD Cert.Kernel7Ideal.τ).loc Cert.Kernel7Ideal.main_v90)) (v2 : (c : Dev Cert.Kernel7Ideal.nD) → Buf (Elt Ideal) ((c.tc : Thread Cert.Kernel7Ideal.nD Cert.Kernel7Ideal.τ).loc Cert.Kernel7Ideal.main_v93)) (v3 : (c : Dev Cert.Kernel7Ideal.nD) → Buf (Elt Ideal) ((c.tc : Thread Cert.Kernel7Ideal.nD Cert.Kernel7Ideal.τ).loc Cert.Kernel7Ideal.main_v81_3)) (v4 : (c : Dev Cert.Kernel7Ideal.nD) → Buf (Elt Ideal) ((c.tc : Thread Cert.Kernel7Ideal.nD Cert.Kernel7Ideal.τ).loc Cert.Kernel7Ideal.main_v81_4)) (v5 : (c : Dev Cert.Kernel7Ideal.nD) → Buf (Elt Ideal) ((c.tc : Thread Cert.Kernel7Ideal.nD Cert.Kernel7Ideal.τ).loc Cert.Kernel7Ideal.main_v81_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v87) = v0 c
          ∧ r.2.mem ((c.tc : Thread Cert.Kernel7Ideal.nD Cert.Kernel7Ideal.τ).loc Cert.Kernel7Ideal.main_v90) = v1 c
          ∧ r.2.mem ((c.tc : Thread Cert.Kernel7Ideal.nD Cert.Kernel7Ideal.τ).loc Cert.Kernel7Ideal.main_v93) = v2 c
          ∧ r.2.mem ((c.tc : Thread Cert.Kernel7Ideal.nD Cert.Kernel7Ideal.τ).loc Cert.Kernel7Ideal.main_v81_3) = v3 c
          ∧ r.2.mem ((c.tc : Thread Cert.Kernel7Ideal.nD Cert.Kernel7Ideal.τ).loc Cert.Kernel7Ideal.main_v81_4) = v4 c
          ∧ r.2.mem ((c.tc : Thread Cert.Kernel7Ideal.nD Cert.Kernel7Ideal.τ).loc Cert.Kernel7Ideal.main_v81_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v103) = v0 c
          ∧ r.2.mem ((c.tc : Thread Cert.Reference7Ideal.nD Cert.Reference7Ideal.τ).loc Cert.Reference7Ideal.main_v108) = v1 c
          ∧ r.2.mem ((c.tc : Thread Cert.Reference7Ideal.nD Cert.Reference7Ideal.τ).loc Cert.Reference7Ideal.main_v84) = v2 c
          ∧ r.2.mem ((c.tc : Thread Cert.Reference7Ideal.nD Cert.Reference7Ideal.τ).loc Cert.Reference7Ideal.main_v87) = v3 c
          ∧ r.2.mem ((c.tc : Thread Cert.Reference7Ideal.nD Cert.Reference7Ideal.τ).loc Cert.Reference7Ideal.main_v68) = v4 c
          ∧ r.2.mem ((c.tc : Thread Cert.Reference7Ideal.nD Cert.Reference7Ideal.τ).loc Cert.Reference7Ideal.main_v109) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v14_0)) (v1 : (c : Dev Cert.Kernel8Ideal.nD) → Buf (Elt Ideal) ((c.tc : Thread Cert.Kernel8Ideal.nD Cert.Kernel8Ideal.τ).loc Cert.Kernel8Ideal.main_v14_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14_0) = v0 c
          ∧ r.2.mem ((c.tc : Thread Cert.Kernel8Ideal.nD Cert.Kernel8Ideal.τ).loc Cert.Kernel8Ideal.main_v14_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_v19) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v22)) (v1 : (c : Dev Cert.Kernel9Ideal.nD) → Buf (Elt Ideal) ((c.tc : Thread Cert.Kernel9Ideal.nD Cert.Kernel9Ideal.τ).loc Cert.Kernel9Ideal.main_v25)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v22) = v0 c
          ∧ r.2.mem ((c.tc : Thread Cert.Kernel9Ideal.nD Cert.Kernel9Ideal.τ).loc Cert.Kernel9Ideal.main_v25) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v55) = v0 c
          ∧ r.2.mem ((c.tc : Thread Cert.Reference9Ideal.nD Cert.Reference9Ideal.τ).loc Cert.Reference9Ideal.main_v56) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)) (v3 : (c : Dev Cert.Kernel10Ideal.nD) → Buf (Elt Ideal) ((c.tc : Thread Cert.Kernel10Ideal.nD Cert.Kernel10Ideal.τ).loc Cert.Kernel10Ideal.main_v3_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_v3_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v36) = v0 c
          ∧ r.2.mem ((c.tc : Thread Cert.Reference10Ideal.nD Cert.Reference10Ideal.τ).loc Cert.Reference10Ideal.main_v37) = v1 c
          ∧ r.2.mem ((c.tc : Thread Cert.Reference10Ideal.nD Cert.Reference10Ideal.τ).loc Cert.Reference10Ideal.main_v38) = v2 c
          ∧ r.2.mem ((c.tc : Thread Cert.Reference10Ideal.nD Cert.Reference10Ideal.τ).loc Cert.Reference10Ideal.main_v39) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v13) = v0 c
          ∧ r.2.mem ((c.tc : Thread Cert.Reference12Ideal.nD Cert.Reference12Ideal.τ).loc Cert.Reference12Ideal.main_v15) = v1 c
          ∧ r.2.mem ((c.tc : Thread Cert.Reference12Ideal.nD Cert.Reference12Ideal.τ).loc Cert.Reference12Ideal.main_v16) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v13) = v0 c
          ∧ r.2.mem ((c.tc : Thread Cert.Reference13Ideal.nD Cert.Reference13Ideal.τ).loc Cert.Reference13Ideal.main_v14) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)) (v3 : (c : Dev Cert.Kernel16Ideal.nD) → Buf (Elt Ideal) ((c.tc : Thread Cert.Kernel16Ideal.nD Cert.Kernel16Ideal.τ).loc Cert.Kernel16Ideal.main_v1_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_v1_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v5) = v2 c
          ∧ r.2.mem ((c.tc : Thread Cert.Reference16Ideal.nD Cert.Reference16Ideal.τ).loc Cert.Reference16Ideal.main_v11) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v3) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel19 : Cert.Kernel19.Facts) (hKernel19Ideal : Cert.Kernel19Ideal.Facts) (hReference19Ideal : Cert.Reference19Ideal.Facts) (hPre_pre6 : Cert.Pre_pre6.Facts) (hPre_pre7 : Cert.Pre_pre7.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_pre6 (hKernel6Ideal := hKernel6Ideal) (hPre_pre6 := hPre_pre6)
    ∧ quiescent_Reference6Ideal (hReference6Ideal := hReference6Ideal)
    ∧ quiescent_Reference6Ideal_pre_pre6 (hReference6Ideal := hReference6Ideal) (hPre_pre6 := hPre_pre6)
    ∧ quiescent_Kernel7 (hKernel7 := hKernel7)
    ∧ quiescent_Kernel7Ideal (hKernel7Ideal := hKernel7Ideal)
    ∧ quiescent_Kernel7Ideal_pre_pre7 (hKernel7Ideal := hKernel7Ideal) (hPre_pre7 := hPre_pre7)
    ∧ quiescent_Reference7Ideal (hReference7Ideal := hReference7Ideal)
    ∧ quiescent_Reference7Ideal_pre_pre7 (hReference7Ideal := hReference7Ideal) (hPre_pre7 := hPre_pre7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_pre6 (hKernel6Ideal := hKernel6Ideal) (hReference6Ideal := hReference6Ideal) (hPre_pre6 := hPre_pre6)
    ∧ preserves_Kernel7_Kernel7Ideal
    ∧ algebraic_Kernel7Ideal_Reference7Ideal_pre_pre7 (hKernel7Ideal := hKernel7Ideal) (hReference7Ideal := hReference7Ideal) (hPre_pre7 := hPre_pre7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel19_Kernel19Ideal
    ∧ algebraic_Kernel19Ideal_Reference19Ideal (hKernel19Ideal := hKernel19Ideal) (hReference19Ideal := hReference19Ideal)
-- ==== Pre_pre6.lean ====
abbrev S4096x1024 : Shape := ⟨2, ![4096, 1024]⟩
abbrev S1x1024 : Shape := ⟨2, ![1, 1024]⟩
abbrev S1024x1024 : Shape := ⟨2, ![1024, 1024]⟩
abbrev S256x2048 : Shape := ⟨2, ![256, 2048]⟩
abbrev S_ : Shape := ⟨0, ![]⟩
abbrev S256x1024 : Shape := ⟨2, ![256, 1024]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  slices_S256x2048_S256x1024_0_0 : S256x2048.Slices ![0, 0] S256x1024
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S4096x1024 .f32) (main_arg1 : FVec F S1x1024 .f32) (main_arg2 : FVec F S1024x1024 .f32) (main_arg3 : FVec F S256x2048 .f32) (main_arg4 : FVec F S1024x1024 .f32) (main_arg5 : FVec F S4096x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S256x1024 .f32 := (extractStridedSlice S256x1024 ![0, 0] · slices_S256x2048_S256x1024_0_0) main_arg3
  let main_v10 : FVec F S256x1024 .f32 := Host.absf main_v9
  let main_cst_2 : FVec F S_ .f32 := constant S_ .f32 0x7F800000#32
  let main_v11 : FVec F S256x1024 .f32 := broadcastInDim S256x1024 ![] bcast_S_S256x1024 main_cst_2
  let main_v12 : IVec S256x1024 1 := cmpf .olt main_v10 main_v11
  let main_c_3 : IVec S_ 1 := constantI S_ 1 1#1
  let main_v13 : IVec S_ 1 := (fun x v => Host.reduce IntOp.andi x v reducesTo_S256x1024_S_d0_1 h_S_) main_v12 main_c_3
  let main_v14 : IVec S_ 1 := andi main_v8 main_v13
  main_v14
-- ==== Pre_pre7.lean ====
abbrev S4096x512 : Shape := ⟨2, ![4096, 512]⟩
abbrev S4096x1536 : Shape := ⟨2, ![4096, 1536]⟩
abbrev S3x512 : Shape := ⟨2, ![3, 512]⟩
abbrev S1x512 : Shape := ⟨2, ![1, 512]⟩
abbrev S1024x1024 : Shape := ⟨2, ![1024, 1024]⟩
abbrev S4096x1024 : Shape := ⟨2, ![4096, 1024]⟩
abbrev S_ : Shape := ⟨0, ![]⟩
abbrev S512x1024 : Shape := ⟨2, ![512, 1024]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  slices_S1024x1024_S512x1024_0_0 : S1024x1024.Slices ![0, 0] S512x1024
  bcast_S_S512x1024 : S_.BroadcastsInDim S512x1024 (![] : Fin 0 → Fin S512x1024.rank)
  reducesTo_S512x1024_S_d0_1 : S512x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v14 : IVec S_ 1) (main_v15 : FVec F S4096x1024 .f32) (main_v16 : FVec F S4096x1024 .f32) : IVec S_ 1 :=
  let main_v17 : IVec S4096x1024 1 := cmpf .olt main_v15 main_v16
  let main_c_5 : IVec S_ 1 := constantI S_ 1 1#1
  let main_v18 : IVec S_ 1 := (fun x v => Host.reduce IntOp.andi x v reducesTo_S4096x1024_S_d0_1 h_S_) main_v17 main_c_5
  let main_v19 : IVec S_ 1 := andi main_v14 main_v18
  main_v19

def fn {F : FTy → Type} [FloatOps F] (main_arg0 : FVec F S4096x512 .f32) (main_arg1 : FVec F S4096x1536 .f32) (main_arg2 : FVec F S3x512 .f32) (main_arg3 : FVec F S1x512 .f32) (main_arg4 : FVec F S1x512 .f32) (main_arg5 : FVec F S1024x1024 .f32) (main_arg6 : FVec F S4096x1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S1x512 .f32 := Host.absf main_arg3
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S512x1024 .f32 := (extractStridedSlice S512x1024 ![0, 0] · slices_S1024x1024_S512x1024_0_0) main_arg5
  let main_v10 : FVec F S512x1024 .f32 := Host.absf main_v9
  let main_cst_2 : FVec F S_ .f32 := constant S_ .f32 0x7F800000#32
  let main_v11 : FVec F S512x1024 .f32 := broadcastInDim S512x1024 ![] bcast_S_S512x1024 main_cst_2
  let main_v12 : IVec S512x1024 1 := cmpf .olt main_v10 main_v11
  let main_c_3 : IVec S_ 1 := constantI S_ 1 1#1
  let main_v13 : IVec S_ 1 := (fun x v => Host.reduce IntOp.andi x v reducesTo_S512x1024_S_d0_1 h_S_) main_v12 main_c_3
  let main_v14 : IVec S_ 1 := andi main_v8 main_v13
  let main_v15 : FVec F S4096x1024 .f32 := Host.absf main_arg6
  let main_cst_4 : FVec F S_ .f32 := constant S_ .f32 0x7F800000#32
  let main_v16 : FVec F S4096x1024 .f32 := broadcastInDim S4096x1024 ![] bcast_S_S4096x1024 main_cst_4
  fn_part1 (F := F) main_v14 main_v15 main_v16
-- ==== Kernel.lean ====
abbrev S4096x4096 : Shape := ⟨2, ![4096, 4096]⟩
abbrev S4096x1024 : Shape := ⟨2, ![4096, 1024]⟩
abbrev S_ : Shape := ⟨0, ![]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 10
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x1024, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Kernel2.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S_ : Shape := ⟨0, ![]⟩
abbrev S256 : Shape := ⟨1, ![256]⟩
abbrev S256x1 : Shape := ⟨2, ![256, 1]⟩
abbrev S1024x1024 : Shape := ⟨2, ![1024, 1024]⟩
abbrev S1024 : Shape := ⟨1, ![1024]⟩

abbrev nBuf : Space → Nat
  | .hbm => 25
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S256x2048, .f32⟩
  | .hbm, ⟨4, _⟩ => ⟨S256x1024, .f32⟩
  | .hbm, ⟨5, _⟩ => ⟨S256x1024, .f32⟩
  | .hbm, ⟨6, _⟩ => ⟨S1024x2048, .bf16⟩
  | .hbm, ⟨7, _⟩ => ⟨S256x1024, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .bf16⟩
  | .hbm, ⟨23, _⟩ => ⟨S1024x2048, .bf16⟩
  | .hbm, ⟨24, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1024x2048, .bf16⟩
  | .local _ .vmem, ⟨3, _⟩ => ⟨S256x1024, .f32⟩
  | .local _ .vmem, ⟨4, _⟩ => ⟨S256x1024, .bf16⟩
  | .local _ .vmem, ⟨5, _⟩ => ⟨S1x1024, .f32⟩
  | .local _ .vmem, ⟨6, _⟩ => ⟨S1024x2048, .bf16⟩
  | .local _ .vmem, ⟨7, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference2Ideal.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S_ : Shape := ⟨0, ![]⟩
abbrev S256 : Shape := ⟨1, ![256]⟩
abbrev S256x1 : Shape := ⟨2, ![256, 1]⟩
abbrev S2048x1024 : Shape := ⟨2, ![2048, 1024]⟩
abbrev S1024 : Shape := ⟨1, ![1024]⟩

abbrev nBuf : Space → Nat
  | .hbm => 28
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S256x2048, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x2048, .f32⟩
  | .hbm, ⟨20, _⟩ => ⟨S2048x1024, .f32⟩
  | .hbm, ⟨21, _⟩ => ⟨S1024x2048, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S1024x2048, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel3.lean ====
abbrev S4096x1536 : Shape := ⟨2, ![4096, 1536]⟩
abbrev S3x512 : Shape := ⟨2, ![3, 512]⟩
abbrev S4096x512 : Shape := ⟨2, ![4096, 512]⟩
abbrev S2x128x16x512 : Shape := ⟨4, ![2, 128, 16, 512]⟩
abbrev S2x16x128x512 : Shape := ⟨4, ![2, 16, 128, 512]⟩
abbrev S2x128x16x1536 : Shape := ⟨4, ![2, 128, 16, 1536]⟩
abbrev S2x16x128x1536 : Shape := ⟨4, ![2, 16, 128, 1536]⟩
abbrev S6x2x16x128x512 : Shape := ⟨5, ![6, 2, 16, 128, 512]⟩
abbrev S8x512 : Shape := ⟨2, ![8, 512]⟩
abbrev S1x16x32x512 : Shape := ⟨4, ![1, 16, 32, 512]⟩
abbrev S1x2x16x512 : Shape := ⟨4, ![1, 2, 16, 512]⟩
abbrev S1x16x32x1536 : Shape := ⟨4, ![1, 16, 32, 1536]⟩
abbrev S1x2x16x1536 : Shape := ⟨4, ![1, 2, 16, 1536]⟩
abbrev S3x1x16x32x512 : Shape := ⟨5, ![3, 1, 16, 32, 512]⟩
abbrev S16x32x1536 : Shape := ⟨3, ![16, 32, 1536]⟩
abbrev S2x16x1536 : Shape := ⟨3, ![2, 16, 1536]⟩
abbrev S16x32x512 : Shape := ⟨3, ![16, 32, 512]⟩
abbrev S2x16x512 : Shape := ⟨3, ![2, 16, 512]⟩
abbrev S1x32x512 : Shape := ⟨3, ![1, 32, 512]⟩
abbrev S32x512 : Shape := ⟨2, ![32, 512]⟩
abbrev S1x1x512 : Shape := ⟨3, ![1, 1, 512]⟩
abbrev S1x512 : Shape := ⟨2, ![1, 512]⟩
abbrev S15x32x512 : Shape := ⟨3, ![15, 32, 512]⟩
abbrev S14x32x512 : Shape := ⟨3, ![14, 32, 512]⟩
abbrev S1x1x16x32x512 : Shape := ⟨5, ![1, 1, 16, 32, 512]⟩
abbrev S512 : Shape := ⟨1, ![512]⟩
abbrev S6x4096x512 : Shape := ⟨3, ![6, 4096, 512]⟩
abbrev S1x4096x512 : Shape := ⟨3, ![1, 4096, 512]⟩

abbrev nBuf : Space → Nat
  | .hbm => 29
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S3x512, .f32⟩
  | .hbm, ⟨2, _⟩ => ⟨S4096x512, .f32⟩
  | .hbm, ⟨3, _⟩ => ⟨S2x128x16x512, .f32⟩
  | .hbm, ⟨4, _⟩ => ⟨S2x16x128x512, .f32⟩
  | .hbm, ⟨5, _⟩ => ⟨S4096x512, .f32⟩
  | .hbm, ⟨6, _⟩ => ⟨S2x128x16x1536, .f32⟩
  | .hbm, ⟨7, _⟩ => ⟨S2x16x128x1536, .f32⟩
  | .hbm, ⟨8, _⟩ => ⟨S4096x1536, .f32⟩
  | .hbm, ⟨9, _⟩ => ⟨S4096x1536, .bf16⟩
  | .hbm, ⟨10, _⟩ => ⟨S2x16x128x512, .f32⟩
  | .hbm, ⟨11, _⟩ => ⟨S2x16x128x512, .f32⟩
  | .hbm, ⟨12, _⟩ => ⟨S2x16x128x1536, .bf16⟩
  | .hbm, ⟨13, _⟩ => ⟨S2x16x128x1536, .bf16⟩
  | .hbm, ⟨14, _⟩ => ⟨S2x16x128x1536, .bf16⟩
  | .hbm, ⟨15, _⟩ => ⟨S6x2x16x128x512, .bf16⟩
  | .hbm, ⟨16, _⟩ => ⟨S8x512, .f32⟩
  | .hbm, ⟨17, _⟩ => ⟨S6x4096x512, .bf16⟩
  | .hbm, ⟨18, _⟩ => ⟨S1x4096x512, .bf16⟩
  | .hbm, ⟨19, _⟩ => ⟨S4096x512, .bf16⟩
  | .hbm, ⟨20, _⟩ => ⟨S1x4096x512, .bf16⟩
  | .hbm, ⟨21, _⟩ => ⟨S4096x512, .bf16⟩
  | .hbm, ⟨22, _⟩ => ⟨S1x4096x512, .bf16⟩
  | .hbm, ⟨23, _⟩ => ⟨S4096x512, .bf16⟩
  | .hbm, ⟨24, _⟩ => ⟨S4096x1536, .bf16⟩
  | .hbm, ⟨25, _⟩ => ⟨S2x16x128x1536, .bf16⟩
  | .hbm, ⟨26, _⟩ => ⟨S2x128x16x1536, .bf16⟩
  | .hbm, ⟨27, _⟩ => ⟨S4096x1536, .bf16⟩
  | .hbm, ⟨28, _⟩ => ⟨S3x512, .f32⟩
  | .local _ .vmem, ⟨0, _⟩ => ⟨S1x16x32x512, .f32⟩
  | .local _ .vmem, ⟨1, _⟩ => ⟨S1x16x32x512, .f32⟩
  | .local _ .vmem, ⟨2, _⟩ => ⟨S1x2x16x512, .f32⟩
  | .local _ .vmem, ⟨3, _⟩ => ⟨S1x2x16x512, .f32⟩
  | .local _ .vmem, ⟨4, _⟩ => ⟨S1x16x32x1536, .bf16⟩
  | .local _ .vmem, ⟨5, _⟩ => ⟨S1x16x32x1536, .bf16⟩
  | .local _ .vmem, ⟨6, _⟩ => ⟨S1x2x16x1536, .bf16⟩
  | .local _ .vmem, ⟨7, _⟩ => ⟨S1x2x16x1536, .bf16⟩
  | .local _ .vmem, ⟨8, _⟩ => ⟨S1x2x16x1536, .bf16⟩
  | .local _ .vmem, ⟨9, _⟩ => ⟨S1x2x16x1536, .bf16⟩
  | .local _ .vmem, ⟨10, _⟩ => ⟨S3x512, .f32⟩
  | .local _ .vmem, ⟨11, _⟩ => ⟨S3x1x16x32x512, .bf16⟩
  | .local _ .vmem, ⟨12, _⟩ => ⟨S3x1x16x32x512, .bf16⟩
  | .local _ .vmem, ⟨13, _⟩ => ⟨S8x512, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12_0 : Ref sig .tc := ⟨.hbm, 15, rfl⟩
abbrev main_v12_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 4 → Nat :=
  let arg0 : BitVec 32 := BitVec.ofNat 32 (i 0).val
  let c1_i32 : BitVec 32 := 1#32
  let v0 : BitVec 32 := Scalar.addi arg0 c1_i32
  let c7_i32 : BitVec 32 := 7#32
  let v1 : BitVec 32 := Scalar.minsi v0 c7_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let v19 : BitVec 32 := Scalar.addi arg0 c1_i32_5
  let c7_i32_6 : BitVec 32 := 7#32
  let v20 : BitVec 32 := Scalar.minsi v19 c7_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c2_i32 : BitVec 32 := 2#32
  let v31 : BitVec 32 := Scalar.muli v30 c2_i32
  let c0_i32_13 : BitVec 32 := 0#32
  let c0_i32_14 : BitVec 32 := 0#32
  let c0_i32_15 : BitVec 32 := 0#32
  ![v18.toNat, c0_i32_13.toNat, v31.toNat, c0_i32_14.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c2_i32 : BitVec 32 := 2#32
  let v31 : BitVec 32 := Scalar.muli v30 c2_i32
  let c2_i32_14 : BitVec 32 := 2#32
  let v32 : BitVec 32 := Scalar.addi v31 c2_i32_14
  let c1_i32_15 : BitVec 32 := 1#32
  let v33 : BitVec 32 := Scalar.subi v32 c1_i32_15
  let c7_i32 : BitVec 32 := 7#32
  let c0_i32_16 : BitVec 32 := 0#32
  let c0_i32_17 : BitVec 32 := 0#32
  ![v18.toNat, c7_i32.toNat, v33.toNat, c0_i32_16.toNat]

def cc0_transform_4 (i : grid0.Coords) : Fin 4 → Nat :=
  let arg0 : BitVec 32 := BitVec.ofNat 32 (i 0).val
  let c1_i32 : BitVec 32 := 1#32
  let v0 : BitVec 32 := Scalar.addi arg0 c1_i32
  let c7_i32 : BitVec 32 := 7#32
  let v1 : BitVec 32 := Scalar.minsi v0 c7_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let v19 : BitVec 32 := Scalar.addi arg0 c1_i32_5
  let c7_i32_6 : BitVec 32 := 7#32
  let v20 : BitVec 32 := Scalar.minsi v19 c7_i32_6
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c2_i32 : BitVec 32 := 2#32
  let v31 : BitVec 32 := Scalar.muli v30 c2_i32
  let c0_i32_13 : BitVec 32 := 0#32
  let c0_i32_14 : BitVec 32 := 0#32
  let c0_i32_15 : BitVec 32 := 0#32
  ![v18.toNat, c0_i32_13.toNat, v31.toNat, c0_i32_14.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  let c0_i32_13 : BitVec 32 := 0#32
  ![c1_i32_10.toNat, v16.toNat, c0_i32_11.toNat, v26.toNat, c0_i32_12.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x16x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x32x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x16x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x16x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3x1x16x32x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S4096x1536 : Shape := ⟨2, ![4096, 1536]⟩
abbrev S3x512 : Shape := ⟨2, ![3, 512]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩

abbrev nBuf : Space → Nat
  | .hbm => 87
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S3x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S2x512, .f32⟩
  | .hbm, ⟨9, _⟩ => ⟨S4098x512, .f32⟩
  | .hbm, ⟨10, _⟩ => ⟨S_, .f32⟩
  | .hbm, ⟨11, _⟩ => ⟨S2x512, .f32⟩
  | .hbm, ⟨12, _⟩ => ⟨S4096x512, .f32⟩
  | .hbm, ⟨13, _⟩ => ⟨S1x512, .f32⟩
  | .hbm, ⟨14, _⟩ => ⟨S512, .f32⟩
  | .hbm, ⟨15, _⟩ => ⟨S1x512, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S1x512, .f32⟩
  | .hbm, ⟨23, _⟩ => ⟨S512, .f32⟩
  | .hbm, ⟨24, _⟩ => ⟨S1x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S1x512, .f32⟩
  | .hbm, ⟨30, _⟩ => ⟨S512, .f32⟩
  | .hbm, ⟨31, _⟩ => ⟨S1x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S512, .f32⟩
  | .hbm, ⟨41, _⟩ => ⟨S1x512, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S512, .f32⟩
  | .hbm, ⟨46, _⟩ => ⟨S1x512, .f32⟩
  | .hbm, ⟨47, _⟩ => ⟨S_, .f32⟩
  | .hbm, ⟨48, _⟩ => ⟨S3x512, .f32⟩
  | .hbm, ⟨49, _⟩ => ⟨S_, .f32⟩
  | .hbm, ⟨50, _⟩ => ⟨S4098x512, .f32⟩
  | .hbm, ⟨51, _⟩ => ⟨S4096x512, .f32⟩
  | .hbm, ⟨52, _⟩ => ⟨S_, .f32⟩
  | .hbm, ⟨53, _⟩ => ⟨S512, .f32⟩
  | .hbm, ⟨54, _⟩ => ⟨S1x512, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S512, .f32⟩
  | .hbm, ⟨59, _⟩ => ⟨S1x512, .f32⟩
  | .hbm, ⟨60, _⟩ => ⟨S_, .f32⟩
  | .hbm, ⟨61, _⟩ => ⟨S3x512, .f32⟩
  | .hbm, ⟨62, _⟩ => ⟨S3x512, .f32⟩
  | .hbm, ⟨63, _⟩ => ⟨S_, .f32⟩
  | .hbm, ⟨64, _⟩ => ⟨S4098x512, .f32⟩
  | .hbm, ⟨65, _⟩ => ⟨S4098x512, .f32⟩
  | .hbm, ⟨66, _⟩ => ⟨S4096x512, .f32⟩
  | .hbm, ⟨67, _⟩ => ⟨S_, .f32⟩
  | .hbm, ⟨68, _⟩ => ⟨S512, .f32⟩
  | .hbm, ⟨69, _⟩ => ⟨S1x512, .f32⟩
  | .hbm, ⟨70, _⟩ => ⟨S4096x512, .f32⟩
  | .hbm, ⟨71, _⟩ => ⟨S4096x512, .f32⟩
  | .hbm, ⟨72, _⟩ => ⟨S_, .f32⟩
  | .hbm, ⟨73, _⟩ => ⟨S512, .f32⟩
  | .hbm, ⟨74, _⟩ => ⟨S1x512, .f32⟩
  | .hbm, ⟨75, _⟩ => ⟨S_, .f32⟩
  | .hbm, ⟨76, _⟩ => ⟨S3x512, .f32⟩
  | .hbm, ⟨77, _⟩ => ⟨S3x512, .f32⟩
  | .hbm, ⟨78, _⟩ => ⟨S_, .f32⟩
  | .hbm, ⟨79, _⟩ => ⟨S4098x512, .f32⟩
  | .hbm, ⟨80, _⟩ => ⟨S4098x512, .f32⟩
  | .hbm, ⟨81, _⟩ => ⟨S2x512, .f32⟩
  | .hbm, ⟨82, _⟩ => ⟨S4096x512, .f32⟩
  | .hbm, ⟨83, _⟩ => ⟨S4096x512, .f32⟩
  | .hbm, ⟨84, _⟩ => ⟨S4096x512, .f32⟩
  | .hbm, ⟨85, _⟩ => ⟨S4096x1536, .f32⟩
  | .hbm, ⟨86, _⟩ => ⟨S4096x1536, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Kernel4.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x4096, .bf16⟩
  | .hbm, ⟨6, _⟩ => ⟨S1024x4096, .bf16⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_19 : BitVec 32 := 0#32
  let v39 : BitVec 1 := Scalar.cmpi .ne v38 c0_i32_19
  v39

def k0_cond2 (i : grid0.Coords) : BitVec 1 :=
  let arg0 : BitVec 32 := BitVec.ofNat 32 (i 0).val
  let c0_i32_20 : BitVec 32 := 0#32
  let v40 : BitVec 1 := Scalar.cmpi .ne arg0 c0_i32_20
  let v41 : BitVec 32 := Scalar.extui v40
  let c0_i32_21 : BitVec 32 := 0#32
  let v42 : BitVec 1 := Scalar.cmpi .ne v41 c0_i32_21
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference4Ideal.lean ====
abbrev S4096x4096 : Shape := ⟨2, ![4096, 4096]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel5.lean ====
abbrev S4096x4096 : Shape := ⟨2, ![4096, 4096]⟩
abbrev S4096x1024 : Shape := ⟨2, ![4096, 1024]⟩
abbrev S1x1024 : Shape := ⟨2, ![1, 1024]⟩
abbrev S8x128 : Shape := ⟨2, ![8, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 11
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x4096, .bf16⟩
  | .hbm, ⟨6, _⟩ => ⟨S4096x1024, .bf16⟩
  | .hbm, ⟨7, _⟩ => ⟨S4096x1024, .f32⟩
  | .hbm, ⟨8, _⟩ => ⟨S4096x1024, .bf16⟩
  | .hbm, ⟨9, _⟩ => ⟨S8x128, .f32⟩
  | .hbm, ⟨10, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x128, .f32⟩
  | .local _ .vmem, ⟨13, _⟩ => ⟨S1x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_24 : BitVec 32 := 0#32
  let v58 : BitVec 1 := Scalar.cmpi .ne v57 c0_i32_24
  v58

def k0_cond2 (i : grid0.Coords) : BitVec 1 :=
  let arg0 : BitVec 32 := BitVec.ofNat 32 (i 0).val
  let c0_i32_25 : BitVec 32 := 0#32
  let v59 : BitVec 1 := Scalar.cmpi .ne arg0 c0_i32_25
  let v60 : BitVec 32 := Scalar.extui v59
  let c0_i32_26 : BitVec 32 := 0#32
  let v61 : BitVec 1 := Scalar.cmpi .ne v60 c0_i32_26
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x128 : Shape := ⟨2, ![8, 128]⟩

abbrev nBuf : Space → Nat
  | .hbm => 75
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .bf16⟩
  | .hbm, ⟨74, _⟩ => ⟨S8x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x1024 : Shape := ⟨2, ![1024, 1024]⟩
abbrev S256x2048 : Shape := ⟨2, ![256, 2048]⟩
abbrev S_ : Shape := ⟨0, ![]⟩
abbrev S4096 : Shape := ⟨1, ![4096]⟩
abbrev S4096x1 : Shape := ⟨2, ![4096, 1]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S1024 : Shape := ⟨1, ![1024]⟩

abbrev nBuf : Space → Nat
  | .hbm => 32
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .f32⟩
  | .hbm, ⟨3, _⟩ => ⟨S256x2048, .f32⟩
  | .hbm, ⟨4, _⟩ => ⟨S1024x1024, .f32⟩
  | .hbm, ⟨5, _⟩ => ⟨S4096x1024, .f32⟩
  | .hbm, ⟨6, _⟩ => ⟨S256x2048, .bf16⟩
  | .hbm, ⟨7, _⟩ => ⟨S1024x1024, .bf16⟩
  | .hbm, ⟨8, _⟩ => ⟨S1024x1024, .bf16⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S4096x1024, .f32⟩
  | .hbm, ⟨26, _⟩ => ⟨S4096x1024, .bf16⟩
  | .hbm, ⟨27, _⟩ => ⟨S4096x1024, .f32⟩
  | .hbm, ⟨28, _⟩ => ⟨S4096x1024, .bf16⟩
  | .hbm, ⟨29, _⟩ => ⟨S256x1024, .f32⟩
  | .hbm, ⟨30, _⟩ => ⟨S256x1024, .f32⟩
  | .hbm, ⟨31, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S256x1024, .bf16⟩
  | .local _ .vmem, ⟨9, _⟩ => ⟨S256x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_122 : BitVec 32 := 0#32
  let v215 : BitVec 1 := Scalar.cmpi .eq arg0 c0_i32_122
  let v216 : BitVec 32 := Scalar.extui v215
  let c0_i32_123 : BitVec 32 := 0#32
  let v217 : BitVec 1 := Scalar.cmpi .ne v216 c0_i32_123
  v217

def k0_cond3 (i : grid0.Coords) : BitVec 1 :=
  let arg0 : BitVec 32 := BitVec.ofNat 32 (i 0).val
  let c0_i32_124 : BitVec 32 := 0#32
  let v218 : BitVec 1 := Scalar.cmpi .ne arg0 c0_i32_124
  let v219 : BitVec 32 := Scalar.extui v218
  let c0_i32_125 : BitVec 32 := 0#32
  let v220 : BitVec 1 := Scalar.cmpi .ne v219 c0_i32_125
  v220

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference6Ideal.lean ====
abbrev S4096x1024 : Shape := ⟨2, ![4096, 1024]⟩
abbrev S1x1024 : Shape := ⟨2, ![1, 1024]⟩
abbrev S1024x1024 : Shape := ⟨2, ![1024, 1024]⟩
abbrev S256x2048 : Shape := ⟨2, ![256, 2048]⟩
abbrev S_ : Shape := ⟨0, ![]⟩
abbrev S4096 : Shape := ⟨1, ![4096]⟩
abbrev S4096x1 : Shape := ⟨2, ![4096, 1]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩
abbrev S1024 : Shape := ⟨1, ![1024]⟩

abbrev nBuf : Space → Nat
  | .hbm => 133
  | .vmem => 0
  | .smem => 0
  | _ => 0

abbrev hbmTy0_0 (i : Nat) : BufTy := match i % 128 with
  | 0 => ⟨S4096x1024, .f32⟩
  | 1 => ⟨S1x1024, .f32⟩
  | 2 => ⟨S1024x1024, .f32⟩
  | 3 => ⟨S256x2048, .f32⟩
  | 4 => ⟨S1024x1024, .f32⟩
  | 5 => ⟨S4096x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S4096x1024, .f32⟩
  | 24 => ⟨S4096x1024, .f32⟩
  | 25 => ⟨S4096x1024, .f32⟩
  | 26 => ⟨S256x1024, .f32⟩
  | 27 => ⟨S256x1024, .f32⟩
  | 28 => ⟨S4096x4x256, .f32⟩
  | 29 => ⟨S256x4x256, .f32⟩
  | 30 => ⟨S256x4x256, .f32⟩
  | 31 => ⟨S4x4096x256, .f32⟩
  | 32 => ⟨S_, .f32⟩
  | 33 => ⟨S4x4096x256, .f32⟩
  | 34 => ⟨S4x4096x256, .f32⟩
  | 35 => ⟨S_, .f32⟩
  | 36 => ⟨S4x4096, .f32⟩
  | 37 => ⟨S4x4096x1, .f32⟩
  | 38 => ⟨S4x4096x256, .f32⟩
  | 39 => ⟨S4x4096x256, .i1⟩
  | 40 => ⟨S4x4096x256, .f32⟩
  | 41 => ⟨S_, .f32⟩
  | 42 => ⟨S4x4096, .f32⟩
  | 43 => ⟨S_, .f32⟩
  | 44 => ⟨S4x4096, .f32⟩
  | 45 => ⟨S4x4096, .f32⟩
  | 46 => ⟨S_, .f32⟩
  | 47 => ⟨S4x4096, .f32⟩
  | 48 => ⟨S4x4096, .i1⟩
  | 49 => ⟨S_, .f32⟩
  | 50 => ⟨S4x4096, .f32⟩
  | 51 => ⟨S4x4096, .i1⟩
  | 52 => ⟨S_, .f32⟩
  | 53 => ⟨S4x4096, .f32⟩
  | 54 => ⟨S_, .f32⟩
  | 55 => ⟨S4x4096, .f32⟩
  | 56 => ⟨S_, .f32⟩
  | 57 => ⟨S4x4096, .f32⟩
  | 58 => ⟨S4x4096, .f32⟩
  | 59 => ⟨S4x4096, .f32⟩
  | 60 => ⟨S4x4096x1, .f32⟩
  | 61 => ⟨S4x4096x256, .f32⟩
  | 62 => ⟨S4x4096x256, .f32⟩
  | 63 => ⟨S4x4096x256, .f32⟩
  | 64 => ⟨S_, .f32⟩
  | 65 => ⟨S4x4096, .f32⟩
  | 66 => ⟨S4x4096x1, .f32⟩
  | 67 => ⟨S4x4096x256, .f32⟩
  | 68 => ⟨S4x4096x256, .f32⟩
  | 69 => ⟨S4x4096x1, .f32⟩
  | 70 => ⟨S_, .f32⟩
  | 71 => ⟨S4x4096x1, .f32⟩
  | 72 => ⟨S4x4096x1, .f32⟩
  | 73 => ⟨S4x256x4096, .f32⟩
  | 74 => ⟨S4096x4x256, .f32⟩
  | 75 => ⟨S4096x1024, .f32⟩
  | 76 => ⟨S4096x1024, .f32⟩
  | 77 => ⟨S4096x1024, .f32⟩
  | 78 => ⟨S4096x4x256, .f32⟩
  | 79 => ⟨S4x256x4096, .f32⟩
  | 80 => ⟨S4x4096x256, .f32⟩
  | 81 => ⟨S4x256x256, .f32⟩
  | 82 => ⟨S256x4x256, .f32⟩
  | 83 => ⟨S4x4096x256, .f32⟩
  | 84 => ⟨S4x4096x256, .f32⟩
  | 85 => ⟨S4x4096x256, .f32⟩
  | 86 => ⟨S_, .f32⟩
  | 87 => ⟨S4x4096, .f32⟩
  | 88 => ⟨S4x4096x1, .f32⟩
  | 89 => ⟨S4x4096x1, .f32⟩
  | 90 => ⟨S4x4096x256, .f32⟩
  | 91 => ⟨S4x4096x256, .f32⟩
  | 92 => ⟨S_, .f32⟩
  | 93 => ⟨S4x4096, .f32⟩
  | 94 => ⟨S4x4096x256, .f32⟩
  | 95 => ⟨S4x4096x256, .f32⟩
  | 96 => ⟨S4x4096x256, .f32⟩
  | 97 => ⟨S_, .f32⟩
  | 98 => ⟨S4x4096x256, .f32⟩
  | 99 => ⟨S4x4096x256, .f32⟩
  | 100 => ⟨S4x256x256, .f32⟩
  | 101 => ⟨S256x4x256, .f32⟩
  | 102 => ⟨S4x4096x256, .f32⟩
  | 103 => ⟨S4096x4x256, .f32⟩
  | 104 => ⟨S256x1024, .f32⟩
  | 105 => ⟨S256x1024, .f32⟩
  | 106 => ⟨S4096x1024, .f32⟩
  | 107 => ⟨S4096x1024, .f32⟩
  | 108 => ⟨S4096x1024, .f32⟩
  | 109 => ⟨S_, .f32⟩
  | 110 => ⟨S1024, .f32⟩
  | 111 => ⟨S1x1024, .f32⟩
  | 112 => ⟨S4096x1024, .f32⟩
  | 113 => ⟨S4096x1024, .f32⟩
  | 114 => ⟨S4096x1024, .f32⟩
  | 115 => ⟨S_, .f32⟩
  | 116 => ⟨S4096, .f32⟩
  | 117 => ⟨S4096x1, .f32⟩
  | 118 => ⟨S4096x1024, .f32⟩
  | 119 => ⟨S4096x1024, .f32⟩
  | 120 => ⟨S4096x1024, .f32⟩
  | 121 => ⟨S4096x1, .f32⟩
  | 122 => ⟨S_, .f32⟩
  | 123 => ⟨S4096x1, .f32⟩
  | 124 => ⟨S4096x1, .f32⟩
  | 125 => ⟨S_, .f32⟩
  | 126 => ⟨S4096, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_15 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_16 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_17 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_18 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_19 : Ref sig .tc := ⟨.hbm, 122, rfl⟩
abbrev main_v96 : Ref sig .tc := ⟨.hbm, 123, rfl⟩
abbrev main_v97 : Ref sig .tc := ⟨.hbm, 124, rfl⟩
abbrev main_cst_20 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩

abbrev nD : Nat := 1
abbrev τ : Topo := Topo.v7x

variable {F : FTy → Type} [FloatOps F]
-- ==== Kernel7.lean ====
abbrev S4096x512 : Shape := ⟨2, ![4096, 512]⟩
abbrev S4096x1536 : Shape := ⟨2, ![4096, 1536]⟩
abbrev S3x512 : Shape := ⟨2, ![3, 512]⟩
abbrev S1x512 : Shape := ⟨2, ![1, 512]⟩
abbrev S1024x1024 : Shape := ⟨2, ![1024, 1024]⟩
abbrev S4096x1024 : Shape := ⟨2, ![4096, 1024]⟩
abbrev S_ : Shape := ⟨0, ![]⟩
abbrev S2x512 : Shape := ⟨2, ![2, 512]⟩
abbrev S4098x512 : Shape := ⟨2, ![4098, 512]⟩
abbrev S512 : Shape := ⟨1, ![512]⟩
abbrev S4096 : Shape := ⟨1, ![4096]⟩
abbrev S4096x1 : Shape := ⟨2, ![4096, 1]⟩
abbrev S2x128x16x1024 : Shape := ⟨4, ![2, 128, 16, 1024]⟩
abbrev S2x16x128x1024 : Shape := ⟨4, ![2, 16, 128, 1024]⟩
abbrev S2x128x16x512 : Shape := ⟨4, ![2, 128, 16, 512]⟩
abbrev S2x16x128x512 : Shape := ⟨4, ![2, 16, 128, 512]⟩
abbrev S2x128x16x1536 : Shape := ⟨4, ![2, 128, 16, 1536]⟩
abbrev S2x16x128x1536 : Shape := ⟨4, ![2, 16, 128, 1536]⟩
abbrev S512x512 : Shape := ⟨2, ![512, 512]⟩
abbrev S1x16x32x1024 : Shape := ⟨4, ![1, 16, 32, 1024]⟩
abbrev S1x16x32x512 : Shape := ⟨4, ![1, 16, 32, 512]⟩
abbrev S1x16x32x1536 : Shape := ⟨4, ![1, 16, 32, 1536]⟩
abbrev S1x2x16x1536 : Shape := ⟨4, ![1, 2, 16, 1536]⟩
abbrev S512x1024 : Shape := ⟨2, ![512, 1024]⟩
abbrev S16x32x1024 : Shape := ⟨3, ![16, 32, 1024]⟩
abbrev S16x32x512 : Shape := ⟨3, ![16, 32, 512]⟩
abbrev S16x32 : Shape := ⟨2, ![16, 32]⟩
abbrev S16x32x1 : Shape := ⟨3, ![16, 32, 1]⟩
abbrev S1x1x512 : Shape := ⟨3, ![1, 1, 512]⟩
abbrev S16x32x1536 : Shape := ⟨3, ![16, 32, 1536]⟩
abbrev S2x16x1536 : Shape := ⟨3, ![2, 16, 1536]⟩
abbrev S2x16x512 : Shape := ⟨3, ![2, 16, 512]⟩
abbrev S1x32x512 : Shape := ⟨3, ![1, 32, 512]⟩
abbrev S32x512 : Shape := ⟨2, ![32, 512]⟩
abbrev S15x32x512 : Shape := ⟨3, ![15, 32, 512]⟩
abbrev S14x32x512 : Shape := ⟨3, ![14, 32, 512]⟩

abbrev nBuf : Space → Nat
  | .hbm => 148
  | .vmem => 26
  | .smem => 0
  | _ => 0

abbrev hbmTy0_0 (i : Nat) : BufTy := match i % 128 with
  | 0 => ⟨S4096x512, .f32⟩
  | 1 => ⟨S4096x1536, .f32⟩
  | 2 => ⟨S3x512, .f32⟩
  | 3 => ⟨S1x512, .f32⟩
  | 4 => ⟨S1x512, .f32⟩
  | 5 => ⟨S1024x1024, .f32⟩
  | 6 => ⟨S4096x1024, .f32⟩
  | 7 => ⟨S4096x512, .f32⟩
  | 8 => ⟨S4096x512, .f32⟩
  | 9 => ⟨S4096x512, .f32⟩
  | 10 => ⟨S4096x512, .f32⟩
  | 11 => ⟨S_, .f32⟩
  | 12 => ⟨S2x512, .f32⟩
  | 13 => ⟨S4098x512, .f32⟩
  | 14 => ⟨S4096x512, .f32⟩
  | 15 => ⟨S1x512, .f32⟩
  | 16 => ⟨S512, .f32⟩
  | 17 => ⟨S1x512, .f32⟩
  | 18 => ⟨S4096x512, .f32⟩
  | 19 => ⟨S4096x512, .f32⟩
  | 20 => ⟨S_, .f32⟩
  | 21 => ⟨S4096x512, .f32⟩
  | 22 => ⟨S4096x512, .f32⟩
  | 23 => ⟨S4096x512, .f32⟩
  | 24 => ⟨S1x512, .f32⟩
  | 25 => ⟨S512, .f32⟩
  | 26 => ⟨S1x512, .f32⟩
  | 27 => ⟨S4096x512, .f32⟩
  | 28 => ⟨S4096x512, .f32⟩
  | 29 => ⟨S4096x512, .f32⟩
  | 30 => ⟨S4096x512, .f32⟩
  | 31 => ⟨S1x512, .f32⟩
  | 32 => ⟨S512, .f32⟩
  | 33 => ⟨S1x512, .f32⟩
  | 34 => ⟨S4096x512, .f32⟩
  | 35 => ⟨S4096x512, .f32⟩
  | 36 => ⟨S4096x512, .f32⟩
  | 37 => ⟨S4096x512, .f32⟩
  | 38 => ⟨S4096x512, .f32⟩
  | 39 => ⟨S_, .f32⟩
  | 40 => ⟨S4096, .f32⟩
  | 41 => ⟨S4096x1, .f32⟩
  | 42 => ⟨S_, .f32⟩
  | 43 => ⟨S4096x1, .f32⟩
  | 44 => ⟨S4096x1, .f32⟩
  | 45 => ⟨S_, .f32⟩
  | 46 => ⟨S4096x1, .f32⟩
  | 47 => ⟨S4096x1, .f32⟩
  | 48 => ⟨S4096x1, .f32⟩
  | 49 => ⟨S4096x512, .f32⟩
  | 50 => ⟨S4096x512, .f32⟩
  | 51 => ⟨S4096x512, .f32⟩
  | 52 => ⟨S4096x512, .f32⟩
  | 53 => ⟨S4096x512, .f32⟩
  | 54 => ⟨S_, .f32⟩
  | 55 => ⟨S4096, .f32⟩
  | 56 => ⟨S4096x1, .f32⟩
  | 57 => ⟨S_, .f32⟩
  | 58 => ⟨S4096x1, .f32⟩
  | 59 => ⟨S4096x1, .f32⟩
  | 60 => ⟨S_, .f32⟩
  | 61 => ⟨S4096x1, .f32⟩
  | 62 => ⟨S4096x1, .f32⟩
  | 63 => ⟨S4096x1, .f32⟩
  | 64 => ⟨S4096x512, .f32⟩
  | 65 => ⟨S4096x512, .f32⟩
  | 66 => ⟨S4096x512, .f32⟩
  | 67 => ⟨S4096x512, .f32⟩
  | 68 => ⟨S4096x1024, .f32⟩
  | 69 => ⟨S4096x1024, .bf16⟩
  | 70 => ⟨S2x128x16x1024, .f32⟩
  | 71 => ⟨S2x16x128x1024, .f32⟩
  | 72 => ⟨S4096x1024, .f32⟩
  | 73 => ⟨S2x128x16x1024, .bf16⟩
  | 74 => ⟨S2x16x128x1024, .bf16⟩
  | 75 => ⟨S4096x1024, .bf16⟩
  | 76 => ⟨S2x128x16x512, .f32⟩
  | 77 => ⟨S2x16x128x512, .f32⟩
  | 78 => ⟨S4096x512, .f32⟩
  | 79 => ⟨S2x128x16x1536, .f32⟩
  | 80 => ⟨S2x16x128x1536, .f32⟩
  | 81 => ⟨S4096x1536, .f32⟩
  | 82 => ⟨S4096x1536, .bf16⟩
  | 83 => ⟨S1024x1024, .bf16⟩
  | 84 => ⟨S512x512, .i32⟩
  | 85 => ⟨S_, .i32⟩
  | 86 => ⟨S_, .i32⟩
  | 87 => ⟨S512x512, .i32⟩
  | 88 => ⟨S512x512, .i32⟩
  | 89 => ⟨S512x512, .i32⟩
  | 90 => ⟨S_, .i32⟩
  | 91 => ⟨S512x512, .i32⟩
  | 92 => ⟨S512x512, .i1⟩
  | 93 => ⟨S512x512, .i32⟩
  | 94 => ⟨S512x512, .i32⟩
  | 95 => ⟨S_, .i32⟩
  | 96 => ⟨S512x512, .i32⟩
  | 97 => ⟨S512x512, .i1⟩
  | 98 => ⟨S512x512, .i1⟩
  | 99 => ⟨S_, .i32⟩
  | 100 => ⟨S512x512, .i32⟩
  | 101 => ⟨S512x512, .i32⟩
  | 102 => ⟨S512x512, .i32⟩
  | 103 => ⟨S512x512, .i32⟩
  | 104 => ⟨S_, .i32⟩
  | 105 => ⟨S_, .i32⟩
  | 106 => ⟨S512x512, .i32⟩
  | 107 => ⟨S512x512, .i32⟩
  | 108 => ⟨S512x512, .i32⟩
  | 109 => ⟨S_, .i32⟩
  | 110 => ⟨S512x512, .i32⟩
  | 111 => ⟨S512x512, .i1⟩
  | 112 => ⟨S512x512, .i32⟩
  | 113 => ⟨S512x512, .i32⟩
  | 114 => ⟨S_, .i32⟩
  | 115 => ⟨S512x512, .i32⟩
  | 116 => ⟨S512x512, .i1⟩
  | 117 => ⟨S512x512, .i1⟩
  | 118 => ⟨S_, .i32⟩
  | 119 => ⟨S512x512, .i32⟩
  | 120 => ⟨S512x512, .i32⟩
  | 121 => ⟨S512x512, .i32⟩
  | 122 => ⟨S512x512, .i1⟩
  | 123 => ⟨S512x512, .bf16⟩
  | 124 => ⟨S2x16x128x512, .f32⟩
  | 125 => ⟨S2x16x128x1024, .f32⟩
  | 126 => ⟨S2x16x128x1024, .bf16⟩
  | 127 => ⟨S2x16x128x512, .f32⟩
  | _ => ⟨S4096x512, .f32⟩

abbrev hbmTy0_1 (i : Nat) : BufTy := match i % 128 with
  | 0 => ⟨S2x16x128x1536, .bf16⟩
  | 1 => ⟨S2x16x128x1536, .bf16⟩
  | 2 => ⟨S2x16x128x512, .f32⟩
  | 3 => ⟨S2x16x128x512, .f32⟩
  | 4 => ⟨S2x16x128x512, .f32⟩
  | 5 => ⟨S1x512, .f32⟩
  | 6 => ⟨S1x512, .f32⟩
  | 7 => ⟨S1024x1024, .bf16⟩
  | 8 => ⟨S4096x512, .f32⟩
  | 9 => ⟨S4096x512, .f32⟩
  | 10 => ⟨S4096x512, .f32⟩
  | 11 => ⟨S2x16x128x512, .f32⟩
  | 12 => ⟨S2x128x16x512, .f32⟩
  | 13 => ⟨S4096x512, .f32⟩
  | 14 => ⟨S2x16x128x512, .f32⟩
  | 15 => ⟨S2x128x16x512, .f32⟩
  | 16 => ⟨S4096x512, .f32⟩
  | 17 => ⟨S2x16x128x512, .f32⟩
  | 18 => ⟨S2x128x16x512, .f32⟩
  | 19 => ⟨S4096x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | .local _ .vmem, ⟨0, _⟩ => ⟨S1x16x32x1024, .f32⟩
  | .local _ .vmem, ⟨1, _⟩ => ⟨S1x16x32x1024, .f32⟩
  | .local _ .vmem, ⟨2, _⟩ => ⟨S1x16x32x1024, .bf16⟩
  | .local _ .vmem, ⟨3, _⟩ => ⟨S1x16x32x1024, .bf16⟩
  | .local _ .vmem, ⟨4, _⟩ => ⟨S1x16x32x512, .f32⟩
  | .local _ .vmem, ⟨5, _⟩ => ⟨S1x16x32x512, .f32⟩
  | .local _ .vmem, ⟨6, _⟩ => ⟨S1x16x32x1536, .bf16⟩
  | .local _ .vmem, ⟨7, _⟩ => ⟨S1x16x32x1536, .bf16⟩
  | .local _ .vmem, ⟨8, _⟩ => ⟨S1x2x16x1536, .bf16⟩
  | .local _ .vmem, ⟨9, _⟩ => ⟨S1x2x16x1536, .bf16⟩
  | .local _ .vmem, ⟨10, _⟩ => ⟨S3x512, .f32⟩
  | .local _ .vmem, ⟨11, _⟩ => ⟨S1x512, .f32⟩
  | .local _ .vmem, ⟨12, _⟩ => ⟨S1x512, .f32⟩
  | .local _ .vmem, ⟨13, _⟩ => ⟨S512x1024, .bf16⟩
  | .local _ .vmem, ⟨14, _⟩ => ⟨S512x1024, .bf16⟩
  | .local _ .vmem, ⟨15, _⟩ => ⟨S512x512, .bf16⟩
  | .local _ .vmem, ⟨16, _⟩ => ⟨S1x16x32x512, .f32⟩
  | .local _ .vmem, ⟨17, _⟩ => ⟨S1x16x32x512, .f32⟩
  | .local _ .vmem, ⟨18, _⟩ => ⟨S1x16x32x512, .f32⟩
  | .local _ .vmem, ⟨19, _⟩ => ⟨S1x16x32x512, .f32⟩
  | .local _ .vmem, ⟨20, _⟩ => ⟨S1x16x32x512, .f32⟩
  | .local _ .vmem, ⟨21, _⟩ => ⟨S1x16x32x512, .f32⟩
  | .local _ .vmem, ⟨22, _⟩ => ⟨S1x512, .f32⟩
  | .local _ .vmem, ⟨23, _⟩ => ⟨S1x512, .f32⟩
  | .local _ .vmem, ⟨24, _⟩ => ⟨S1024x1024, .bf16⟩
  | .local _ .vmem, ⟨25, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_c : Ref sig .tc := ⟨.hbm, 85, rfl⟩
abbrev main_call0_v0 : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_call0_v5 : Ref sig .tc := ⟨.hbm, 91, rfl⟩
abbrev main_call0_v6 : Ref sig .tc := ⟨.hbm, 92, rfl⟩
abbrev main_call0_v7 : Ref sig .tc := ⟨.hbm, 93, rfl⟩
abbrev main_call0_v8 : Ref sig .tc := ⟨.hbm, 94, rfl⟩
abbrev main_call0_c : Ref sig .tc := ⟨.hbm, 95, rfl⟩
abbrev main_call0_v9 : Ref sig .tc := ⟨.hbm, 96, rfl⟩
abbrev main_call0_v10 : Ref sig .tc := ⟨.hbm, 97, rfl⟩
abbrev main_call0_v11 : Ref sig .tc := ⟨.hbm, 98, rfl⟩
abbrev main_call0_c_0 : Ref sig .tc := ⟨.hbm, 99, rfl⟩
abbrev main_call0_v12 : Ref sig .tc := ⟨.hbm, 100, rfl⟩
abbrev main_call0_v13 : Ref sig .tc := ⟨.hbm, 101, rfl⟩
abbrev main_v70 : Ref sig .tc := ⟨.hbm, 102, rfl⟩
abbrev main_v71 : Ref sig .tc := ⟨.hbm, 103, rfl⟩
abbrev main_c_7 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_call1_v5 : Ref sig .tc := ⟨.hbm, 110, rfl⟩
abbrev main_call1_v6 : Ref sig .tc := ⟨.hbm, 111, rfl⟩
abbrev main_call1_v7 : Ref sig .tc := ⟨.hbm, 112, rfl⟩
abbrev main_call1_v8 : Ref sig .tc := ⟨.hbm, 113, rfl⟩
abbrev main_call1_c : Ref sig .tc := ⟨.hbm, 114, rfl⟩
abbrev main_call1_v9 : Ref sig .tc := ⟨.hbm, 115, rfl⟩
abbrev main_call1_v10 : Ref sig .tc := ⟨.hbm, 116, rfl⟩
abbrev main_call1_v11 : Ref sig .tc := ⟨.hbm, 117, rfl⟩
abbrev main_call1_c_0 : Ref sig .tc := ⟨.hbm, 118, rfl⟩
abbrev main_call1_v12 : Ref sig .tc := ⟨.hbm, 119, rfl⟩
abbrev main_call1_v13 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81_0 : Ref sig .tc := ⟨.hbm, 130, rfl⟩
abbrev main_v81_1 : Ref sig .tc := ⟨.hbm, 131, rfl⟩
abbrev main_v81_2 : Ref sig .tc := ⟨.hbm, 132, rfl⟩
abbrev main_v81_3 : Ref sig .tc := ⟨.hbm, 133, rfl⟩
abbrev main_v81_4 : Ref sig .tc := ⟨.hbm, 134, rfl⟩
abbrev main_v81_5 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c0_i32_72 : BitVec 32 := 0#32
  let v167 : BitVec 1 := Scalar.cmpi .eq arg0 c0_i32_72
  let v168 : BitVec 32 := Scalar.extui v167
  let c0_i32_73 : BitVec 32 := 0#32
  let v169 : BitVec 1 := Scalar.cmpi .ne v168 c0_i32_73
  v169

def k0_cond4 (i : grid0.Coords) : BitVec 1 :=
  let arg0 : BitVec 32 := BitVec.ofNat 32 (i 0).val
  let c0_i32_74 : BitVec 32 := 0#32
  let v170 : BitVec 1 := Scalar.cmpi .ne arg0 c0_i32_74
  let v171 : BitVec 32 := Scalar.extui v170
  let c0_i32_75 : BitVec 32 := 0#32
  let v172 : BitVec 1 := Scalar.cmpi .ne v171 c0_i32_75
  v172

def k0_cond2 (i : grid0.Coords) : BitVec 1 :=
  let arg0 : BitVec 32 := BitVec.ofNat 32 (i 0).val
  let c7_i32 : BitVec 32 := 7#32
  let v16 : BitVec 1 := Scalar.cmpi .eq arg0 c7_i32
  let v17 : BitVec 32 := Scalar.extui v16
  let c0_i32_12 : BitVec 32 := 0#32
  let v18 : BitVec 1 := Scalar.cmpi .ne v17 c0_i32_12
  v18

def cc0_transform_0 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c2_i32 : BitVec 32 := 2#32
  let v31 : BitVec 32 := Scalar.muli v30 c2_i32
  let c2_i32_14 : BitVec 32 := 2#32
  let v32 : BitVec 32 := Scalar.addi v31 c2_i32_14
  let c1_i32_15 : BitVec 32 := 1#32
  let v33 : BitVec 32 := Scalar.subi v32 c1_i32_15
  let c7_i32 : BitVec 32 := 7#32
  let c0_i32_16 : BitVec 32 := 0#32
  let c0_i32_17 : BitVec 32 := 0#32
  ![v18.toNat, c7_i32.toNat, v33.toNat, c0_i32_16.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x16x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x32x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x16x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x16x32x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x16x32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x16x32x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference7Ideal.lean ====
abbrev S4096x512 : Shape := ⟨2, ![4096, 512]⟩
abbrev S4096x1536 : Shape := ⟨2, ![4096, 1536]⟩
abbrev S3x512 : Shape := ⟨2, ![3, 512]⟩
abbrev S1x512 : Shape := ⟨2, ![1, 512]⟩
abbrev S1024x1024 : Shape := ⟨2, ![1024, 1024]⟩
abbrev S4096x1024 : Shape := ⟨2, ![4096, 1024]⟩
abbrev S_ : Shape := ⟨0, ![]⟩
abbrev S2x512 : Shape := ⟨2, ![2, 512]⟩
abbrev S4098x512 : Shape := ⟨2, ![4098, 512]⟩
abbrev S512 : Shape := ⟨1, ![512]⟩
abbrev S4096 : Shape := ⟨1, ![4096]⟩
abbrev S4096x1 : Shape := ⟨2, ![4096, 1]⟩
abbrev S4096x8x64 : Shape := ⟨3, ![4096, 8, 64]⟩
abbrev S4096x8 : Shape := ⟨2, ![4096, 8]⟩

abbrev nBuf : Space → Nat
  | .hbm => 136
  | .vmem => 0
  | .smem => 0
  | _ => 0

abbrev hbmTy0_0 (i : Nat) : BufTy := match i % 128 with
  | 0 => ⟨S4096x512, .f32⟩
  | 1 => ⟨S4096x1536, .f32⟩
  | 2 => ⟨S3x512, .f32⟩
  | 3 => ⟨S1x512, .f32⟩
  | 4 => ⟨S1x512, .f32⟩
  | 5 => ⟨S1024x1024, .f32⟩
  | 6 => ⟨S4096x1024, .f32⟩
  | 7 => ⟨S4096x512, .f32⟩
  | 8 => ⟨S4096x512, .f32⟩
  | 9 => ⟨S4096x512, .f32⟩
  | 10 => ⟨S4096x512, .f32⟩
  | 11 => ⟨S_, .f32⟩
  | 12 => ⟨S2x512, .f32⟩
  | 13 => ⟨S4098x512, .f32⟩
  | 14 => ⟨S4096x512, .f32⟩
  | 15 => ⟨S1x512, .f32⟩
  | 16 => ⟨S512, .f32⟩
  | 17 => ⟨S1x512, .f32⟩
  | 18 => ⟨S4096x512, .f32⟩
  | 19 => ⟨S4096x512, .f32⟩
  | 20 => ⟨S_, .f32⟩
  | 21 => ⟨S4096x512, .f32⟩
  | 22 => ⟨S4096x512, .f32⟩
  | 23 => ⟨S4096x512, .f32⟩
  | 24 => ⟨S1x512, .f32⟩
  | 25 => ⟨S512, .f32⟩
  | 26 => ⟨S1x512, .f32⟩
  | 27 => ⟨S4096x512, .f32⟩
  | 28 => ⟨S4096x512, .f32⟩
  | 29 => ⟨S4096x512, .f32⟩
  | 30 => ⟨S4096x512, .f32⟩
  | 31 => ⟨S1x512, .f32⟩
  | 32 => ⟨S512, .f32⟩
  | 33 => ⟨S1x512, .f32⟩
  | 34 => ⟨S4096x512, .f32⟩
  | 35 => ⟨S4096x512, .f32⟩
  | 36 => ⟨S4096x512, .f32⟩
  | 37 => ⟨S4096x512, .f32⟩
  | 38 => ⟨S4096x512, .f32⟩
  | 39 => ⟨S_, .f32⟩
  | 40 => ⟨S4096, .f32⟩
  | 41 => ⟨S4096x1, .f32⟩
  | 42 => ⟨S_, .f32⟩
  | 43 => ⟨S4096x1, .f32⟩
  | 44 => ⟨S4096x1, .f32⟩
  | 45 => ⟨S_, .f32⟩
  | 46 => ⟨S4096x1, .f32⟩
  | 47 => ⟨S4096x1, .f32⟩
  | 48 => ⟨S4096x1, .f32⟩
  | 49 => ⟨S4096x1, .f32⟩
  | 50 => ⟨S_, .f32⟩
  | 51 => ⟨S4096x1, .f32⟩
  | 52 => ⟨S4096x1, .f32⟩
  | 53 => ⟨S4096x512, .f32⟩
  | 54 => ⟨S4096x512, .f32⟩
  | 55 => ⟨S4096x512, .f32⟩
  | 56 => ⟨S4096x512, .f32⟩
  | 57 => ⟨S4096x512, .f32⟩
  | 58 => ⟨S_, .f32⟩
  | 59 => ⟨S4096, .f32⟩
  | 60 => ⟨S4096x1, .f32⟩
  | 61 => ⟨S_, .f32⟩
  | 62 => ⟨S4096x1, .f32⟩
  | 63 => ⟨S4096x1, .f32⟩
  | 64 => ⟨S_, .f32⟩
  | 65 => ⟨S4096x1, .f32⟩
  | 66 => ⟨S4096x1, .f32⟩
  | 67 => ⟨S4096x1, .f32⟩
  | 68 => ⟨S4096x1, .f32⟩
  | 69 => ⟨S_, .f32⟩
  | 70 => ⟨S4096x1, .f32⟩
  | 71 => ⟨S4096x1, .f32⟩
  | 72 => ⟨S4096x512, .f32⟩
  | 73 => ⟨S4096x512, .f32⟩
  | 74 => ⟨S4096x512, .f32⟩
  | 75 => ⟨S4096x512, .f32⟩
  | 76 => ⟨S4096x1024, .f32⟩
  | 77 => ⟨S4096x1024, .f32⟩
  | 78 => ⟨S1024x1024, .f32⟩
  | 79 => ⟨S1024x1024, .f32⟩
  | 80 => ⟨S4096x1024, .f32⟩
  | 81 => ⟨S4096x512, .f32⟩
  | 82 => ⟨S4096x512, .f32⟩
  | 83 => ⟨S4096x512, .f32⟩
  | 84 => ⟨S_, .f32⟩
  | 85 => ⟨S512, .f32⟩
  | 86 => ⟨S1x512, .f32⟩
  | 87 => ⟨S4096x512, .f32⟩
  | 88 => ⟨S4096x512, .f32⟩
  | 89 => ⟨S4096x512, .f32⟩
  | 90 => ⟨S_, .f32⟩
  | 91 => ⟨S4096, .f32⟩
  | 92 => ⟨S4096x1, .f32⟩
  | 93 => ⟨S4096x512, .f32⟩
  | 94 => ⟨S4096x512, .f32⟩
  | 95 => ⟨S4096x1, .f32⟩
  | 96 => ⟨S_, .f32⟩
  | 97 => ⟨S4096x1, .f32⟩
  | 98 => ⟨S4096x1, .f32⟩
  | 99 => ⟨S_, .f32⟩
  | 100 => ⟨S4096, .f32⟩
  | 101 => ⟨S4096x512, .f32⟩
  | 102 => ⟨S4096x512, .f32⟩
  | 103 => ⟨S4096x512, .f32⟩
  | 104 => ⟨S4096x512, .f32⟩
  | 105 => ⟨S4096x512, .f32⟩
  | 106 => ⟨S4096x512, .f32⟩
  | 107 => ⟨S_, .f32⟩
  | 108 => ⟨S512, .f32⟩
  | 109 => ⟨S1x512, .f32⟩
  | 110 => ⟨S4096x512, .f32⟩
  | 111 => ⟨S4096x512, .f32⟩
  | 112 => ⟨S4096x512, .f32⟩
  | 113 => ⟨S_, .f32⟩
  | 114 => ⟨S4096, .f32⟩
  | 115 => ⟨S4096x1, .f32⟩
  | 116 => ⟨S4096x512, .f32⟩
  | 117 => ⟨S4096x512, .f32⟩
  | 118 => ⟨S4096x1, .f32⟩
  | 119 => ⟨S_, .f32⟩
  | 120 => ⟨S4096x1, .f32⟩
  | 121 => ⟨S4096x1, .f32⟩
  | 122 => ⟨S_, .f32⟩
  | 123 => ⟨S4096, .f32⟩
  | 124 => ⟨S4096x512, .f32⟩
  | 125 => ⟨S4096x512, .f32⟩
  | 126 => ⟨S4096x512, .f32⟩
  | 127 => ⟨S4096x512, .f32⟩
  | _ => ⟨S4096x512, .f32⟩

abbrev hbmTy0_1 (i : Nat) : BufTy := match i % 128 with
  | 0 => ⟨S4096x512, .f32⟩
  | 1 => ⟨S4096x512, .f32⟩
  | 2 => ⟨S4096x8x64, .f32⟩
  | 3 => ⟨S_, .f32⟩
  | 4 => ⟨S4096x8, .f32⟩
  | 5 => ⟨S4096x8x64, .f32⟩
  | 6 => ⟨S4096x512, .f32⟩
  | 7 => ⟨S1024x1024, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_10 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_11 : Ref sig .tc := ⟨.hbm, 96, rfl⟩
abbrev main_v77 : Ref sig .tc := ⟨.hbm, 97, rfl⟩
abbrev main_v78 : Ref sig .tc := ⟨.hbm, 98, rfl⟩
abbrev main_cst_12 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_13 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_14 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_15 : Ref sig .tc := ⟨.hbm, 119, rfl⟩
abbrev main_v96 : Ref sig .tc := ⟨.hbm, 120, rfl⟩
abbrev main_v97 : Ref sig .tc := ⟨.hbm, 121, rfl⟩
abbrev main_cst_16 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_17 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩

abbrev nD : Nat := 1
abbrev τ : Topo := Topo.v7x

variable {F : FTy → Type} [FloatOps F]
-- ==== Kernel8.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S2x128x16x6x512 : Shape := ⟨5, ![2, 128, 16, 6, 512]⟩
abbrev S6x2x16x128x512 : Shape := ⟨5, ![6, 2, 16, 128, 512]⟩
abbrev S6x4096x512 : Shape := ⟨3, ![6, 4096, 512]⟩
abbrev S2x128x16x1024 : Shape := ⟨4, ![2, 128, 16, 1024]⟩
abbrev S2x16x128x1024 : Shape := ⟨4, ![2, 16, 128, 1024]⟩
abbrev S6x1x16x32x512 : Shape := ⟨5, ![6, 1, 16, 32, 512]⟩
abbrev S1x16x32x1024 : Shape := ⟨4, ![1, 16, 32, 1024]⟩
abbrev S512x1024 : Shape := ⟨2, ![512, 1024]⟩
abbrev S8x512x128 : Shape := ⟨3, ![8, 512, 128]⟩
abbrev S1x1x16x32x512 : Shape := ⟨5, ![1, 1, 16, 32, 512]⟩
abbrev S1x16x32x512 : Shape := ⟨4, ![1, 16, 32, 512]⟩
abbrev S16x32x512 : Shape := ⟨3, ![16, 32, 512]⟩
abbrev S512x512 : Shape := ⟨2, ![512, 512]⟩
abbrev S1024x512 : Shape := ⟨2, ![1024, 512]⟩
abbrev S16x32x1024 : Shape := ⟨3, ![16, 32, 1024]⟩
abbrev S512 : Shape := ⟨1, ![512]⟩
abbrev S512x1 : Shape := ⟨2, ![512, 1]⟩
abbrev S32x128 : Shape := ⟨2, ![32, 128]⟩
abbrev S1x512x128 : Shape := ⟨3, ![1, 512, 128]⟩
abbrev S512x128 : Shape := ⟨2, ![512, 128]⟩
abbrev S1024 : Shape := ⟨1, ![1024]⟩

abbrev nBuf : Space → Nat
  | .hbm => 21
  | .vmem => 12
  | .smem => 0
  | _ => 0

abbrev bufTy : (tb : Table) → Fin (tcTables nBuf tb) → BufTy
  | .hbm, ⟨0, _⟩ => ⟨S4096x3072, .f32⟩
  | .hbm, ⟨1, _⟩ => ⟨S1024x3072, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S2x128x16x6x512, .f32⟩
  | .hbm, ⟨6, _⟩ => ⟨S6x2x16x128x512, .f32⟩
  | .hbm, ⟨7, _⟩ => ⟨S6x4096x512, .f32⟩
  | .hbm, ⟨8, _⟩ => ⟨S6x4096x512, .bf16⟩
  | .hbm, ⟨9, _⟩ => ⟨S1024x3072, .bf16⟩
  | .hbm, ⟨10, _⟩ => ⟨S2x128x16x1024, .f32⟩
  | .hbm, ⟨11, _⟩ => ⟨S2x16x128x1024, .f32⟩
  | .hbm, ⟨12, _⟩ => ⟨S4096x1024, .f32⟩
  | .hbm, ⟨13, _⟩ => ⟨S2x128x16x1024, .f32⟩
  | .hbm, ⟨14, _⟩ => ⟨S2x16x128x1024, .f32⟩
  | .hbm, ⟨15, _⟩ => ⟨S4096x1024, .f32⟩
  | .hbm, ⟨16, _⟩ => ⟨S6x2x16x128x512, .bf16⟩
  | .hbm, ⟨17, _⟩ => ⟨S2x16x128x1024, .f32⟩
  | .hbm, ⟨18, _⟩ => ⟨S2x16x128x1024, .f32⟩
  | .hbm, ⟨19, _⟩ => ⟨S4096x1024, .f32⟩
  | .hbm, ⟨20, _⟩ => ⟨S1x1024, .f32⟩
  | .local _ .vmem, ⟨0, _⟩ => ⟨S6x1x16x32x512, .bf16⟩
  | .local _ .vmem, ⟨1, _⟩ => ⟨S6x1x16x32x512, .bf16⟩
  | .local _ .vmem, ⟨2, _⟩ => ⟨S1024x3072, .bf16⟩
  | .local _ .vmem, ⟨3, _⟩ => ⟨S1x16x32x1024, .f32⟩
  | .local _ .vmem, ⟨4, _⟩ => ⟨S1x16x32x1024, .f32⟩
  | .local _ .vmem, ⟨5, _⟩ => ⟨S1x1024, .f32⟩
  | .local _ .vmem, ⟨6, _⟩ => ⟨S1x16x32x1024, .f32⟩
  | .local _ .vmem, ⟨7, _⟩ => ⟨S1x16x32x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S8x512x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_708 : BitVec 32 := 0#32
  let v874 : BitVec 1 := Scalar.cmpi .eq arg0 c0_i32_708
  let v875 : BitVec 32 := Scalar.extui v874
  let c0_i32_709 : BitVec 32 := 0#32
  let v876 : BitVec 1 := Scalar.cmpi .ne v875 c0_i32_709
  v876

def k0_cond2 (i : grid0.Coords) : BitVec 1 :=
  let arg0 : BitVec 32 := BitVec.ofNat 32 (i 0).val
  let c0_i32_710 : BitVec 32 := 0#32
  let v877 : BitVec 1 := Scalar.cmpi .ne arg0 c0_i32_710
  let v878 : BitVec 32 := Scalar.extui v877
  let c0_i32_711 : BitVec 32 := 0#32
  let v879 : BitVec 1 := Scalar.cmpi .ne v878 c0_i32_711
  v879

def cc0_transform_0 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, v26.toNat, c0_i32_12.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6x1x16x32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x16x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S1024x3072, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x3072, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel9.lean ====
abbrev S4096x1024 : Shape := ⟨2, ![4096, 1024]⟩
abbrev S4096x512 : Shape := ⟨2, ![4096, 512]⟩
abbrev S4096x1536 : Shape := ⟨2, ![4096, 1536]⟩
abbrev S3x512 : Shape := ⟨2, ![3, 512]⟩
abbrev S1x512 : Shape := ⟨2, ![1, 512]⟩
abbrev S1024x1024 : Shape := ⟨2, ![1024, 1024]⟩
abbrev S2x128x16x1024 : Shape := ⟨4, ![2, 128, 16, 1024]⟩
abbrev S2x16x128x1024 : Shape := ⟨4, ![2, 16, 128, 1024]⟩
abbrev S2x128x16x512 : Shape := ⟨4, ![2, 128, 16, 512]⟩
abbrev S2x16x128x512 : Shape := ⟨4, ![2, 16, 128, 512]⟩
abbrev S2x128x16x1536 : Shape := ⟨4, ![2, 128, 16, 1536]⟩
abbrev S2x16x128x1536 : Shape := ⟨4, ![2, 16, 128, 1536]⟩
abbrev S1x16x32x1024 : Shape := ⟨4, ![1, 16, 32, 1024]⟩
abbrev S1x16x32x512 : Shape := ⟨4, ![1, 16, 32, 512]⟩
abbrev S1x16x32x1536 : Shape := ⟨4, ![1, 16, 32, 1536]⟩
abbrev S1x2x16x1536 : Shape := ⟨4, ![1, 2, 16, 1536]⟩
abbrev S512x1024 : Shape := ⟨2, ![512, 1024]⟩
abbrev S16x32x512 : Shape := ⟨3, ![16, 32, 512]⟩
abbrev S16x32 : Shape := ⟨2, ![16, 32]⟩
abbrev S16x32x1 : Shape := ⟨3, ![16, 32, 1]⟩
abbrev S1x1x512 : Shape := ⟨3, ![1, 1, 512]⟩
abbrev S16x32x1536 : Shape := ⟨3, ![16, 32, 1536]⟩
abbrev S2x16x1536 : Shape := ⟨3, ![2, 16, 1536]⟩
abbrev S2x16x512 : Shape := ⟨3, ![2, 16, 512]⟩
abbrev S1x32x512 : Shape := ⟨3, ![1, 32, 512]⟩
abbrev S32x512 : Shape := ⟨2, ![32, 512]⟩
abbrev S15x32x512 : Shape := ⟨3, ![15, 32, 512]⟩
abbrev S14x32x512 : Shape := ⟨3, ![14, 32, 512]⟩
abbrev S512x512 : Shape := ⟨2, ![512, 512]⟩
abbrev S16x32x1024 : Shape := ⟨3, ![16, 32, 1024]⟩

abbrev nBuf : Space → Nat
  | .hbm => 34
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x1536, .f32⟩
  | .hbm, ⟨3, _⟩ => ⟨S3x512, .f32⟩
  | .hbm, ⟨4, _⟩ => ⟨S1x512, .f32⟩
  | .hbm, ⟨5, _⟩ => ⟨S1x512, .f32⟩
  | .hbm, ⟨6, _⟩ => ⟨S1024x1024, .f32⟩
  | .hbm, ⟨7, _⟩ => ⟨S2x128x16x1024, .f32⟩
  | .hbm, ⟨8, _⟩ => ⟨S2x16x128x1024, .f32⟩
  | .hbm, ⟨9, _⟩ => ⟨S4096x1024, .f32⟩
  | .hbm, ⟨10, _⟩ => ⟨S2x128x16x512, .f32⟩
  | .hbm, ⟨11, _⟩ => ⟨S2x16x128x512, .f32⟩
  | .hbm, ⟨12, _⟩ => ⟨S4096x512, .f32⟩
  | .hbm, ⟨13, _⟩ => ⟨S2x128x16x1536, .f32⟩
  | .hbm, ⟨14, _⟩ => ⟨S2x16x128x1536, .f32⟩
  | .hbm, ⟨15, _⟩ => ⟨S4096x1536, .f32⟩
  | .hbm, ⟨16, _⟩ => ⟨S4096x1536, .bf16⟩
  | .hbm, ⟨17, _⟩ => ⟨S1024x1024, .bf16⟩
  | .hbm, ⟨18, _⟩ => ⟨S2x16x128x1024, .f32⟩
  | .hbm, ⟨19, _⟩ => ⟨S2x16x128x1024, .f32⟩
  | .hbm, ⟨20, _⟩ => ⟨S2x16x128x1024, .f32⟩
  | .hbm, ⟨21, _⟩ => ⟨S2x16x128x512, .f32⟩
  | .hbm, ⟨22, _⟩ => ⟨S2x16x128x1536, .bf16⟩
  | .hbm, ⟨23, _⟩ => ⟨S2x16x128x1536, .bf16⟩
  | .hbm, ⟨24, _⟩ => ⟨S2x16x128x1024, .f32⟩
  | .hbm, ⟨25, _⟩ => ⟨S2x16x128x1024, .bf16⟩
  | .hbm, ⟨26, _⟩ => ⟨S4096x1024, .f32⟩
  | .hbm, ⟨27, _⟩ => ⟨S4096x1024, .bf16⟩
  | .hbm, ⟨28, _⟩ => ⟨S2x16x128x1024, .f32⟩
  | .hbm, ⟨29, _⟩ => ⟨S2x128x16x1024, .f32⟩
  | .hbm, ⟨30, _⟩ => ⟨S4096x1024, .f32⟩
  | .hbm, ⟨31, _⟩ => ⟨S2x16x128x1024, .bf16⟩
  | .hbm, ⟨32, _⟩ => ⟨S2x128x16x1024, .bf16⟩
  | .hbm, ⟨33, _⟩ => ⟨S4096x1024, .bf16⟩
  | .local _ .vmem, ⟨0, _⟩ => ⟨S1x16x32x1024, .f32⟩
  | .local _ .vmem, ⟨1, _⟩ => ⟨S1x16x32x1024, .f32⟩
  | .local _ .vmem, ⟨2, _⟩ => ⟨S1x16x32x512, .f32⟩
  | .local _ .vmem, ⟨3, _⟩ => ⟨S1x16x32x512, .f32⟩
  | .local _ .vmem, ⟨4, _⟩ => ⟨S1x16x32x1536, .bf16⟩
  | .local _ .vmem, ⟨5, _⟩ => ⟨S1x16x32x1536, .bf16⟩
  | .local _ .vmem, ⟨6, _⟩ => ⟨S1x2x16x1536, .bf16⟩
  | .local _ .vmem, ⟨7, _⟩ => ⟨S1x2x16x1536, .bf16⟩
  | .local _ .vmem, ⟨8, _⟩ => ⟨S3x512, .f32⟩
  | .local _ .vmem, ⟨9, _⟩ => ⟨S1x512, .f32⟩
  | .local _ .vmem, ⟨10, _⟩ => ⟨S1x512, .f32⟩
  | .local _ .vmem, ⟨11, _⟩ => ⟨S512x1024, .bf16⟩
  | .local _ .vmem, ⟨12, _⟩ => ⟨S512x1024, .bf16⟩
  | .local _ .vmem, ⟨13, _⟩ => ⟨S1x16x32x1024, .f32⟩
  | .local _ .vmem, ⟨14, _⟩ => ⟨S1x16x32x1024, .f32⟩
  | .local _ .vmem, ⟨15, _⟩ => ⟨S1x16x32x1024, .bf16⟩
  | .local _ .vmem, ⟨16, _⟩ => ⟨S1x16x32x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c2_i32 : BitVec 32 := 2#32
  let v31 : BitVec 32 := Scalar.muli v30 c2_i32
  let c2_i32_14 : BitVec 32 := 2#32
  let v32 : BitVec 32 := Scalar.addi v31 c2_i32_14
  let c1_i32_15 : BitVec 32 := 1#32
  let v33 : BitVec 32 := Scalar.subi v32 c1_i32_15
  let c7_i32 : BitVec 32 := 7#32
  let c0_i32_16 : BitVec 32 := 0#32
  let c0_i32_17 : BitVec 32 := 0#32
  ![v18.toNat, c7_i32.toNat, v33.toNat, c0_i32_16.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1x16x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x32x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x16x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x16x32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x32x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference9Ideal.lean ====
abbrev S4096x1024 : Shape := ⟨2, ![4096, 1024]⟩
abbrev S4096x512 : Shape := ⟨2, ![4096, 512]⟩
abbrev S4096x1536 : Shape := ⟨2, ![4096, 1536]⟩
abbrev S3x512 : Shape := ⟨2, ![3, 512]⟩
abbrev S1x512 : Shape := ⟨2, ![1, 512]⟩
abbrev S1024x1024 : Shape := ⟨2, ![1024, 1024]⟩
abbrev S_ : Shape := ⟨0, ![]⟩
abbrev S2x512 : Shape := ⟨2, ![2, 512]⟩
abbrev S4098x512 : Shape := ⟨2, ![4098, 512]⟩
abbrev S512 : Shape := ⟨1, ![512]⟩
abbrev S4096 : Shape := ⟨1, ![4096]⟩
abbrev S4096x1 : Shape := ⟨2, ![4096, 1]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x1536, .f32⟩
  | .hbm, ⟨3, _⟩ => ⟨S3x512, .f32⟩
  | .hbm, ⟨4, _⟩ => ⟨S1x512, .f32⟩
  | .hbm, ⟨5, _⟩ => ⟨S1x512, .f32⟩
  | .hbm, ⟨6, _⟩ => ⟨S1024x1024, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S2x512, .f32⟩
  | .hbm, ⟨13, _⟩ => ⟨S4098x512, .f32⟩
  | .hbm, ⟨14, _⟩ => ⟨S4096x512, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S1x512, .f32⟩
  | .hbm, ⟨25, _⟩ => ⟨S512, .f32⟩
  | .hbm, ⟨26, _⟩ => ⟨S1x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S1x512, .f32⟩
  | .hbm, ⟨32, _⟩ => ⟨S512, .f32⟩
  | .hbm, ⟨33, _⟩ => ⟨S1x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]
-- ==== Kernel10.lean ====
abbrev S4096x1024 : Shape := ⟨2, ![4096, 1024]⟩
abbrev S1x1024 : Shape := ⟨2, ![1, 1024]⟩
abbrev S1024x1024 : Shape := ⟨2, ![1024, 1024]⟩
abbrev S256x2048 : Shape := ⟨2, ![256, 2048]⟩
abbrev S512x1024 : Shape := ⟨2, ![512, 1024]⟩
abbrev S256x1024 : Shape := ⟨2, ![256, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .f32⟩
  | .hbm, ⟨3, _⟩ => ⟨S256x2048, .f32⟩
  | .hbm, ⟨4, _⟩ => ⟨S1024x1024, .f32⟩
  | .hbm, ⟨5, _⟩ => ⟨S1024x1024, .bf16⟩
  | .hbm, ⟨6, _⟩ => ⟨S256x2048, .bf16⟩
  | .hbm, ⟨7, _⟩ => ⟨S1024x1024, .bf16⟩
  | .hbm, ⟨8, _⟩ => ⟨S4096x1024, .f32⟩
  | .hbm, ⟨9, _⟩ => ⟨S4096x1024, .bf16⟩
  | .hbm, ⟨10, _⟩ => ⟨S4096x1024, .bf16⟩
  | .hbm, ⟨11, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S4096x1024 : Shape := ⟨2, ![4096, 1024]⟩
abbrev S1x1024 : Shape := ⟨2, ![1, 1024]⟩
abbrev S1024x1024 : Shape := ⟨2, ![1024, 1024]⟩
abbrev S256x2048 : Shape := ⟨2, ![256, 2048]⟩
abbrev S_ : Shape := ⟨0, ![]⟩
abbrev S4096 : Shape := ⟨1, ![4096]⟩
abbrev S4096x1 : Shape := ⟨2, ![4096, 1]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .f32⟩
  | .hbm, ⟨3, _⟩ => ⟨S256x2048, .f32⟩
  | .hbm, ⟨4, _⟩ => ⟨S1024x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S256x1024, .f32⟩
  | .hbm, ⟨22, _⟩ => ⟨S256x1024, .f32⟩
  | .hbm, ⟨23, _⟩ => ⟨S4096x4x256, .f32⟩
  | .hbm, ⟨24, _⟩ => ⟨S256x4x256, .f32⟩
  | .hbm, ⟨25, _⟩ => ⟨S256x4x256, .f32⟩
  | .hbm, ⟨26, _⟩ => ⟨S4x4096x256, .f32⟩
  | .hbm, ⟨27, _⟩ => ⟨S_, .f32⟩
  | .hbm, ⟨28, _⟩ => ⟨S4x4096x256, .f32⟩
  | .hbm, ⟨29, _⟩ => ⟨S4x4096x256, .f32⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S4x4096, .f32⟩
  | .hbm, ⟨35, _⟩ => ⟨S4x4096x1, .f32⟩
  | .hbm, ⟨36, _⟩ => ⟨S4x4096x256, .f32⟩
  | .hbm, ⟨37, _⟩ => ⟨S4x4096x256, .f32⟩
  | .hbm, ⟨38, _⟩ => ⟨S4x4096x256, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S4x4096x256, .f32⟩
  | .hbm, ⟨43, _⟩ => ⟨S4x4096x256, .f32⟩
  | .hbm, ⟨44, _⟩ => ⟨S4x256x4096, .f32⟩
  | .hbm, ⟨45, _⟩ => ⟨S4096x4x256, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | .hbm, ⟨50, _⟩ => ⟨S4096x1024, .bf16⟩
  | .hbm, ⟨51, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Kernel11.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S1024x1024 : Shape := ⟨2, ![1024, 1024]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S1024x4096, .bf16⟩
  | .hbm, ⟨4, _⟩ => ⟨S4096x4096, .bf16⟩
  | .hbm, ⟨5, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference11Ideal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .bf16⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel12.lean ====
abbrev S4096x1024 : Shape := ⟨2, ![4096, 1024]⟩
abbrev S1x1024 : Shape := ⟨2, ![1, 1024]⟩
abbrev S1024x3072 : Shape := ⟨2, ![1024, 3072]⟩
abbrev S4096x1536 : Shape := ⟨2, ![4096, 1536]⟩
abbrev S1024x1024 : Shape := ⟨2, ![1024, 1024]⟩
abbrev S1024x1536 : Shape := ⟨2, ![1024, 1536]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3072, .f32⟩
  | .hbm, ⟨3, _⟩ => ⟨S1024x3072, .bf16⟩
  | .hbm, ⟨4, _⟩ => ⟨S4096x1536, .f32⟩
  | .hbm, ⟨5, _⟩ => ⟨S4096x1536, .bf16⟩
  | .hbm, ⟨6, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S1024x1536, .f32⟩
  | .local _ .vmem, ⟨6, _⟩ => ⟨S1024x1536, .f32⟩
  | .local _ .vmem, ⟨7, _⟩ => ⟨S1024x1536, .bf16⟩
  | .local _ .vmem, ⟨8, _⟩ => ⟨S1024x1536, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference12Ideal.lean ====
abbrev S4096x1024 : Shape := ⟨2, ![4096, 1024]⟩
abbrev S1x1024 : Shape := ⟨2, ![1, 1024]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩
abbrev S4096x1536 : Shape := ⟨2, ![4096, 1536]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3072, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x3072, .f32⟩
  | .hbm, ⟨19, _⟩ => ⟨S4096x1536, .f32⟩
  | .hbm, ⟨20, _⟩ => ⟨S4096x1536, .f32⟩
  | .hbm, ⟨21, _⟩ => ⟨S4096x1536, .bf16⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel13.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S1024x1024 : Shape := ⟨2, ![1024, 1024]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S1024x2048, .bf16⟩
  | .hbm, ⟨4, _⟩ => ⟨S256x2048, .bf16⟩
  | .hbm, ⟨5, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference13Ideal.lean ====
abbrev S256x1024 : Shape := ⟨2, ![256, 1024]⟩
abbrev S1x1024 : Shape := ⟨2, ![1, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S256x2048 : Shape := ⟨2, ![256, 2048]⟩

abbrev nBuf : Space → Nat
  | .hbm => 21
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x2048, .f32⟩
  | .hbm, ⟨19, _⟩ => ⟨S256x2048, .bf16⟩
  | .hbm, ⟨20, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel14.lean ====
abbrev S4096x4096 : Shape := ⟨2, ![4096, 4096]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S4096x1024, .f32⟩
  | .hbm, ⟨8, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S8x1024x512 : Shape := ⟨3, ![8, 1024, 512]⟩
abbrev S1024x512 : Shape := ⟨2, ![1024, 512]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 9
  | .vmem => 16
  | .smem => 0
  | _ => 0

abbrev bufTy : (tb : Table) → Fin (tcTables nBuf tb) → BufTy
  | .hbm, ⟨0, _⟩ => ⟨S8x1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8x1024x512, .bf16⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S8x512x512, .bf16⟩
  | .local _ .vmem, ⟨1, _⟩ => ⟨S8x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S8x1024x512 : Shape := ⟨3, ![8, 1024, 512]⟩
abbrev S1024x512 : Shape := ⟨2, ![1024, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel17.lean ====
abbrev S1x1024 : Shape := ⟨2, ![1, 1024]⟩
abbrev S1x512 : Shape := ⟨2, ![1, 512]⟩
abbrev S8x512 : Shape := ⟨2, ![8, 512]⟩
abbrev S8x128 : Shape := ⟨2, ![8, 128]⟩
abbrev S16x1024 : Shape := ⟨2, ![16, 1024]⟩
abbrev S1x128 : Shape := ⟨2, ![1, 128]⟩

abbrev nBuf : Space → Nat
  | .hbm => 10
  | .vmem => 10
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x512, .f32⟩
  | .hbm, ⟨6, _⟩ => ⟨S1x512, .f32⟩
  | .hbm, ⟨7, _⟩ => ⟨S8x512, .f32⟩
  | .hbm, ⟨8, _⟩ => ⟨S8x128, .f32⟩
  | .hbm, ⟨9, _⟩ => ⟨S16x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x512, .f32⟩
  | .local _ .vmem, ⟨6, _⟩ => ⟨S1x512, .f32⟩
  | .local _ .vmem, ⟨7, _⟩ => ⟨S8x512, .f32⟩
  | .local _ .vmem, ⟨8, _⟩ => ⟨S8x128, .f32⟩
  | .local _ .vmem, ⟨9, _⟩ => ⟨S16x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Reference17Ideal.lean ====
abbrev S1x1024 : Shape := ⟨2, ![1, 1024]⟩
abbrev S1x512 : Shape := ⟨2, ![1, 512]⟩
abbrev S8x512 : Shape := ⟨2, ![8, 512]⟩
abbrev S8x128 : Shape := ⟨2, ![8, 128]⟩
abbrev S1x128 : Shape := ⟨2, ![1, 128]⟩
abbrev S_ : Shape := ⟨0, ![]⟩
abbrev S1x896 : Shape := ⟨2, ![1, 896]⟩
abbrev S8x1024 : Shape := ⟨2, ![8, 1024]⟩
abbrev S16x1024 : Shape := ⟨2, ![16, 1024]⟩

abbrev nBuf : Space → Nat
  | .hbm => 20
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x512, .f32⟩
  | .hbm, ⟨6, _⟩ => ⟨S1x512, .f32⟩
  | .hbm, ⟨7, _⟩ => ⟨S8x512, .f32⟩
  | .hbm, ⟨8, _⟩ => ⟨S8x128, .f32⟩
  | .hbm, ⟨9, _⟩ => ⟨S1x1024, .f32⟩
  | .hbm, ⟨10, _⟩ => ⟨S1x128, .f32⟩
  | .hbm, ⟨11, _⟩ => ⟨S_, .f32⟩
  | .hbm, ⟨12, _⟩ => ⟨S1x896, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S_, .f32⟩
  | .hbm, ⟨17, _⟩ => ⟨S8x512, .f32⟩
  | .hbm, ⟨18, _⟩ => ⟨S8x1024, .f32⟩
  | .hbm, ⟨19, _⟩ => ⟨S16x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== Kernel19.lean ====
abbrev S4096x1024 : Shape := ⟨2, ![4096, 1024]⟩
abbrev S2x16x128x1024 : Shape := ⟨4, ![2, 16, 128, 1024]⟩
abbrev S512x1024 : Shape := ⟨2, ![512, 1024]⟩
abbrev S1x16x32x1024 : Shape := ⟨4, ![1, 16, 32, 1024]⟩
abbrev S8x512x128 : Shape := ⟨3, ![8, 512, 128]⟩
abbrev S512x128 : Shape := ⟨2, ![512, 128]⟩
abbrev S1x512x128 : Shape := ⟨3, ![1, 512, 128]⟩
abbrev S32x128 : Shape := ⟨2, ![32, 128]⟩
abbrev S1x1x32x128 : Shape := ⟨4, ![1, 1, 32, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x16x128x1024, .f32⟩
  | .hbm, ⟨3, _⟩ => ⟨S2x16x128x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x16x32x1024, .f32⟩
  | .local _ .vmem, ⟨5, _⟩ => ⟨S1x16x32x1024, .f32⟩
  | .local _ .vmem, ⟨6, _⟩ => ⟨S1x16x32x1024, .f32⟩
  | .local _ .vmem, ⟨7, _⟩ => ⟨S1x16x32x1024, .f32⟩
  | .local _ .vmem, ⟨8, _⟩ => ⟨S8x512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference19Ideal.lean ====
abbrev S4096x1024 : Shape := ⟨2, ![4096, 1024]⟩
abbrev S2x128x16x1024 : Shape := ⟨4, ![2, 128, 16, 1024]⟩
abbrev S2x16x128x1024 : Shape := ⟨4, ![2, 16, 128, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x128x16x1024, .f32⟩
  | .hbm, ⟨3, _⟩ => ⟨S2x16x128x1024, .f32⟩
  | .hbm, ⟨4, _⟩ => ⟨S2x128x16x1024, .f32⟩
  | .hbm, ⟨5, _⟩ => ⟨S2x16x128x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Dpre.lean ====
/- The squared-ReLU gradient (`_mlp_dpre`): the array the kernel leaves is the reference's term. -/
module

public import proofs.«01_k».proof.Proof.Gen.KernelIdeal.Value
public import proofs.«01_k».proof.Proof.Gen.ReferenceIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Dpre
open Cert.KernelIdeal Cert.KernelIdeal.Gen Idealize.ShloMosaic.StableHlo

variable (m : (ℓ : Loc nD τ sig) → Buf (Elt Ideal) ℓ)

/-- Rows follow the outer grid axis, columns the inner one. -/
theorem blockOf : ∀ t : Fin cfg0.N, win0_0.index t = ![t.val / 2, 0] ∧ win0_1.index t = ![t.val % 2, 0]
    ∧ win0_2.index t = ![t.val / 2, t.val % 2] ∧ win0_3.index t = ![t.val / 2, t.val % 2] :=
  (by decide +kernel : ∀ t : Fin grid0.N, _)

/-- The gradient at one place: twice the rectified value times the product with the weight's row. -/
def G (pre : FVec Ideal S4096x4096 .f32) (w ct : FVec Ideal S4096x1024 .f32) : FVec Ideal S4096x4096 .f32 := fun i =>
  2 * max (pre i) 0 * ∑ k : Fin 1024, ct (ix2 (i 0) k) * w (ix2 (i 1) k)

/-- The constant the kernel multiplies by is two. -/
theorem two_def : Ideal.ofBits .f32 0x40000000#32 = 2 := by
  rw [show (2 : EReal) = ((2 : ℝ) : EReal) by norm_cast]
  simp [Ideal.ofBits, Ideal.ieee, -EReal.coe_mul]; norm_num

/-- The positive part, element by element. -/
def pos (x : FVec Ideal S4096x4096 .f32) : FVec Ideal S4096x4096 .f32 := fun i => max (x i) 0

/-- The rectified values the kernel is handed. -/
theorem rectified (c : Dev nD) : V m c main_v3 = pos (m ((c : Thread nD τ).loc main_arg0)) := by
  simp only [V, hostOps0, hostOps0_1, hostOps0_2, List.flatten_cons, List.flatten_nil, List.append_nil, List.cons_append, List.nil_append,
    TRef.binary, TRef.nullary, TRef.unary, TRef.toBuf, TRef.ofBuf, cast_eq]
  after_results
  funext i
  pointwise [pos]

/-- What the kernel leaves, in closed form. -/
theorem final (c : Dev nD) : (dats m 0 c).arrAt 3 (cfgs 0).N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, G]
  blk_point [iblk, V, blockOf t]
  rw [rectified, two_def]
  pointwise [pos]
  blk_point [iblk, V, blockOf t]

/-- Twice the product, or the sum of the two equal products the gradient of a square gives. -/
theorem two_mul_ereal (a : EReal) : 2 * a = a + a := by
  rw [show (2 : EReal) = 1 + 1 by norm_num, EReal.right_distrib_of_nonneg zero_le_one zero_le_one, one_mul]

theorem twice (x s : EReal) : (if 0 < x then max x 0 * s + s * max x 0 else 0) = 2 * max x 0 * s := by
  split_ifs with h
  · rw [mul_comm s, mul_assoc, two_mul_ereal]
  · rw [max_eq_right (not_lt.mp h), mul_zero, zero_mul]

/-- The kernel's array is the reference's. -/
theorem result : Cert.algebraic_KernelIdeal_ReferenceIdeal (hKernelIdeal := Cert.KernelIdeal.Gen.facts) (hReferenceIdeal := Cert.ReferenceIdeal.Gen.facts) := by
  pair_intro
  · run_from Cert.KernelIdeal.Value.run_blocks m g
  · run_from Cert.ReferenceIdeal.Value.run m' g'
    rw [final m c]
    funext i
    idx_vars i
    pointwise [G]
    exact twice _ _

end Cert.Dpre
end
-- ==== Proof.Mem.lean ====
/- The gradient through the memory's projection and norm (`_mem_bwd`): the arrays the kernel leaves are the reference's. -/
module

public import proofs.«01_k».proof.Proof.Gen.Kernel2Ideal.Value
public import proofs.«01_k».proof.Proof.Gen.Reference2Ideal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Mem
open Cert.Kernel2Ideal Cert.Kernel2Ideal.Gen Idealize.ShloMosaic.StableHlo

variable (m : (ℓ : Loc nD τ sig) → Buf (Elt Ideal) ℓ)

/-- One step: every window sits at its origin. -/
theorem blockOf : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0] :=
  (by decide +kernel : ∀ t : Fin grid0.N, _)

/-- The reciprocal of a row's root mean square. -/
def rinv (x : FVec Ideal S256x1024 .f32) (r : Fin 256) : EReal :=
  Ideal.rsqrt (Ideal.div (∑ k : Fin 1024, x (ix2 r k) * x (ix2 r k)) (Ideal.ofBits .f32 0x44800000#32) + Ideal.ofBits .f32 0x358637BD#32)

/-- The weight's gradient: normed rows against the incoming gradient. -/
def GW (x : FVec Ideal S256x1024 .f32) (g : FVec Ideal S1x1024 .f32) (ct : FVec Ideal S256x2048 .f32) : FVec Ideal S1024x2048 .bf16 := fun i =>
  ∑ r : Fin 256, x (ix2 r (i 0)) * rinv x r * g (ix2 0 (i 0)) * ct (ix2 r (i 1))

/-- The gain's gradient. -/
def GG (x : FVec Ideal S256x1024 .f32) (w : FVec Ideal S1024x2048 .f32) (ct : FVec Ideal S256x2048 .f32) : FVec Ideal S1x1024 .f32 := fun i =>
  ∑ r : Fin 256, (∑ k : Fin 2048, ct (ix2 r k) * w (ix2 (i 1) k)) * (x (ix2 r (i 1)) * rinv x r)

/-- The normed rows. -/
def H (x : FVec Ideal S256x1024 .f32) (g : FVec Ideal S1x1024 .f32) : FVec Ideal S256x1024 .bf16 := fun i =>
  x (ix2 (i 0) (i 1)) * rinv x (i 0) * g (ix2 0 (i 1))

/-- The normed rows are what the host hands the kernel. -/
theorem normed (c : Dev nD) : V m c main_v15 = H (m ((c : Thread nD τ).loc main_arg0)) (m ((c : Thread nD τ).loc main_arg1)) := by
  entry_read
  funext i
  pointwise [H, rinv]
  blk_ext

/-- After the run the first result is the weight's gradient. -/
theorem final6 (c : Dev nD) : (dats m 0 c).arrAt 6 (cfgs 0).N
    = GW (m ((c : Thread nD τ).loc main_arg0)) (m ((c : Thread nD τ).loc main_arg1)) (m ((c : Thread nD τ).loc main_arg3)) := by
  refine (dats m 0 c).arrAt_eq_of_covers 6 _ (by decide +kernel) fun t _ y => ?_
  blk_simp
  rw [after0_6]; frame_out
  canon_tiles z h
  all_goals
    open_payloads
    pointwise [GW]
    blk_point [iblk, V, blockOf t, h0, h1]
    all_goals
      rw [normed]
      have e : (win0_4.blk t).view.emb (ix2 x (z 0)) = ix2 x ((win0_6.blk t).view.emb y 0) := by
        obtain ⟨-, -, -, -, e4, -, e6, -⟩ := blockOf t
        blk_ext <;> simp [e4, e6, h0]
      rw [e]
      rfl

/-- After the run the second result is the gain's gradient. -/
theorem final7 (c : Dev nD) : (dats m 0 c).arrAt 7 (cfgs 0).N
    = GG (m ((c : Thread nD τ).loc main_arg0)) (m ((c : Thread nD τ).loc main_arg2)) (m ((c : Thread nD τ).loc main_arg3)) := by
  refine (dats m 0 c).arrAt_eq_of_covers 7 _ (by decide +kernel) fun t _ y => ?_
  blk_simp
  rw [after0_7]; frame_out
  pointwise [k0_pay1, k0_pay7, k0_pay8, k0_pay3, k0_pay5, GG, rinv]
  simp only [fun f : Fin 2048 → EReal => Fin.sum_univ_two_halves 1024 1024 rfl f]
  blk_point [iblk, V, blockOf t]

set_option maxHeartbeats 1600000 in
/-- Kernel and reference agree. -/
theorem result : Cert.algebraic_Kernel2Ideal_Reference2Ideal (hKernel2Ideal := Cert.Kernel2Ideal.Gen.facts) (hReference2Ideal := Cert.Reference2Ideal.Gen.facts) := by
  pair_intro
  · run_from Cert.Kernel2Ideal.Value.run_blocks m g
  · run_from Cert.Reference2Ideal.Value.run m' g'
    · rw [final6 m c]
      funext i
      idx_vars i
      pointwise [GW, rinv]
      exact Finset.sum_congr rfl fun _ _ => mul_comm _ _
    · rw [final7 m c]
      funext i
      idx_vars i
      pointwise [GG, rinv]
      exact Finset.sum_congr rfl fun _ _ => mul_comm _ _

end Cert.Mem
end
-- ==== Proof.ConvSpec.lean ====
/- The short gated convolution and its gradient, by rows: the mathematics the convolution's and the mixer's proofs share. -/
module

public import Idealize.ShloMosaic.Lib.Pipeline.ValueKit
public import Idealize.ShloMosaic.Lib.Pointwise
public import Idealize.ShloMosaic.Lib.WordCmp
public import Idealize.ShloMosaic.Lib.Claim

@[expose] public section

set_option maxRecDepth 16384

noncomputable section

open Idealize.ShloMosaic Idealize.ShloMosaic.TcCoe Idealize.SL.Sem

namespace Cert.Conv
open Idealize.ShloMosaic.StableHlo

/-- The gates' shape. -/
abbrev SZ : Shape := ⟨2, ![4096, 1536]⟩
/-- A gate's shape. -/
abbrev SD : Shape := ⟨2, ![4096, 512]⟩
/-- The taps' shape. -/
abbrev SW : Shape := ⟨2, ![3, 512]⟩

/-- A column of a 4096-row array, read at any row number: zero past the end. -/
def row (z : Fin 4096 → EReal) (n : ℕ) : EReal := if h : n < 4096 then z ⟨n, h⟩ else 0

/-- The gate that multiplies the convolution. -/
def bg (Z : FVec Ideal SZ .f32) (n : ℕ) (c : Fin 512) : EReal := row (fun p => Z (ix2 p ⟨c, by omega⟩)) n
/-- The gate that multiplies the convolution's input. -/
def cg (Z : FVec Ideal SZ .f32) (n : ℕ) (c : Fin 512) : EReal := row (fun p => Z (ix2 p ⟨512 + c, by omega⟩)) n
/-- The convolution's ungated input. -/
def xc (Z : FVec Ideal SZ .f32) (n : ℕ) (c : Fin 512) : EReal := row (fun p => Z (ix2 p ⟨1024 + c, by omega⟩)) n
/-- The cotangent. -/
def dy (D : FVec Ideal SD .f32) (n : ℕ) (c : Fin 512) : EReal := row (fun p => D (ix2 p c)) n
/-- The gated input `k` rows back, zero before the first row. -/
def back (Z : FVec Ideal SZ .f32) (k n : ℕ) (c : Fin 512) : EReal := if k ≤ n then cg Z (n - k) c * xc Z (n - k) c else 0
/-- The cotangent of the convolution itself. -/
def dconv (Z : FVec Ideal SZ .f32) (D : FVec Ideal SD .f32) (n : ℕ) (c : Fin 512) : EReal := dy D n c * bg Z n c
/-- The convolution. -/
def conv (Z : FVec Ideal SZ .f32) (W : FVec Ideal SW .f32) (n : ℕ) (c : Fin 512) : EReal :=
  back Z 2 n c * W (ix2 0 c) + back Z 1 n c * W (ix2 1 c) + back Z 0 n c * W (ix2 2 c)
/-- The cotangent of the gated input. -/
def du (Z : FVec Ideal SZ .f32) (D : FVec Ideal SD .f32) (W : FVec Ideal SW .f32) (n : ℕ) (c : Fin 512) : EReal :=
  dconv Z D n c * W (ix2 2 c) + dconv Z D (n + 1) c * W (ix2 1 c) + dconv Z D (n + 2) c * W (ix2 0 c)

theorem sel {α : Type} (n k : ℕ) (hn : n < 2 ^ 32) (hk : k < 2 ^ 32) (a b : α) :
    Scalar.select (IntOp.cmpi .eq (BitVec.ofNat 32 n) (BitVec.ofNat 32 k)) a b = if n = k then a else b := by
  unfold Scalar.select
  simp [WordCmp.cmpi_eq_ofNat_eq_one_iff hn hk]

theorem back_eq (Z : FVec Ideal SZ .f32) {k n k' n' : ℕ} (c : Fin 512) (h : n + k' = n' + k) : back Z k n c = back Z k' n' c := by
  unfold back
  rw [show n - k = n' - k' by omega]
  exact if_congr (by omega) rfl rfl

theorem back_zero (Z : FVec Ideal SZ .f32) {k n : ℕ} (c : Fin 512) (h : n < k) : back Z k n c = 0 := if_neg (by omega)

theorem back_one (Z : FVec Ideal SZ .f32) {k n a : ℕ} (c : Fin 512) (h : a + k = n) : cg Z a c * xc Z a c = back Z k n c := by
  unfold back
  rw [if_pos (by omega), show n - k = a by omega]

theorem dconv_zero (Z : FVec Ideal SZ .f32) (D : FVec Ideal SD .f32) {n : ℕ} (c : Fin 512) (h : 4096 ≤ n) : dconv Z D n c = 0 := by
  unfold dconv dy row
  rw [dif_neg (by omega), zero_mul]

section Reference
variable (Z : FVec Ideal SZ .f32) (D : FVec Ideal SD .f32) (W : FVec Ideal SW .f32) (n : Fin 4096) (k : ℕ) (hk : k < 512)

theorem row_at (z : Fin 4096 → EReal) (a : ℕ) (h : a < 4096) : z ⟨a, h⟩ = row z a := by
  unfold row
  rw [dif_pos h]

/-- The reference's padded input two rows back. -/
theorem up_two : (if h : (n : ℕ) < 2 then (0 : EReal) else Z (ix2 ⟨n - 2, by omega⟩ ⟨512 + k, by omega⟩) * Z (ix2 ⟨n - 2, by omega⟩ ⟨1024 + k, by omega⟩))
    = back Z 2 n ⟨k, hk⟩ := by
  unfold back
  split_ifs with h h'
  · omega
  · rfl
  · exact congrArg₂ _ (row_at (fun p => Z (ix2 p ⟨512 + k, by omega⟩)) _ _) (row_at (fun p => Z (ix2 p ⟨1024 + k, by omega⟩)) _ _)
  · omega

/-- The reference's padded input one row back. -/
theorem up_one : (if h : 1 + (n : ℕ) < 2 then (0 : EReal) else Z (ix2 ⟨1 + n - 2, by omega⟩ ⟨512 + k, by omega⟩) * Z (ix2 ⟨1 + n - 2, by omega⟩ ⟨1024 + k, by omega⟩))
    = back Z 1 n ⟨k, hk⟩ := by
  unfold back
  rw [show (n : ℕ) - 1 = 1 + n - 2 by omega]
  split_ifs with h h'
  · omega
  · rfl
  · exact congrArg₂ _ (row_at (fun p => Z (ix2 p ⟨512 + k, by omega⟩)) _ _) (row_at (fun p => Z (ix2 p ⟨1024 + k, by omega⟩)) _ _)
  · omega

/-- The reference's input in its own row. -/
theorem up_zero : Z (ix2 n ⟨512 + k, by omega⟩) * Z (ix2 n ⟨1024 + k, by omega⟩) = back Z 0 n ⟨k, hk⟩ :=
  (congrArg₂ _ (row_at (fun p => Z (ix2 p ⟨512 + k, by omega⟩)) n n.isLt) (row_at (fun p => Z (ix2 p ⟨1024 + k, by omega⟩)) n n.isLt)).trans (if_pos (Nat.zero_le _)).symm

theorem ref_dconv (a : ℕ) (h : a < 4096) : Z (ix2 ⟨a, h⟩ ⟨k, by omega⟩) * D (ix2 ⟨a, h⟩ ⟨k, hk⟩) = dconv Z D a ⟨k, hk⟩ :=
  (mul_comm _ _).trans (congrArg₂ _ (row_at (fun p => D (ix2 p ⟨k, hk⟩)) a h) (row_at (fun p => Z (ix2 p ⟨k, by omega⟩)) a h))

/-- The reference's convolution. -/
theorem ref_conv : (if h : (n : ℕ) < 2 then (0 : EReal) else Z (ix2 ⟨n - 2, by omega⟩ ⟨512 + k, by omega⟩) * Z (ix2 ⟨n - 2, by omega⟩ ⟨1024 + k, by omega⟩)) * W (ix2 0 ⟨k, hk⟩)
      + (if h : 1 + (n : ℕ) < 2 then (0 : EReal) else Z (ix2 ⟨1 + n - 2, by omega⟩ ⟨512 + k, by omega⟩) * Z (ix2 ⟨1 + n - 2, by omega⟩ ⟨1024 + k, by omega⟩)) * W (ix2 1 ⟨k, hk⟩)
      + Z (ix2 n ⟨512 + k, by omega⟩) * Z (ix2 n ⟨1024 + k, by omega⟩) * W (ix2 2 ⟨k, hk⟩) = conv Z W n ⟨k, hk⟩ := by
  rw [up_two Z n k hk, up_one Z n k hk, up_zero Z n k hk]; rfl

/-- The reference's gradient of the convolution's input. -/
theorem ref_du : (if h : k < 512 then Z (ix2 n ⟨k, by omega⟩) * D (ix2 n ⟨k, h⟩) * W (ix2 2 ⟨k, h⟩) else 0)
      + (if h : (1 ≤ 2 + (n : ℕ) ∧ 2 + (n : ℕ) - 1 < 4096) ∧ k < 512 then Z (ix2 ⟨2 + n - 1, h.1.2⟩ ⟨k, by omega⟩) * D (ix2 ⟨2 + n - 1, h.1.2⟩ ⟨k, h.2⟩) * W (ix2 1 ⟨k, h.2⟩) else 0)
      + (if h : 2 + (n : ℕ) < 4096 ∧ k < 512 then Z (ix2 ⟨2 + n, h.1⟩ ⟨k, by omega⟩) * D (ix2 ⟨2 + n, h.1⟩ ⟨k, h.2⟩) * W (ix2 0 ⟨k, h.2⟩) else 0)
    = du Z D W n ⟨k, hk⟩ := by
  unfold du
  refine congrArg₂ _ (congrArg₂ _ ?_ ?_) ?_
  · rw [dif_pos hk, ← ref_dconv Z D k hk n n.isLt]
  · split_ifs with h
    · rw [ref_dconv Z D k hk]
      exact congrArg (fun a => dconv Z D a ⟨k, hk⟩ * W (ix2 1 ⟨k, hk⟩)) (by omega)
    · rw [dconv_zero _ _ _ (by omega), zero_mul]
  · split_ifs with h
    · rw [ref_dconv Z D k hk]
      exact congrArg (fun a => dconv Z D a ⟨k, hk⟩ * W (ix2 0 ⟨k, hk⟩)) (by omega)
    · rw [dconv_zero _ _ _ (by omega), zero_mul]

end Reference

end Cert.Conv
end
-- ==== Proof.ConvPay.lean ====
/- The short convolution's gradient (`_conv_bwd`): what each payload computes. -/
module

public import proofs.«01_k».proof.Proof.Gen.Kernel3Ideal.Frame
public import proofs.«01_k».proof.Proof.ConvSpec
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Conv
open Cert.Kernel3Ideal Cert.Kernel3Ideal.Gen Idealize.ShloMosaic.StableHlo

section Payloads
variable (Z : FVec Ideal S4096x1536 .f32) (D : FVec Ideal S4096x512 .f32) (W : FVec Ideal S3x512 .f32) (g : grid0.Coords)
  (zb : FVec Ideal S1x16x32x1536 .bf16) (zp za : FVec Ideal S1x2x16x1536 .bf16) (db : FVec Ideal S1x16x32x512 .f32) (da : FVec Ideal S1x2x16x512 .f32)
  (hz : ∀ r j c, zb (ix4 0 r j c) = row (fun p => Z (ix2 p c)) (512 * g 0 + 16 * j + r))
  (hp : 0 < (g 0 : ℕ) → ∀ r c, zp (ix4 0 r 15 c) = row (fun p => Z (ix2 p c)) (512 * g 0 - 2 + r))
  (ha : (g 0 : ℕ) < 7 → ∀ r c, za (ix4 0 r 0 c) = row (fun p => Z (ix2 p c)) (512 * g 0 + 512 + r))
  (hd : ∀ r j c, db (ix4 0 r j c) = row (fun p => D (ix2 p c)) (512 * g 0 + 16 * j + r))
  (hda : (g 0 : ℕ) < 7 → ∀ r c, da (ix4 0 r 0 c) = row (fun p => D (ix2 p c)) (512 * g 0 + 512 + r))

include hz in
theorem pay3 (r : Fin 16) (j : Fin 32) (c : Fin 512) : k0_pay3 (F := Ideal) zb (ix3 r j c) = bg Z (512 * g 0 + 16 * j + r) c := by
  pointwise [k0_pay3, k0_pay2, k0_pay1]
  rw [hz]; rfl

include hz in
theorem pay4 (r : Fin 16) (j : Fin 32) (c : Fin 512) : k0_pay4 (F := Ideal) zb (ix3 r j c) = back Z 0 (512 * g 0 + 16 * j + r) c := by
  pointwise [k0_pay4, k0_pay2, k0_pay1]
  rw [hz, hz]; rfl

include hz hp in
theorem pay6 (j : Fin 32) (c : Fin 512) : k0_pay6 (F := Ideal) g zb zp (ix2 j c) = back Z 1 (512 * g 0 + 16 * j) c := by
  pointwise [k0_pay6, k0_pay5]
  have hg : (g 0 : ℕ) < 8 := (g 0).isLt
  unfold Scalar.cmpi
  rw [sel _ _ (by omega) (by omega), sel _ _ (by omega) (by omega), pay4 Z g zb hz]
  split_ifs with h0 h1
  · rw [back_zero _ _ (by omega)]
  · rw [hp (by omega), hp (by omega)]
    exact back_one Z c (by simp; omega)
  · exact back_eq Z c (by simp; omega)

include hz hp in
theorem pay8 (j : Fin 32) (c : Fin 512) : k0_pay8 (F := Ideal) g zb zp (ix3 0 j c) = back Z 2 (512 * g 0 + 16 * j) c := by
  pointwise [k0_pay8, k0_pay5]
  have hg : (g 0 : ℕ) < 8 := (g 0).isLt
  unfold Scalar.cmpi
  rw [sel _ _ (by omega) (by omega), sel _ _ (by omega) (by omega), pay4 Z g zb hz]
  split_ifs with h0 h1
  · rw [back_zero _ _ (by omega)]
  · rw [hp (by omega), hp (by omega)]
    exact back_one Z c (by simp; omega)
  · exact back_eq Z c (by simp; omega)

include hz hp in
theorem pay7 (r : Fin 16) (j : Fin 32) (c : Fin 512) : k0_pay7 (F := Ideal) g zb zp (ix3 r j c) = back Z 1 (512 * g 0 + 16 * j + r) c := by
  pointwise [k0_pay7]
  simp only [pay4 Z g zb hz, pay6 Z g zb zp hz hp]
  split_ifs with h0
  all_goals exact back_eq Z c (by simp; omega)

include hz hp in
theorem pay9 (r : Fin 16) (j : Fin 32) (c : Fin 512) :
    k0_pay9 (F := Ideal) (k0_pay4 zb) (k0_pay6 g zb zp) (k0_pay8 g zb zp) (ix3 r j c) = back Z 2 (512 * g 0 + 16 * j + r) c := by
  pointwise [k0_pay9]
  have e : ∀ h, (⟨(r : ℕ), h⟩ : Fin 1) = 0 := fun h => Subsingleton.elim _ _
  simp only [e, pay4 Z g zb hz, pay6 Z g zb zp hz hp, pay8 Z g zb zp hz hp]
  split_ifs with h0
  all_goals exact back_eq Z c (by simp; omega)

include hz hp in
theorem pay10 (r : Fin 16) (j : Fin 32) (c : Fin 512) :
    k0_pay10 (F := Ideal) W (k0_pay4 zb) (k0_pay6 g zb zp) (k0_pay7 g zb zp) (k0_pay8 g zb zp) (ix3 r j c) = conv Z W (512 * g 0 + 16 * j + r) c := by
  pointwise [k0_pay10]
  rw [pay9 Z g zb zp hz hp, pay7 Z g zb zp hz hp, pay4 Z g zb hz]; rfl

include hz hd in
theorem pay12 (r : Fin 16) (j : Fin 32) (c : Fin 512) : k0_pay12 (F := Ideal) (k0_pay3 zb) db (ix3 r j c) = dconv Z D (512 * g 0 + 16 * j + r) c := by
  pointwise [k0_pay12, k0_pay11]
  rw [pay3 Z g zb hz, hd]; rfl

include ha hda in
theorem ahead (hg : (g 0 : ℕ) < 7) (r : Fin 2) (c : Fin 512) (h) : da (ix4 0 r 0 c) * za (ix4 0 r 0 ⟨c, h⟩) = dconv Z D (512 * g 0 + 512 + r) c := by
  rw [ha hg, hda hg]; rfl

include hz hd ha hda in
theorem pay14 (j : Fin 32) (c : Fin 512) :
    k0_pay14 (F := Ideal) (BitVec.ofNat 32 (g 0)) (k0_pay3 zb) db da za (ix2 j c) = dconv Z D (512 * g 0 + 16 * j + 16) c := by
  pointwise [k0_pay14, k0_pay13]
  have hg : (g 0 : ℕ) < 8 := (g 0).isLt
  unfold Scalar.cmpi
  rw [sel _ _ (by omega) (by omega), sel _ _ (by omega) (by omega), pay12 Z D g zb db hz hd]
  split_ifs with h0 h1
  · rw [dconv_zero _ _ _ (by omega)]
  · rw [ahead Z D g za da ha hda (by omega)]
    congr 1; simp; omega
  · congr 1; simp; omega

include ha hda in
theorem pay16 (c : Fin 512) : k0_pay16 (F := Ideal) (BitVec.ofNat 32 (g 0)) da za (ix3 0 0 c) = dconv Z D (512 * g 0 + 513) c := by
  pointwise [k0_pay16, k0_pay13]
  have hg : (g 0 : ℕ) < 8 := (g 0).isLt
  unfold Scalar.cmpi
  rw [sel _ _ (by omega) (by omega)]
  split_ifs with h0
  · rw [dconv_zero _ _ _ (by omega)]
  · rw [ahead Z D g za da ha hda (by omega)]
    congr 1

include hz hd ha hda in
theorem pay17 (r : Fin 16) (j : Fin 32) (c : Fin 512) :
    k0_pay17 (F := Ideal) W (k0_pay12 (k0_pay3 zb) db) (k0_pay14 (BitVec.ofNat 32 (g 0)) (k0_pay3 zb) db da za) (k0_pay15 (k0_pay3 zb) db)
      (k0_pay16 (BitVec.ofNat 32 (g 0)) da za) (ix3 r j c) = du Z D W (512 * g 0 + 16 * j + r) c := by
  have h15 : ∀ (j : Fin 32) (c : Fin 512), k0_pay15 (F := Ideal) (k0_pay3 zb) db (ix2 j c) = dconv Z D (512 * g 0 + 16 * j + 1) c := by
    intro j c
    pointwise [k0_pay15]
    rw [pay12 Z D g zb db hz hd]; rfl
  pointwise [k0_pay17]
  rw [sel _ _ (by omega) (by omega)]
  simp only [pay12 Z D g zb db hz hd, pay14 Z D g zb za db da hz ha hd hda, h15, pay16 Z D g za da ha hda, du]
  congr 2
  · congr 1
    split_ifs <;> congr 1 <;> simp <;> omega
  · split_ifs <;> congr 1 <;> simp <;> omega

end Payloads

end Cert.Conv
end
-- ==== Proof.ConvBlk.lean ====
/- The short convolution's gradient: the blocks each grid step reads. -/
module

public import proofs.«01_k».proof.Proof.Gen.Kernel3Ideal.Frame
public import proofs.«01_k».proof.Proof.ConvPay
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Conv
open Cert.Kernel3Ideal Cert.Kernel3Ideal.Gen Idealize.ShloMosaic.StableHlo

section Blocks
variable (m : (ℓ : Loc nD τ sig) → Buf (Elt Ideal) ℓ)

/-- Where each window's block sits. -/
theorem blockOf : ∀ t : Fin cfg0.N, win0_0.index t = ![t.val / 4, 0, t.val % 4, 0] ∧ win0_1.index t = ![min (t.val + 1) 7 / 4, 0, min (t.val + 1) 7 % 4 * 2, 0]
    ∧ win0_2.index t = ![t.val / 4, 0, t.val % 4, 0] ∧ win0_3.index t = ![(t.val - 1) / 4, 7, (t.val - 1) % 4 * 2 + 1, 0]
    ∧ win0_4.index t = ![min (t.val + 1) 7 / 4, 0, min (t.val + 1) 7 % 4 * 2, 0] ∧ win0_5.index t = ![0, 0]
    ∧ win0_6.index t = ![1, t.val / 4, 0, t.val % 4, 0] ∧ win0_7.index t = ![0, 0] ∧ (grid0.coords t 0 : ℕ) = t.val :=
  (by decide +kernel : ∀ t : Fin grid0.N, _)

/-- Position `2048 b + 16 j + r` of a column is row `(b, r, j)` of the regrouped array. -/
theorem entry_lt (b : Fin 2) (r : Fin 16) (j : Fin 128) : 2048 * (b : ℕ) + 16 * (j : ℕ) + (r : ℕ) < 4096 := by omega

/-- The cotangent's rows regrouped by residue. -/
def resD (D : FVec Ideal S4096x512 .f32) : FVec Ideal S2x16x128x512 .f32 := fun i => D (ix2 ⟨2048 * (i 0 : ℕ) + 16 * (i 2 : ℕ) + (i 1 : ℕ), entry_lt (i 0) (i 1) (i 2)⟩ (i 3))
/-- The gates' rows regrouped by residue. -/
def resZ (Z : FVec Ideal S4096x1536 .f32) : FVec Ideal S2x16x128x1536 .bf16 := fun i => Z (ix2 ⟨2048 * (i 0 : ℕ) + 16 * (i 2 : ℕ) + (i 1 : ℕ), entry_lt (i 0) (i 1) (i 2)⟩ (i 3))

theorem entry7 (c : Dev nD) : V m c main_v7 = resD (m ((c : Thread nD τ).loc main_arg2)) := by
  simp only [V, V0, hostOps0, List.flatten_cons, List.flatten_nil, List.append_nil, List.cons_append, List.nil_append]
  after_results
  funext i
  pointwise [resD]
  blk_ext

theorem entry8 (c : Dev nD) : V m c main_v8 = resD (m ((c : Thread nD τ).loc main_arg2)) := by
  simp only [V, V0, hostOps0, List.flatten_cons, List.flatten_nil, List.append_nil, List.cons_append, List.nil_append]
  after_results
  funext i
  pointwise [resD]
  blk_ext

theorem entry9 (c : Dev nD) : V m c main_v9 = resZ (m ((c : Thread nD τ).loc main_arg0)) := by
  simp only [V, V0, hostOps0, List.flatten_cons, List.flatten_nil, List.append_nil, List.cons_append, List.nil_append]
  after_results
  funext i
  pointwise [resZ]
  blk_ext

theorem entry10 (c : Dev nD) : V m c main_v10 = resZ (m ((c : Thread nD τ).loc main_arg0)) := by
  simp only [V, V0, hostOps0, List.flatten_cons, List.flatten_nil, List.append_nil, List.cons_append, List.nil_append]
  after_results
  funext i
  pointwise [resZ]
  blk_ext

theorem entry11 (c : Dev nD) : V m c main_v11 = resZ (m ((c : Thread nD τ).loc main_arg0)) := by
  simp only [V, V0, hostOps0, List.flatten_cons, List.flatten_nil, List.append_nil, List.cons_append, List.nil_append]
  after_results
  funext i
  pointwise [resZ]
  blk_ext

theorem blk2 (X : FVec Ideal S4096x1536 .f32) (c : Dev nD) (hX : V m c (Pipeline.arrRef spec0 2) = resZ X) (t : Fin cfg0.N) (r : Fin 16) (j : Fin 32) (ch : Fin 1536) :
    iblk m c 2 t (ix4 0 r j ch) = row (fun p => X (ix2 p ch)) (512 * (grid0.coords t 0 : ℕ) + 16 * j + r) := by
  have ht : t.val < 8 := lt_of_lt_of_eq t.isLt N_0
  obtain ⟨-, -, e, -, -, -, -, -, eg⟩ := blockOf t
  unfold row
  rw [dif_pos (by omega)]
  unfold iblk
  rw [hX]
  blk_simp
  unfold resZ
  blk_ext <;> simp [e] <;> omega

theorem blk0 (X : FVec Ideal S4096x512 .f32) (c : Dev nD) (hX : V m c (Pipeline.arrRef spec0 0) = resD X) (t : Fin cfg0.N) (r : Fin 16) (j : Fin 32) (ch : Fin 512) :
    iblk m c 0 t (ix4 0 r j ch) = row (fun p => X (ix2 p ch)) (512 * (grid0.coords t 0 : ℕ) + 16 * j + r) := by
  have ht : t.val < 8 := lt_of_lt_of_eq t.isLt N_0
  obtain ⟨e, -, -, -, -, -, -, -, eg⟩ := blockOf t
  unfold row
  rw [dif_pos (by omega)]
  unfold iblk
  rw [hX]
  blk_simp
  unfold resD
  blk_ext <;> simp [e] <;> omega

theorem blk3 (X : FVec Ideal S4096x1536 .f32) (c : Dev nD) (hX : V m c (Pipeline.arrRef spec0 3) = resZ X) (t : Fin cfg0.N) (hg : 0 < (grid0.coords t 0 : ℕ)) (r : Fin 2) (ch : Fin 1536) :
    iblk m c 3 t (ix4 0 r 15 ch) = row (fun p => X (ix2 p ch)) (512 * (grid0.coords t 0 : ℕ) - 2 + r) := by
  have ht : t.val < 8 := lt_of_lt_of_eq t.isLt N_0
  obtain ⟨-, -, -, e, -, -, -, -, eg⟩ := blockOf t
  unfold row
  rw [dif_pos (by omega)]
  unfold iblk
  rw [hX]
  blk_simp
  unfold resZ
  blk_ext <;> simp [e] <;> omega

theorem blk4 (X : FVec Ideal S4096x1536 .f32) (c : Dev nD) (hX : V m c (Pipeline.arrRef spec0 4) = resZ X) (t : Fin cfg0.N) (hg : (grid0.coords t 0 : ℕ) < 7) (r : Fin 2) (ch : Fin 1536) :
    iblk m c 4 t (ix4 0 r 0 ch) = row (fun p => X (ix2 p ch)) (512 * (grid0.coords t 0 : ℕ) + 512 + r) := by
  have ht : t.val < 8 := lt_of_lt_of_eq t.isLt N_0
  obtain ⟨-, -, -, -, e, -, -, -, eg⟩ := blockOf t
  rw [min_eq_left (by omega)] at e
  unfold row
  rw [dif_pos (by omega)]
  unfold iblk
  rw [hX]
  blk_simp
  unfold resZ
  blk_ext <;> simp [e] <;> omega

theorem blk1 (X : FVec Ideal S4096x512 .f32) (c : Dev nD) (hX : V m c (Pipeline.arrRef spec0 1) = resD X) (t : Fin cfg0.N) (hg : (grid0.coords t 0 : ℕ) < 7) (r : Fin 2) (ch : Fin 512) :
    iblk m c 1 t (ix4 0 r 0 ch) = row (fun p => X (ix2 p ch)) (512 * (grid0.coords t 0 : ℕ) + 512 + r) := by
  have ht : t.val < 8 := lt_of_lt_of_eq t.isLt N_0
  obtain ⟨-, e, -, -, -, -, -, -, eg⟩ := blockOf t
  rw [min_eq_left (by omega)] at e
  unfold row
  rw [dif_pos (by omega)]
  unfold iblk
  rw [hX]
  blk_simp
  unfold resD
  blk_ext <;> simp [e] <;> omega

theorem blk5 (c : Dev nD) (t : Fin cfg0.N) : iblk m c 5 t = m ((c : Thread nD τ).loc main_arg1) := by
  obtain ⟨-, -, -, -, -, e, -, -, eg⟩ := blockOf t
  funext i
  blk_ext [iblk, V] <;> simp [e]

end Blocks
end Cert.Conv
end
-- ==== Proof.Conv.lean ====
/- The short convolution's gradient (`_conv_bwd`): what the kernel leaves is the reference's gradient. -/
module

public import proofs.«01_k».proof.Proof.Gen.Kernel3Ideal.Frame
public import proofs.«01_k».proof.Proof.ConvBlk
public import proofs.«01_k».proof.Proof.Gen.Reference3Ideal.Run
public import proofs.«01_k».proof.Defs
public import Idealize.ShloMosaic.Lib.Pipeline.ValueKit
public import Idealize.ShloMosaic.Lib.Pointwise
public import Idealize.ShloMosaic.Lib.WritesUnit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Conv
open Cert.Kernel3Ideal Cert.Kernel3Ideal.Gen Idealize.ShloMosaic.StableHlo

variable (m : (ℓ : Loc nD τ sig) → Buf (Elt Ideal) ℓ)

/-- A row of the block overwritten. -/
def rowSet (o : ℕ) (w : FVec Ideal S1x512 .f32) (X : FVec Ideal S8x512 .f32) : FVec Ideal S8x512 .f32 := fun y => if (y 0 : ℕ) = o then w (ix2 0 (y 1)) else X y

theorem canon_row (o : ℕ) (inb) (w : FVec Ideal S1x512 .f32) (L : List (View.Piece (Elt Ideal) S8x512 .f32)) :
    View.canon ((⟨Rect.unit ![o, 0] ![1, 512] inb, w⟩ : View.Piece (Elt Ideal) S8x512 .f32) :: L) = rowSet o w (View.canon L) := by
  funext y
  unfold rowSet
  split_ifs with h
  · have e : (Rect.unit (s := S8x512) ![o, 0] ![1, 512] inb).emb (ix2 0 (y 1)) = y := by
      funext a; apply Fin.ext
      fin_cases a
      · show o + 1 * 0 = (y 0 : ℕ); omega
      · show 0 + 1 * (y 1 : ℕ) = (y 1 : ℕ); omega
    conv_lhs => rw [← e]
    exact View.canon_cons_emb _ _ _ _
  · refine View.canon_cons_of_not_mem _ _ ?_
    rw [Rect.mem_set_unit]
    intro hall
    have := hall 0
    simp at this
    omega

/-- The gradient of the three gates, by number. -/
def grads (Z : FVec Ideal S4096x1536 .f32) (D : FVec Ideal S4096x512 .f32) (W : FVec Ideal S3x512 .f32) (k n : ℕ) (c : Fin 512) : EReal :=
  if k = 0 then dy D n c * conv Z W n c else if k = 1 then du Z D W n c * xc Z n c else du Z D W n c * cg Z n c

theorem grads_congr (Z : FVec Ideal S4096x1536 .f32) (D : FVec Ideal S4096x512 .f32) (W : FVec Ideal S3x512 .f32) {k n k' n' : ℕ} {c c' : Fin 512}
    (h : k = k') (h' : n = n') (h'' : (c : ℕ) = c') : grads Z D W k n c = grads Z D W k' n' c' := by
  rw [h, h', Fin.ext h'']

section Step
variable (Z : FVec Ideal S4096x1536 .f32) (D : FVec Ideal S4096x512 .f32) (W : FVec Ideal S3x512 .f32) (c : Dev nD) (t : Fin cfg0.N)
  (eZ : m ((c : Thread nD τ).loc main_arg0) = Z) (eD : m ((c : Thread nD τ).loc main_arg2) = D) (eW : m ((c : Thread nD τ).loc main_arg1) = W)

include eZ eD eW in
/-- The three slabs a step stores. -/
theorem slabs (z : S1x1x16x32x512.Idx) :
    k0_pay18 (F := Ideal) (k0_pay10 (iblk m c 5 t) (k0_pay4 (iblk m c 2 t)) (k0_pay6 (grid0.coords t) (iblk m c 2 t) (iblk m c 3 t))
        (k0_pay7 (grid0.coords t) (iblk m c 2 t) (iblk m c 3 t)) (k0_pay8 (grid0.coords t) (iblk m c 2 t) (iblk m c 3 t))) (k0_pay11 (iblk m c 0 t)) z
      = grads Z D W 0 (512 * t + 16 * (z 3) + (z 2)) (z 4)
    ∧ k0_pay19 (F := Ideal) (iblk m c 5 t) (k0_pay1 (iblk m c 2 t)) (k0_pay12 (k0_pay3 (iblk m c 2 t)) (iblk m c 0 t))
        (k0_pay14 (BitVec.ofNat 32 (grid0.coords t 0)) (k0_pay3 (iblk m c 2 t)) (iblk m c 0 t) (iblk m c 1 t) (iblk m c 4 t))
        (k0_pay15 (k0_pay3 (iblk m c 2 t)) (iblk m c 0 t)) (k0_pay16 (BitVec.ofNat 32 (grid0.coords t 0)) (iblk m c 1 t) (iblk m c 4 t)) z
      = grads Z D W 1 (512 * t + 16 * (z 3) + (z 2)) (z 4)
    ∧ k0_pay21 (F := Ideal) (k0_pay20 (iblk m c 5 t) (k0_pay1 (iblk m c 2 t)) (k0_pay12 (k0_pay3 (iblk m c 2 t)) (iblk m c 0 t))
        (k0_pay14 (BitVec.ofNat 32 (grid0.coords t 0)) (k0_pay3 (iblk m c 2 t)) (iblk m c 0 t) (iblk m c 1 t) (iblk m c 4 t))
        (k0_pay15 (k0_pay3 (iblk m c 2 t)) (iblk m c 0 t)) (k0_pay16 (BitVec.ofNat 32 (grid0.coords t 0)) (iblk m c 1 t) (iblk m c 4 t))) z
      = grads Z D W 2 (512 * t + 16 * (z 3) + (z 2)) (z 4) := by
  have eg : (grid0.coords t 0 : ℕ) = t.val := (blockOf t).2.2.2.2.2.2.2.2
  have hz := blk2 m Z c (eZ ▸ entry9 m c) t
  have hd := blk0 m D c (eD ▸ entry7 m c) t
  have hp := fun h => blk3 m Z c (eZ ▸ entry10 m c) t h
  have ha := fun h => blk4 m Z c (eZ ▸ entry11 m c) t h
  have hda := fun h => blk1 m D c (eD ▸ entry8 m c) t h
  rw [(blk5 m c t).trans eW, ← eg]
  idx_vars z
  refine ⟨?_, ?_, ?_⟩
  · pointwise [k0_pay18, k0_pay11]
    rw [pay10 Z W _ _ _ hz hp, hd]
    rfl
  · pointwise [k0_pay19, k0_pay1]
    rw [pay17 Z D W _ _ _ _ _ hz ha hd hda, hz]
    rfl
  · pointwise [k0_pay21, k0_pay20, k0_pay1]
    rw [pay17 Z D W _ _ _ _ _ hz ha hd hda, hz]
    rfl

include eZ eD eW in
theorem step6 (y : S3x1x16x32x512.Idx) : (outsAt0 m c t.val t.isLt).1 y = grads Z D W (y 0) (512 * t + 16 * (y 3) + (y 2)) (y 4) := by
  by_cases h0 : t.val % 8 = 0
  · rw [outsAt0_A m c t h0]; frame_out
    canon_tiles z h
    · exact (slabs m Z D W c t eZ eD eW z).2.2.trans (grads_congr _ _ _ (by omega) (by omega) (by omega))
    · exact (slabs m Z D W c t eZ eD eW z).2.1.trans (grads_congr _ _ _ (by omega) (by omega) (by omega))
    · exact (slabs m Z D W c t eZ eD eW z).1.trans (grads_congr _ _ _ (by omega) (by omega) (by omega))
  · rw [outsAt0_B m c t h0]; frame_out
    canon_tiles z h
    · exact (slabs m Z D W c t eZ eD eW z).2.2.trans (grads_congr _ _ _ (by omega) (by omega) (by omega))
    · exact (slabs m Z D W c t eZ eD eW z).2.1.trans (grads_congr _ _ _ (by omega) (by omega) (by omega))
    · exact (slabs m Z D W c t eZ eD eW z).1.trans (grads_congr _ _ _ (by omega) (by omega) (by omega))
end Step

/-- The gradients where the kernel keeps them: by number, sequence, residue, segment and channel. -/
def slab (Z : FVec Ideal S4096x1536 .f32) (D : FVec Ideal S4096x512 .f32) (W : FVec Ideal S3x512 .f32) : FVec Ideal S6x2x16x128x512 .bf16 := fun i =>
  grads Z D W (i 0 - 3) (2048 * (i 1) + 16 * (i 3) + (i 2)) (i 4)

theorem final6 (c : Dev nD) : (dats m 0 c).arrAt 6 (cfgs 0).N = fun i : S6x2x16x128x512.Idx => if (i 0 : ℕ) / 3 = 1 then
      slab (m ((c : Thread nD τ).loc main_arg0)) (m ((c : Thread nD τ).loc main_arg2)) (m ((c : Thread nD τ).loc main_arg1)) i else V m c main_v12_0 i := by
  refine (dats m 0 c).arrAt_eq_of_coversWhere 6 _ (fun β => β (0 : Fin _) = 1) (by decide +kernel) (fun t _ y => ?_) (fun j => Iff.rfl)
  blk_simp
  rw [after0_6, step6 m _ _ _ c t rfl rfl rfl]
  have ht : t.val < 8 := lt_of_lt_of_eq t.isLt N_0
  have e := (blockOf t).2.2.2.2.2.2.1
  unfold slab
  refine grads_congr _ _ _ ?_ ?_ ?_ <;> blk_simp <;> simp [e]
  omega

/-- What a row contributes to the gradient of tap `k`. -/
def tap (Z : FVec Ideal S4096x1536 .f32) (D : FVec Ideal S4096x512 .f32) (k n : ℕ) (c : Fin 512) : EReal := dconv Z D n c * back Z (2 - k) n c
/-- What grid step `t` adds to the taps' gradients. -/
def part (Z : FVec Ideal S4096x1536 .f32) (D : FVec Ideal S4096x512 .f32) (t : ℕ) (y : S8x512.Idx) : EReal :=
  if (y 0 : ℕ) < 3 then ∑ j : Fin 32, ∑ r : Fin 16, tap Z D (y 0) (512 * t + 16 * j + r) (y 1) else 0

section Acc
variable (Z : FVec Ideal S4096x1536 .f32) (D : FVec Ideal S4096x512 .f32) (c : Dev nD) (t : Fin cfg0.N)
  (eZ : m ((c : Thread nD τ).loc main_arg0) = Z) (eD : m ((c : Thread nD τ).loc main_arg2) = D)

include eZ eD in
/-- The three rows a step adds to. -/
theorem sums (d : FVec Ideal S1x512 .f32) (i : S1x512.Idx) :
    k0_pay23 (F := Ideal) (k0_pay9 (k0_pay4 (iblk m c 2 t)) (k0_pay6 (grid0.coords t) (iblk m c 2 t) (iblk m c 3 t)) (k0_pay8 (grid0.coords t) (iblk m c 2 t) (iblk m c 3 t)))
        (k0_pay12 (k0_pay3 (iblk m c 2 t)) (iblk m c 0 t)) d i = d i + ∑ j : Fin 32, ∑ r : Fin 16, tap Z D 0 (512 * t + 16 * j + r) (i 1)
    ∧ k0_pay24 (F := Ideal) (k0_pay7 (grid0.coords t) (iblk m c 2 t) (iblk m c 3 t))
        (k0_pay12 (k0_pay3 (iblk m c 2 t)) (iblk m c 0 t)) d i = d i + ∑ j : Fin 32, ∑ r : Fin 16, tap Z D 1 (512 * t + 16 * j + r) (i 1)
    ∧ k0_pay25 (F := Ideal) (k0_pay4 (iblk m c 2 t))
        (k0_pay12 (k0_pay3 (iblk m c 2 t)) (iblk m c 0 t)) d i = d i + ∑ j : Fin 32, ∑ r : Fin 16, tap Z D 2 (512 * t + 16 * j + r) (i 1) := by
  have eg : (grid0.coords t 0 : ℕ) = t.val := (blockOf t).2.2.2.2.2.2.2.2
  have hz := blk2 m Z c (eZ ▸ entry9 m c) t
  have hd := blk0 m D c (eD ▸ entry7 m c) t
  have hp := fun h => blk3 m Z c (eZ ▸ entry10 m c) t h
  rw [← eg]
  idx_vars i
  refine ⟨?_, ?_, ?_⟩
  · pointwise [k0_pay23]
    simp only [pay9 Z _ _ _ hz hp, pay12 Z D _ _ _ hz hd, tap]
  · pointwise [k0_pay24]
    simp only [pay7 Z _ _ _ hz hp, pay12 Z D _ _ _ hz hd, tap]
  · pointwise [k0_pay25]
    simp only [pay4 Z _ _ hz, pay12 Z D _ _ _ hz hd, tap]

/-- A read of one row. -/
theorem ld_row (o : Fin 8) (inb) (X : FVec Ideal S8x512 .f32) (i : S1x512.Idx) :
    View.ld (Val := Elt Ideal) (e' := .f32) X (Rect.unit (s := S8x512) ![(o : ℕ), 0] ![1, 512] inb) i = X (ix2 o (i 1)) := by
  show X _ = X _
  congr 1
  idx_vars i
  funext a; apply Fin.ext
  fin_cases a
  · show (o : ℕ) + 1 * (i0 : ℕ) = o; omega
  · show 0 + 1 * (i1 : ℕ) = i1; omega

/-- A row overwritten over earlier contents. -/
theorem write_row {v : View sig .tc .vmem S8x512 .f32} (f : v.ty.Contents (Elt Ideal)) (o : ℕ) (inb) (w : FVec Ideal S1x512 .f32) (L : List (View.Piece (Elt Ideal) S8x512 .f32)) :
    v.read (Elt Ideal) (v.writes (Elt Ideal) f ((⟨Rect.unit ![o, 0] ![1, 512] inb, w⟩ : View.Piece (Elt Ideal) S8x512 .f32) :: L))
      = rowSet o w (v.read (Elt Ideal) (v.writes (Elt Ideal) f L)) := by
  funext y
  unfold rowSet
  split_ifs with h
  · exact View.read_writes_cons_rows_of_mem v f inb w L y (ix2 0 (y 1)) rfl (by rw [h]; rfl) rfl
  · exact View.read_writes_cons_rows_of_not_mem v f inb w L y rfl rfl (by show _ ∨ o + 1 ≤ _; omega)

theorem rowSet_of_ne {o : ℕ} {w : FVec Ideal S1x512 .f32} {X : FVec Ideal S8x512 .f32} {k : Fin 8} {c : Fin 512} (h : (k : ℕ) ≠ o) :
    rowSet o w X (ix2 k c) = X (ix2 k c) := if_neg h

include eZ eD in
/-- The three rows added to, over what the block held. -/
theorem rows (X : FVec Ideal S8x512 .f32) (d0 d1 d2 : FVec Ideal S1x512 .f32) (h0 : ∀ i, d0 i = X (ix2 0 (i 1))) (h1 : ∀ i, d1 i = X (ix2 1 (i 1))) (h2 : ∀ i, d2 i = X (ix2 2 (i 1)))
    (y : S8x512.Idx) :
    rowSet 2 (k0_pay25 (F := Ideal) (k0_pay4 (iblk m c 2 t)) (k0_pay12 (k0_pay3 (iblk m c 2 t)) (iblk m c 0 t)) d2)
      (rowSet 1 (k0_pay24 (F := Ideal) (k0_pay7 (grid0.coords t) (iblk m c 2 t) (iblk m c 3 t)) (k0_pay12 (k0_pay3 (iblk m c 2 t)) (iblk m c 0 t)) d1)
        (rowSet 0 (k0_pay23 (F := Ideal) (k0_pay9 (k0_pay4 (iblk m c 2 t)) (k0_pay6 (grid0.coords t) (iblk m c 2 t) (iblk m c 3 t)) (k0_pay8 (grid0.coords t) (iblk m c 2 t) (iblk m c 3 t)))
          (k0_pay12 (k0_pay3 (iblk m c 2 t)) (iblk m c 0 t)) d0) X)) y = X y + part Z D t y := by
  idx_vars y
  unfold rowSet part
  show (if (y0 : ℕ) = 2 then _ else if (y0 : ℕ) = 1 then _ else if (y0 : ℕ) = 0 then _ else _) = _ + if (y0 : ℕ) < 3 then _ else _
  by_cases e2 : (y0 : ℕ) = 2
  · obtain rfl : y0 = 2 := Fin.ext e2
    exact ((sums m Z D c t eZ eD d2 _).2.2).trans (by rw [h2]; rfl)
  by_cases e1 : (y0 : ℕ) = 1
  · obtain rfl : y0 = 1 := Fin.ext e1
    exact ((sums m Z D c t eZ eD d1 _).2.1).trans (by rw [h1]; rfl)
  by_cases e0 : (y0 : ℕ) = 0
  · obtain rfl : y0 = 0 := Fin.ext e0
    exact ((sums m Z D c t eZ eD d0 _).1).trans (by rw [h0]; rfl)
  rw [if_neg e2, if_neg e1, if_neg e0, if_neg (by omega), add_zero]

include eZ eD in
theorem step7_B (h0 : ¬t.val % 8 = 0) (y : S8x512.Idx) : (outsAt0 m c t.val t.isLt).2 y
    = (outsAt0 m c (t.val - 1) (Nat.lt_of_le_of_lt (Nat.sub_le _ _) t.isLt)).2 y + part Z D t y := by
  rw [outsAt0_B m c t h0]; frame_out
  generalize (outsAt0 m c (t.val - 1) _).2 = X
  rw [write_row, write_row, write_row]
  unfold View.writes
  rw [Memref.IsWhole.read_unread]
  exact rows m Z D c t eZ eD X _ _ _ (ld_row 0 _ X) (ld_row 1 _ X) (ld_row 2 _ X) y

/-- A read of a block a whole store of which is among the stores: the contents the stores leave. -/
theorem read_canon (v : View sig .tc .vmem S8x512 .f32) (L : List (View.Piece (Elt Ideal) S8x512 .f32)) (w : FVec Ideal S8x512 .f32) (r : Rect S8x512)
    (h : (⟨Rect.unit ![0, 0] ![8, 512] inb_S8x512_S8x512_0_0, w⟩ : View.Piece (Elt Ideal) S8x512 .f32) ∈ L) : v.readCov L r.toLoadRect = View.ld (View.canon L) r := by
  refine View.readCov_eq_canon_ld _ _ _ fun y => ⟨_, h, ?_⟩
  rw [Rect.mem_set_unit]
  intro a
  fin_cases a
  · exact ⟨Nat.zero_le _, (Nat.zero_add 8).symm ▸ (y 0).isLt⟩
  · exact ⟨Nat.zero_le _, (Nat.zero_add 512).symm ▸ (y 1).isLt⟩

include eZ eD in
theorem step7_A (h0 : t.val % 8 = 0) (y : S8x512.Idx) : (outsAt0 m c t.val t.isLt).2 y = part Z D t y := by
  rw [outsAt0_A m c t h0]; frame_out
  rw [read_canon _ [_] k0_pay22 _ (by simp), read_canon _ [_, _] k0_pay22 _ (by simp), read_canon _ [_, _, _] k0_pay22 _ (by simp)]
  simp only [canon_row]
  refine (rows m Z D c t eZ eD _ _ _ _ (ld_row 0 _ _) (fun i => (ld_row 1 _ _ i).trans (rowSet_of_ne (by decide)))
    (fun i => (ld_row 2 _ _ i).trans ((rowSet_of_ne (by decide)).trans (rowSet_of_ne (by decide)))) y).trans ?_
  rw [View.canon_cons_unit_lit _ _ _ (by decide)]
  pointwise [k0_pay22]
end Acc

/-- The taps' gradients: every row's contribution. -/
theorem final7 (c : Dev nD) : (dats m 0 c).arrAt 7 (cfgs 0).N = fun y : S8x512.Idx => ∑ s : Fin 8,
      part (m ((c : Thread nD τ).loc main_arg0)) (m ((c : Thread nD τ).loc main_arg2)) s y := by
  refine (dats m 0 c).arrAt_eq_of_after_last 7 t0_7 (by decide +kernel) _ fun j => ?_
  blk_simp
  rw [after0_7]
  exact (Pipeline.eq_sum_fin_of_reset_step_apply_last (fun n h => (outsAt0 m c n h).2) 8 (fun _ => 0)
    (fun t y => part (m ((c : Thread nD τ).loc main_arg0)) (m ((c : Thread nD τ).loc main_arg2)) t y)
    (fun t h y => (step7_A m _ _ c t rfl rfl h y).trans (zero_add _).symm) (fun t h y => step7_B m _ _ c t rfl rfl h y) (le_of_eq N_0) t0_7 rfl j).trans (zero_add _)

/-- The array a window of the kernel leaves, as the host lines after it find it. -/
theorem left (c : Dev nD) (w : Fin 8) :
    Pipeline.withArrays (cfgs 0).spec c (V0 m c) (fun w => (dats m 0 c).arrAt w (cfgs 0).N) (Proc.tc.devRef (Pipeline.arrRef spec0 w)) = (dats m 0 c).arrAt w (cfgs 0).N :=
  Pipeline.withArrays_arr spec0 (by decide) c _ _ w

/-- The taps' gradients the host hands back. -/
theorem tail24 (c : Dev nD) : Pipeline.afterTail₀ cfgs (dats m) 0 (V0 m) [hostOps1] c main_v24 = fun i : S3x512.Idx => ∑ n : Fin 4096,
      tap (m ((c : Thread nD τ).loc main_arg0)) (m ((c : Thread nD τ).loc main_arg2)) (i 0) n (i 1) := by
  simp only [Pipeline.afterTail₀, hostOps1, List.flatten_cons, List.flatten_nil, List.append_nil, List.cons_append, List.nil_append]
  after_results
  rw [(left m c 7).trans (final7 m c)]
  funext i
  idx_vars i
  pointwise [part]
  rw [Fin.sum_univ_tiles 8 512 rfl]
  refine Finset.sum_congr rfl fun s _ => ?_
  rw [Fin.sum_univ_tiles 32 16 rfl]
  refine Finset.sum_congr rfl fun j _ => Finset.sum_congr rfl fun r _ => ?_
  congr 1
  simp
  omega

theorem place_of (q s u : ℕ) (hs : s < 16) (hu : u < 128) :
    2048 * ((q * 2048 + s * 128 + u) / 2048) + 16 * ((q * 2048 + s * 128 + u) % 128) + (q * 2048 + s * 128 + u) / 128 % 16 = 2048 * q + 16 * u + s := by omega

/-- Regrouped by residue and back, a row is in its place. -/
theorem place (n : ℕ) : 2048 * ((n / 2048 * 2048 + n % 16 * 128 + n / 16 % 128) / 2048) + 16 * ((n / 2048 * 2048 + n % 16 * 128 + n / 16 % 128) % 128)
    + (n / 2048 * 2048 + n % 16 * 128 + n / 16 % 128) / 128 % 16 = n := by
  rw [place_of _ _ _ (by omega) (by omega)]
  omega

/-- The gates' gradients the host hands back. -/
theorem tail23 (c : Dev nD) : Pipeline.afterTail₀ cfgs (dats m) 0 (V0 m) [hostOps1] c main_v23 = fun i : S4096x1536.Idx =>
      grads (m ((c : Thread nD τ).loc main_arg0)) (m ((c : Thread nD τ).loc main_arg2)) (m ((c : Thread nD τ).loc main_arg1)) ((i 1 : ℕ) / 512) (i 0) ⟨(i 1 : ℕ) % 512, by omega⟩ := by
  simp only [Pipeline.afterTail₀, hostOps1, List.flatten_cons, List.flatten_nil, List.append_nil, List.cons_append, List.nil_append]
  after_results
  dsimp only [Matrix.cons_val]
  simp only [↓readResult, ↓readPieces]
  rw [(left m c 6).trans (final6 m c)]
  funext i
  idx_vars i
  pointwise [slab]
  split_ifs
  all_goals exact grads_congr _ _ _ (by omega) (place _) (by dsimp only; omega)

/-- The kernel's arrays are the reference's. -/
theorem result : Cert.algebraic_Kernel3Ideal_Reference3Ideal (hKernel3Ideal := Cert.Kernel3Ideal.Gen.facts) (hReference3Ideal := Cert.Reference3Ideal.Gen.facts) := by
  pair_intro
  · run_from Cert.Kernel3Ideal.Gen.run_main m g
    all_goals first | exact W_main_arg0 m _ c | exact W_main_arg2 m _ c
  · run_from Cert.Reference3Ideal.Value.run m' g'
    · rw [tail23]
      unfold Cert.Reference3Ideal.Value.res_main_v68
      obtain ⟨a0, a1, a2⟩ := hagree c
      rw [a0, a1, a2]
      generalize m ((c : Thread nD τ).loc main_arg0) = Z
      generalize m ((c : Thread nD τ).loc main_arg1) = W
      generalize m ((c : Thread nD τ).loc main_arg2) = D
      funext i
      idx_vars i
      pointwise []
      by_cases h : (i1 : ℕ) < 512
      · rw [dif_pos h, ref_conv Z W i0 i1 h]
        exact (congrArg (· * _) (row_at (fun p => D (ix2 p ⟨i1, h⟩)) i0 i0.isLt)).trans (grads_congr Z D W (k := 0) (c := ⟨i1, h⟩) (by omega) rfl (by dsimp only; omega))
      rw [dif_neg h]
      by_cases h' : (i1 : ℕ) - 512 < 512
      · rw [dif_pos h', ref_du Z D W i0 _ h']
        exact (congrArg (_ * ·) (row_at (fun p => Z (ix2 p ⟨1024 + ((i1 : ℕ) - 512), by omega⟩)) i0 i0.isLt)).trans
          (grads_congr Z D W (k := 1) (c := ⟨(i1 : ℕ) - 512, h'⟩) (by omega) rfl (by dsimp only; omega))
      · have h'' : (i1 : ℕ) - 512 - 512 < 512 := by omega
        rw [dif_neg h', ref_du Z D W i0 _ h'', mul_comm]
        exact (congrArg (_ * ·) (row_at (fun p => Z (ix2 p ⟨512 + ((i1 : ℕ) - 512 - 512), by omega⟩)) i0 i0.isLt)).trans
          (grads_congr Z D W (k := 2) (c := ⟨(i1 : ℕ) - 512 - 512, h''⟩) (by omega) rfl (by dsimp only; omega))
    · rw [tail24]
      generalize m ((c : Thread nD τ).loc main_arg0) = Z
      generalize m ((c : Thread nD τ).loc main_arg2) = D
      funext i
      idx_vars i
      pointwise []
      simp only [Finset.univ_unique, Finset.sum_singleton]
      by_cases e2 : (i0 : ℕ) = 2
      · rw [dif_pos (by omega), dif_neg (by omega), dif_neg (by omega), add_zero, add_zero, e2]
        refine Finset.sum_congr rfl fun n _ => ?_
        rw [up_zero Z n i1 i1.isLt, ref_dconv Z D i1 i1.isLt n n.isLt, mul_comm]; rfl
      by_cases e1 : (i0 : ℕ) = 1
      · rw [dif_neg (by omega), dif_pos (by omega), dif_neg (by omega), zero_add, add_zero, e1]
        refine Finset.sum_congr rfl fun n _ => ?_
        rw [up_one Z n i1 i1.isLt, ref_dconv Z D i1 i1.isLt n n.isLt, mul_comm]; rfl
      · have e0 : (i0 : ℕ) = 0 := by omega
        rw [dif_neg (by omega), dif_neg (by omega), dif_pos (by omega), zero_add, zero_add, e0]
        refine Eq.trans ?_ (Fin.sum_univ_add (a := 2) (b := 4094) fun n : Fin 4096 => tap Z D 0 n i1).symm
        refine congrArg₂ _ (Finset.sum_congr rfl fun n _ => ?_) (Finset.sum_congr rfl fun n _ => ?_)
        · rw [zero_mul]
          exact ((congrArg (_ * ·) (back_zero Z (k := 2) (n := n) i1 n.isLt)).trans (mul_zero _)).symm
        · rw [ref_dconv Z D i1 i1.isLt, mul_comm]
          refine congrArg₂ _ rfl ((congrArg₂ _ (row_at (fun p => Z (ix2 p ⟨512 + i1, by omega⟩)) n (by omega)) (row_at (fun p => Z (ix2 p ⟨1024 + i1, by omega⟩)) n (by omega))).trans
            (back_one Z (k := 2) (n := 2 + n) (a := n) i1 (by omega)))
end Cert.Conv
end
-- ==== Proof.Norm.lean ====
/- The gradient of a root-mean-square norm over the extended reals: the kernels' closed form is the chain rule's sum. No row needs to be finite. -/
module

public import Idealize.ShloMosaic.Lib.IdealHost
public import Idealize.ShloMosaic.Lib.Pointwise

@[expose] public section

noncomputable section

open Idealize.ShloMosaic

namespace Cert.Norm

/-- The small number the programs add to a mean square. -/
def eps : EReal := Ideal.ofBits .f32 0x358637BD#32

theorem eps_pos : ∃ e : ℝ, 0 < e ∧ eps = e := by
  refine ⟨8796093 / 8796093022208, by norm_num, ?_⟩
  unfold eps
  simp [Ideal.ofBits, Ideal.ieee, -EReal.coe_mul]; norm_num

theorem half_neg : Ideal.ofBits .f32 0xBF000000#32 = ((-(1 / 2) : ℝ) : EReal) := by
  simp [Ideal.ofBits, Ideal.ieee, -EReal.coe_mul]; norm_num

theorem n1024 : Ideal.ofBits .f32 0x44800000#32 = ((1024 : ℝ) : EReal) := by
  simp [Ideal.ofBits, Ideal.ieee, -EReal.coe_mul]; norm_num

theorem n512 : Ideal.ofBits .f32 0x44000000#32 = ((512 : ℝ) : EReal) := by
  simp [Ideal.ofBits, Ideal.ieee, -EReal.coe_mul]; norm_num

/-- A finite sum of finite numbers. -/
theorem coe_sum {ι : Type} (s : Finset ι) (f : ι → ℝ) : ((∑ k ∈ s, f k : ℝ) : EReal) = ∑ k ∈ s, (f k : EReal) := by
  classical
  induction s using Finset.induction_on with
  | empty => simp
  | insert k s hk ih => rw [Finset.sum_insert hk, Finset.sum_insert hk, EReal.coe_add, ih]

/-- A sum times a finite number that is not negative. -/
theorem sum_mul {ι : Type} (s : Finset ι) (f : ι → EReal) (a : ℝ) (h : 0 ≤ a) : ∑ k ∈ s, f k * (a : EReal) = (∑ k ∈ s, f k) * a := by
  classical
  induction s using Finset.induction_on with
  | empty => simp
  | insert k s hk ih =>
    rw [Finset.sum_insert hk, Finset.sum_insert hk, ih,
      EReal.right_distrib_of_nonneg_of_ne_top (by exact_mod_cast h) (EReal.coe_ne_top a)]

/-- A number added to itself. -/
theorem add_self (z : EReal) : z + z = ((2 : ℝ) : EReal) * z := by
  have := EReal.right_distrib_of_nonneg (a := 1) (b := 1) (c := z) (by norm_num) (by norm_num)
  rw [one_mul] at this
  rw [← this]
  congr 1
  norm_cast

theorem div_coe (z : EReal) (a : ℝ) (h : a ≠ 0) : Ideal.div z a = z * ((a⁻¹ : ℝ) : EReal) := by
  unfold Ideal.div
  rw [if_neg (by exact_mod_cast h), EReal.coe_inv]

/-- A column's entry at a natural row number. -/
def rowOf {T : ℕ} (f : Fin T → EReal) (n : ℕ) : EReal := if h : n < T then f ⟨n, h⟩ else 0

theorem rowOf_at {T : ℕ} (f : Fin T → EReal) (n : ℕ) (h : n < T) : f ⟨n, h⟩ = rowOf f n := by
  unfold rowOf
  rw [dif_pos h]

/-- The rows summed block by block. -/
theorem sum_rows {T : ℕ} (J B : ℕ) (h : J * B = T) (f : Fin T → EReal) : ∑ s : Fin J, ∑ j : Fin B, rowOf f (s * B + j) = ∑ n, f n := by
  rw [Fin.sum_univ_tiles J B h]
  refine Finset.sum_congr rfl fun s _ => Finset.sum_congr rfl fun j _ => ?_
  exact (rowOf_at f _ (h ▸ Nat.lt_of_lt_of_le (Nat.add_lt_add_left j.isLt _) (by rw [← Nat.succ_mul]; exact Nat.mul_le_mul_right _ s.isLt))).symm

section Row
variable {n : ℕ} (x gy : Fin n → EReal) (N : ℝ)

/-- A row's mean square, with the small number added. -/
def ms : EReal := Ideal.div (∑ k, x k * x k) N + eps
/-- The reciprocal of a row's root mean square. -/
def rinv : EReal := Ideal.rsqrt (ms x N)

/-- A row is finite with a positive reciprocal, or its reciprocal is zero. -/
theorem rinv_cases (hN : 0 < N) : (ms x N = ⊤ ∧ rinv x N = 0)
    ∨ ∃ (y : Fin n → ℝ) (r : ℝ), 0 < r ∧ (∀ k, x k = y k) ∧ rinv x N = r ∧ ms x N = ((r ^ 2)⁻¹ : ℝ) := by
  obtain ⟨e, he, hee⟩ := eps_pos
  have hx : ∀ k, 0 ≤ x k * x k := fun k => by
    induction x k using EReal.rec with
    | bot => simp
    | top => simp
    | coe a => exact_mod_cast mul_self_nonneg a
  by_cases h : ∀ k, x k ≠ ⊤ ∧ x k ≠ ⊥
  · right
    refine ⟨fun k => (x k).toReal, ?_⟩
    have hy : ∀ k, x k = ((x k).toReal : EReal) := fun k => (EReal.coe_toReal (h k).1 (h k).2).symm
    have hs : ∑ k, x k * x k = ((∑ k, (x k).toReal * (x k).toReal : ℝ) : EReal) := by
      rw [coe_sum]
      refine Finset.sum_congr rfl fun k _ => ?_
      rw [EReal.coe_mul, ← hy]
    have hp : 0 ≤ ∑ k, (x k).toReal * (x k).toReal := Finset.sum_nonneg fun k _ => mul_self_nonneg _
    generalize ∑ k, (x k).toReal * (x k).toReal = s at hs hp
    have hm : ms x N = ((s * N⁻¹ + e : ℝ) : EReal) := by
      unfold ms
      rw [hs, hee, div_coe _ _ hN.ne']
      norm_cast
    have hv : 0 < s * N⁻¹ + e := by positivity
    refine ⟨(Real.sqrt (s * N⁻¹ + e))⁻¹, by positivity, hy, ?_, ?_⟩
    · unfold rinv
      rw [hm, Ideal.rsqrt_coe, if_neg hv.not_gt, if_neg hv.ne']
    · rw [hm, inv_pow, inv_inv, Real.sq_sqrt hv.le]
  · left
    have hs : ∑ k, x k * x k = ⊤ := by
      simp only [not_forall, not_and_or, not_not] at h
      obtain ⟨k, hk⟩ := h
      have : x k * x k = ⊤ := by rcases hk with hk | hk <;> rw [hk] <;> simp
      refine top_le_iff.1 ?_
      rw [← this]
      exact Finset.single_le_sum (f := fun k => x k * x k) (fun k _ => hx k) (Finset.mem_univ k)
    have hm : ms x N = ⊤ := by
      unfold ms
      rw [hs, hee, div_coe _ _ hN.ne', EReal.top_mul_coe_of_pos (by positivity)]
      rfl
    exact ⟨hm, by unfold rinv; rw [hm]; rfl⟩

/-- The kernels' gradient of a norm's row. -/
def back (i : Fin n) : EReal := rinv x N * (gy i - x i * rinv x N * Ideal.div (∑ k, x k * rinv x N * gy k) N)

/-- What the chain rule sends back through the mean square. -/
def chain : EReal := Ideal.div ((∑ k, x k * gy k) * (((-(1 / 2) : ℝ) : EReal) * Ideal.div (rinv x N) (ms x N))) N

/-- The kernels' closed form is the chain rule's. -/
theorem back_eq (hN : 0 < N) (i : Fin n) : back x gy N i = gy i * rinv x N + x i * chain x gy N + chain x gy N * x i := by
  unfold back chain
  rcases rinv_cases x N hN with ⟨hm, hr⟩ | ⟨y, r, hr0, hy, hr, hm⟩
  · rw [hm, hr]
    simp [Ideal.div, hN.ne']
  · have hs : ∑ k, x k * (r : EReal) * gy k = (∑ k, x k * gy k) * r := by
      rw [← sum_mul _ _ _ hr0.le]
      exact Finset.sum_congr rfl fun k _ => mul_right_comm _ _ _
    rw [hm, hr, hs, hy i, div_coe _ _ hN.ne', div_coe _ _ hN.ne', div_coe _ _ (by positivity)]
    generalize ∑ k, x k * gy k = S
    rw [sub_eq_add_neg, EReal.left_distrib_of_nonneg_of_ne_top (by exact_mod_cast hr0.le) (EReal.coe_ne_top r), add_assoc,
      mul_comm (r : EReal) (gy i), mul_comm _ (y i : EReal), add_self]
    congr 1
    have e1 : (r : EReal) * -((y i : EReal) * r * (S * r * ((N⁻¹ : ℝ) : EReal))) = ((-(r * y i * r * r * N⁻¹) : ℝ) : EReal) * S := by
      rw [EReal.coe_neg, neg_mul, mul_neg]
      push_cast
      congr 1
      ac_rfl
    have e2 : ((2 : ℝ) : EReal) * ((y i : EReal) * (S * (((-(1 / 2) : ℝ) : EReal) * ((r : EReal) * (((r ^ 2)⁻¹⁻¹ : ℝ) : EReal))) * ((N⁻¹ : ℝ) : EReal)))
        = ((2 * y i * (-(1 / 2)) * r * (r ^ 2)⁻¹⁻¹ * N⁻¹ : ℝ) : EReal) * S := by
      rw [EReal.coe_mul, EReal.coe_mul, EReal.coe_mul, EReal.coe_mul, EReal.coe_mul]
      ac_rfl
    rw [e1, e2]
    congr 2
    rw [inv_inv]
    ring
end Row

end Cert.Norm
end
-- ==== Proof.MlpDx.lean ====
/- The product fused with a norm's gradient (`_matmul_nt_normbwd` as `mlp_dx`): what the kernel leaves is the reference's gradient. -/
module

public import proofs.«01_k».proof.Proof.Gen.Kernel4Ideal.Value
public import proofs.«01_k».proof.Proof.Gen.Reference4Ideal.Run
public import proofs.«01_k».proof.Proof.Norm
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlpDx
open Cert.Kernel4Ideal Cert.Kernel4Ideal.Gen Idealize.ShloMosaic.StableHlo

variable (m : (ℓ : Loc nD τ sig) → Buf (Elt Ideal) ℓ)

/-- Where each window's block sits. -/
theorem blockOf : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0]
    ∧ win0_6.index t = ![t.val, 0] ∧ win0_7.index t = ![0, 0] :=
  (by decide +kernel : ∀ t : Fin grid0.N, _)

/-- The gradient that reaches the normed rows. -/
def dh (Y : FVec Ideal S4096x4096 .f32) (W : FVec Ideal S1024x4096 .f32) (n : Fin 4096) (j : Fin 1024) : EReal := ∑ k : Fin 4096, Y (ix2 n k) * W (ix2 j k)

/-- An entry of the gradient of the rows. -/
def dxAt (Y : FVec Ideal S4096x4096 .f32) (W : FVec Ideal S1024x4096 .f32) (X : FVec Ideal S4096x1024 .f32) (G : FVec Ideal S1x1024 .f32) (D : FVec Ideal S4096x1024 .f32)
    (n : Fin 4096) (j : Fin 1024) : EReal :=
  Norm.back (fun k => X (ix2 n k)) (fun k => dh Y W n k * G (ix2 0 k)) 1024 j + D (ix2 n j)

/-- The gradient of the rows. -/
def DX (Y : FVec Ideal S4096x4096 .f32) (W : FVec Ideal S1024x4096 .f32) (X : FVec Ideal S4096x1024 .f32) (G : FVec Ideal S1x1024 .f32) (D : FVec Ideal S4096x1024 .f32) :
    FVec Ideal S4096x1024 .f32 := fun i => dxAt Y W X G D (i 0) (i 1)

/-- What a row contributes to the gain's gradient. -/
def gain (Y : FVec Ideal S4096x4096 .f32) (W : FVec Ideal S1024x4096 .f32) (X : FVec Ideal S4096x1024 .f32) (n : Fin 4096) (j : Fin 1024) : EReal :=
  dh Y W n j * (X (ix2 n j) * Norm.rinv (fun k => X (ix2 n k)) 1024)

/-- Row `j` of grid step `t`. -/
def at' (t : Fin cfg0.N) (j : Fin 512) : Fin 4096 := ⟨t.val * 512 + j, by have : t.val < 8 := lt_of_lt_of_eq t.isLt N_0; omega⟩

/-- The gain's gradient. -/
def DG (Y : FVec Ideal S4096x4096 .f32) (W : FVec Ideal S1024x4096 .f32) (X : FVec Ideal S4096x1024 .f32) : FVec Ideal S1x1024 .f32 := fun y => ∑ n : Fin 4096, gain Y W X n (y 1)

section Blocks
variable (c : Dev nD) (t : Fin cfg0.N)

theorem entry0 : V m c main_v0 = m ((c : Thread nD τ).loc main_arg0) := by
  entry_read
  funext i
  pointwise []

theorem entry1 : V m c main_v1 = m ((c : Thread nD τ).loc main_arg1) := by
  entry_read
  funext i
  pointwise []

theorem blk0 (Z : FVec Ideal S4096x4096 .f32) (h : V m c (Pipeline.arrRef spec0 0) = Z) (j : Fin 512) (k : Fin 4096) : iblk m c 0 t (ix2 j k) = Z (ix2 (at' t j) k) := by
  have e := (blockOf t).1
  unfold iblk
  rw [h]
  blk_simp
  unfold at'
  blk_ext <;> simp [e]

theorem blk1 (Z : FVec Ideal S1024x4096 .f32) (h : V m c (Pipeline.arrRef spec0 1) = Z) (j : Fin 1024) (k : Fin 4096) : iblk m c 1 t (ix2 j k) = Z (ix2 j k) := by
  have e := (blockOf t).2.1
  unfold iblk
  rw [h]
  blk_simp
  blk_ext <;> simp [e]

theorem blk2 (Z : FVec Ideal S4096x1024 .f32) (h : V m c (Pipeline.arrRef spec0 2) = Z) (j : Fin 512) (k : Fin 1024) : iblk m c 2 t (ix2 j k) = Z (ix2 (at' t j) k) := by
  have e := (blockOf t).2.2.1
  unfold iblk
  rw [h]
  blk_simp
  unfold at'
  blk_ext <;> simp [e]

theorem blk3 (Z : FVec Ideal S1x1024 .f32) (h : V m c (Pipeline.arrRef spec0 3) = Z) (k : Fin 1024) : iblk m c 3 t (ix2 0 k) = Z (ix2 0 k) := by
  have e := (blockOf t).2.2.2.1
  unfold iblk
  rw [h]
  blk_simp
  blk_ext <;> simp [e]

theorem blk4 (Z : FVec Ideal S4096x1024 .f32) (h : V m c (Pipeline.arrRef spec0 4) = Z) (j : Fin 512) (k : Fin 1024) : iblk m c 4 t (ix2 j k) = Z (ix2 (at' t j) k) := by
  have e := (blockOf t).2.2.2.2.1
  unfold iblk
  rw [h]
  blk_simp
  unfold at'
  blk_ext <;> simp [e]
end Blocks

section Step
variable (Y : FVec Ideal S4096x4096 .f32) (W : FVec Ideal S1024x4096 .f32) (X : FVec Ideal S4096x1024 .f32) (G : FVec Ideal S1x1024 .f32) (D : FVec Ideal S4096x1024 .f32)
  (c : Dev nD) (t : Fin cfg0.N)
  (eY : m ((c : Thread nD τ).loc main_arg0) = Y) (eW : m ((c : Thread nD τ).loc main_arg1) = W) (eX : m ((c : Thread nD τ).loc main_arg2) = X)
  (eG : m ((c : Thread nD τ).loc main_arg3) = G) (eD : m ((c : Thread nD τ).loc main_arg4) = D)

include eY eW in
theorem product (j : Fin 512) (k : Fin 1024) : k0_pay3 (F := Ideal) (iblk m c 0 t) (iblk m c 1 t) (ix2 j k) = dh Y W (at' t j) k := by
  pointwise [k0_pay3]
  unfold dh
  refine Finset.sum_congr rfl fun q _ => ?_
  rw [blk0 m c t Y ((entry0 m c).trans eY), blk1 m c t W ((entry1 m c).trans eW)]

include eX in
theorem recip (j : Fin 512) : k0_pay4 (F := Ideal) (iblk m c 2 t) (ix2 j 0) = Norm.rinv (fun k => X (ix2 (at' t j) k)) 1024 := by
  pointwise [k0_pay4]
  simp only [blk2 m c t X ((V_main_arg2 m c).trans eX)]
  unfold Norm.rinv Norm.ms Norm.eps
  rw [Norm.n1024]

include eY eW eX eG eD in
theorem stepDX (z : S512x1024.Idx) : k0_pay6 (F := Ideal) (iblk m c 0 t) (iblk m c 1 t) (iblk m c 3 t) (iblk m c 2 t) (iblk m c 4 t) z
    = DX Y W X G D (ix2 (at' t (z 0)) (z 1)) := by
  idx_vars z
  pointwise [k0_pay6, k0_pay5]
  simp only [product m Y W c t eY eW, recip m X c t eX, blk2 m c t X ((V_main_arg2 m c).trans eX), blk3 m c t G ((V_main_arg3 m c).trans eG), blk4 m c t D ((V_main_arg4 m c).trans eD)]
  unfold DX dxAt Norm.back
  rw [Norm.n1024]
  rfl

include eY eW eX in
theorem stepG (k : Fin 1024) : k0_pay8 (F := Ideal) (iblk m c 0 t) (iblk m c 1 t) (iblk m c 2 t) (ix1 k) = ∑ j : Fin 512, gain Y W X (at' t j) k := by
  pointwise [k0_pay8, k0_pay5]
  simp only [product m Y W c t eY eW, recip m X c t eX, blk2 m c t X ((V_main_arg2 m c).trans eX)]
  rfl

include eY eW eX eG eD in
theorem step5 (y : S512x1024.Idx) : (outsAt0 m c t.val t.isLt).1 y = DX Y W X G D (ix2 (at' t (y 0)) (y 1)) := by
  by_cases h0 : t.val % 8 = 0
  · rw [outsAt0_A m c t h0 (by have : t.val < 8 := lt_of_lt_of_eq t.isLt N_0; omega)]; frame_out
    exact stepDX m Y W X G D c t eY eW eX eG eD y
  · rw [outsAt0_B m c t h0 (by omega)]; frame_out
    exact stepDX m Y W X G D c t eY eW eX eG eD y

include eY eW eX eG eD in
theorem step6 (y : S512x1024.Idx) : (outsAt0 m c t.val t.isLt).2.1 y = DX Y W X G D (ix2 (at' t (y 0)) (y 1)) := by
  by_cases h0 : t.val % 8 = 0
  · rw [outsAt0_A m c t h0 (by have : t.val < 8 := lt_of_lt_of_eq t.isLt N_0; omega)]; frame_out
    pointwise [k0_pay7]
    exact stepDX m Y W X G D c t eY eW eX eG eD y
  · rw [outsAt0_B m c t h0 (by omega)]; frame_out
    pointwise [k0_pay7]
    exact stepDX m Y W X G D c t eY eW eX eG eD y

include eY eW eX in
theorem step7_A (h0 : t.val % 8 = 0) (y : S1x1024.Idx) : (outsAt0 m c t.val t.isLt).2.2 y = ∑ j : Fin 512, gain Y W X (at' t j) (y 1) := by
  rw [outsAt0_A m c t h0 (by have : t.val < 8 := lt_of_lt_of_eq t.isLt N_0; omega)]; frame_out
  idx_vars y
  pointwise [k0_pay1]
  exact stepG m Y W X c t eY eW eX y1

include eY eW eX in
theorem step7_B (h0 : ¬t.val % 8 = 0) (y : S1x1024.Idx) : (outsAt0 m c t.val t.isLt).2.2 y
    = (outsAt0 m c (t.val - 1) (Nat.lt_of_le_of_lt (Nat.sub_le _ _) t.isLt)).2.2 y + ∑ j : Fin 512, gain Y W X (at' t j) (y 1) := by
  rw [outsAt0_B m c t h0 (by omega)]; frame_out
  idx_vars y
  pointwise [k0_pay2, k0_pay1]
  rw [stepG m Y W X c t eY eW eX y1]
end Step

theorem final5 (c : Dev nD) : (dats m 0 c).arrAt 5 (cfgs 0).N = DX (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5, step5 m _ _ _ _ _ c t rfl rfl rfl rfl rfl]
  have e := (blockOf t).2.2.2.2.2.1
  unfold at'
  blk_ext <;> simp [e]

theorem final6 (c : Dev nD) : (dats m 0 c).arrAt 6 (cfgs 0).N = DX (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, step6 m _ _ _ _ _ c t rfl rfl rfl rfl rfl]
  have e := (blockOf t).2.2.2.2.2.2.1
  unfold at'
  blk_ext <;> simp [e]

/-- The gain's gradient: every row's contribution. -/
theorem final7 (c : Dev nD) : (dats m 0 c).arrAt 7 (cfgs 0).N =
      DG (m ((c : Thread nD τ).loc main_arg0)) (m ((c : Thread nD τ).loc main_arg1)) (m ((c : Thread nD τ).loc main_arg2)) := by
  refine (dats m 0 c).arrAt_eq_of_after_last 7 t0_7 (by decide +kernel) _ fun j => ?_
  blk_simp
  rw [after0_7]
  refine (Pipeline.eq_sum_fin_of_reset_step_apply_last (fun n h => (outsAt0 m c n h).2.2) 8 (fun _ => 0)
    (fun t y => ∑ j : Fin 512, Norm.rowOf (fun n => gain (m ((c : Thread nD τ).loc main_arg0)) (m ((c : Thread nD τ).loc main_arg1)) (m ((c : Thread nD τ).loc main_arg2)) n (y 1)) (t * 512 + j))
    (fun t h y => ?_) (fun t h y => ?_) (le_of_eq N_0) t0_7 rfl j).trans ?_
  · rw [zero_add, step7_A m _ _ _ c t rfl rfl rfl h]
    exact Finset.sum_congr rfl fun j _ => Norm.rowOf_at (fun n => gain _ _ _ n (y 1)) _ (at' t j).isLt
  · rw [step7_B m _ _ _ c t rfl rfl rfl h]
    exact congrArg (_ + ·) (Finset.sum_congr rfl fun j _ => Norm.rowOf_at (fun n => gain _ _ _ n (y 1)) _ (at' t j).isLt)
  · rw [zero_add]
    exact Norm.sum_rows 8 512 rfl _

/-- The reference's sum. -/
theorem chained (Y : FVec Ideal S4096x4096 .f32) (W : FVec Ideal S1024x4096 .f32) (X : FVec Ideal S4096x1024 .f32) (G : FVec Ideal S1x1024 .f32) (D : FVec Ideal S4096x1024 .f32) (n : Fin 4096) (j : Fin 1024) :
    dxAt Y W X G D n j = D (ix2 n j) + dh Y W n j * G (ix2 0 j) * Norm.rinv (fun k => X (ix2 n k)) 1024
        + X (ix2 n j) * Norm.chain (fun k => X (ix2 n k)) (fun k => dh Y W n k * G (ix2 0 k)) 1024
        + Norm.chain (fun k => X (ix2 n k)) (fun k => dh Y W n k * G (ix2 0 k)) 1024 * X (ix2 n j) := by
  unfold dxAt
  rw [Norm.back_eq _ _ _ (by norm_num), add_comm, add_assoc, add_assoc, add_assoc]

section Reference
variable (m' : (ℓ : Loc Cert.Reference4Ideal.nD Cert.Reference4Ideal.τ Cert.Reference4Ideal.sig) → Buf (Elt Ideal) ℓ) (c : Dev Cert.Reference4Ideal.nD)
  (Y : FVec Ideal S4096x4096 .f32) (W : FVec Ideal S1024x4096 .f32) (X : FVec Ideal S4096x1024 .f32) (G : FVec Ideal S1x1024 .f32) (D : FVec Ideal S4096x1024 .f32)
  (eY : m' ((c : Thread Cert.Reference4Ideal.nD Cert.Reference4Ideal.τ).loc Cert.Reference4Ideal.main_arg0) = Y)
  (eW : m' ((c : Thread Cert.Reference4Ideal.nD Cert.Reference4Ideal.τ).loc Cert.Reference4Ideal.main_arg1) = W)
  (eX : m' ((c : Thread Cert.Reference4Ideal.nD Cert.Reference4Ideal.τ).loc Cert.Reference4Ideal.main_arg2) = X)
  (eG : m' ((c : Thread Cert.Reference4Ideal.nD Cert.Reference4Ideal.τ).loc Cert.Reference4Ideal.main_arg3) = G)
  (eD : m' ((c : Thread Cert.Reference4Ideal.nD Cert.Reference4Ideal.τ).loc Cert.Reference4Ideal.main_arg4) = D)

include eY eW eX eG eD in
theorem ref0 : Cert.Reference4Ideal.Value.res_main_v36 m' c = DX Y W X G D := by
  unfold Cert.Reference4Ideal.Value.res_main_v36
  rw [eY, eW, eX, eG, eD]
  funext i
  idx_vars i
  refine Eq.trans ?_ (chained Y W X G D i0 i1).symm
  pointwise []
  unfold Norm.chain Norm.rinv Norm.ms Norm.eps dh
  rw [← Norm.n1024, ← Norm.half_neg]
  simp only [Finset.univ_unique, Finset.sum_singleton]

include eY eW eX eG eD in
theorem ref1 : Cert.Reference4Ideal.Value.res_main_v37 m' c = DX Y W X G D :=
  ref0 m' c Y W X G D eY eW eX eG eD

end Reference

/-- The kernel's arrays are the reference's. -/
theorem result : Cert.algebraic_Kernel4Ideal_Reference4Ideal (hKernel4Ideal := Cert.Kernel4Ideal.Gen.facts) (hReference4Ideal := Cert.Reference4Ideal.Gen.facts) := by
  intro m g m' g' _ hagree
  refine ⟨fun c => DX (m ((c : Thread nD τ).loc main_arg0)) (m ((c : Thread nD τ).loc main_arg1)) (m ((c : Thread nD τ).loc main_arg2)) (m ((c : Thread nD τ).loc main_arg3)) (m ((c : Thread nD τ).loc main_arg4)),
    fun c => DX (m ((c : Thread nD τ).loc main_arg0)) (m ((c : Thread nD τ).loc main_arg1)) (m ((c : Thread nD τ).loc main_arg2)) (m ((c : Thread nD τ).loc main_arg3)) (m ((c : Thread nD τ).loc main_arg4)),
    fun c => DG (m ((c : Thread nD τ).loc main_arg0)) (m ((c : Thread nD τ).loc main_arg1)) (m ((c : Thread nD τ).loc main_arg2)), ?_, ?_⟩
  · exact θ_run_mono (Cert.Kernel4Ideal.Value.run_blocks m g) fun r h c =>
      ⟨(h c).1.trans (final5 m c), (h c).2.1.trans (final6 m c), (h c).2.2.1.trans (final7 m c), (h c).2.2.2⟩
  · exact θ_run_mono (Cert.Reference4Ideal.Value.run m' g') fun r h c => by
      obtain ⟨a0, a1, a2, a3, a4⟩ := hagree c
      obtain ⟨h0, h1, h2, hk⟩ := h c
      refine ⟨h0.trans (ref0 m' c _ _ _ _ _ a0 a1 a2 a3 a4), h1.trans (ref1 m' c _ _ _ _ _ a0 a1 a2 a3 a4), h2.trans ?_, hk⟩
      rw [a0, a1, a2]
      funext i
      idx_vars i
      pointwise [DG]
      unfold gain Norm.rinv Norm.ms Norm.eps dh
      rw [← Norm.n1024]
      exact Finset.sum_congr rfl fun _ _ => mul_comm _ _
end Cert.MlpDx
end
-- ==== Proof.Loss.lean ====
/- The loss and its gradient through the last norm (`_mlp_down_loss`): what the kernel leaves is the reference's loss and gradients. -/
module

public import proofs.«01_k».proof.Proof.Gen.Kernel5Ideal.Value
public import proofs.«01_k».proof.Proof.Gen.Reference5Ideal.Run
public import proofs.«01_k».proof.Proof.Norm
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Loss
open Cert.Kernel5Ideal Cert.Kernel5Ideal.Gen Idealize.ShloMosaic.StableHlo

variable (m : (ℓ : Loc nD τ sig) → Buf (Elt Ideal) ℓ)

/-- Where each window's block sits. -/
theorem blockOf : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0]
    ∧ win0_6.index t = ![t.val, 0] ∧ win0_7.index t = ![0, 0] ∧ win0_8.index t = ![0, 0] :=
  (by decide +kernel : ∀ t : Fin grid0.N, _)

/-- The half. -/
def half : EReal := Ideal.ofBits .f32 0x3F000000#32

theorem half_eq : half = ((1 / 2 : ℝ) : EReal) := by
  unfold half
  simp [Ideal.ofBits, Ideal.ieee, -EReal.coe_mul]; norm_num

theorem over : Ideal.ofBits .f32 0x3A800000#32 = ((1 / 1024 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

section Spec
variable (A : FVec Ideal S4096x4096 .f32) (W : FVec Ideal S4096x1024 .f32) (X T : FVec Ideal S4096x1024 .f32) (G : FVec Ideal S1x1024 .f32) (n : Fin 4096)

/-- The rows the loss is taken of. -/
def x3 (j : Fin 1024) : EReal := X (ix2 n j) + ∑ k : Fin 4096, A (ix2 n k) * A (ix2 n k) * W (ix2 k j)
/-- The reciprocal of a row's root mean square. -/
def r3 : EReal := Norm.rinv (x3 A W X n) 1024
/-- The normed row's distance from its target. -/
def err (j : Fin 1024) : EReal := x3 A W X n j * r3 A W X n * G (ix2 0 j) - T (ix2 n j)
/-- The loss's gradient at the normed row. -/
def dout (j : Fin 1024) : EReal := err A W X T G n j * ((1 / 1024 : ℝ) : EReal)
/-- An entry of the gradient of the rows. -/
def dxAt (j : Fin 1024) : EReal := Norm.back (x3 A W X n) (fun k => dout A W X T G n k * G (ix2 0 k)) 1024 j
/-- What a row contributes to the gain's gradient. -/
def gain (j : Fin 1024) : EReal := dout A W X T G n j * (x3 A W X n j * r3 A W X n)
/-- A row's mean square distance. -/
def dist : EReal := Ideal.div (∑ k : Fin 1024, err A W X T G n k * err A W X T G n k) (Ideal.ofBits .f32 0x44800000#32)

/-- The gradient of the rows. -/
def DX : FVec Ideal S4096x1024 .f32 := fun i => dxAt A W X T G (i 0) (i 1)
/-- The gain's gradient. -/
def DG : FVec Ideal S1x1024 .f32 := fun y => ∑ n : Fin 4096, gain A W X T G n (y 1)
/-- The loss, in every entry of a tile. -/
def L : FVec Ideal S8x128 .f32 := fun _ => half * ∑ n : Fin 4096, dist A W X T G n

/-- The reference's sum. -/
theorem chained (j : Fin 1024) : dxAt A W X T G n j = dout A W X T G n j * G (ix2 0 j) * r3 A W X n
      + x3 A W X n j * Norm.chain (x3 A W X n) (fun k => dout A W X T G n k * G (ix2 0 k)) 1024
      + Norm.chain (x3 A W X n) (fun k => dout A W X T G n k * G (ix2 0 k)) 1024 * x3 A W X n j :=
  Norm.back_eq _ _ _ (by norm_num) _

/-- The reference's gradient at the normed row. -/
theorem dout_eq (j : Fin 1024) : Ideal.div half (Ideal.ofBits .f32 0x44800000#32) * (Ideal.ofBits .f32 0x40000000#32 * err A W X T G n j) = dout A W X T G n j := by
  unfold dout
  rw [half_eq, Norm.n1024, two, Norm.div_coe _ _ (by norm_num), ← mul_assoc, mul_comm]
  norm_cast
  congr 2
  norm_num
end Spec

/-- Row `j` of grid step `t`. -/
def at' (t : Fin cfg0.N) (j : Fin 512) : Fin 4096 := ⟨t.val * 512 + j, by have : t.val < 8 := lt_of_lt_of_eq t.isLt N_0; omega⟩

section Blocks
variable (c : Dev nD) (t : Fin cfg0.N)

theorem entry0 : V m c main_v0 = m ((c : Thread nD τ).loc main_arg0) := by
  entry_read
  funext i
  pointwise []

theorem entry1 : V m c main_v1 = m ((c : Thread nD τ).loc main_arg1) := by
  entry_read
  funext i
  pointwise []

theorem blk0 (Z : FVec Ideal S4096x4096 .f32) (h : V m c (Pipeline.arrRef spec0 0) = Z) (j : Fin 512) (k : Fin 4096) : iblk m c 0 t (ix2 j k) = Z (ix2 (at' t j) k) := by
  have e := (blockOf t).1
  unfold iblk
  rw [h]
  blk_simp
  unfold at'
  blk_ext <;> simp [e]

theorem blk1 (Z : FVec Ideal S4096x1024 .f32) (h : V m c (Pipeline.arrRef spec0 1) = Z) (j : Fin 4096) (k : Fin 1024) : iblk m c 1 t (ix2 j k) = Z (ix2 j k) := by
  have e := (blockOf t).2.1
  unfold iblk
  rw [h]
  blk_simp
  blk_ext <;> simp [e]

theorem blk2 (Z : FVec Ideal S4096x1024 .f32) (h : V m c (Pipeline.arrRef spec0 2) = Z) (j : Fin 512) (k : Fin 1024) : iblk m c 2 t (ix2 j k) = Z (ix2 (at' t j) k) := by
  have e := (blockOf t).2.2.1
  unfold iblk
  rw [h]
  blk_simp
  unfold at'
  blk_ext <;> simp [e]

theorem blk3 (Z : FVec Ideal S4096x1024 .f32) (h : V m c (Pipeline.arrRef spec0 3) = Z) (j : Fin 512) (k : Fin 1024) : iblk m c 3 t (ix2 j k) = Z (ix2 (at' t j) k) := by
  have e := (blockOf t).2.2.2.1
  unfold iblk
  rw [h]
  blk_simp
  unfold at'
  blk_ext <;> simp [e]

theorem blk4 (Z : FVec Ideal S1x1024 .f32) (h : V m c (Pipeline.arrRef spec0 4) = Z) (k : Fin 1024) : iblk m c 4 t (ix2 0 k) = Z (ix2 0 k) := by
  have e := (blockOf t).2.2.2.2.1
  unfold iblk
  rw [h]
  blk_simp
  blk_ext <;> simp [e]
end Blocks

section Step
variable (A : FVec Ideal S4096x4096 .f32) (W : FVec Ideal S4096x1024 .f32) (X T : FVec Ideal S4096x1024 .f32) (G : FVec Ideal S1x1024 .f32)
  (c : Dev nD) (t : Fin cfg0.N)
  (eA : m ((c : Thread nD τ).loc main_arg0) = A) (eW : m ((c : Thread nD τ).loc main_arg1) = W) (eX : m ((c : Thread nD τ).loc main_arg2) = X)
  (eT : m ((c : Thread nD τ).loc main_arg3) = T) (eG : m ((c : Thread nD τ).loc main_arg4) = G)

include eA eW eX in
theorem rows (j : Fin 512) (k : Fin 1024) : k0_pay6 (F := Ideal) (iblk m c 0 t) (iblk m c 2 t) (iblk m c 1 t) (ix2 j k) = x3 A W X (at' t j) k := by
  pointwise [k0_pay6]
  unfold x3
  simp only [blk0 m c t A ((entry0 m c).trans eA), blk1 m c t W ((entry1 m c).trans eW), blk2 m c t X ((V_main_arg2 m c).trans eX)]

include eA eW eX in
theorem recip (j : Fin 512) : k0_pay7 (F := Ideal) (iblk m c 0 t) (iblk m c 2 t) (iblk m c 1 t) (ix2 j 0) = r3 A W X (at' t j) := by
  pointwise [k0_pay7]
  simp only [rows m A W X c t eA eW eX]
  unfold r3 Norm.rinv Norm.ms Norm.eps
  rw [Norm.n1024]

include eA eW eX in
theorem hat (j : Fin 512) (k : Fin 1024) : k0_pay8 (F := Ideal) (iblk m c 0 t) (iblk m c 2 t) (iblk m c 1 t) (ix2 j k) = x3 A W X (at' t j) k * r3 A W X (at' t j) := by
  pointwise [k0_pay8]
  rw [rows m A W X c t eA eW eX, recip m A W X c t eA eW eX]

include eA eW eX eT eG in
theorem errs (j : Fin 512) (k : Fin 1024) : k0_pay9 (F := Ideal) (iblk m c 0 t) (iblk m c 2 t) (iblk m c 1 t) (iblk m c 4 t) (iblk m c 3 t) (ix2 j k) = err A W X T G (at' t j) k := by
  pointwise [k0_pay9]
  rw [hat m A W X c t eA eW eX, blk4 m c t G ((V_main_arg4 m c).trans eG), blk3 m c t T ((V_main_arg3 m c).trans eT)]
  rfl

include eA eW eX eT eG in
theorem douts (j : Fin 512) (k : Fin 1024) : k0_pay10 (F := Ideal) (iblk m c 0 t) (iblk m c 2 t) (iblk m c 1 t) (iblk m c 4 t) (iblk m c 3 t) (ix2 j k) = dout A W X T G (at' t j) k := by
  pointwise [k0_pay10]
  rw [errs m A W X T G c t eA eW eX eT eG, over]
  rfl

include eA eW eX eT eG in
theorem stepDX (z : S512x1024.Idx) : k0_pay11 (F := Ideal) (iblk m c 0 t) (iblk m c 2 t) (iblk m c 1 t) (iblk m c 4 t) (iblk m c 3 t) z = dxAt A W X T G (at' t (z 0)) (z 1) := by
  idx_vars z
  pointwise [k0_pay11]
  simp only [recip m A W X c t eA eW eX, hat m A W X c t eA eW eX, douts m A W X T G c t eA eW eX eT eG, blk4 m c t G ((V_main_arg4 m c).trans eG)]
  unfold dxAt Norm.back
  rw [Norm.n1024]
  rfl

include eA eW eX eT eG in
theorem stepG (z : S1x1024.Idx) : k0_pay2 (F := Ideal) (k0_pay8 (iblk m c 0 t) (iblk m c 2 t) (iblk m c 1 t)) (k0_pay10 (iblk m c 0 t) (iblk m c 2 t) (iblk m c 1 t) (iblk m c 4 t) (iblk m c 3 t)) z
    = ∑ j : Fin 512, gain A W X T G (at' t j) (z 1) := by
  idx_vars z
  pointwise [k0_pay2]
  simp only [hat m A W X c t eA eW eX, douts m A W X T G c t eA eW eX eT eG]
  rfl

include eA eW eX eT eG in
theorem stepL (z : S8x128.Idx) : k0_pay3 (F := Ideal) (k0_pay9 (iblk m c 0 t) (iblk m c 2 t) (iblk m c 1 t) (iblk m c 4 t) (iblk m c 3 t)) z
    = half * ∑ j : Fin 512, dist A W X T G (at' t j) := by
  idx_vars z
  pointwise [k0_pay3]
  simp only [errs m A W X T G c t eA eW eX eT eG]
  rfl

include eA eW eX eT eG in
theorem step5 (y : S512x1024.Idx) : (outsAt0 m c t.val t.isLt).1 y = DX A W X T G (ix2 (at' t (y 0)) (y 1)) := by
  by_cases h0 : t.val % 8 = 0
  · rw [outsAt0_A m c t h0 (by have : t.val < 8 := lt_of_lt_of_eq t.isLt N_0; omega)]; frame_out
    exact stepDX m A W X T G c t eA eW eX eT eG y
  · rw [outsAt0_B m c t h0 (by omega)]; frame_out
    exact stepDX m A W X T G c t eA eW eX eT eG y

include eA eW eX eT eG in
theorem step6 (y : S512x1024.Idx) : (outsAt0 m c t.val t.isLt).2.1 y = DX A W X T G (ix2 (at' t (y 0)) (y 1)) := by
  by_cases h0 : t.val % 8 = 0
  · rw [outsAt0_A m c t h0 (by have : t.val < 8 := lt_of_lt_of_eq t.isLt N_0; omega)]; frame_out
    pointwise [k0_pay1]
    exact stepDX m A W X T G c t eA eW eX eT eG y
  · rw [outsAt0_B m c t h0 (by omega)]; frame_out
    pointwise [k0_pay1]
    exact stepDX m A W X T G c t eA eW eX eT eG y

include eA eW eX eT eG in
theorem step7_A (h0 : t.val % 8 = 0) (y : S8x128.Idx) : (outsAt0 m c t.val t.isLt).2.2.1 y = half * ∑ j : Fin 512, dist A W X T G (at' t j) := by
  rw [outsAt0_A m c t h0 (by have : t.val < 8 := lt_of_lt_of_eq t.isLt N_0; omega)]; frame_out
  exact stepL m A W X T G c t eA eW eX eT eG y

include eA eW eX eT eG in
theorem step7_B (h0 : ¬t.val % 8 = 0) (y : S8x128.Idx) : (outsAt0 m c t.val t.isLt).2.2.1 y
    = (outsAt0 m c (t.val - 1) (Nat.lt_of_le_of_lt (Nat.sub_le _ _) t.isLt)).2.2.1 y + half * ∑ j : Fin 512, dist A W X T G (at' t j) := by
  rw [outsAt0_B m c t h0 (by omega)]; frame_out
  rw [← stepL m A W X T G c t eA eW eX eT eG y]
  pointwise [k0_pay5]

include eA eW eX eT eG in
theorem step8_A (h0 : t.val % 8 = 0) (y : S1x1024.Idx) : (outsAt0 m c t.val t.isLt).2.2.2 y = ∑ j : Fin 512, gain A W X T G (at' t j) (y 1) := by
  rw [outsAt0_A m c t h0 (by have : t.val < 8 := lt_of_lt_of_eq t.isLt N_0; omega)]; frame_out
  exact stepG m A W X T G c t eA eW eX eT eG y

include eA eW eX eT eG in
theorem step8_B (h0 : ¬t.val % 8 = 0) (y : S1x1024.Idx) : (outsAt0 m c t.val t.isLt).2.2.2 y
    = (outsAt0 m c (t.val - 1) (Nat.lt_of_le_of_lt (Nat.sub_le _ _) t.isLt)).2.2.2 y + ∑ j : Fin 512, gain A W X T G (at' t j) (y 1) := by
  rw [outsAt0_B m c t h0 (by omega)]; frame_out
  rw [← stepG m A W X T G c t eA eW eX eT eG y]
  pointwise [k0_pay4]
end Step

section Final
variable (c : Dev nD)
theorem final5 (A W X T G) (eA : m ((c : Thread nD τ).loc main_arg0) = A) (eW : m ((c : Thread nD τ).loc main_arg1) = W) (eX : m ((c : Thread nD τ).loc main_arg2) = X)
    (eT : m ((c : Thread nD τ).loc main_arg3) = T) (eG : m ((c : Thread nD τ).loc main_arg4) = G) : (dats m 0 c).arrAt 5 (cfgs 0).N = DX A W X T G := by
  refine (dats m 0 c).arrAt_eq_of_covers 5 _ (by decide +kernel) fun t _ y => ?_
  blk_simp
  rw [after0_5, step5 m _ _ _ _ _ c t eA eW eX eT eG]
  have e := (blockOf t).2.2.2.2.2.1
  unfold at'
  blk_ext <;> simp [e]

theorem final6 (A W X T G) (eA : m ((c : Thread nD τ).loc main_arg0) = A) (eW : m ((c : Thread nD τ).loc main_arg1) = W) (eX : m ((c : Thread nD τ).loc main_arg2) = X)
    (eT : m ((c : Thread nD τ).loc main_arg3) = T) (eG : m ((c : Thread nD τ).loc main_arg4) = G) : (dats m 0 c).arrAt 6 (cfgs 0).N = DX A W X T G := by
  refine (dats m 0 c).arrAt_eq_of_covers 6 _ (by decide +kernel) fun t _ y => ?_
  blk_simp
  rw [after0_6, step6 m _ _ _ _ _ c t eA eW eX eT eG]
  have e := (blockOf t).2.2.2.2.2.2.1
  unfold at'
  blk_ext <;> simp [e]

theorem final7 (A W X T G) (eA : m ((c : Thread nD τ).loc main_arg0) = A) (eW : m ((c : Thread nD τ).loc main_arg1) = W) (eX : m ((c : Thread nD τ).loc main_arg2) = X)
    (eT : m ((c : Thread nD τ).loc main_arg3) = T) (eG : m ((c : Thread nD τ).loc main_arg4) = G) : (dats m 0 c).arrAt 7 (cfgs 0).N = L A W X T G := by
  refine (dats m 0 c).arrAt_eq_of_after_last 7 t0_7 (by decide +kernel) _ fun j => ?_
  blk_simp
  rw [after0_7]
  refine (Pipeline.eq_sum_fin_of_reset_step_apply_last (fun n h => (outsAt0 m c n h).2.2.1) 8 (fun _ => 0)
    (fun t y => half * ∑ j : Fin 512, Norm.rowOf (fun n => dist A W X T G n) (t * 512 + j))
    (fun t h y => ?_) (fun t h y => ?_) (le_of_eq N_0) t0_7 rfl j).trans ?_
  · rw [zero_add, step7_A m _ _ _ _ _ c t eA eW eX eT eG h]
    exact congrArg (_ * ·) (Finset.sum_congr rfl fun j _ => Norm.rowOf_at (fun n => dist A W X T G n) _ (at' t j).isLt)
  · rw [step7_B m _ _ _ _ _ c t eA eW eX eT eG h]
    exact congrArg (_ + _ * ·) (Finset.sum_congr rfl fun j _ => Norm.rowOf_at (fun n => dist A W X T G n) _ (at' t j).isLt)
  · rw [zero_add]
    unfold L
    simp only [mul_comm half]
    rw [half_eq, Norm.sum_mul _ _ _ (by norm_num)]
    exact congrArg (· * _) (Norm.sum_rows 8 512 rfl _)

theorem final8 (A W X T G) (eA : m ((c : Thread nD τ).loc main_arg0) = A) (eW : m ((c : Thread nD τ).loc main_arg1) = W) (eX : m ((c : Thread nD τ).loc main_arg2) = X)
    (eT : m ((c : Thread nD τ).loc main_arg3) = T) (eG : m ((c : Thread nD τ).loc main_arg4) = G) : (dats m 0 c).arrAt 8 (cfgs 0).N = DG A W X T G := by
  refine (dats m 0 c).arrAt_eq_of_after_last 8 t0_7 (by decide +kernel) _ fun j => ?_
  blk_simp
  rw [after0_8]
  refine (Pipeline.eq_sum_fin_of_reset_step_apply_last (fun n h => (outsAt0 m c n h).2.2.2) 8 (fun _ => 0)
    (fun t y => ∑ j : Fin 512, Norm.rowOf (fun n => gain A W X T G n (y 1)) (t * 512 + j))
    (fun t h y => ?_) (fun t h y => ?_) (le_of_eq N_0) t0_7 rfl j).trans ?_
  · rw [zero_add, step8_A m _ _ _ _ _ c t eA eW eX eT eG h]
    exact Finset.sum_congr rfl fun j _ => Norm.rowOf_at (fun n => gain A W X T G n (y 1)) _ (at' t j).isLt
  · rw [step8_B m _ _ _ _ _ c t eA eW eX eT eG h]
    exact congrArg (_ + ·) (Finset.sum_congr rfl fun j _ => Norm.rowOf_at (fun n => gain A W X T G n (y 1)) _ (at' t j).isLt)
  · rw [zero_add]
    exact Norm.sum_rows 8 512 rfl _
end Final

section Reference
variable (m' : (ℓ : Loc Cert.Reference5Ideal.nD Cert.Reference5Ideal.τ Cert.Reference5Ideal.sig) → Buf (Elt Ideal) ℓ) (c : Dev Cert.Reference5Ideal.nD)
  (A : FVec Ideal S4096x4096 .f32) (W : FVec Ideal S4096x1024 .f32) (X T : FVec Ideal S4096x1024 .f32) (G : FVec Ideal S1x1024 .f32)
  (eA : m' ((c : Thread Cert.Reference5Ideal.nD Cert.Reference5Ideal.τ).loc Cert.Reference5Ideal.main_arg0) = A)
  (eW : m' ((c : Thread Cert.Reference5Ideal.nD Cert.Reference5Ideal.τ).loc Cert.Reference5Ideal.main_arg1) = W)
  (eX : m' ((c : Thread Cert.Reference5Ideal.nD Cert.Reference5Ideal.τ).loc Cert.Reference5Ideal.main_arg2) = X)
  (eT : m' ((c : Thread Cert.Reference5Ideal.nD Cert.Reference5Ideal.τ).loc Cert.Reference5Ideal.main_arg3) = T)
  (eG : m' ((c : Thread Cert.Reference5Ideal.nD Cert.Reference5Ideal.τ).loc Cert.Reference5Ideal.main_arg4) = G)

include eA eW eX eT eG in
theorem ref0 : Cert.Reference5Ideal.Value.res_main_v51 m' c = DX A W X T G := by
  unfold Cert.Reference5Ideal.Value.res_main_v51
  rw [eA, eW, eX, eT, eG]
  funext i
  idx_vars i
  refine Eq.trans ?_ (chained A W X T G i0 i1).symm
  pointwise []
  simp only [← dout_eq]
  unfold Norm.chain err r3 Norm.rinv Norm.ms Norm.eps x3 half
  rw [← Norm.n1024, ← Norm.half_neg]
  simp only [Finset.univ_unique, Finset.sum_singleton]

include eA eW eX eT eG in
theorem ref1 : Cert.Reference5Ideal.Value.res_main_v52 m' c = DX A W X T G :=
  ref0 m' c A W X T G eA eW eX eT eG

end Reference

/-- The kernel's arrays are the reference's. -/
theorem result : Cert.algebraic_Kernel5Ideal_Reference5Ideal (hKernel5Ideal := Cert.Kernel5Ideal.Gen.facts) (hReference5Ideal := Cert.Reference5Ideal.Gen.facts) := by
  intro m g m' g' _ hagree
  refine ⟨fun c => DX (m ((c : Thread nD τ).loc main_arg0)) (m ((c : Thread nD τ).loc main_arg1)) (m ((c : Thread nD τ).loc main_arg2)) (m ((c : Thread nD τ).loc main_arg3)) (m ((c : Thread nD τ).loc main_arg4)),
    fun c => DX (m ((c : Thread nD τ).loc main_arg0)) (m ((c : Thread nD τ).loc main_arg1)) (m ((c : Thread nD τ).loc main_arg2)) (m ((c : Thread nD τ).loc main_arg3)) (m ((c : Thread nD τ).loc main_arg4)),
    fun c => L (m ((c : Thread nD τ).loc main_arg0)) (m ((c : Thread nD τ).loc main_arg1)) (m ((c : Thread nD τ).loc main_arg2)) (m ((c : Thread nD τ).loc main_arg3)) (m ((c : Thread nD τ).loc main_arg4)),
    fun c => DG (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · exact θ_run_mono (Cert.Kernel5Ideal.Value.run_blocks m g) fun r h c =>
      ⟨(h c).1.trans (final5 m c _ _ _ _ _ rfl rfl rfl rfl rfl), (h c).2.1.trans (final6 m c _ _ _ _ _ rfl rfl rfl rfl rfl),
        (h c).2.2.1.trans (final7 m c _ _ _ _ _ rfl rfl rfl rfl rfl), (h c).2.2.2.1.trans (final8 m c _ _ _ _ _ rfl rfl rfl rfl rfl), (h c).2.2.2.2⟩
  · exact θ_run_mono (Cert.Reference5Ideal.Value.run m' g') fun r h c => by
      obtain ⟨a0, a1, a2, a3, a4⟩ := hagree c
      obtain ⟨h0, h1, h2, h3, hk⟩ := h c
      refine ⟨h0.trans (ref0 m' c _ _ _ _ _ a0 a1 a2 a3 a4), h1.trans (ref1 m' c _ _ _ _ _ a0 a1 a2 a3 a4), h2.trans ?_, h3.trans ?_, hk⟩
      · rw [a0, a1, a2, a3, a4]
        funext i
        idx_vars i
        pointwise [L]
        unfold half dist err r3 Norm.rinv Norm.ms Norm.eps x3
        rw [← Norm.n1024]
      · rw [a0, a1, a2, a3, a4]
        funext i
        idx_vars i
        pointwise [DG]
        unfold gain
        simp only [← dout_eq]
        unfold err r3 Norm.rinv Norm.ms Norm.eps x3 half
        rw [← Norm.n1024]
        exact Finset.sum_congr rfl fun _ _ => mul_comm _ _
end Cert.Loss
end
-- ==== Proof.Soft.lean ====
/- A row's softmax and its gradient over the extended reals: the kernel's closed form is what the chain rule gives. -/
module

public import proofs.«01_k».proof.Proof.Norm
public import Idealize.ShloMosaic.Lib.ReduceAll
public import Idealize.ShloMosaic.Lib.Affine
public import Idealize.ShloMosaic.Lib.KernelVsHost

@[expose] public section

noncomputable section

open Idealize.ShloMosaic

namespace Cert.Soft

/-- Not an infinity. -/
def Fin' (z : EReal) : Prop := ∃ r : ℝ, z = r

theorem fin_of_ne {z : EReal} (h : z ≠ ⊤) (h' : z ≠ ⊥) : Fin' z := ⟨z.toReal, (EReal.coe_toReal h h').symm⟩
theorem fin_mul {y z : EReal} (a : Fin' y) (b : Fin' z) : Fin' (y * z) := by
  obtain ⟨r, rfl⟩ := a
  obtain ⟨s, rfl⟩ := b
  exact ⟨r * s, (EReal.coe_mul r s).symm⟩
theorem fin_sum {ι : Type} (t : Finset ι) (f : ι → EReal) (h : ∀ k, Fin' (f k)) : Fin' (∑ k ∈ t, f k) := by
  choose g hg using h
  exact ⟨∑ k ∈ t, g k, by simp only [hg]; exact (Norm.coe_sum t g).symm⟩

/-- A normed entry is finite, whatever its row holds. -/
theorem fin_hat {n : ℕ} (x : Fin n → EReal) (N : ℝ) (hN : 0 < N) (i : Fin n) : Fin' (x i * Norm.rinv x N) := by
  rcases Norm.rinv_cases x N hN with ⟨_, h⟩ | ⟨y, r, _, hy, hr, _⟩
  · exact ⟨0, by rw [h, mul_zero]; rfl⟩
  · exact ⟨y i * r, by rw [hy, hr]; exact (EReal.coe_mul _ _).symm⟩

/-- An entry the printed test finds finite is finite. -/
theorem fin_of_test (x : Ideal .f32) (h : FloatOps.cmpf .olt (FloatOps.hostAbsf x) (FloatOps.ofBits (F := Ideal) .f32 0x7F800000#32) = 1#1) : Fin' x := by
  have e : Ideal.cmp .olt (max (x : EReal) (-(x : EReal))) (Ideal.ofBits .f32 0x7F800000#32) = 1#1 := h
  rw [show Ideal.ofBits .f32 0x7F800000#32 = (⊤ : EReal) by simp [Ideal.ofBits, Ideal.ieee]] at e
  have l : max (x : EReal) (-(x : EReal)) < ⊤ := (Ideal.cmp_olt_eq_one _ _).1 e
  rw [max_lt_iff] at l
  refine fin_of_ne l.1.ne fun b => ?_
  have := l.2
  rw [show (x : EReal) = ⊥ from b] at this
  simp at this

variable {K : ℕ} (s d : Fin (K + 1) → EReal)

/-- The largest of a row's scores. -/
def top : EReal := Finset.fold max (Ideal.ofBits .f32 0xFF800000#32) s Finset.univ
/-- A row's weights before they are divided by their sum. -/
def weight (k : Fin (K + 1)) : EReal := Ideal.exp (s k - top s)
/-- The sum of a row's weights. -/
def total : EReal := ∑ k, weight s k
/-- The softmax of a row of scores. -/
def soft (k : Fin (K + 1)) : EReal := Ideal.div (weight s k) (total s)
/-- The softmax's gradient of a row. -/
def back (k : Fin (K + 1)) : EReal := soft s k * (d k - ∑ k, d k * soft s k)
/-- What the chain rule gives. -/
def chain (k : Fin (K + 1)) : EReal := (Ideal.div (d k) (total s) + -∑ k, d k * Ideal.div 1 (total s * total s) * weight s k) * weight s k

theorem bottom : Ideal.ofBits .f32 0xFF800000#32 = (⊥ : EReal) := by simp [Ideal.ofBits, Ideal.ieee]

theorem top_fin (h : ∀ k, Fin' (s k)) : Fin' (top s) := by
  unfold top
  rw [bottom]
  refine fin_of_ne (lt_top_iff_ne_top.1 ?_) (bot_lt_iff_ne_bot.1 ?_)
  · rw [Finset.fold_max_lt]
    exact ⟨bot_lt_top, fun k _ => by obtain ⟨r, e⟩ := h k; rw [e]; exact EReal.coe_lt_top r⟩
  · rw [Finset.lt_fold_max]
    exact Or.inr ⟨0, Finset.mem_univ _, by obtain ⟨r, e⟩ := h 0; rw [e]; exact EReal.bot_lt_coe r⟩

/-- Finite scores have finite positive weights. -/
theorem weight_pos (h : ∀ k, Fin' (s k)) : ∃ w : Fin (K + 1) → ℝ, (∀ k, 0 < w k) ∧ ∀ k, weight s k = w k := by
  obtain ⟨t, ht⟩ := top_fin s h
  choose r hr using h
  refine ⟨fun k => Real.exp (r k - t), fun k => Real.exp_pos _, fun k => ?_⟩
  unfold weight
  rw [ht, hr, ← EReal.coe_sub]
  rfl

theorem chain_eq (h : ∀ k, Fin' (s k)) (k : Fin (K + 1)) : chain s d k = back s d k := by
  obtain ⟨w, hw, e⟩ := weight_pos s h
  have hz : 0 < ∑ k, w k := Finset.sum_pos (fun k _ => hw k) ⟨0, Finset.mem_univ _⟩
  have ez : total s = ((∑ k, w k : ℝ) : EReal) := by
    unfold total
    simp only [e]
    exact (Norm.coe_sum _ _).symm
  unfold chain back soft
  generalize ∑ k, w k = z at hz ez
  have hi : 0 ≤ z⁻¹ := by positivity
  have one : Ideal.div 1 ((z : EReal) * z) = ((z⁻¹ * z⁻¹ : ℝ) : EReal) := by
    rw [← EReal.coe_mul, Norm.div_coe _ _ (by positivity), one_mul, mul_inv]
  have each : ∀ k, d k * ((z⁻¹ * z⁻¹ : ℝ) : EReal) * (w k : EReal) = d k * ((w k * z⁻¹ : ℝ) : EReal) * ((z⁻¹ : ℝ) : EReal) := fun k => by
    rw [mul_assoc, mul_assoc, ← EReal.coe_mul, ← EReal.coe_mul]
    congr 2
    ring
  simp only [ez, e, one, Norm.div_coe _ _ hz.ne', each]
  rw [Norm.sum_mul _ _ _ hi]
  have dist : ∀ a b : EReal, a * ((z⁻¹ : ℝ) : EReal) + -(b * ((z⁻¹ : ℝ) : EReal)) = (a - b) * ((z⁻¹ : ℝ) : EReal) := fun a b => by
    rw [← EReal.neg_mul, sub_eq_add_neg, EReal.right_distrib_of_nonneg_of_ne_top (by exact_mod_cast hi) (EReal.coe_ne_top _)]
  simp only [← EReal.coe_mul]
  rw [dist, mul_assoc, ← EReal.coe_mul, mul_comm, mul_comm z⁻¹]

end Cert.Soft
end
-- ==== Proof.Cols.lean ====
/- Blocks written a head's columns at a time: what four such stores leave, and what a load of a head's columns reads. -/
module

public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Cols

variable {R : ℕ} {φ : EltTy}

/-- Column `e` of head `h`. -/
def col (h : Fin 4) (e : Fin 256) : Fin 1024 := ⟨256 * h + e, by omega⟩
/-- A column's head. -/
def headOf (i : Fin 1024) : Fin 4 := ⟨i / 256, by omega⟩
/-- A column's place in its head. -/
def posOf (i : Fin 1024) : Fin 256 := ⟨i % 256, by omega⟩

theorem col_of (i : Fin 1024) : col (headOf i) (posOf i) = i := Fin.ext (by show 256 * (i.val / 256) + i.val % 256 = i.val; omega)
theorem headOf_col (h : Fin 4) (e : Fin 256) : headOf (col h e) = h := Fin.ext (by show (256 * h.val + e.val) / 256 = h.val; omega)
theorem posOf_col (h : Fin 4) (e : Fin 256) : posOf (col h e) = e := Fin.ext (by show (256 * h.val + e.val) % 256 = e.val; omega)

/-- A block with 256 of its columns overwritten. -/
def colSet (o : ℕ) (w : Vec Ideal ⟨2, ![R, 256]⟩ φ) (X : Vec Ideal ⟨2, ![R, 1024]⟩ φ) : Vec Ideal ⟨2, ![R, 1024]⟩ φ :=
  fun y => if h : o ≤ (y 1 : ℕ) ∧ (y 1 : ℕ) < o + 256 then w (ix2 (y 0) ⟨(y 1 : ℕ) - o, by omega⟩) else X y

theorem canon_col (o : ℕ) (inb) (w : Vec Ideal ⟨2, ![R, 256]⟩ φ) (L : List (View.Piece (Elt Ideal) ⟨2, ![R, 1024]⟩ φ)) :
    View.canon ((⟨Rect.unit ![0, o] ![R, 256] inb, w⟩ : View.Piece (Elt Ideal) ⟨2, ![R, 1024]⟩ φ) :: L) = colSet o w (View.canon L) := by
  funext y
  unfold colSet
  split_ifs with h
  · have e : (Rect.unit (s := ⟨2, ![R, 1024]⟩) ![0, o] ![R, 256] inb).emb (ix2 (y 0) ⟨(y 1 : ℕ) - o, by omega⟩) = y := by
      funext a; apply Fin.ext
      fin_cases a
      · show 0 + 1 * (y 0 : ℕ) = (y 0 : ℕ); omega
      · show o + 1 * ((y 1 : ℕ) - o) = (y 1 : ℕ); omega
    conv_lhs => rw [← e]
    exact View.canon_cons_emb _ _ _ _
  · refine View.canon_cons_of_not_mem _ _ ?_
    rw [Rect.mem_set_unit]
    intro hall
    exact h (hall 1)

/-- A store of a whole block leaves what it wrote. -/
theorem canon_all (inb) (w : Vec Ideal ⟨2, ![R, 1024]⟩ φ) (L : List (View.Piece (Elt Ideal) ⟨2, ![R, 1024]⟩ φ)) :
    View.canon ((⟨Rect.unit ![0, 0] ![R, 1024] inb, w⟩ : View.Piece (Elt Ideal) ⟨2, ![R, 1024]⟩ φ) :: L) = w := by
  funext y
  have e : (Rect.unit (s := ⟨2, ![R, 1024]⟩) ![0, 0] ![R, 1024] inb).emb y = y := by
    funext a; apply Fin.ext
    fin_cases a
    · show 0 + 1 * (y 0 : ℕ) = (y 0 : ℕ); omega
    · show 0 + 1 * (y 1 : ℕ) = (y 1 : ℕ); omega
  conv_lhs => rw [← e]
  exact View.canon_cons_emb _ _ _ _

/-- A read of 256 columns. -/
theorem ld_col (o : ℕ) (ho : o + 256 ≤ 1024) (inb) (X : Vec Ideal ⟨2, ![R, 1024]⟩ φ) (j : Fin R) (e : Fin 256) :
    View.ld (Val := Elt Ideal) (e' := φ) X (Rect.unit (s := ⟨2, ![R, 1024]⟩) ![0, o] ![R, 256] inb) (ix2 j e) = X (ix2 j ⟨o + e, by omega⟩) := by
  show X _ = X _
  congr 1
  funext a; apply Fin.ext
  fin_cases a
  · show 0 + 1 * (j : ℕ) = j; omega
  · show o + 1 * (e : ℕ) = o + e; omega

/-- A head's columns read out of a block. -/
theorem ld_head (o : ℕ) (h : Fin 4) (ho : o = 256 * h) (inb) (X : Vec Ideal ⟨2, ![R, 1024]⟩ φ) (j : Fin R) (e : Fin 256) :
    View.ld (Val := Elt Ideal) (e' := φ) X (Rect.unit (s := ⟨2, ![R, 1024]⟩) ![0, o] ![R, 256] inb) (ix2 j e) = X (ix2 j (col h e)) := by
  subst ho
  exact ld_col _ (by omega) inb X j e

/-- A head's columns of a block another head's columns of which were overwritten. -/
theorem colSet_other (o : ℕ) (h g : Fin 4) (ho : o = 256 * g) (ne : g ≠ h) (w : Vec Ideal ⟨2, ![R, 256]⟩ φ) (X : Vec Ideal ⟨2, ![R, 1024]⟩ φ) (j : Fin R) (e : Fin 256) :
    colSet o w X (ix2 j (col h e)) = X (ix2 j (col h e)) := by
  unfold colSet
  refine dif_neg ?_
  subst ho
  have : (g : ℕ) ≠ h := fun e => ne (Fin.ext e)
  show ¬(256 * (g : ℕ) ≤ 256 * (h : ℕ) + e ∧ 256 * (h : ℕ) + e < 256 * (g : ℕ) + 256)
  omega

/-- A head's columns of a block whose columns of that head were overwritten. -/
theorem colSet_same (o : ℕ) (h : Fin 4) (ho : o = 256 * h) (w : Vec Ideal ⟨2, ![R, 256]⟩ φ) (X : Vec Ideal ⟨2, ![R, 1024]⟩ φ) (j : Fin R) (e : Fin 256) :
    colSet o w X (ix2 j (col h e)) = w (ix2 j e) := by
  unfold colSet
  subst ho
  refine (dif_pos (show 256 * (h : ℕ) ≤ 256 * (h : ℕ) + e ∧ 256 * (h : ℕ) + e < 256 * (h : ℕ) + 256 by omega)).trans ?_
  exact congrArg (fun i => w (ix2 j i)) (Fin.ext (by show 256 * (h : ℕ) + e - 256 * (h : ℕ) = e; omega))

/-- Four heads' columns written one after another: each entry is the one its head's store wrote. -/
theorem cols4 (w0 w1 w2 w3 : Vec Ideal ⟨2, ![R, 256]⟩ φ) (X : Vec Ideal ⟨2, ![R, 1024]⟩ φ) (f : Fin R → Fin 4 → Fin 256 → Elt Ideal φ)
    (h0 : ∀ j e, w0 (ix2 j e) = f j 0 e) (h1 : ∀ j e, w1 (ix2 j e) = f j 1 e) (h2 : ∀ j e, w2 (ix2 j e) = f j 2 e) (h3 : ∀ j e, w3 (ix2 j e) = f j 3 e)
    (j : Fin R) (i : Fin 1024) : colSet 768 w3 (colSet 512 w2 (colSet 256 w1 (colSet 0 w0 X))) (ix2 j i) = f j (headOf i) (posOf i) := by
  rw [← col_of i, headOf_col, posOf_col]
  generalize headOf i = h
  generalize posOf i = e
  fin_cases h
  · exact (colSet_other 768 0 3 rfl (by decide) _ _ j e).trans ((colSet_other 512 0 2 rfl (by decide) _ _ j e).trans
      ((colSet_other 256 0 1 rfl (by decide) _ _ j e).trans ((colSet_same 0 0 rfl _ _ j e).trans (h0 j e))))
  · exact (colSet_other 768 1 3 rfl (by decide) _ _ j e).trans ((colSet_other 512 1 2 rfl (by decide) _ _ j e).trans
      ((colSet_same 256 1 rfl _ _ j e).trans (h1 j e)))
  · exact (colSet_other 768 2 3 rfl (by decide) _ _ j e).trans ((colSet_same 512 2 rfl _ _ j e).trans (h2 j e))
  · exact (colSet_same 768 3 rfl _ _ j e).trans (h3 j e)

/-- A read of a block a whole store of which is among the stores: the contents the stores leave. -/
theorem read_canon {sig : RefSig} {κ sp} (v : View sig κ sp ⟨2, ![R, 1024]⟩ φ) (L : List (View.Piece (Elt Ideal) ⟨2, ![R, 1024]⟩ φ)) (inb) (w : Vec Ideal ⟨2, ![R, 1024]⟩ φ) (r : Rect ⟨2, ![R, 1024]⟩)
    (h : (⟨Rect.unit ![0, 0] ![R, 1024] inb, w⟩ : View.Piece (Elt Ideal) ⟨2, ![R, 1024]⟩ φ) ∈ L) : v.readCov L r.toLoadRect = View.ld (View.canon L) r := by
  refine View.readCov_eq_canon_ld _ _ _ fun y => ⟨_, h, ?_⟩
  rw [Rect.mem_set_unit]
  intro a
  fin_cases a
  · exact ⟨Nat.zero_le _, (Nat.zero_add R).symm ▸ (y 0).isLt⟩
  · exact ⟨Nat.zero_le _, (Nat.zero_add 1024).symm ▸ (y 1).isLt⟩

section Fresh
variable (w0 w1 w2 : Vec Ideal ⟨2, ![R, 256]⟩ φ) (X : Vec Ideal ⟨2, ![R, 1024]⟩ φ) (j : Fin R) (e : Fin 256)

/-- Reads of a head's columns after only the heads before it were written. -/
theorem fresh1 (inb) : View.ld (Val := Elt Ideal) (e' := φ) (colSet 0 w0 X) (Rect.unit (s := ⟨2, ![R, 1024]⟩) ![0, 256] ![R, 256] inb) (ix2 j e) = X (ix2 j (col 1 e)) :=
  (ld_head 256 1 rfl _ _ j e).trans (colSet_other 0 1 0 rfl (by decide) _ _ j e)

theorem fresh2 (inb) : View.ld (Val := Elt Ideal) (e' := φ) (colSet 256 w1 (colSet 0 w0 X)) (Rect.unit (s := ⟨2, ![R, 1024]⟩) ![0, 512] ![R, 256] inb) (ix2 j e) = X (ix2 j (col 2 e)) :=
  (ld_head 512 2 rfl _ _ j e).trans ((colSet_other 256 2 1 rfl (by decide) _ _ j e).trans (colSet_other 0 2 0 rfl (by decide) _ _ j e))

theorem fresh3 (inb) : View.ld (Val := Elt Ideal) (e' := φ) (colSet 512 w2 (colSet 256 w1 (colSet 0 w0 X))) (Rect.unit (s := ⟨2, ![R, 1024]⟩) ![0, 768] ![R, 256] inb) (ix2 j e) = X (ix2 j (col 3 e)) :=
  (ld_head 768 3 rfl _ _ j e).trans ((colSet_other 512 3 2 rfl (by decide) _ _ j e).trans ((colSet_other 256 3 1 rfl (by decide) _ _ j e).trans (colSet_other 0 3 0 rfl (by decide) _ _ j e)))
end Fresh

/-- A read of the whole of a block written by heads: the contents the stores leave. -/
theorem read_all {sig : RefSig} {κ sp} (v : View sig κ sp ⟨2, ![R, 1024]⟩ φ) (i0 i1 i2 i3) (w0 w1 w2 w3 : Vec Ideal ⟨2, ![R, 256]⟩ φ) (r : Rect ⟨2, ![R, 1024]⟩) :
    v.readCov [(⟨Rect.unit ![0, 768] ![R, 256] i3, w3⟩ : View.Piece (Elt Ideal) ⟨2, ![R, 1024]⟩ φ), ⟨Rect.unit ![0, 512] ![R, 256] i2, w2⟩, ⟨Rect.unit ![0, 256] ![R, 256] i1, w1⟩, ⟨Rect.unit ![0, 0] ![R, 256] i0, w0⟩] r.toLoadRect
      = View.ld (colSet 768 w3 (colSet 512 w2 (colSet 256 w1 (colSet 0 w0 (View.canon []))))) r := by
  rw [View.readCov_eq_canon_ld _ _ _ fun y => ?_]
  · simp only [canon_col]
  · have b : (y 1 : ℕ) < 1024 := (y 1).isLt
    have r0 : (y 0 : ℕ) < 0 + R := (Nat.zero_add R).symm ▸ (y 0).isLt
    have key : ∀ (o : ℕ) (inb) (w : Vec Ideal ⟨2, ![R, 256]⟩ φ), o ≤ (y 1 : ℕ) → (y 1 : ℕ) < o + 256 →
        y ∈ (⟨Rect.unit ![0, o] ![R, 256] inb, w⟩ : View.Piece (Elt Ideal) ⟨2, ![R, 1024]⟩ φ).1.set := fun o inb w h1 h2 => by
      rw [Rect.mem_set_unit]
      intro a
      fin_cases a
      · exact ⟨Nat.zero_le _, r0⟩
      · exact ⟨h1, h2⟩
    by_cases h3 : 768 ≤ (y 1 : ℕ)
    · exact ⟨_, by simp, key 768 i3 w3 h3 (by omega)⟩
    by_cases h2 : 512 ≤ (y 1 : ℕ)
    · exact ⟨⟨Rect.unit ![0, 512] ![R, 256] i2, w2⟩, by simp, key 512 i2 w2 h2 (by omega)⟩
    by_cases h1 : 256 ≤ (y 1 : ℕ)
    · exact ⟨⟨Rect.unit ![0, 256] ![R, 256] i1, w1⟩, by simp, key 256 i1 w1 h1 (by omega)⟩
    · exact ⟨⟨Rect.unit ![0, 0] ![R, 256] i0, w0⟩, by simp, key 0 i0 w0 (by omega) (by omega)⟩

/-- A read of the whole of a block is the block. -/
theorem ld_all (inb) (X : Vec Ideal ⟨2, ![R, 1024]⟩ φ) (j : Fin R) (i : Fin 1024) :
    View.ld (Val := Elt Ideal) (e' := φ) X (Rect.unit (s := ⟨2, ![R, 1024]⟩) ![0, 0] ![R, 1024] inb) (ix2 j i) = X (ix2 j i) := by
  show X _ = X _
  congr 1
  funext a; apply Fin.ext
  fin_cases a
  · show 0 + 1 * (j : ℕ) = j; omega
  · show 0 + 1 * (i : ℕ) = i; omega

end Cert.Cols
end
-- ==== Proof.XattnPay.lean ====
/- The memory attention's gradient (`_xattn_bwd`), one grid step: what its vector operations compute. -/
module

public import proofs.«01_k».proof.Proof.Gen.Kernel6Ideal.Value
public import proofs.«01_k».proof.Proof.Norm
public import proofs.«01_k».proof.Proof.Soft
public import proofs.«01_k».proof.Proof.Cols
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Xattn
open Cert.Cols Cert.Kernel6Ideal Cert.Kernel6Ideal.Gen Idealize.ShloMosaic.StableHlo

/-- The scores' scale, 1/16. -/
def scale : EReal := Ideal.ofBits .f32 0x3D800000#32

/-- A key's column among keys and values. -/
def key (i : Fin 1024) : Fin 2048 := ⟨i, by omega⟩
/-- A value's column among keys and values. -/
def val (i : Fin 1024) : Fin 2048 := ⟨1024 + i, by omega⟩

section Spec
variable (X : FVec Ideal S4096x1024 .f32) (G : FVec Ideal S1x1024 .f32) (Wq : FVec Ideal S1024x1024 .f32) (KV : FVec Ideal S256x2048 .f32)
  (Wo : FVec Ideal S1024x1024 .f32) (D : FVec Ideal S4096x1024 .f32) (n : Fin 4096) (h : Fin 4) (k : Fin 256)

/-- A row's reciprocal root mean square. -/
def rr : EReal := Norm.rinv (fun k => X (ix2 n k)) 1024
/-- The normed row, without its gain. -/
def xh (i : Fin 1024) : EReal := X (ix2 n i) * rr X n
/-- The queries. -/
def qq (j : Fin 1024) : EReal := ∑ i, xh X n i * G (ix2 0 i) * Wq (ix2 i j)
/-- The gradient of the heads' outputs. -/
def dO (j : Fin 1024) : EReal := ∑ i, D (ix2 n i) * Wo (ix2 j i)
/-- The scores. -/
def sc : EReal := (∑ e, qq X G Wq n (col h e) * KV (ix2 k (key (col h e)))) * scale
/-- The gradient of the softmax's values. -/
def dp : EReal := ∑ e, dO Wo D n (col h e) * KV (ix2 k (val (col h e)))
/-- The softmax's values. -/
def pr : EReal := Soft.soft (K := 255) (sc X G Wq KV n h) k
/-- The gradient of the scores before their scale. -/
def ds : EReal := Soft.back (K := 255) (sc X G Wq KV n h) (dp KV Wo D n h) k * scale
/-- The gradient of the queries. -/
def dq (e : Fin 256) : EReal := ∑ k, ds X G Wq KV Wo D n h k * KV (ix2 k (key (col h e)))
/-- What a row contributes to the keys' gradient. -/
def dk (e : Fin 256) : EReal := ds X G Wq KV Wo D n h k * qq X G Wq n (col h e)
/-- What a row contributes to the values' gradient. -/
def dv (e : Fin 256) : EReal := pr X G Wq KV n h k * dO Wo D n (col h e)
end Spec

section Heads
variable (X : FVec Ideal S4096x1024 .f32) (G : FVec Ideal S1x1024 .f32) (Wq : FVec Ideal S1024x1024 .f32) (KV : FVec Ideal S256x2048 .f32)
  (Wo : FVec Ideal S1024x1024 .f32) (D : FVec Ideal S4096x1024 .f32) (row : Fin 512 → Fin 4096) (h : Fin 4)
  (x0 : FVec Ideal S512x1024 .f32) (x7 : FVec Ideal S1024x1024 .bf16) (vq vo : FVec Ideal S512x256 .bf16) (vk vv : FVec Ideal S256x256 .bf16) (old : FVec Ideal S256x256 .f32)
  (ho : ∀ j i, k0_pay4 (F := Ideal) x0 x7 (ix2 j i) = dO Wo D (row j) i)

include ho in
/-- A head's columns of the gradient of the heads' outputs. -/
theorem slices (j : Fin 512) (e : Fin 256) : k0_pay7 (F := Ideal) x0 x7 (ix2 j e) = dO Wo D (row j) (col 0 e)
    ∧ k0_pay16 (F := Ideal) (k0_pay4 x0 x7) (ix2 j e) = dO Wo D (row j) (col 1 e)
    ∧ k0_pay25 (F := Ideal) (k0_pay4 x0 x7) (ix2 j e) = dO Wo D (row j) (col 2 e)
    ∧ k0_pay34 (F := Ideal) (k0_pay4 x0 x7) (ix2 j e) = dO Wo D (row j) (col 3 e) := by
  refine ⟨?_, ?_, ?_, ?_⟩
  · pointwise [k0_pay7]
    rw [ho]
    exact congrArg _ (Fin.ext (by simp [col]))
  · pointwise [k0_pay16]
    rw [ho]
    exact congrArg _ (Fin.ext (by simp [col]))
  · pointwise [k0_pay25]
    rw [ho]
    exact congrArg _ (Fin.ext (by simp [col]))
  · pointwise [k0_pay34]
    rw [ho]
    exact congrArg _ (Fin.ext (by simp [col]))

variable (hq : ∀ j e, vq (ix2 j e) = qq X G Wq (row j) (col h e))
  (hk : ∀ k e, vk (ix2 k e) = KV (ix2 k (key (col h e))))
  (hv : ∀ k e, vv (ix2 k e) = KV (ix2 k (val (col h e))))
  (hd : ∀ j e, vo (ix2 j e) = dO Wo D (row j) (col h e))

include hq hk in
/-- Each head's softmax. -/
theorem probs (j : Fin 512) (k : Fin 256) : k0_pay8 (F := Ideal) vq vk (ix2 j k) = pr X G Wq KV (row j) h k
    ∧ k0_pay17 (F := Ideal) vq vk (ix2 j k) = pr X G Wq KV (row j) h k
    ∧ k0_pay27 (F := Ideal) (k0_pay26 vq vk) (ix2 j k) = pr X G Wq KV (row j) h k
    ∧ k0_pay35 (F := Ideal) (k0_pay32 vq) vk (ix2 j k) = pr X G Wq KV (row j) h k := by
  refine ⟨?_, ?_, ?_, ?_⟩
  · pointwise [k0_pay8, k0_pay5, k0_pay6]
    simp only [hq, hk]
    rfl
  · pointwise [k0_pay17, k0_pay13, k0_pay14]
    simp only [hq, hk]
    rfl
  · pointwise [k0_pay27, k0_pay26, k0_pay22, k0_pay23]
    simp only [hq, hk]
    rfl
  · pointwise [k0_pay35, k0_pay32, k0_pay33]
    simp only [hq, hk]
    rfl

include hq hk hv in
/-- Each head's gradient of the scores. -/
theorem grads (j : Fin 512) (k : Fin 256) :
    ((∀ j e, k0_pay7 (F := Ideal) x0 x7 (ix2 j e) = dO Wo D (row j) (col h e)) → k0_pay9 (F := Ideal) x0 x7 vq vk vv (ix2 j k) = ds X G Wq KV Wo D (row j) h k)
    ∧ ((∀ j e, vo (ix2 j e) = dO Wo D (row j) (col h e)) → k0_pay18 (F := Ideal) (k0_pay15 vv) vo (k0_pay17 vq vk) (constant S512x256 .f32 0x00000000#32) (ix2 j k) = ds X G Wq KV Wo D (row j) h k)
    ∧ ((∀ j e, vo (ix2 j e) = dO Wo D (row j) (col h e)) → k0_pay28 (F := Ideal) (k0_pay24 vv) vo (k0_pay26 vq vk) (ix2 j k) = ds X G Wq KV Wo D (row j) h k)
    ∧ ((∀ j e, k0_pay34 (F := Ideal) (k0_pay4 x0 x7) (ix2 j e) = dO Wo D (row j) (col h e)) → k0_pay36 (F := Ideal) (k0_pay4 x0 x7) (k0_pay32 vq) vk vv (ix2 j k) = ds X G Wq KV Wo D (row j) h k) := by
  refine ⟨fun hd => ?_, fun hd => ?_, fun hd => ?_, fun hd => ?_⟩
  · pointwise [k0_pay9]
    simp only [fun j k => (probs X G Wq KV row h vq vk hq hk j k).1, hd, hv]
    rfl
  · pointwise [k0_pay18, k0_pay15]
    simp only [fun j k => (probs X G Wq KV row h vq vk hq hk j k).2.1, hd, hv]
    rfl
  · pointwise [k0_pay28, k0_pay24]
    simp only [fun j k => (probs X G Wq KV row h vq vk hq hk j k).2.2.1, hd, hv]
    rfl
  · pointwise [k0_pay36]
    simp only [fun j k => (probs X G Wq KV row h vq vk hq hk j k).2.2.2, hd, hv]
    rfl
end Heads

section Results
variable (X : FVec Ideal S4096x1024 .f32) (G : FVec Ideal S1x1024 .f32) (Wq : FVec Ideal S1024x1024 .f32) (KV : FVec Ideal S256x2048 .f32)
  (Wo : FVec Ideal S1024x1024 .f32) (D : FVec Ideal S4096x1024 .f32) (row : Fin 512 → Fin 4096)
  (x0 : FVec Ideal S512x1024 .f32) (x7 : FVec Ideal S1024x1024 .bf16) (vq : FVec Ideal S512x256 .bf16) (vk vv : FVec Ideal S256x256 .bf16) (old : FVec Ideal S256x256 .f32)
  (ho : ∀ j i, k0_pay4 (F := Ideal) x0 x7 (ix2 j i) = dO Wo D (row j) i)

/-- What is asked of a head's operands: they are its columns of the queries, the keys and the values. -/
def Ops (h : Fin 4) : Prop := (∀ j e, vq (ix2 j e) = qq X G Wq (row j) (col h e)) ∧ (∀ k e, vk (ix2 k e) = KV (ix2 k (key (col h e)))) ∧ ∀ k e, vv (ix2 k e) = KV (ix2 k (val (col h e)))

include ho
theorem head0 (o : Ops X G Wq KV row vq vk vv 0) (k e : Fin 256) (j : Fin 512) :
    k0_pay10 (F := Ideal) (k0_pay6 vk) (k0_pay9 x0 x7 vq vk vv) (ix2 j e) = dq X G Wq KV Wo D (row j) 0 e
    ∧ k0_pay11 (F := Ideal) (k0_pay5 vq) (k0_pay9 x0 x7 vq vk vv) old (ix2 k e) = old (ix2 k e) + ∑ j, dk X G Wq KV Wo D (row j) 0 k e
    ∧ k0_pay12 (F := Ideal) (k0_pay7 x0 x7) (k0_pay8 vq vk) old (ix2 k e) = old (ix2 k e) + ∑ j, dv X G Wq KV Wo D (row j) 0 k e := by
  have hd := fun j e => (slices Wo D row x0 x7 ho j e).1
  have g := fun j k => (grads X G Wq KV Wo D row 0 x0 x7 vq vq vk vv o.1 o.2.1 o.2.2 j k).1 hd
  have p := fun j k => (probs X G Wq KV row 0 vq vk o.1 o.2.1 j k).1
  refine ⟨?_, ?_, ?_⟩
  · pointwise [k0_pay10, k0_pay6]
    simp only [g, o.2.1]
    rfl
  · pointwise [k0_pay11, k0_pay5]
    simp only [g, o.1]
    rfl
  · pointwise [k0_pay12]
    simp only [p, hd]
    rfl

theorem head1 (o : Ops X G Wq KV row vq vk vv 1) (k e : Fin 256) (j : Fin 512) :
    k0_pay19 (F := Ideal) (k0_pay14 vk) (k0_pay15 vv) (k0_pay16 (k0_pay4 x0 x7)) (k0_pay17 vq vk) (constant S512x256 .f32 0x00000000#32) (ix2 j e) = dq X G Wq KV Wo D (row j) 1 e
    ∧ k0_pay20 (F := Ideal) (k0_pay13 vq) (k0_pay15 vv) (k0_pay16 (k0_pay4 x0 x7)) (k0_pay17 vq vk) (constant S512x256 .f32 0x00000000#32) old (ix2 k e) = old (ix2 k e) + ∑ j, dk X G Wq KV Wo D (row j) 1 k e
    ∧ k0_pay21 (F := Ideal) (k0_pay16 (k0_pay4 x0 x7)) (k0_pay17 vq vk) old (ix2 k e) = old (ix2 k e) + ∑ j, dv X G Wq KV Wo D (row j) 1 k e := by
  have hd := fun j e => (slices Wo D row x0 x7 ho j e).2.1
  have g := fun j k => (grads X G Wq KV Wo D row 1 x0 x7 vq (k0_pay16 (k0_pay4 x0 x7)) vk vv o.1 o.2.1 o.2.2 j k).2.1 hd
  have p := fun j k => (probs X G Wq KV row 1 vq vk o.1 o.2.1 j k).2.1
  refine ⟨?_, ?_, ?_⟩
  · pointwise [k0_pay19, k0_pay14]
    simp only [g, o.2.1]
    rfl
  · pointwise [k0_pay20, k0_pay13]
    simp only [g, o.1]
    rfl
  · pointwise [k0_pay21]
    simp only [p, hd]
    rfl

theorem head2 (o : Ops X G Wq KV row vq vk vv 2) (k e : Fin 256) (j : Fin 512) :
    k0_pay29 (F := Ideal) (k0_pay23 vk) (k0_pay24 vv) (k0_pay25 (k0_pay4 x0 x7)) (k0_pay26 vq vk) (ix2 j e) = dq X G Wq KV Wo D (row j) 2 e
    ∧ k0_pay30 (F := Ideal) (k0_pay22 vq) (k0_pay24 vv) (k0_pay25 (k0_pay4 x0 x7)) (k0_pay26 vq vk) old (ix2 k e) = old (ix2 k e) + ∑ j, dk X G Wq KV Wo D (row j) 2 k e
    ∧ k0_pay31 (F := Ideal) (k0_pay25 (k0_pay4 x0 x7)) (k0_pay26 vq vk) old (ix2 k e) = old (ix2 k e) + ∑ j, dv X G Wq KV Wo D (row j) 2 k e := by
  have hd := fun j e => (slices Wo D row x0 x7 ho j e).2.2.1
  have g := fun j k => (grads X G Wq KV Wo D row 2 x0 x7 vq (k0_pay25 (k0_pay4 x0 x7)) vk vv o.1 o.2.1 o.2.2 j k).2.2.1 hd
  have p := fun j k => (probs X G Wq KV row 2 vq vk o.1 o.2.1 j k).2.2.1
  refine ⟨?_, ?_, ?_⟩
  · pointwise [k0_pay29, k0_pay23]
    simp only [g, o.2.1]
    rfl
  · pointwise [k0_pay30, k0_pay22]
    simp only [g, o.1]
    rfl
  · pointwise [k0_pay31]
    simp only [p, hd]
    rfl

theorem head3 (o : Ops X G Wq KV row vq vk vv 3) (k e : Fin 256) (j : Fin 512) :
    k0_pay37 (F := Ideal) (k0_pay4 x0 x7) (k0_pay32 vq) vk vv (ix2 j e) = dq X G Wq KV Wo D (row j) 3 e
    ∧ k0_pay38 (F := Ideal) (k0_pay4 x0 x7) (k0_pay32 vq) vk vv old (ix2 k e) = old (ix2 k e) + ∑ j, dk X G Wq KV Wo D (row j) 3 k e
    ∧ k0_pay41 (F := Ideal) (k0_pay34 (k0_pay4 x0 x7)) (k0_pay39 old) (k0_pay40 (k0_pay32 vq) vk) (constant S256x256 .f32 0x00000000#32) (ix2 k e) = old (ix2 k e) + ∑ j, dv X G Wq KV Wo D (row j) 3 k e := by
  have hd := fun j e => (slices Wo D row x0 x7 ho j e).2.2.2
  have g := fun j k => (grads X G Wq KV Wo D row 3 x0 x7 vq vq vk vv o.1 o.2.1 o.2.2 j k).2.2.2 hd
  have p := fun j k => (probs X G Wq KV row 3 vq vk o.1 o.2.1 j k).2.2.2
  refine ⟨?_, ?_, ?_⟩
  · pointwise [k0_pay37, k0_pay33]
    simp only [g, o.2.1]
    rfl
  · pointwise [k0_pay38]
    simp only [g, show ∀ i, k0_pay32 (F := Ideal) vq i = vq i from fun i => by pointwise [k0_pay32], o.1]
    rfl
  · pointwise [k0_pay41, k0_pay39, k0_pay40]
    simp only [p, hd]
    rfl
end Results
end Cert.Xattn
end
-- ==== Proof.XattnBlk.lean ====
/- The memory attention's gradient (`_xattn_bwd`): the blocks a grid step reads. -/
module

public import proofs.«01_k».proof.Proof.XattnPay

@[expose] public section

set_option maxRecDepth 16384

noncomputable section

open Idealize.ShloMosaic Idealize.ShloMosaic.TcCoe Idealize.SL.Sem
open Idealize.ShloMosaic.Pipeline (Dat)

namespace Cert.Xattn
open Cert.Cols Cert.Kernel6Ideal Cert.Kernel6Ideal.Gen Idealize.ShloMosaic.StableHlo

variable (m : (ℓ : Loc nD τ sig) → Buf (Elt Ideal) ℓ)

/-- Where each window's block sits. -/
theorem blockOf : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] ∧ win0_6.index t = ![0, 1] ∧ win0_7.index t = ![0, 0]
    ∧ win0_8.index t = ![t.val, 0] ∧ win0_9.index t = ![t.val, 0] ∧ win0_10.index t = ![0, 0] ∧ win0_11.index t = ![0, 0] ∧ win0_12.index t = ![0, 0] :=
  (by decide +kernel : ∀ t : Fin grid0.N, _)

/-- Row `j` of grid step `t`. -/
def at' (t : Fin cfg0.N) (j : Fin 512) : Fin 4096 := ⟨t.val * 512 + j, by have : t.val < 8 := lt_of_lt_of_eq t.isLt N_0; omega⟩

section Blocks
variable (c : Dev nD) (t : Fin cfg0.N)

theorem entryK : V m c main_v0 = m ((c : Thread nD τ).loc main_arg3) := by
  entry_read
  funext i
  pointwise []

theorem entryQ : V m c main_v1 = m ((c : Thread nD τ).loc main_arg2) := by
  entry_read
  funext i
  pointwise []

theorem entryO : V m c main_v2 = m ((c : Thread nD τ).loc main_arg4) := by
  entry_read
  funext i
  pointwise []

/-- The queries the host hands the kernel. -/
theorem entryQs (X G Wq) (eX : m ((c : Thread nD τ).loc main_arg0) = X) (eG : m ((c : Thread nD τ).loc main_arg1) = G) (eQ : m ((c : Thread nD τ).loc main_arg2) = Wq) :
    V m c main_v17 = fun i => qq X G Wq (i 0) (i 1) := by
  entry_read
  rw [eX, eG, eQ]
  funext i
  idx_vars i
  pointwise []
  unfold qq xh rr Norm.rinv Norm.ms Norm.eps
  rw [← Norm.n1024]

theorem blk0 (Z : FVec Ideal S4096x1024 .f32) (h : V m c (Pipeline.arrRef spec0 0) = Z) (j : Fin 512) (k : Fin 1024) : iblk m c 0 t (ix2 j k) = Z (ix2 (at' t j) k) := by
  have e := (blockOf t).1
  unfold iblk
  rw [h]
  blk_simp
  unfold at'
  blk_ext <;> simp [e]

theorem blk1 (Z : FVec Ideal S4096x1024 .f32) (h : V m c (Pipeline.arrRef spec0 1) = Z) (j : Fin 512) (k : Fin 1024) : iblk m c 1 t (ix2 j k) = Z (ix2 (at' t j) k) := by
  have e := (blockOf t).2.1
  unfold iblk
  rw [h]
  blk_simp
  unfold at'
  blk_ext <;> simp [e]

theorem blk2 (Z : FVec Ideal S1x1024 .f32) (h : V m c (Pipeline.arrRef spec0 2) = Z) (k : Fin 1024) : iblk m c 2 t (ix2 0 k) = Z (ix2 0 k) := by
  have e := (blockOf t).2.2.1
  unfold iblk
  rw [h]
  blk_simp
  blk_ext <;> simp [e]

theorem blk3 (Z : FVec Ideal S4096x1024 .bf16) (h : V m c (Pipeline.arrRef spec0 3) = Z) (j : Fin 512) (k : Fin 1024) : iblk m c 3 t (ix2 j k) = Z (ix2 (at' t j) k) := by
  have e := (blockOf t).2.2.2.1
  unfold iblk
  rw [h]
  blk_simp
  unfold at'
  blk_ext <;> simp [e]

theorem blk4 (Z : FVec Ideal S1024x1024 .bf16) (h : V m c (Pipeline.arrRef spec0 4) = Z) (j k : Fin 1024) : iblk m c 4 t (ix2 j k) = Z (ix2 j k) := by
  have e := (blockOf t).2.2.2.2.1
  unfold iblk
  rw [h]
  blk_simp
  blk_ext <;> simp [e]

theorem blk5 (Z : FVec Ideal S256x2048 .bf16) (h : V m c (Pipeline.arrRef spec0 5) = Z) (k : Fin 256) (i : Fin 1024) : iblk m c 5 t (ix2 k i) = Z (ix2 k (key i)) := by
  have e := (blockOf t).2.2.2.2.2.1
  unfold iblk
  rw [h]
  blk_simp
  unfold key
  blk_ext <;> simp [e]

theorem blk6 (Z : FVec Ideal S256x2048 .bf16) (h : V m c (Pipeline.arrRef spec0 6) = Z) (k : Fin 256) (i : Fin 1024) : iblk m c 6 t (ix2 k i) = Z (ix2 k (val i)) := by
  have e := (blockOf t).2.2.2.2.2.2.1
  unfold iblk
  rw [h]
  blk_simp
  unfold val
  blk_ext <;> simp [e]

theorem blk7 (Z : FVec Ideal S1024x1024 .bf16) (h : V m c (Pipeline.arrRef spec0 7) = Z) (j k : Fin 1024) : iblk m c 7 t (ix2 j k) = Z (ix2 j k) := by
  have e := (blockOf t).2.2.2.2.2.2.2.1
  unfold iblk
  rw [h]
  blk_simp
  blk_ext <;> simp [e]
end Blocks

section Operands
variable (X : FVec Ideal S4096x1024 .f32) (G : FVec Ideal S1x1024 .f32) (Wq : FVec Ideal S1024x1024 .f32) (KV : FVec Ideal S256x2048 .f32)
  (Wo : FVec Ideal S1024x1024 .f32) (D : FVec Ideal S4096x1024 .f32) (c : Dev nD) (t : Fin cfg0.N)
  (eX : m ((c : Thread nD τ).loc main_arg0) = X) (eG : m ((c : Thread nD τ).loc main_arg1) = G) (eQ : m ((c : Thread nD τ).loc main_arg2) = Wq)
  (eK : m ((c : Thread nD τ).loc main_arg3) = KV) (eO : m ((c : Thread nD τ).loc main_arg4) = Wo) (eD : m ((c : Thread nD τ).loc main_arg5) = D)

include eO eD in
/-- The step's gradient of the heads' outputs. -/
theorem outs (j : Fin 512) (i : Fin 1024) : k0_pay4 (F := Ideal) (iblk m c 0 t) (iblk m c 7 t) (ix2 j i) = dO Wo D (at' t j) i := by
  pointwise [k0_pay4]
  simp only [blk0 m c t D ((V_main_arg5 m c).trans eD), blk7 m c t Wo ((entryO m c).trans eO)]
  rfl

include eX eG eQ eK in
/-- The operands of head `h`. -/
theorem ops (h : Fin 4) (o : ℕ) (ho : o = 256 * h) (i3 i5 i6) : Ops X G Wq KV (at' t)
    (View.ld (Val := Elt Ideal) (e' := .bf16) (iblk m c 3 t) (Rect.unit (s := S512x1024) ![0, o] ![512, 256] i3))
    (View.ld (Val := Elt Ideal) (e' := .bf16) (iblk m c 5 t) (Rect.unit (s := S256x1024) ![0, o] ![256, 256] i5))
    (View.ld (Val := Elt Ideal) (e' := .bf16) (iblk m c 6 t) (Rect.unit (s := S256x1024) ![0, o] ![256, 256] i6)) h := by
  refine ⟨fun j e => ?_, fun k e => ?_, fun k e => ?_⟩
  · exact (ld_head o h ho _ _ j e).trans (blk3 m c t _ (entryQs m c X G Wq eX eG eQ) j _)
  · exact (ld_head o h ho _ _ k e).trans (blk5 m c t KV ((entryK m c).trans eK) k _)
  · exact (ld_head o h ho _ _ k e).trans (blk6 m c t KV ((entryK m c).trans eK) k _)
end Operands
end Cert.Xattn
end
-- ==== Proof.XattnStep.lean ====
/- The memory attention's gradient (`_xattn_bwd`): what a grid step leaves in each of its five blocks. -/
module

public import proofs.«01_k».proof.Proof.XattnBlk

@[expose] public section

set_option maxRecDepth 16384

noncomputable section

open Idealize.ShloMosaic Idealize.ShloMosaic.TcCoe Idealize.SL.Sem
open Idealize.ShloMosaic.Pipeline (Dat)

namespace Cert.Xattn
open Cert.Cols Cert.Kernel6Ideal Cert.Kernel6Ideal.Gen Idealize.ShloMosaic.StableHlo

section Spec
variable (X : FVec Ideal S4096x1024 .f32) (G : FVec Ideal S1x1024 .f32) (Wq : FVec Ideal S1024x1024 .f32) (KV : FVec Ideal S256x2048 .f32)
  (Wo : FVec Ideal S1024x1024 .f32) (D : FVec Ideal S4096x1024 .f32) (n : Fin 4096)

/-- The gradient of a row's queries. -/
def dqAt (i : Fin 1024) : EReal := dq X G Wq KV Wo D n (headOf i) (posOf i)
/-- The gradient of the normed row, gain included. -/
def dh (i : Fin 1024) : EReal := ∑ j, dqAt X G Wq KV Wo D n j * Wq (ix2 i j)
/-- The gradient of a row. -/
def dxAt (i : Fin 1024) : EReal := D (ix2 n i) + Norm.back (fun k => X (ix2 n k)) (fun k => dh X G Wq KV Wo D n k * G (ix2 0 k)) 1024 i
/-- What a row contributes to the gain's gradient. -/
def gain (i : Fin 1024) : EReal := dh X G Wq KV Wo D n i * xh X n i
/-- What a row contributes to the keys' gradient. -/
def dkAt (k : Fin 256) (i : Fin 1024) : EReal := dk X G Wq KV Wo D n (headOf i) k (posOf i)
/-- What a row contributes to the values' gradient. -/
def dvAt (k : Fin 256) (i : Fin 1024) : EReal := dv X G Wq KV Wo D n (headOf i) k (posOf i)
end Spec

section Heads
variable (X : FVec Ideal S4096x1024 .f32) (G : FVec Ideal S1x1024 .f32) (Wq : FVec Ideal S1024x1024 .f32) (KV : FVec Ideal S256x2048 .f32)
  (Wo : FVec Ideal S1024x1024 .f32) (D : FVec Ideal S4096x1024 .f32) (row : Fin 512 → Fin 4096)
  (x0 : FVec Ideal S512x1024 .f32) (x7 : FVec Ideal S1024x1024 .bf16) (q0 q1 q2 q3 : FVec Ideal S512x256 .bf16) (k0 k1 k2 k3 v0 v1 v2 v3 : FVec Ideal S256x256 .bf16)
  (ho : ∀ j i, k0_pay4 (F := Ideal) x0 x7 (ix2 j i) = dO Wo D (row j) i)
  (o0 : Ops X G Wq KV row q0 k0 v0 0) (o1 : Ops X G Wq KV row q1 k1 v1 1) (o2 : Ops X G Wq KV row q2 k2 v2 2) (o3 : Ops X G Wq KV row q3 k3 v3 3)

include ho o0 o1 o2 o3

/-- The four heads' gradients of the queries, next to each other. -/
theorem queries (Z) (j : Fin 512) (i : Fin 1024) :
    colSet (φ := .bf16) 768 (k0_pay37 (F := Ideal) (k0_pay4 x0 x7) (k0_pay32 q3) k3 v3)
      (colSet (φ := .bf16) 512 (k0_pay29 (F := Ideal) (k0_pay23 k2) (k0_pay24 v2) (k0_pay25 (k0_pay4 x0 x7)) (k0_pay26 q2 k2))
      (colSet (φ := .bf16) 256 (k0_pay19 (F := Ideal) (k0_pay14 k1) (k0_pay15 v1) (k0_pay16 (k0_pay4 x0 x7)) (k0_pay17 q1 k1) (constant S512x256 .f32 0x00000000#32))
      (colSet (φ := .bf16) 0 (k0_pay10 (F := Ideal) (k0_pay6 k0) (k0_pay9 x0 x7 q0 k0 v0)) Z))) (ix2 j i) = dqAt X G Wq KV Wo D (row j) i := by
  unfold dqAt
  exact cols4 (φ := .bf16) _ _ _ _ _ (fun j h e => dq X G Wq KV Wo D (row j) h e)
    (fun j e => (head0 X G Wq KV Wo D row x0 x7 q0 k0 v0 (fun _ => 0) ho o0 0 e j).1)
    (fun j e => (head1 X G Wq KV Wo D row x0 x7 q1 k1 v1 (fun _ => 0) ho o1 0 e j).1)
    (fun j e => (head2 X G Wq KV Wo D row x0 x7 q2 k2 v2 (fun _ => 0) ho o2 0 e j).1)
    (fun j e => (head3 X G Wq KV Wo D row x0 x7 q3 k3 v3 (fun _ => 0) ho o3 0 e j).1) j i

variable (p0 p1 p2 p3 : FVec Ideal S256x256 .f32) (P : FVec Ideal S256x1024 .f32)
  (h0 : ∀ k e, p0 (ix2 k e) = P (ix2 k (col 0 e))) (h1 : ∀ k e, p1 (ix2 k e) = P (ix2 k (col 1 e)))
  (h2 : ∀ k e, p2 (ix2 k e) = P (ix2 k (col 2 e))) (h3 : ∀ k e, p3 (ix2 k e) = P (ix2 k (col 3 e)))

include h0 h1 h2 h3

/-- The keys' gradient, the heads next to each other: what was there and what this step's rows contribute. -/
theorem keys (Z) (k : Fin 256) (i : Fin 1024) :
    colSet (φ := .f32) 768 (k0_pay38 (F := Ideal) (k0_pay4 x0 x7) (k0_pay32 q3) k3 v3 p3)
      (colSet (φ := .f32) 512 (k0_pay30 (F := Ideal) (k0_pay22 q2) (k0_pay24 v2) (k0_pay25 (k0_pay4 x0 x7)) (k0_pay26 q2 k2) p2)
      (colSet (φ := .f32) 256 (k0_pay20 (F := Ideal) (k0_pay13 q1) (k0_pay15 v1) (k0_pay16 (k0_pay4 x0 x7)) (k0_pay17 q1 k1) (constant S512x256 .f32 0x00000000#32) p1)
      (colSet (φ := .f32) 0 (k0_pay11 (F := Ideal) (k0_pay5 q0) (k0_pay9 x0 x7 q0 k0 v0) p0) Z))) (ix2 k i) = P (ix2 k i) + ∑ j, dkAt X G Wq KV Wo D (row j) k i :=
  (cols4 _ _ _ _ _ (fun k h e => P (ix2 k (col h e)) + ∑ j, dk X G Wq KV Wo D (row j) h k e)
    (fun k e => (head0 X G Wq KV Wo D row x0 x7 q0 k0 v0 p0 ho o0 k e 0).2.1.trans (congrArg (· + _) (h0 k e)))
    (fun k e => (head1 X G Wq KV Wo D row x0 x7 q1 k1 v1 p1 ho o1 k e 0).2.1.trans (congrArg (· + _) (h1 k e)))
    (fun k e => (head2 X G Wq KV Wo D row x0 x7 q2 k2 v2 p2 ho o2 k e 0).2.1.trans (congrArg (· + _) (h2 k e)))
    (fun k e => (head3 X G Wq KV Wo D row x0 x7 q3 k3 v3 p3 ho o3 k e 0).2.1.trans (congrArg (· + _) (h3 k e))) k i).trans
    (congrArg (fun i' => P (ix2 k i') + _) (col_of i))

/-- The values' gradient, the heads next to each other: what was there and what this step's rows contribute. -/
theorem values (Z) (k : Fin 256) (i : Fin 1024) :
    colSet (φ := .f32) 768 (k0_pay41 (F := Ideal) (k0_pay34 (k0_pay4 x0 x7)) (k0_pay39 p3) (k0_pay40 (k0_pay32 q3) k3) (constant S256x256 .f32 0x00000000#32))
      (colSet (φ := .f32) 512 (k0_pay31 (F := Ideal) (k0_pay25 (k0_pay4 x0 x7)) (k0_pay26 q2 k2) p2)
      (colSet (φ := .f32) 256 (k0_pay21 (F := Ideal) (k0_pay16 (k0_pay4 x0 x7)) (k0_pay17 q1 k1) p1)
      (colSet (φ := .f32) 0 (k0_pay12 (F := Ideal) (k0_pay7 x0 x7) (k0_pay8 q0 k0) p0) Z))) (ix2 k i) = P (ix2 k i) + ∑ j, dvAt X G Wq KV Wo D (row j) k i :=
  (cols4 _ _ _ _ _ (fun k h e => P (ix2 k (col h e)) + ∑ j, dv X G Wq KV Wo D (row j) h k e)
    (fun k e => (head0 X G Wq KV Wo D row x0 x7 q0 k0 v0 p0 ho o0 k e 0).2.2.trans (congrArg (· + _) (h0 k e)))
    (fun k e => (head1 X G Wq KV Wo D row x0 x7 q1 k1 v1 p1 ho o1 k e 0).2.2.trans (congrArg (· + _) (h1 k e)))
    (fun k e => (head2 X G Wq KV Wo D row x0 x7 q2 k2 v2 p2 ho o2 k e 0).2.2.trans (congrArg (· + _) (h2 k e)))
    (fun k e => (head3 X G Wq KV Wo D row x0 x7 q3 k3 v3 p3 ho o3 k e 0).2.2.trans (congrArg (· + _) (h3 k e))) k i).trans
    (congrArg (fun i' => P (ix2 k i') + _) (col_of i))
end Heads

variable (m : (ℓ : Loc nD τ sig) → Buf (Elt Ideal) ℓ)

section Step
variable (X : FVec Ideal S4096x1024 .f32) (G : FVec Ideal S1x1024 .f32) (Wq : FVec Ideal S1024x1024 .f32) (KV : FVec Ideal S256x2048 .f32)
  (Wo : FVec Ideal S1024x1024 .f32) (D : FVec Ideal S4096x1024 .f32) (c : Dev nD) (t : Fin cfg0.N)
  (eX : m ((c : Thread nD τ).loc main_arg0) = X) (eG : m ((c : Thread nD τ).loc main_arg1) = G) (eQ : m ((c : Thread nD τ).loc main_arg2) = Wq)
  (eK : m ((c : Thread nD τ).loc main_arg3) = KV) (eO : m ((c : Thread nD τ).loc main_arg4) = Wo) (eD : m ((c : Thread nD τ).loc main_arg5) = D)

section Norms
variable (z : FVec Ideal S512x1024 .bf16) (hz : ∀ j i, z (ix2 j i) = dqAt X G Wq KV Wo D (at' t j) i)

include eX in
theorem recip (j : Fin 512) : k0_pay43 (F := Ideal) (iblk m c 1 t) (ix2 j 0) = rr X (at' t j) := by
  pointwise [k0_pay43]
  simp only [blk1 m c t X ((V_main_arg0 m c).trans eX)]
  unfold rr Norm.rinv Norm.ms Norm.eps
  rw [Norm.n1024]

include eX in
theorem hat (j : Fin 512) (i : Fin 1024) : k0_pay44 (F := Ideal) (iblk m c 1 t) (ix2 j i) = xh X (at' t j) i := by
  pointwise [k0_pay44]
  rw [recip m X c t eX, blk1 m c t X ((V_main_arg0 m c).trans eX)]
  rfl

include eQ hz in
theorem normed (j : Fin 512) (i : Fin 1024) : k0_pay42 (F := Ideal) z (iblk m c 4 t) (ix2 j i) = dh X G Wq KV Wo D (at' t j) i := by
  pointwise [k0_pay42]
  simp only [hz, blk4 m c t Wq ((entryQ m c).trans eQ)]
  rfl

include eX eG eQ eD hz in
theorem stepDX (y : S512x1024.Idx) : k0_pay45 (F := Ideal) (iblk m c 0 t) z (iblk m c 4 t) (iblk m c 2 t) (iblk m c 1 t) y = dxAt X G Wq KV Wo D (at' t (y 0)) (y 1) := by
  idx_vars y
  pointwise [k0_pay45]
  simp only [recip m X c t eX, hat m X c t eX, normed m X G Wq KV Wo D c t eQ z hz, blk2 m c t G ((V_main_arg1 m c).trans eG), blk0 m c t D ((V_main_arg5 m c).trans eD)]
  unfold dxAt Norm.back
  rw [Norm.n1024]
  rfl

include eX eQ hz in
theorem stepG (y : S1x1024.Idx) : k0_pay46 (F := Ideal) z (iblk m c 4 t) (iblk m c 1 t) y = ∑ j : Fin 512, gain X G Wq KV Wo D (at' t j) (y 1) := by
  idx_vars y
  pointwise [k0_pay46]
  simp only [hat m X c t eX, normed m X G Wq KV Wo D c t eQ z hz]
  rfl

/-- The gain's gradient grows by a step's share. -/
theorem grown (a b : FVec Ideal S1x1024 .f32) (y : S1x1024.Idx) : k0_pay1 (F := Ideal) a b y = b y + a y := by
  pointwise [k0_pay1]
end Norms

include eX eG eQ eK eO eD

theorem step9 (y : S512x1024.Idx) : (outsAt0 m c t.val t.isLt).2.1 y = dqAt X G Wq KV Wo D (at' t (y 0)) (y 1) := by
  idx_vars y
  by_cases h0 : t.val % 8 = 0
  · rw [outsAt0_A m c t h0 h0 (by have : t.val < 8 := lt_of_lt_of_eq t.isLt N_0; omega)]; frame_out
    simp only [canon_col]
    exact queries X G Wq KV Wo D (at' t) _ _ _ _ _ _ _ _ _ _ _ _ _ _ (outs m Wo D c t eO eD)
      (ops m X G Wq KV c t eX eG eQ eK 0 0 rfl _ _ _) (ops m X G Wq KV c t eX eG eQ eK 1 256 rfl _ _ _)
      (ops m X G Wq KV c t eX eG eQ eK 2 512 rfl _ _ _) (ops m X G Wq KV c t eX eG eQ eK 3 768 rfl _ _ _) _ _ _
  · rw [outsAt0_B m c t h0 h0 (by omega)]; frame_out
    simp only [canon_col]
    exact queries X G Wq KV Wo D (at' t) _ _ _ _ _ _ _ _ _ _ _ _ _ _ (outs m Wo D c t eO eD)
      (ops m X G Wq KV c t eX eG eQ eK 0 0 rfl _ _ _) (ops m X G Wq KV c t eX eG eQ eK 1 256 rfl _ _ _)
      (ops m X G Wq KV c t eX eG eQ eK 2 512 rfl _ _ _) (ops m X G Wq KV c t eX eG eQ eK 3 768 rfl _ _ _) _ _ _

theorem step8 (y : S512x1024.Idx) : (outsAt0 m c t.val t.isLt).1 y = dxAt X G Wq KV Wo D (at' t (y 0)) (y 1) := by
  by_cases h0 : t.val % 8 = 0
  · rw [outsAt0_A m c t h0 h0 (by have : t.val < 8 := lt_of_lt_of_eq t.isLt N_0; omega)]; frame_out
    rw [read_all]
    exact stepDX m X G Wq KV Wo D c t eX eG eQ eD _ (fun j i => (ld_all _ _ j i).trans (queries X G Wq KV Wo D (at' t) _ _ _ _ _ _ _ _ _ _ _ _ _ _ (outs m Wo D c t eO eD)
      (ops m X G Wq KV c t eX eG eQ eK 0 0 rfl _ _ _) (ops m X G Wq KV c t eX eG eQ eK 1 256 rfl _ _ _)
      (ops m X G Wq KV c t eX eG eQ eK 2 512 rfl _ _ _) (ops m X G Wq KV c t eX eG eQ eK 3 768 rfl _ _ _) _ _ _)) y
  · rw [outsAt0_B m c t h0 h0 (by omega)]; frame_out
    rw [read_all]
    exact stepDX m X G Wq KV Wo D c t eX eG eQ eD _ (fun j i => (ld_all _ _ j i).trans (queries X G Wq KV Wo D (at' t) _ _ _ _ _ _ _ _ _ _ _ _ _ _ (outs m Wo D c t eO eD)
      (ops m X G Wq KV c t eX eG eQ eK 0 0 rfl _ _ _) (ops m X G Wq KV c t eX eG eQ eK 1 256 rfl _ _ _)
      (ops m X G Wq KV c t eX eG eQ eK 2 512 rfl _ _ _) (ops m X G Wq KV c t eX eG eQ eK 3 768 rfl _ _ _) _ _ _)) y

theorem step12_A (h0 : t.val % 8 = 0) (y : S1x1024.Idx) : (outsAt0 m c t.val t.isLt).2.2.2.2 y = ∑ j : Fin 512, gain X G Wq KV Wo D (at' t j) (y 1) := by
  rw [outsAt0_A m c t h0 h0 (by have : t.val < 8 := lt_of_lt_of_eq t.isLt N_0; omega)]; frame_out
  rw [read_all]
  exact stepG m X G Wq KV Wo D c t eX eQ _ (fun j i => (ld_all _ _ j i).trans (queries X G Wq KV Wo D (at' t) _ _ _ _ _ _ _ _ _ _ _ _ _ _ (outs m Wo D c t eO eD)
      (ops m X G Wq KV c t eX eG eQ eK 0 0 rfl _ _ _) (ops m X G Wq KV c t eX eG eQ eK 1 256 rfl _ _ _)
      (ops m X G Wq KV c t eX eG eQ eK 2 512 rfl _ _ _) (ops m X G Wq KV c t eX eG eQ eK 3 768 rfl _ _ _) _ _ _)) y

theorem step12_B (h0 : ¬t.val % 8 = 0) (y : S1x1024.Idx) : (outsAt0 m c t.val t.isLt).2.2.2.2 y
    = (outsAt0 m c (t.val - 1) (Nat.lt_of_le_of_lt (Nat.sub_le _ _) t.isLt)).2.2.2.2 y + ∑ j : Fin 512, gain X G Wq KV Wo D (at' t j) (y 1) := by
  rw [outsAt0_B m c t h0 h0 (by omega)]; frame_out
  rw [read_all]
  refine (grown _ _ y).trans (congrArg (_ + ·) (stepG m X G Wq KV Wo D c t eX eQ _ (fun j i => (ld_all _ _ j i).trans (queries X G Wq KV Wo D (at' t) _ _ _ _ _ _ _ _ _ _ _ _ _ _ (outs m Wo D c t eO eD)
      (ops m X G Wq KV c t eX eG eQ eK 0 0 rfl _ _ _) (ops m X G Wq KV c t eX eG eQ eK 1 256 rfl _ _ _)
      (ops m X G Wq KV c t eX eG eQ eK 2 512 rfl _ _ _) (ops m X G Wq KV c t eX eG eQ eK 3 768 rfl _ _ _) _ _ _)) y))

theorem step10_A (h0 : t.val % 8 = 0) (y : S256x1024.Idx) : (outsAt0 m c t.val t.isLt).2.2.1 y = ∑ j : Fin 512, dkAt X G Wq KV Wo D (at' t j) (y 0) (y 1) := by
  idx_vars y
  rw [outsAt0_A m c t h0 h0 (by have : t.val < 8 := lt_of_lt_of_eq t.isLt N_0; omega)]; frame_out
  rw [read_canon _ [_] inb_S256x1024_S256x1024_0_0 (k0_pay2 (F := Ideal)) _ (by simp), read_canon _ [_, _] inb_S256x1024_S256x1024_0_0 (k0_pay2 (F := Ideal)) _ (by simp), read_canon _ [_, _, _] inb_S256x1024_S256x1024_0_0 (k0_pay2 (F := Ideal)) _ (by simp), read_canon _ [_, _, _, _] inb_S256x1024_S256x1024_0_0 (k0_pay2 (F := Ideal)) _ (by simp)]
  simp only [canon_col, canon_all]
  have z : ∀ k i, k0_pay2 (F := Ideal) (ix2 k i) = 0 := fun k i => by pointwise [k0_pay2]
  refine (keys X G Wq KV Wo D (at' t) _ _ _ _ _ _ _ _ _ _ _ _ _ _ (outs m Wo D c t eO eD)
      (ops m X G Wq KV c t eX eG eQ eK 0 0 rfl _ _ _) (ops m X G Wq KV c t eX eG eQ eK 1 256 rfl _ _ _)
      (ops m X G Wq KV c t eX eG eQ eK 2 512 rfl _ _ _) (ops m X G Wq KV c t eX eG eQ eK 3 768 rfl _ _ _) _ _ _ _ (k0_pay2 (F := Ideal))
      (fun k e => ld_head 0 0 rfl _ _ k e) (fun k e => fresh1 _ _ k e _) (fun k e => fresh2 _ _ _ k e _) (fun k e => fresh3 _ _ _ _ k e _) _ _ _).trans ?_
  rw [z, zero_add]

theorem step10_B (h0 : ¬t.val % 8 = 0) (y : S256x1024.Idx) : (outsAt0 m c t.val t.isLt).2.2.1 y
    = (outsAt0 m c (t.val - 1) (Nat.lt_of_le_of_lt (Nat.sub_le _ _) t.isLt)).2.2.1 y + ∑ j : Fin 512, dkAt X G Wq KV Wo D (at' t j) (y 0) (y 1) := by
  idx_vars y
  rw [outsAt0_B m c t h0 h0 (by omega)]; frame_out
  simp only [canon_col]
  exact keys X G Wq KV Wo D (at' t) _ _ _ _ _ _ _ _ _ _ _ _ _ _ (outs m Wo D c t eO eD)
      (ops m X G Wq KV c t eX eG eQ eK 0 0 rfl _ _ _) (ops m X G Wq KV c t eX eG eQ eK 1 256 rfl _ _ _)
      (ops m X G Wq KV c t eX eG eQ eK 2 512 rfl _ _ _) (ops m X G Wq KV c t eX eG eQ eK 3 768 rfl _ _ _) _ _ _ _ _
      (fun k e => ld_head 0 0 rfl _ _ k e) (fun k e => ld_head 256 1 rfl _ _ k e) (fun k e => ld_head 512 2 rfl _ _ k e) (fun k e => ld_head 768 3 rfl _ _ k e) _ _ _

theorem step11_A (h0 : t.val % 8 = 0) (y : S256x1024.Idx) : (outsAt0 m c t.val t.isLt).2.2.2.1 y = ∑ j : Fin 512, dvAt X G Wq KV Wo D (at' t j) (y 0) (y 1) := by
  idx_vars y
  rw [outsAt0_A m c t h0 h0 (by have : t.val < 8 := lt_of_lt_of_eq t.isLt N_0; omega)]; frame_out
  rw [read_canon _ [_] inb_S256x1024_S256x1024_0_0 (k0_pay3 (F := Ideal)) _ (by simp), read_canon _ [_, _] inb_S256x1024_S256x1024_0_0 (k0_pay3 (F := Ideal)) _ (by simp), read_canon _ [_, _, _] inb_S256x1024_S256x1024_0_0 (k0_pay3 (F := Ideal)) _ (by simp), read_canon _ [_, _, _, _] inb_S256x1024_S256x1024_0_0 (k0_pay3 (F := Ideal)) _ (by simp)]
  simp only [canon_col, canon_all]
  have z : ∀ k i, k0_pay3 (F := Ideal) (ix2 k i) = 0 := fun k i => by pointwise [k0_pay3]
  refine (values X G Wq KV Wo D (at' t) _ _ _ _ _ _ _ _ _ _ _ _ _ _ (outs m Wo D c t eO eD)
      (ops m X G Wq KV c t eX eG eQ eK 0 0 rfl _ _ inb_S256x1024_S256x256_0_0) (ops m X G Wq KV c t eX eG eQ eK 1 256 rfl _ _ inb_S256x1024_S256x256_0_256)
      (ops m X G Wq KV c t eX eG eQ eK 2 512 rfl _ _ inb_S256x1024_S256x256_0_512) (ops m X G Wq KV c t eX eG eQ eK 3 768 rfl _ _ inb_S256x1024_S256x256_0_768) _ _ _ _ (k0_pay3 (F := Ideal))
      (fun k e => ld_head 0 0 rfl _ _ k e) (fun k e => fresh1 _ _ k e _) (fun k e => fresh2 _ _ _ k e _) (fun k e => fresh3 _ _ _ _ k e _) _ _ _).trans ?_
  rw [z, zero_add]

theorem step11_B (h0 : ¬t.val % 8 = 0) (y : S256x1024.Idx) : (outsAt0 m c t.val t.isLt).2.2.2.1 y
    = (outsAt0 m c (t.val - 1) (Nat.lt_of_le_of_lt (Nat.sub_le _ _) t.isLt)).2.2.2.1 y + ∑ j : Fin 512, dvAt X G Wq KV Wo D (at' t j) (y 0) (y 1) := by
  idx_vars y
  rw [outsAt0_B m c t h0 h0 (by omega)]; frame_out
  simp only [canon_col]
  exact values X G Wq KV Wo D (at' t) _ _ _ _ _ _ _ _ _ _ _ _ _ _ (outs m Wo D c t eO eD)
      (ops m X G Wq KV c t eX eG eQ eK 0 0 rfl _ _ inb_S256x1024_S256x256_0_0) (ops m X G Wq KV c t eX eG eQ eK 1 256 rfl _ _ inb_S256x1024_S256x256_0_256)
      (ops m X G Wq KV c t eX eG eQ eK 2 512 rfl _ _ inb_S256x1024_S256x256_0_512) (ops m X G Wq KV c t eX eG eQ eK 3 768 rfl _ _ inb_S256x1024_S256x256_0_768) _ _ _ _ _
      (fun k e => ld_head 0 0 rfl _ _ k e) (fun k e => ld_head 256 1 rfl _ _ k e) (fun k e => ld_head 512 2 rfl _ _ k e) (fun k e => ld_head 768 3 rfl _ _ k e) _ _ _
end Step
end Cert.Xattn
end
-- ==== Proof.XattnRef.lean ====
/- The memory attention's gradient: what its reference computes, for finite scores. -/
module

public import proofs.«01_k».proof.Proof.XattnStep
public import proofs.«01_k».proof.Proof.Gen.Reference6Ideal.Read

@[expose] public section

set_option maxRecDepth 16384

noncomputable section

open Idealize.ShloMosaic Idealize.ShloMosaic.TcCoe Idealize.SL.Sem

namespace Cert.Xattn
open Cert.Cols Cert.Reference6Ideal Cert.Reference6Ideal.Read Idealize.ShloMosaic.StableHlo

section Values
variable (X : FVec Ideal S4096x1024 .f32) (G : FVec Ideal S1x1024 .f32) (Wq : FVec Ideal S1024x1024 .f32) (KV : FVec Ideal S256x2048 .f32)
  (Wo : FVec Ideal S1024x1024 .f32) (D : FVec Ideal S4096x1024 .f32)

/-- The maximum over the keys. -/
theorem max_last (v : FVec Ideal S4x4096x256 .f32) (c : FVec Ideal S_ .f32) (h : Fin 4) (n : Fin 4096) :
    Host.reduce FloatOps.maximumf v c Gen.reducesTo_S4x4096x256_S4x4096_d2 Gen.h_S_ (ix2 h n)
      = Finset.fold max (c (Shape.Idx.first Gen.h_S_)) (fun k : Fin 256 => v (ix3 h n k)) Finset.univ := by
  rw [Host.reduce_eq_fold_single FloatOps.maximumf v c _ (by decide) _]
  exact congrArg (fun f => Finset.fold max (c (Shape.Idx.first Gen.h_S_)) f (Finset.univ : Finset (Fin 256)))
    (funext fun k => congrArg v (funext fun a => Fin.ext (by match a with | ⟨0, _⟩ => rfl | ⟨1, _⟩ => rfl | ⟨2, _⟩ => rfl)))

theorem head_col (h : Fin 4) (e : Fin 256) (p) : (⟨(h : ℕ) * 256 + e, p⟩ : Fin 1024) = col h e := Fin.ext (by show (h : ℕ) * 256 + e = 256 * h + e; omega)

theorem ref_q (n : Fin 4096) (j : Fin 1024) : val_main_v15 (F := Ideal) X G Wq (ix2 n j) = qq X G Wq n j := by
  pointwise [val_main_v15, val_main_v14, val_main_v13, val_main_v12, val_main_v11, val_main_v7, val_main_v6, val_main_v5, val_main_cst_1, val_main_v4, val_main_v3, val_main_cst_0, val_main_v2, val_main_v1, val_main_cst, val_main_v0]
  unfold qq xh rr Norm.rinv Norm.ms Norm.eps
  rw [← Norm.n1024]

theorem ref_qh (n : Fin 4096) (h : Fin 4) (e : Fin 256) : val_main_v18 (F := Ideal) X G Wq (ix3 n h e) = qq X G Wq n (col h e) := by
  pointwise [val_main_v18]
  rw [ref_q, head_col]

theorem ref_k (h : Fin 4) (k e : Fin 256) : val_main_v19 (F := Ideal) KV (ix3 k h e) = KV (ix2 k (key (col h e))) := by
  pointwise [val_main_v19, val_main_v16]
  exact congrArg (fun i => KV (ix2 k i)) (Fin.ext (by show (h : ℕ) * 256 + e = 256 * h + e; omega))

theorem ref_v (h : Fin 4) (k e : Fin 256) : val_main_v20 (F := Ideal) KV (ix3 k h e) = KV (ix2 k (val (col h e))) := by
  pointwise [val_main_v20, val_main_v17]
  exact congrArg (fun i => KV (ix2 k i)) (Fin.ext (by show 1024 + ((h : ℕ) * 256 + e) = 1024 + (256 * h + e); omega))

/-- A sixteenth, divided or multiplied by. -/
theorem sixteenth (z : EReal) : Ideal.div z (Ideal.ofBits .f32 0x41800000#32) = z * scale := by
  have a : Ideal.ofBits .f32 0x41800000#32 = ((16 : ℝ) : EReal) := by simp [Ideal.ofBits, Ideal.ieee, -EReal.coe_mul]; norm_num
  have b : scale = (((16 : ℝ)⁻¹ : ℝ) : EReal) := by unfold scale; simp [Ideal.ofBits, Ideal.ieee, -EReal.coe_mul]; norm_num
  rw [a, b, Norm.div_coe _ _ (by norm_num)]

theorem ref_s (n : Fin 4096) (h : Fin 4) (k : Fin 256) : val_main_v23 (F := Ideal) X G Wq KV (ix3 h n k) = sc X G Wq KV n h k := by
  pointwise [val_main_v23, val_main_v21, val_main_v22, val_main_cst_3]
  simp only [ref_qh, ref_k]
  rw [sixteenth]
  rfl

theorem ref_top (n : Fin 4096) (h : Fin 4) : val_main_v31 (F := Ideal) X G Wq KV (ix2 h n) = Soft.top (K := 255) (sc X G Wq KV n h) := by
  rw [val_main_v31_apply]
  unfold val_main_v24
  rw [max_last]
  pointwise [val_main_v30, val_main_cst_6, val_main_cst_4]
  simp only [ref_s]
  refine max_eq_right ?_
  rw [show Ideal.ofBits .f32 0xFF800000#32 = (⊥ : EReal) by simp [Ideal.ofBits, Ideal.ieee]]
  exact bot_le

theorem ref_e (n : Fin 4096) (h : Fin 4) (k : Fin 256) : val_main_v44 (F := Ideal) X G Wq KV (ix3 h n k) = Soft.weight (K := 255) (sc X G Wq KV n h) k := by
  pointwise [val_main_v44, val_main_v43, val_main_v42, val_main_v41]
  rw [ref_top, ref_s]
  rfl

theorem ref_z (n : Fin 4096) (h : Fin 4) : val_main_v45 (F := Ideal) X G Wq KV (ix2 h n) = Soft.total (K := 255) (sc X G Wq KV n h) := by
  pointwise [val_main_v45, val_main_cst_12]
  simp only [ref_e]
  rfl

theorem ref_p (n : Fin 4096) (h : Fin 4) (k : Fin 256) : val_main_v48 (F := Ideal) X G Wq KV (ix3 h n k) = pr X G Wq KV n h k := by
  pointwise [val_main_v48, val_main_v47, val_main_v46]
  rw [ref_e, ref_z]
  rfl

theorem ref_do (n : Fin 4096) (h : Fin 4) (e : Fin 256) : val_main_v58 (F := Ideal) Wo D (ix3 h e n) = dO Wo D n (col h e) := by
  pointwise [val_main_v58, val_main_v57, val_main_v56]
  rw [head_col]
  rfl

theorem ref_dp (n : Fin 4096) (h : Fin 4) (k : Fin 256) : val_main_v59 (F := Ideal) KV Wo D (ix3 h n k) = dp KV Wo D n h k := by
  pointwise [val_main_v59]
  simp only [ref_do, ref_v]
  rfl

section Finite
variable (hG : ∀ i, Soft.Fin' (G (ix2 0 i))) (hQ : ∀ i j, Soft.Fin' (Wq (ix2 i j))) (hK : ∀ k i, Soft.Fin' (KV (ix2 k (key i))))

include hG hQ hK in
/-- The scores are finite. -/
theorem fin_sc (n : Fin 4096) (h : Fin 4) (k : Fin 256) : Soft.Fin' (sc X G Wq KV n h k) := by
  unfold sc
  refine Soft.fin_mul (Soft.fin_sum _ _ fun e => Soft.fin_mul (Soft.fin_sum _ _ fun i => Soft.fin_mul (Soft.fin_mul ?_ (hG i)) (hQ i _)) (hK k _)) ⟨1 / 16, ?_⟩
  · exact Soft.fin_hat (fun k => X (ix2 n k)) 1024 (by norm_num) i
  · unfold scale; simp [Ideal.ofBits, Ideal.ieee, -EReal.coe_mul]; norm_num

include hG hQ hK in
theorem ref_ds (n : Fin 4096) (h : Fin 4) (k : Fin 256) : val_main_v75 (F := Ideal) X G Wq KV Wo D (ix3 h n k) = ds X G Wq KV Wo D n h k := by
  pointwise [val_main_v75, val_main_v74, val_main_cst_16, val_main_v73, val_main_v72, val_main_v71, val_main_v70, val_main_cst_15, val_main_v69, val_main_v68, val_main_v67, val_main_v66, val_main_v65, val_main_cst_14,
    val_main_v64, val_main_v63, val_main_v62, val_main_v51, val_main_v50, val_main_cst_13, val_main_v49, val_main_v46]
  simp only [ref_e, ref_z, ref_dp, sixteenth, Finset.univ_unique, Finset.sum_singleton]
  exact congrArg (· * scale) (Soft.chain_eq (K := 255) (sc X G Wq KV n h) (dp KV Wo D n h) (fun k => fin_sc X G Wq KV hG hQ hK n h k) k)

include hG hQ hK in
/-- The queries' gradient. -/
theorem ref_dq (n : Fin 4096) (i : Fin 1024) : val_main_v82 (F := Ideal) X G Wq KV Wo D (ix2 n i) = dqAt X G Wq KV Wo D n i := by
  pointwise [val_main_v82, val_main_v79, val_main_v78]
  simp only [ref_k]
  simp only [ref_ds X G Wq KV Wo D hG hQ hK]
  rfl

include hG hQ hK in
theorem ref_dk (k : Fin 256) (i : Fin 1024) : val_main_v81 (F := Ideal) X G Wq KV Wo D (ix2 k i) = ∑ n, dkAt X G Wq KV Wo D n k i := by
  pointwise [val_main_v81, val_main_v77, val_main_v76]
  simp only [ref_ds X G Wq KV Wo D hG hQ hK, ref_qh]
  rfl

theorem ref_dv (k : Fin 256) (i : Fin 1024) : val_main_v80 (F := Ideal) X G Wq KV Wo D (ix2 k i) = ∑ n, dvAt X G Wq KV Wo D n k i := by
  pointwise [val_main_v80, val_main_v61, val_main_v60]
  simp only [ref_do, ref_p]
  exact Finset.sum_congr rfl fun _ _ => mul_comm _ _

include hG hQ hK in
/-- The gradient of the normed rows. -/
theorem ref_dh (n : Fin 4096) (i : Fin 1024) : val_main_v83 (F := Ideal) X G Wq KV Wo D (ix2 n i) = dh X G Wq KV Wo D n i := by
  pointwise [val_main_v83]
  simp only [ref_dq X G Wq KV Wo D hG hQ hK]
  rfl

include hG hQ hK in
theorem ref_g (i : Fin 1024) : val_main_v86 (F := Ideal) X G Wq KV Wo D (ix2 0 i) = ∑ n, gain X G Wq KV Wo D n i := by
  pointwise [val_main_v86, val_main_v85, val_main_cst_17, val_main_v84, val_main_v12, val_main_v11, val_main_v7, val_main_v6, val_main_v5, val_main_cst_1, val_main_v4, val_main_v3, val_main_cst_0, val_main_v2, val_main_v1, val_main_cst, val_main_v0]
  simp only [ref_dh X G Wq KV Wo D hG hQ hK]
  refine Finset.sum_congr rfl fun n _ => ?_
  unfold gain xh rr Norm.rinv Norm.ms Norm.eps
  rw [← Norm.n1024, mul_comm]

include hG hQ hK in
theorem ref_dx (n : Fin 4096) (i : Fin 1024) : val_main_v103 (F := Ideal) X G Wq KV Wo D (ix2 n i) = dxAt X G Wq KV Wo D n i := by
  pointwise [val_main_v103, val_main_v102, val_main_v101, val_main_v100, val_main_v99, val_main_v98, val_main_cst_20, val_main_v97, val_main_v96, val_main_cst_19, val_main_v95, val_main_v94, val_main_v93, val_main_v92, val_main_v91, val_main_v90, val_main_cst_18, val_main_v89, val_main_v88, val_main_v87,
    val_main_v10, val_main_v9, val_main_cst_2, val_main_v8, val_main_v7, val_main_v6, val_main_v5, val_main_cst_1, val_main_v4, val_main_v3, val_main_cst_0, val_main_v2, val_main_v1, val_main_cst, val_main_v0]
  simp only [ref_dh X G Wq KV Wo D hG hQ hK]
  unfold dxAt
  rw [Norm.back_eq _ _ _ (by norm_num), ← add_assoc, ← add_assoc]
  unfold Norm.chain Norm.rinv Norm.ms Norm.eps
  rw [← Norm.n1024, ← Norm.half_neg]
  simp only [Finset.univ_unique, Finset.sum_singleton]
end Finite
end Values
end Cert.Xattn
end
-- ==== Proof.Xattn.lean ====
/- The memory attention's gradient (`_xattn_bwd`): what the kernel leaves is the reference's gradients. -/
module

public import proofs.«01_k».proof.Proof.XattnRef
public import proofs.«01_k».proof.Proof.Gen.Reference6Ideal.Run
public import proofs.«01_k».proof.Proof.Gen.Pre_pre6

@[expose] public section

set_option maxRecDepth 16384

noncomputable section

open Idealize.ShloMosaic Idealize.ShloMosaic.TcCoe Idealize.SL.Sem
open Idealize.ShloMosaic.Pipeline (Dat)

namespace Cert.Xattn
open Cert.Cols Cert.Kernel6Ideal Cert.Kernel6Ideal.Gen Idealize.ShloMosaic.StableHlo

/-- The precondition: the gain, the query weight and the keys are finite. -/
theorem pre_fin (a0 a1 a2 a3 a4 a5) (e : Cert.Pre_pre6.fn (F := Ideal) a0 a1 a2 a3 a4 a5 = fun _ => 1#1) :
    (∀ i, Soft.Fin' (a1 (ix2 0 i))) ∧ (∀ i j, Soft.Fin' (a2 (ix2 i j))) ∧ ∀ k i, Soft.Fin' (a3 (ix2 k (key i))) := by
  have e0 := congrFun e (Shape.Idx.first Cert.Pre_pre6.Gen.h_S_)
  unfold Cert.Pre_pre6.fn at e0
  obtain ⟨e12, e3⟩ := IntOp.andi_eq_one.1 e0
  obtain ⟨e1, e2⟩ := IntOp.andi_eq_one.1 e12
  have : Subsingleton Cert.Pre_pre6.S_.Idx := ⟨fun a b => funext fun k => k.elim0⟩
  refine ⟨fun i => Soft.fin_of_test _ (Host.reduce_andi_all _ _ _ _ _ e1 _), fun i j => Soft.fin_of_test _ (Host.reduce_andi_all _ _ _ _ _ e2 _), fun k i => ?_⟩
  refine Eq.mp (congrArg Soft.Fin' ?_) (Soft.fin_of_test _ (Host.reduce_andi_all _ _ _ _ _ e3 (ix2 k i)))
  exact extractStridedSlice_apply ![0, 0] a3 _ (ix2 k i) (ix2 k (key i)) (fun a => match a with
    | ⟨0, _⟩ => by show (k : ℕ) = 0 + k; omega
    | ⟨1, _⟩ => by show (i : ℕ) = 0 + i; omega)

section Arrays
variable (X : FVec Ideal S4096x1024 .f32) (G : FVec Ideal S1x1024 .f32) (Wq : FVec Ideal S1024x1024 .f32) (KV : FVec Ideal S256x2048 .f32)
  (Wo : FVec Ideal S1024x1024 .f32) (D : FVec Ideal S4096x1024 .f32)

/-- The gradient of the rows. -/
def DX : FVec Ideal S4096x1024 .f32 := fun i => dxAt X G Wq KV Wo D (i 0) (i 1)
/-- The queries' gradient. -/
def DQ : FVec Ideal S4096x1024 .bf16 := fun i => dqAt X G Wq KV Wo D (i 0) (i 1)
/-- The keys' gradient. -/
def DK : FVec Ideal S256x1024 .f32 := fun i => ∑ n : Fin 4096, dkAt X G Wq KV Wo D n (i 0) (i 1)
/-- The values' gradient. -/
def DV : FVec Ideal S256x1024 .f32 := fun i => ∑ n : Fin 4096, dvAt X G Wq KV Wo D n (i 0) (i 1)
/-- The gain's gradient. -/
def DG : FVec Ideal S1x1024 .f32 := fun i => ∑ n : Fin 4096, gain X G Wq KV Wo D n (i 1)
end Arrays

section Final
variable (m : (ℓ : Loc nD τ sig) → Buf (Elt Ideal) ℓ) (c : Dev nD)
  (X : FVec Ideal S4096x1024 .f32) (G : FVec Ideal S1x1024 .f32) (Wq : FVec Ideal S1024x1024 .f32) (KV : FVec Ideal S256x2048 .f32)
  (Wo : FVec Ideal S1024x1024 .f32) (D : FVec Ideal S4096x1024 .f32)
  (eX : m ((c : Thread nD τ).loc main_arg0) = X) (eG : m ((c : Thread nD τ).loc main_arg1) = G) (eQ : m ((c : Thread nD τ).loc main_arg2) = Wq)
  (eK : m ((c : Thread nD τ).loc main_arg3) = KV) (eO : m ((c : Thread nD τ).loc main_arg4) = Wo) (eD : m ((c : Thread nD τ).loc main_arg5) = D)
include eX eG eQ eK eO eD

theorem final8 : (dats m 0 c).arrAt 8 (cfgs 0).N = DX X G Wq KV Wo D := by
  refine (dats m 0 c).arrAt_eq_of_covers 8 _ (by decide +kernel) fun t _ y => ?_
  blk_simp
  rw [after0_8, step8 m _ _ _ _ _ _ c t eX eG eQ eK eO eD]
  have e := (blockOf t).2.2.2.2.2.2.2.2.1
  refine Eq.trans (show _ = DX X G Wq KV Wo D (ix2 (at' t (y 0)) (y 1)) from rfl) (congrArg (DX X G Wq KV Wo D) ?_)
  unfold at'
  blk_ext [e]

theorem final9 : (dats m 0 c).arrAt 9 (cfgs 0).N = DQ X G Wq KV Wo D := by
  refine (dats m 0 c).arrAt_eq_of_covers 9 _ (by decide +kernel) fun t _ y => ?_
  blk_simp
  rw [after0_9, step9 m _ _ _ _ _ _ c t eX eG eQ eK eO eD]
  have e := (blockOf t).2.2.2.2.2.2.2.2.2.1
  refine Eq.trans (show _ = DQ X G Wq KV Wo D (ix2 (at' t (y 0)) (y 1)) from rfl) (congrArg (DQ X G Wq KV Wo D) ?_)
  unfold at'
  blk_ext [e]

theorem final10 : (dats m 0 c).arrAt 10 (cfgs 0).N = DK X G Wq KV Wo D := by
  refine (dats m 0 c).arrAt_eq_of_after_last 10 t0_7 (by decide +kernel) _ fun j => ?_
  blk_simp
  rw [after0_10]
  refine (Pipeline.eq_sum_fin_of_reset_step_apply_last (fun n h => (outsAt0 m c n h).2.2.1) 8 (fun _ => 0)
    (fun t y => ∑ j : Fin 512, Norm.rowOf (fun n => dkAt X G Wq KV Wo D n (y 0) (y 1)) (t * 512 + j))
    (fun t h y => ?_) (fun t h y => ?_) (le_of_eq N_0) t0_7 rfl j).trans ?_
  · rw [zero_add, step10_A m _ _ _ _ _ _ c t eX eG eQ eK eO eD h]
    exact Finset.sum_congr rfl fun j _ => Norm.rowOf_at (fun n => dkAt X G Wq KV Wo D n (y 0) (y 1)) _ (at' t j).isLt
  · rw [step10_B m _ _ _ _ _ _ c t eX eG eQ eK eO eD h]
    exact congrArg (_ + ·) (Finset.sum_congr rfl fun j _ => Norm.rowOf_at (fun n => dkAt X G Wq KV Wo D n (y 0) (y 1)) _ (at' t j).isLt)
  · rw [zero_add]
    exact Norm.sum_rows 8 512 rfl _

theorem final11 : (dats m 0 c).arrAt 11 (cfgs 0).N = DV X G Wq KV Wo D := by
  refine (dats m 0 c).arrAt_eq_of_after_last 11 t0_7 (by decide +kernel) _ fun j => ?_
  blk_simp
  rw [after0_11]
  refine (Pipeline.eq_sum_fin_of_reset_step_apply_last (fun n h => (outsAt0 m c n h).2.2.2.1) 8 (fun _ => 0)
    (fun t y => ∑ j : Fin 512, Norm.rowOf (fun n => dvAt X G Wq KV Wo D n (y 0) (y 1)) (t * 512 + j))
    (fun t h y => ?_) (fun t h y => ?_) (le_of_eq N_0) t0_7 rfl j).trans ?_
  · rw [zero_add, step11_A m _ _ _ _ _ _ c t eX eG eQ eK eO eD h]
    exact Finset.sum_congr rfl fun j _ => Norm.rowOf_at (fun n => dvAt X G Wq KV Wo D n (y 0) (y 1)) _ (at' t j).isLt
  · rw [step11_B m _ _ _ _ _ _ c t eX eG eQ eK eO eD h]
    exact congrArg (_ + ·) (Finset.sum_congr rfl fun j _ => Norm.rowOf_at (fun n => dvAt X G Wq KV Wo D n (y 0) (y 1)) _ (at' t j).isLt)
  · rw [zero_add]
    exact Norm.sum_rows 8 512 rfl _

theorem final12 : (dats m 0 c).arrAt 12 (cfgs 0).N = DG X G Wq KV Wo D := by
  refine (dats m 0 c).arrAt_eq_of_after_last 12 t0_7 (by decide +kernel) _ fun j => ?_
  blk_simp
  rw [after0_12]
  refine (Pipeline.eq_sum_fin_of_reset_step_apply_last (fun n h => (outsAt0 m c n h).2.2.2.2) 8 (fun _ => 0)
    (fun t y => ∑ j : Fin 512, Norm.rowOf (fun n => gain X G Wq KV Wo D n (y 1)) (t * 512 + j))
    (fun t h y => ?_) (fun t h y => ?_) (le_of_eq N_0) t0_7 rfl j).trans ?_
  · rw [zero_add, step12_A m _ _ _ _ _ _ c t eX eG eQ eK eO eD h]
    exact Finset.sum_congr rfl fun j _ => Norm.rowOf_at (fun n => gain X G Wq KV Wo D n (y 1)) _ (at' t j).isLt
  · rw [step12_B m _ _ _ _ _ _ c t eX eG eQ eK eO eD h]
    exact congrArg (_ + ·) (Finset.sum_congr rfl fun j _ => Norm.rowOf_at (fun n => gain X G Wq KV Wo D n (y 1)) _ (at' t j).isLt)
  · rw [zero_add]
    exact Norm.sum_rows 8 512 rfl _
end Final

section Reference
variable (X : FVec Ideal S4096x1024 .f32) (G : FVec Ideal S1x1024 .f32) (Wq : FVec Ideal S1024x1024 .f32) (KV : FVec Ideal S256x2048 .f32)
  (Wo : FVec Ideal S1024x1024 .f32) (D : FVec Ideal S4096x1024 .f32)
  (hG : ∀ i, Soft.Fin' (G (ix2 0 i))) (hQ : ∀ i j, Soft.Fin' (Wq (ix2 i j))) (hK : ∀ k i, Soft.Fin' (KV (ix2 k (key i))))
include hG hQ hK
open Cert.Reference6Ideal.Read

/-- The reference's arrays. -/
theorem refs : val_main_v103 (F := Ideal) X G Wq KV Wo D = DX X G Wq KV Wo D ∧ val_main_v104 (F := Ideal) X G Wq KV Wo D = DQ X G Wq KV Wo D
    ∧ val_main_v81 (F := Ideal) X G Wq KV Wo D = DK X G Wq KV Wo D ∧ val_main_v80 (F := Ideal) X G Wq KV Wo D = DV X G Wq KV Wo D
    ∧ val_main_v86 (F := Ideal) X G Wq KV Wo D = DG X G Wq KV Wo D := by
  refine ⟨?_, ?_, ?_, ?_, ?_⟩ <;> funext i <;> idx_vars i
  · exact ref_dx X G Wq KV Wo D hG hQ hK i0 i1
  · pointwise [val_main_v104]
    exact ref_dq X G Wq KV Wo D hG hQ hK i0 i1
  · exact ref_dk X G Wq KV Wo D hG hQ hK i0 i1
  · exact ref_dv X G Wq KV Wo D i0 i1
  · obtain rfl : i0 = 0 := Subsingleton.elim _ _
    exact ref_g X G Wq KV Wo D hG hQ hK i1
end Reference

/-- The kernel's arrays are the reference's, the gain, the query weight and the keys being finite. -/
theorem result : Cert.algebraic_Kernel6Ideal_Reference6Ideal_pre_pre6 (hKernel6Ideal := Cert.Kernel6Ideal.Gen.facts) (hReference6Ideal := Cert.Reference6Ideal.Gen.facts) (hPre_pre6 := Cert.Pre_pre6.Gen.facts) := by
  intro m g m' g' hp hagree
  refine ⟨fun c => DX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    fun c => DQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    fun c => DK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    fun c => DV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    fun c => DG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), ?_, ?_⟩
  · exact θ_run_mono (Cert.Kernel6Ideal.Value.run_blocks m g) fun r h c =>
      ⟨(h c).1.trans (final8 m c _ _ _ _ _ _ rfl rfl rfl rfl rfl rfl), (h c).2.1.trans (final9 m c _ _ _ _ _ _ rfl rfl rfl rfl rfl rfl),
        (h c).2.2.1.trans (final10 m c _ _ _ _ _ _ rfl rfl rfl rfl rfl rfl), (h c).2.2.2.1.trans (final11 m c _ _ _ _ _ _ rfl rfl rfl rfl rfl rfl),
        (h c).2.2.2.2.1.trans (final12 m c _ _ _ _ _ _ rfl rfl rfl rfl rfl rfl), (h c).2.2.2.2.2⟩
  · exact θ_run_mono (Cert.Reference6Ideal.Value.run m' g') fun r h c => by
      obtain ⟨a0, a1, a2, a3, a4, a5⟩ := hagree c
      obtain ⟨h0, h1, h2, h3, h4, hk⟩ := h c
      obtain ⟨hG, hQ, hK⟩ := pre_fin _ _ _ _ _ _ (hp c)
      obtain ⟨r0, r1, r2, r3, r4⟩ := refs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) hG hQ hK
      refine ⟨h0.trans ?_, h1.trans ?_, h2.trans ?_, h3.trans ?_, h4.trans ?_, hk⟩
      · rw [Cert.Reference6Ideal.Read.val_main_v103_eq, a0, a1, a2, a3, a4, a5]; exact r0
      · rw [Cert.Reference6Ideal.Read.val_main_v104_eq, a0, a1, a2, a3, a4, a5]; exact r1
      · rw [Cert.Reference6Ideal.Read.val_main_v81_eq, a0, a1, a2, a3, a4, a5]; exact r2
      · rw [Cert.Reference6Ideal.Read.val_main_v80_eq, a0, a1, a2, a3, a4, a5]; exact r3
      · rw [Cert.Reference6Ideal.Read.val_main_v86_eq, a0, a1, a2, a3, a4, a5]; exact r4
end Cert.Xattn
end
-- ==== Proof.MixBlk.lean ====
/- The mixer's gradient (`_mixer_bwd`): what the host hands the kernel, and which rows each block holds. -/
module

public import proofs.«01_k».proof.Proof.Gen.Kernel7Ideal.Frame
public import proofs.«01_k».proof.Proof.Gen.Reference7Ideal.Read
public import proofs.«01_k».proof.Proof.ConvSpec
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Mix
open Cert.Kernel7Ideal Cert.Kernel7Ideal.Gen Idealize.ShloMosaic.StableHlo

/-- Where each window's block sits. -/
theorem blockOf : ∀ t : Fin cfg0.N, win0_0.index t = ![t.val / 4, 0, t.val % 4, 0] ∧ win0_1.index t = ![t.val / 4, 0, t.val % 4, 0]
    ∧ win0_2.index t = ![t.val / 4, 0, t.val % 4, 0] ∧ win0_3.index t = ![t.val / 4, 0, t.val % 4, 0] ∧ win0_4.index t = ![(t.val - 1) / 4, 7, (t.val - 1) % 4 * 2 + 1, 0]
    ∧ win0_5.index t = ![0, 0] ∧ win0_6.index t = ![0, 0] ∧ win0_7.index t = ![0, 0] ∧ win0_8.index t = ![0, 0] ∧ win0_9.index t = ![1, 0] ∧ win0_10.index t = ![0, 0]
    ∧ win0_11.index t = ![t.val / 4, 0, t.val % 4, 0] ∧ win0_12.index t = ![t.val / 4, 0, t.val % 4, 0] ∧ win0_13.index t = ![t.val / 4, 0, t.val % 4, 0]
    ∧ (grid0.coords t 0 : ℕ) = t.val :=
  (by decide +kernel : ∀ t : Fin grid0.N, _)

/-- Row `(b, r, j)` of an array regrouped by residue is position `2048 b + 16 j + r`. -/
def pos (b : Fin 2) (r : Fin 16) (j : Fin 128) : Fin 4096 := ⟨2048 * (b : ℕ) + 16 * (j : ℕ) + (r : ℕ), by omega⟩
/-- Row `(r, j)` of step `t`'s block is position `512 t + 16 j + r`. -/
def at' (t : Fin cfg0.N) (r : Fin 16) (j : Fin 32) : Fin 4096 := ⟨512 * (t : ℕ) + 16 * (j : ℕ) + (r : ℕ), by have : t.val < 8 := lt_of_lt_of_eq t.isLt N_0; omega⟩

section Entry
variable (m : (ℓ : Loc nD τ sig) → Buf (Elt Ideal) ℓ) (c : Dev nD)

/-- The host lines before the kernel, one after the other. -/
theorem entry76 : V m c main_v76 = fun i : S2x16x128x1024.Idx => m ((c : Thread nD τ).loc main_arg6) (ix2 (pos (i 0) (i 1) (i 2)) (i 3)) := by
  simp only [V, V0, hostOps0, hostOps0_1, hostOps0_2, hostOps0_3, hostOps0_4, List.flatten_cons, List.flatten_nil, List.append_nil, List.cons_append, List.nil_append]
  after_results
  funext i
  pointwise []
  unfold pos
  blk_ext

theorem entry78 : V m c main_v78 = fun i : S2x16x128x512.Idx => m ((c : Thread nD τ).loc main_arg0) (ix2 (pos (i 0) (i 1) (i 2)) (i 3)) := by
  simp only [V, V0, hostOps0, hostOps0_1, hostOps0_2, hostOps0_3, hostOps0_4, List.flatten_cons, List.flatten_nil, List.append_nil, List.cons_append, List.nil_append]
  after_results
  funext i
  pointwise []
  unfold pos
  blk_ext

theorem entry79 : V m c main_v79 = fun i : S2x16x128x1536.Idx => m ((c : Thread nD τ).loc main_arg1) (ix2 (pos (i 0) (i 1) (i 2)) (i 3)) := by
  simp only [V, V0, hostOps0, hostOps0_1, hostOps0_2, hostOps0_3, hostOps0_4, List.flatten_cons, List.flatten_nil, List.append_nil, List.cons_append, List.nil_append]
  after_results
  funext i
  pointwise []
  unfold pos
  blk_ext

theorem entry80 : V m c main_v80 = fun i : S2x16x128x1536.Idx => m ((c : Thread nD τ).loc main_arg1) (ix2 (pos (i 0) (i 1) (i 2)) (i 3)) := by
  simp only [V, V0, hostOps0, hostOps0_1, hostOps0_2, hostOps0_3, hostOps0_4, List.flatten_cons, List.flatten_nil, List.append_nil, List.cons_append, List.nil_append]
  after_results
  funext i
  pointwise []
  unfold pos
  blk_ext

theorem entry68 : V m c main_v68 = m ((c : Thread nD τ).loc main_arg5) := by
  simp only [V, V0, hostOps0, hostOps0_1, hostOps0_2, hostOps0_3, hostOps0_4, List.flatten_cons, List.flatten_nil, List.append_nil, List.cons_append, List.nil_append]
  after_results
  funext i
  pointwise []

/-- The kernel's merged rows are the reference's. -/
theorem entry77 : V m c main_v77 = fun i : S2x16x128x1024.Idx => Cert.Reference7Ideal.Read.val_main_v59 (F := Ideal) (m ((c : Thread nD τ).loc main_arg0))
    (m ((c : Thread nD τ).loc main_arg1)) (m ((c : Thread nD τ).loc main_arg2)) (m ((c : Thread nD τ).loc main_arg3)) (m ((c : Thread nD τ).loc main_arg4)) (ix2 (pos (i 0) (i 1) (i 2)) (i 3)) := by
  simp only [V, V0, hostOps0, hostOps0_1, hostOps0_2, hostOps0_3, hostOps0_4, List.flatten_cons, List.flatten_nil, List.append_nil, List.cons_append, List.nil_append]
  after_results
  refine (show _ = shapeCast S2x16x128x1024 (shapeCast S4096x1024 (transpose S2x16x128x1024 [0, 2, 1, 3] (shapeCast S2x128x16x1024 (truncf (F := Ideal) (φ := .f32) .bf16 (show FVec Ideal S4096x1024 .f32 from
    Cert.Reference7Ideal.Read.val_main_v59 (F := Ideal) (m ((c : Thread nD τ).loc main_arg0))
    (m ((c : Thread nD τ).loc main_arg1)) (m ((c : Thread nD τ).loc main_arg2)) (m ((c : Thread nD τ).loc main_arg3)) (m ((c : Thread nD τ).loc main_arg4))) bitsLt_bf16_f32)
    shapeCasts_S4096x1024_S2x128x16x1024) transposes_S2x128x16x1024_S2x16x128x1024_0_2_1_3) shapeCasts_S2x16x128x1024_S4096x1024) shapeCasts_S4096x1024_S2x16x128x1024 from rfl).trans ?_
  generalize Cert.Reference7Ideal.Read.val_main_v59 (F := Ideal) _ _ _ _ _ = M
  funext i
  pointwise []
  unfold pos
  blk_ext

/-- The host's floor of a quotient by 64. -/
theorem head_word : ∀ n : Fin 512, Scalar.select
          (IntOp.andi
            (IntOp.cmpi CmpIPredicate.ne
              (if BitVec.ofNat 32 (n : ℕ) = 0 then 0 else if (BitVec.ofNat 32 (n : ℕ)).msb = true then -1 else 1)
              (if 64#32 = 0 then 0 else if BitVec.msb 64#32 = true then -1 else 1 : BitVec 32))
            (IntOp.cmpi CmpIPredicate.ne (IntOp.remsi ArithUnit.host (BitVec.ofNat 32 (n : ℕ)) 64#32) 0#32))
          (IntOp.subi (IntOp.divsi ArithUnit.host (BitVec.ofNat 32 (n : ℕ)) 64#32) 1#32)
          (IntOp.divsi ArithUnit.host (BitVec.ofNat 32 (n : ℕ)) 64#32) = BitVec.ofNat 32 ((n : ℕ) / 64) := by
  decide +kernel

/-- A product's small word read as a float. -/
theorem word_eq (a b : ℕ) (ha : a < 2 ^ 32) (hb : b < 2 ^ 32) :
    (FloatOps.uitofp .bf16 (IntOp.cmpi CmpIPredicate.eq (BitVec.ofNat 32 a) (BitVec.ofNat 32 b)) : Ideal .bf16) = if a = b then (1 : EReal) else 0 := by
  split_ifs with h
  · rw [(WordCmp.cmpi_eq_ofNat_eq_one_iff ha hb).2 h]
    show (((1#1 : BitVec 1).toNat : ℝ) : EReal) = 1
    simp
  · rw [show IntOp.cmpi CmpIPredicate.eq (BitVec.ofNat 32 a) (BitVec.ofNat 32 b) = 0#1 from ?_]
    · show (((0#1 : BitVec 1).toNat : ℝ) : EReal) = 0
      simp
    · have := mt (WordCmp.cmpi_eq_ofNat_eq_one_iff ha hb).1 h
      generalize IntOp.cmpi CmpIPredicate.eq (BitVec.ofNat 32 a) (BitVec.ofNat 32 b) = z at this
      revert z
      decide

theorem entry74 : V m c main_v74 = fun i : S512x512.Idx => if (i 0 : ℕ) / 64 = (i 1 : ℕ) / 64 then (1 : EReal) else 0 := by
  simp only [V, V0, hostOps0, hostOps0_1, hostOps0_2, hostOps0_3, hostOps0_4, List.flatten_cons, List.flatten_nil, List.append_nil, List.cons_append, List.nil_append]
  after_results
  funext i
  idx_vars i
  simp only [TRef.ofBuf, TRef.toBuf, cast_eq]
  pointwise []
  exact (congrArg₂ (fun a b : BitVec 32 => (FloatOps.uitofp .bf16 (IntOp.cmpi CmpIPredicate.eq a b) : Ideal .bf16)) (head_word i0) (head_word i1)).trans (word_eq _ _ (by omega) (by omega))
end Entry
section Blocks
variable (m : (ℓ : Loc nD τ sig) → Buf (Elt Ideal) ℓ) (c : Dev nD) (t : Fin cfg0.N)

theorem blk0 (X : FVec Ideal S4096x1024 .f32) (hX : V m c (Pipeline.arrRef spec0 0) = fun i : S2x16x128x1024.Idx => X (ix2 (pos (i 0) (i 1) (i 2)) (i 3))) (r : Fin 16) (j : Fin 32) (k : Fin 1024) :
    iblk m c 0 t (ix4 0 r j k) = X (ix2 (at' t r j) k) := by
  have ht : t.val < 8 := lt_of_lt_of_eq t.isLt N_0
  have e := (blockOf t).1
  unfold iblk
  rw [hX]
  blk_simp
  unfold pos at'
  blk_ext <;> simp [e] <;> omega

theorem blk1 (X : FVec Ideal S4096x1024 .f32) (hX : V m c (Pipeline.arrRef spec0 1) = fun i : S2x16x128x1024.Idx => X (ix2 (pos (i 0) (i 1) (i 2)) (i 3))) (r : Fin 16) (j : Fin 32) (k : Fin 1024) :
    iblk m c 1 t (ix4 0 r j k) = X (ix2 (at' t r j) k) := by
  have ht : t.val < 8 := lt_of_lt_of_eq t.isLt N_0
  have e := (blockOf t).2.1
  unfold iblk
  rw [hX]
  blk_simp
  unfold pos at'
  blk_ext <;> simp [e] <;> omega

theorem blk2 (X : FVec Ideal S4096x512 .f32) (hX : V m c (Pipeline.arrRef spec0 2) = fun i : S2x16x128x512.Idx => X (ix2 (pos (i 0) (i 1) (i 2)) (i 3))) (r : Fin 16) (j : Fin 32) (k : Fin 512) :
    iblk m c 2 t (ix4 0 r j k) = X (ix2 (at' t r j) k) := by
  have ht : t.val < 8 := lt_of_lt_of_eq t.isLt N_0
  have e := (blockOf t).2.2.1
  unfold iblk
  rw [hX]
  blk_simp
  unfold pos at'
  blk_ext <;> simp [e] <;> omega

theorem blk3 (X : FVec Ideal S4096x1536 .f32) (hX : V m c (Pipeline.arrRef spec0 3) = fun i : S2x16x128x1536.Idx => X (ix2 (pos (i 0) (i 1) (i 2)) (i 3))) (r : Fin 16) (j : Fin 32) (k : Fin 1536) :
    iblk m c 3 t (ix4 0 r j k) = Conv.row (fun p => X (ix2 p k)) (512 * t + 16 * j + r) := by
  have ht : t.val < 8 := lt_of_lt_of_eq t.isLt N_0
  have e := (blockOf t).2.2.2.1
  unfold Conv.row
  rw [dif_pos (by omega)]
  unfold iblk
  rw [hX]
  blk_simp
  unfold pos
  blk_ext <;> simp [e] <;> omega

theorem blk4 (X : FVec Ideal S4096x1536 .f32) (hX : V m c (Pipeline.arrRef spec0 4) = fun i : S2x16x128x1536.Idx => X (ix2 (pos (i 0) (i 1) (i 2)) (i 3))) (hg : 0 < (t : ℕ)) (r : Fin 2) (k : Fin 1536) :
    iblk m c 4 t (ix4 0 r 15 k) = Conv.row (fun p => X (ix2 p k)) (512 * t - 2 + r) := by
  have ht : t.val < 8 := lt_of_lt_of_eq t.isLt N_0
  have e := (blockOf t).2.2.2.2.1
  unfold Conv.row
  rw [dif_pos (by omega)]
  unfold iblk
  rw [hX]
  blk_simp
  unfold pos
  blk_ext <;> simp [e] <;> omega

theorem blk5 : iblk m c 5 t = m ((c : Thread nD τ).loc main_arg2) := by
  have e := (blockOf t).2.2.2.2.2.1
  funext i
  blk_ext [iblk, V] <;> simp [e]

theorem blk6 : iblk m c 6 t = m ((c : Thread nD τ).loc main_arg3) := by
  have e := (blockOf t).2.2.2.2.2.2.1
  funext i
  blk_ext [iblk, V] <;> simp [e]

theorem blk7 : iblk m c 7 t = m ((c : Thread nD τ).loc main_arg4) := by
  have e := (blockOf t).2.2.2.2.2.2.2.1
  funext i
  blk_ext [iblk, V] <;> simp [e]

/-- The half of the weight that takes the attention's channels. -/
theorem blk8 (i : Fin 512) (k : Fin 1024) : iblk m c 8 t (ix2 i k) = m ((c : Thread nD τ).loc main_arg5) (ix2 ⟨i, by omega⟩ k) := by
  have e := (blockOf t).2.2.2.2.2.2.2.2.1
  unfold iblk
  rw [show V m c (Pipeline.arrRef spec0 8) = _ from entry68 m c]
  blk_ext <;> simp [e]

/-- The half that takes the convolution's. -/
theorem blk9 (i : Fin 512) (k : Fin 1024) : iblk m c 9 t (ix2 i k) = m ((c : Thread nD τ).loc main_arg5) (ix2 ⟨512 + i, by omega⟩ k) := by
  have e := (blockOf t).2.2.2.2.2.2.2.2.2.1
  unfold iblk
  rw [show V m c (Pipeline.arrRef spec0 9) = _ from entry68 m c]
  blk_ext <;> simp [e]

theorem blk10 (i k : Fin 512) : iblk m c 10 t (ix2 i k) = if (i : ℕ) / 64 = (k : ℕ) / 64 then (1 : EReal) else 0 := by
  have e := (blockOf t).2.2.2.2.2.2.2.2.2.2.1
  unfold iblk
  rw [show V m c (Pipeline.arrRef spec0 10) = _ from entry74 m c]
  blk_simp
  simp [e]
end Blocks
end Cert.Mix
end
-- ==== Proof.MixPay.lean ====
/- The mixer's gradient (`_mixer_bwd`): its mathematics, and what each payload computes. -/
module

public import proofs.«01_k».proof.Proof.Gen.Kernel7Ideal.Frame
public import proofs.«01_k».proof.Proof.ConvSpec
public import proofs.«01_k».proof.Proof.Norm
public import proofs.«01_k».proof.Proof.Soft
public import proofs.«01_k».proof.Proof.MixBlk
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Mix
open Cert.Kernel7Ideal Cert.Kernel7Ideal.Gen Idealize.ShloMosaic.StableHlo

section Spec
variable (A : FVec Ideal S4096x512 .f32) (Z : FVec Ideal S4096x1536 .f32) (W : FVec Ideal S3x512 .f32) (Ga Gc : FVec Ideal S1x512 .f32)
  (Wo : FVec Ideal S1024x1024 .f32) (D : FVec Ideal S4096x1024 .f32)

/-- The merged rows' cotangent. -/
def dm (n : Fin 4096) (i : Fin 1024) : EReal := ∑ k : Fin 1024, D (ix2 n k) * Wo (ix2 i k)
/-- The attention's channel among the merged ones. -/
abbrev ia (c : Fin 512) : Fin 1024 := ⟨c, by omega⟩
/-- The convolution's channel among the merged ones. -/
abbrev ic (c : Fin 512) : Fin 1024 := ⟨512 + c, by omega⟩
/-- The gated convolution. -/
def yy (n : Fin 4096) (c : Fin 512) : EReal := Conv.bg Z n c * Conv.conv Z W n c
/-- The gradient of the attention's output. -/
def daAt (n : Fin 4096) (c : Fin 512) : EReal := Norm.back (fun k => A (ix2 n k)) (fun k => dm Wo D n (ia k) * Ga (ix2 0 k)) 512 c
/-- The gradient of the gated convolution. -/
def dcAt (n : Fin 4096) (c : Fin 512) : EReal := Norm.back (yy Z W n) (fun k => dm Wo D n (ic k) * Gc (ix2 0 k)) 512 c
/-- A row's contribution to the gain of the attention's norm. -/
def gaAt (n : Fin 4096) (c : Fin 512) : EReal := dm Wo D n (ia c) * (A (ix2 n c) * Norm.rinv (fun k => A (ix2 n k)) 512)
/-- A row's contribution to the gain of the convolution's norm. -/
def gcAt (n : Fin 4096) (c : Fin 512) : EReal := dm Wo D n (ic c) * (yy Z W n c * Norm.rinv (yy Z W n) 512)
/-- The product of the attention's output with its gradient. -/
def zz (n : Fin 4096) (c : Fin 512) : EReal := daAt A Ga Wo D n c * A (ix2 n c)
/-- Its sum over the channels of a head. -/
def dsAt (n : Fin 4096) (c : Fin 512) : EReal := ∑ k : Fin 512, if (k : ℕ) / 64 = (c : ℕ) / 64 then zz A Ga Wo D n k else 0
end Spec

section Payloads
variable (A : FVec Ideal S4096x512 .f32) (Z : FVec Ideal S4096x1536 .f32) (W : FVec Ideal S3x512 .f32) (Ga Gc : FVec Ideal S1x512 .f32)
  (Wo : FVec Ideal S1024x1024 .f32) (D : FVec Ideal S4096x1024 .f32) (t : Fin cfg0.N) (g : grid0.Coords) (hgt : (g 0 : ℕ) = t.val)
  (db : FVec Ideal S1x16x32x1024 .f32) (ab : FVec Ideal S1x16x32x512 .f32) (zb : FVec Ideal S1x16x32x1536 .bf16) (zp : FVec Ideal S1x2x16x1536 .bf16)
  (wa wb : FVec Ideal S512x1024 .bf16) (hs : FVec Ideal S512x512 .bf16)
  (hD : ∀ r j k, db (ix4 0 r j k) = D (ix2 (at' t r j) k))
  (hA : ∀ r j k, ab (ix4 0 r j k) = A (ix2 (at' t r j) k))
  (hz : ∀ r j k, zb (ix4 0 r j k) = Conv.row (fun p => Z (ix2 p k)) (512 * t + 16 * j + r))
  (hp : 0 < (t : ℕ) → ∀ r k, zp (ix4 0 r 15 k) = Conv.row (fun p => Z (ix2 p k)) (512 * t - 2 + r))
  (hwa : ∀ i k, wa (ix2 i k) = Wo (ix2 (ia i) k)) (hwb : ∀ i k, wb (ix2 i k) = Wo (ix2 (ic i) k))
  (hhs : ∀ i k, hs (ix2 i k) = if (i : ℕ) / 64 = (k : ℕ) / 64 then (1 : EReal) else 0)

include hD hwa in
theorem pay9 (r : Fin 16) (j : Fin 32) (c : Fin 512) : k0_pay9 (F := Ideal) db wa (ix3 r j c) = dm Wo D (at' t r j) (ia c) := by
  pointwise [k0_pay9, k0_pay5]
  simp only [hD, hwa]; rfl

include hD hwb in
theorem pay10 (r : Fin 16) (j : Fin 32) (c : Fin 512) : k0_pay10 (F := Ideal) db wb (ix3 r j c) = dm Wo D (at' t r j) (ic c) := by
  pointwise [k0_pay10, k0_pay5]
  simp only [hD, hwb]; rfl

include hA in
theorem pay11 (r : Fin 16) (j : Fin 32) (c : Fin 512) : k0_pay11 (F := Ideal) ab (ix3 r j c) = A (ix2 (at' t r j) c) := by
  pointwise [k0_pay11]
  exact hA r j c

include hA in
theorem pay12 (r : Fin 16) (j : Fin 32) : k0_pay12 (F := Ideal) (k0_pay11 ab) (ix3 r j 0) = Norm.rinv (fun k => A (ix2 (at' t r j) k)) 512 := by
  pointwise [k0_pay12]
  simp only [pay11 A t ab hA, Norm.n512]; rfl

include hA in
theorem pay13 (r : Fin 16) (j : Fin 32) (c : Fin 512) : k0_pay13 (F := Ideal) (k0_pay11 ab) (ix3 r j c) = A (ix2 (at' t r j) c) * Norm.rinv (fun k => A (ix2 (at' t r j) k)) 512 := by
  pointwise [k0_pay13]
  rw [pay11 A t ab hA, ← pay12 A t ab hA]

include hD hwa hA in
theorem pay14 (r : Fin 16) (j : Fin 32) (c : Fin 512) : k0_pay14 (F := Ideal) (k0_pay9 db wa) (k0_pay11 ab) Ga (ix3 r j c) = daAt A Ga Wo D (at' t r j) c := by
  have e : ∀ h, k0_pay12 (F := Ideal) (k0_pay11 ab) (ix3 r j ⟨0, h⟩) = _ := fun _ => pay12 A t ab hA r j
  pointwise [k0_pay14]
  simp only [pay9 Wo D t db wa hD hwa, pay13 A t ab hA, Norm.n512]
  first | rw [e] | rw [pay12 A t ab hA]
  rfl

include hD hwa hA in
theorem pay15 (r : Fin 16) (j : Fin 32) (c : Fin 512) : k0_pay15 (F := Ideal) (k0_pay9 db wa) (k0_pay11 ab) Ga (ix4 0 r j c) = daAt A Ga Wo D (at' t r j) c := by
  pointwise [k0_pay15]
  exact pay14 A Ga Wo D t db ab wa hD hA hwa r j c

include hD hwa hA hhs in
theorem pay17 (hf : ∀ n c, zz A Ga Wo D n c - zz A Ga Wo D n c = 0) (r : Fin 16) (j : Fin 32) (c : Fin 512) :
    k0_pay17 (F := Ideal) (k0_pay16 (k0_pay9 db wa) (k0_pay11 ab) Ga hs) (ix4 0 r j c) = dsAt A Ga Wo D (at' t r j) c := by
  pointwise [k0_pay17, k0_pay16]
  simp only [pay14 A Ga Wo D t db ab wa hD hA hwa, pay11 A t ab hA, hhs]
  have e : ∀ c, daAt A Ga Wo D (at' t r j) c * A (ix2 (at' t r j) c) = zz A Ga Wo D (at' t r j) c := fun _ => rfl
  simp only [e, hf, zero_mul, Finset.sum_const_zero, add_zero, mul_ite, mul_one, mul_zero, ite_self]
  rfl

include hz in
theorem pay19 (r : Fin 16) (j : Fin 32) (c : Fin 512) : k0_pay19 (F := Ideal) zb (ix3 r j c) = Conv.bg Z (512 * t + 16 * j + r) c := by
  pointwise [k0_pay19, k0_pay18]
  rw [hz]; rfl

include hz in
theorem pay20 (r : Fin 16) (j : Fin 32) (c : Fin 512) : k0_pay20 (F := Ideal) zb (ix3 r j c) = Conv.back Z 0 (512 * t + 16 * j + r) c := by
  pointwise [k0_pay20, k0_pay18]
  rw [hz, hz]; rfl

include hz hp hgt in
theorem pay22 (j : Fin 32) (c : Fin 512) : k0_pay22 (F := Ideal) (BitVec.ofNat 32 (g 0 : ℕ)) zb zp (ix2 j c) = Conv.back Z 1 (512 * t + 16 * j) c := by
  pointwise [k0_pay22, k0_pay21]
  have ht : t.val < 8 := lt_of_lt_of_eq t.isLt N_0
  unfold Scalar.cmpi
  rw [Conv.sel _ _ (by omega) (by omega), Conv.sel _ _ (by omega) (by omega), pay20 Z t zb hz, hgt]
  split_ifs with h0 h1
  · rw [Conv.back_zero _ _ (by omega)]
  · rw [hp (by omega), hp (by omega)]
    exact Conv.back_one Z c (by simp; omega)
  · exact Conv.back_eq Z c (by simp; omega)

include hz hp hgt in
theorem pay23 (j : Fin 32) (c : Fin 512) : k0_pay23 (F := Ideal) (BitVec.ofNat 32 (g 0 : ℕ)) zb zp (ix2 j c) = Conv.back Z 2 (512 * t + 16 * j) c := by
  pointwise [k0_pay23, k0_pay21]
  have ht : t.val < 8 := lt_of_lt_of_eq t.isLt N_0
  unfold Scalar.cmpi
  rw [Conv.sel _ _ (by omega) (by omega), Conv.sel _ _ (by omega) (by omega), pay20 Z t zb hz, hgt]
  split_ifs with h0 h1
  · rw [Conv.back_zero _ _ (by omega)]
  · rw [hp (by omega), hp (by omega)]
    exact Conv.back_one Z c (by simp; omega)
  · exact Conv.back_eq Z c (by simp; omega)

/-- The gated convolution's block, from its loads. -/
abbrev yBlk (a : BitVec 32) := k0_pay26 (F := Ideal) W (k0_pay19 zb) (k0_pay20 zb) (k0_pay22 a zb zp) (k0_pay23 a zb zp) (k0_pay24 a zb zp) (k0_pay25 zb)

include hz hp hgt in
theorem pay26 (r : Fin 16) (j : Fin 32) (c : Fin 512) : yBlk W zb zp (BitVec.ofNat 32 (g 0 : ℕ)) (ix3 r j c) = yy Z W (at' t r j) c := by
  pointwise [yBlk, k0_pay26, k0_pay24, k0_pay25]
  have e : ∀ h, (⟨(r : ℕ), h⟩ : Fin 1) = 0 := fun h => Subsingleton.elim _ _
  simp only [pay19 Z t zb hz, pay20 Z t zb hz, pay22 Z t g hgt zb zp hz hp, pay23 Z t g hgt zb zp hz hp]
  unfold yy Conv.conv
  refine congrArg₂ (· * ·) rfl (congrArg₂ (· + ·) (congrArg₂ (· + ·) (congrArg₂ (· * ·) ?_ rfl) (congrArg₂ (· * ·) ?_ rfl)) rfl)
  all_goals split_ifs <;> exact Conv.back_eq Z c (by simp [at'] <;> omega)

/-- The reciprocal root mean square of that block's rows, and the rows scaled by it. -/
abbrev rBlk (a : BitVec 32) := k0_pay27 (F := Ideal) W (k0_pay19 zb) (k0_pay20 zb) (k0_pay22 a zb zp) (k0_pay23 a zb zp) (k0_pay24 a zb zp) (k0_pay25 zb)
abbrev hBlk (a : BitVec 32) := k0_pay28 (F := Ideal) W (k0_pay19 zb) (k0_pay20 zb) (k0_pay22 a zb zp) (k0_pay23 a zb zp) (k0_pay24 a zb zp) (k0_pay25 zb)

include hz hp hgt in
theorem pay27 (r : Fin 16) (j : Fin 32) : rBlk W zb zp (BitVec.ofNat 32 (g 0 : ℕ)) (ix3 r j 0) = Norm.rinv (yy Z W (at' t r j)) 512 := by
  pointwise [rBlk, k0_pay27]
  simp only [pay26 Z W t g hgt zb zp hz hp, Norm.n512]; rfl

include hz hp hgt in
theorem pay28 (r : Fin 16) (j : Fin 32) (c : Fin 512) :
    hBlk W zb zp (BitVec.ofNat 32 (g 0 : ℕ)) (ix3 r j c) = yy Z W (at' t r j) c * Norm.rinv (yy Z W (at' t r j)) 512 := by
  pointwise [hBlk, k0_pay28]
  exact congrArg₂ (· * ·) (pay26 Z W t g hgt zb zp hz hp r j c) (pay27 Z W t g hgt zb zp hz hp r j)

include hD hwb hz hp hgt in
theorem pay29 (r : Fin 16) (j : Fin 32) (c : Fin 512) :
    k0_pay29 (F := Ideal) (k0_pay10 db wb) W (k0_pay19 zb) (k0_pay20 zb) (k0_pay22 (BitVec.ofNat 32 (g 0 : ℕ)) zb zp) (k0_pay23 (BitVec.ofNat 32 (g 0 : ℕ)) zb zp)
      (k0_pay24 (BitVec.ofNat 32 (g 0 : ℕ)) zb zp) (k0_pay25 zb) Gc (ix4 0 r j c) = dcAt Z W Gc Wo D (at' t r j) c := by
  pointwise [k0_pay29]
  simp only [pay10 Wo D t db wb hD hwb, pay28 Z W t g hgt zb zp hz hp, Norm.n512]
  exact congrArg₂ (· * ·) (pay27 Z W t g hgt zb zp hz hp r j) rfl

/-- The sum over the tokens of a block. -/
theorem pay1 (X : FVec Ideal S16x32x512 .f32) (c : Fin 512) : k0_pay1 (F := Ideal) X (ix2 0 c) = ∑ j : Fin 32, ∑ r : Fin 16, X (ix3 r j c) := by
  pointwise [k0_pay1]

include hD hwa hA in
theorem pay1_ga (c : Fin 512) : k0_pay1 (F := Ideal) (k0_pay30 (k0_pay9 db wa) (k0_pay13 (k0_pay11 ab))) (ix2 0 c) = ∑ j : Fin 32, ∑ r : Fin 16, gaAt A Wo D (at' t r j) c := by
  rw [pay1]
  refine Finset.sum_congr rfl fun j _ => Finset.sum_congr rfl fun r _ => ?_
  pointwise [k0_pay30]
  rw [pay9 Wo D t db wa hD hwa, pay13 A t ab hA]; rfl

include hD hwb hz hp hgt in
theorem pay2_gc (c : Fin 512) : k0_pay2 (F := Ideal) (k0_pay10 db wb) (hBlk W zb zp (BitVec.ofNat 32 (g 0 : ℕ))) (ix2 0 c)
    = ∑ j : Fin 32, ∑ r : Fin 16, gcAt Z W Wo D (at' t r j) c := by
  pointwise [k0_pay2]
  refine Finset.sum_congr rfl fun j _ => Finset.sum_congr rfl fun r _ => ?_
  rw [pay10 Wo D t db wb hD hwb, pay28 Z W t g hgt zb zp hz hp]; rfl

/-- A step of the weight's gradient. -/
theorem pay7 (M : FVec Ideal S4096x1024 .f32) (mb : FVec Ideal S1x16x32x1024 .bf16) (hM : ∀ r j k, mb (ix4 0 r j k) = M (ix2 (at' t r j) k))
    (hD : ∀ r j k, db (ix4 0 r j k) = D (ix2 (at' t r j) k)) (acc : FVec Ideal S1024x1024 .f32) (i k : Fin 1024) :
    k0_pay7 (F := Ideal) db acc mb (ix2 i k) = acc (ix2 i k) + ∑ q : Fin 512, M (ix2 (at' t ⟨q / 32, by omega⟩ ⟨q % 32, by omega⟩) i) * D (ix2 (at' t ⟨q / 32, by omega⟩ ⟨q % 32, by omega⟩) k) := by
  pointwise [k0_pay7, k0_pay5]
  refine congrArg₂ (· + ·) rfl (Finset.sum_congr rfl fun q _ => ?_)
  rw [← hM, ← hD]
end Payloads
end Cert.Mix
end
-- ==== Proof.MixStep.lean ====
/- The mixer's gradient (`_mixer_bwd`): what a grid step leaves, and the arrays after the last. -/
module

public import proofs.«01_k».proof.Proof.Gen.Kernel7Ideal.Frame
public import proofs.«01_k».proof.Proof.ConvSpec
public import proofs.«01_k».proof.Proof.Norm
public import proofs.«01_k».proof.Proof.Soft
public import proofs.«01_k».proof.Proof.MixPay
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Mix
open Cert.Kernel7Ideal Cert.Kernel7Ideal.Gen Idealize.ShloMosaic.StableHlo

/-- What the rows of grid step `t` add up to. -/
def part (f : Fin 4096 → EReal) (t : ℕ) : EReal := ∑ j : Fin 32, ∑ r : Fin 16, Norm.rowOf f (512 * t + 16 * j + r)

theorem part_at (f : Fin 4096 → EReal) (t : Fin cfg0.N) : ∑ j : Fin 32, ∑ r : Fin 16, f (at' t r j) = part f t :=
  Finset.sum_congr rfl fun j _ => Finset.sum_congr rfl fun r _ => Norm.rowOf_at f _ (at' t r j).isLt

/-- A step's rows in the order the block keeps them: by residue. -/
theorem part_res (f : Fin 4096 → EReal) (t : Fin cfg0.N) : ∑ q : Fin 512, f (at' t ⟨q / 32, by omega⟩ ⟨q % 32, by omega⟩) = part f t := by
  rw [← part_at, Fin.sum_univ_tiles 16 32 rfl, Finset.sum_comm]
  refine Finset.sum_congr rfl fun j _ => Finset.sum_congr rfl fun r _ => congrArg f (congrArg₂ (at' t) (Fin.ext ?_) (Fin.ext ?_))
  · dsimp only; omega
  · dsimp only; omega

/-- The steps' rows together are all rows. -/
theorem part_sum (f : Fin 4096 → EReal) : ∑ s : Fin 8, part f s = ∑ n, f n := by
  rw [Fin.sum_univ_tiles 8 512 rfl]
  refine Finset.sum_congr rfl fun s _ => ?_
  rw [Fin.sum_univ_tiles 32 16 rfl]
  refine Finset.sum_congr rfl fun j _ => Finset.sum_congr rfl fun r _ => ?_
  rw [Norm.rowOf_at f]
  exact congrArg (Norm.rowOf f) (by dsimp only; omega)

theorem lt8 (t : Fin cfg0.N) : t.val < 8 := lt_of_lt_of_eq t.isLt N_0

variable (m : (ℓ : Loc nD τ sig) → Buf (Elt Ideal) ℓ)

section Step
variable (A : FVec Ideal S4096x512 .f32) (Z : FVec Ideal S4096x1536 .f32) (W : FVec Ideal S3x512 .f32) (Ga Gc : FVec Ideal S1x512 .f32)
  (Wo : FVec Ideal S1024x1024 .f32) (D : FVec Ideal S4096x1024 .f32) (M : FVec Ideal S4096x1024 .f32) (c : Dev nD) (t : Fin cfg0.N)
  (eA : m ((c : Thread nD τ).loc main_arg0) = A) (eZ : m ((c : Thread nD τ).loc main_arg1) = Z) (eW : m ((c : Thread nD τ).loc main_arg2) = W)
  (eGa : m ((c : Thread nD τ).loc main_arg3) = Ga) (eGc : m ((c : Thread nD τ).loc main_arg4) = Gc) (eWo : m ((c : Thread nD τ).loc main_arg5) = Wo)
  (eD : m ((c : Thread nD τ).loc main_arg6) = D) (eM : Cert.Reference7Ideal.Read.val_main_v59 (F := Ideal) A Z W Ga Gc = M)

include eD in
theorem hD (r : Fin 16) (j : Fin 32) (k : Fin 1024) : iblk m c 0 t (ix4 0 r j k) = D (ix2 (at' t r j) k) := blk0 m c t D (eD ▸ entry76 m c) r j k

include eA in
theorem hA (r : Fin 16) (j : Fin 32) (k : Fin 512) : iblk m c 2 t (ix4 0 r j k) = A (ix2 (at' t r j) k) := blk2 m c t A (eA ▸ entry78 m c) r j k

include eZ in
theorem hz (r : Fin 16) (j : Fin 32) (k : Fin 1536) : iblk m c 3 t (ix4 0 r j k) = Conv.row (fun p => Z (ix2 p k)) (512 * t + 16 * j + r) := blk3 m c t Z (eZ ▸ entry79 m c) r j k

include eZ in
theorem hp (h : 0 < (t : ℕ)) (r : Fin 2) (k : Fin 1536) : iblk m c 4 t (ix4 0 r 15 k) = Conv.row (fun p => Z (ix2 p k)) (512 * t - 2 + r) := blk4 m c t Z (eZ ▸ entry80 m c) h r k

include eWo in
theorem hwa (i : Fin 512) (k : Fin 1024) : iblk m c 8 t (ix2 i k) = Wo (ix2 (ia i) k) := (blk8 m c t i k).trans (eWo ▸ rfl)

include eWo in
theorem hwb (i : Fin 512) (k : Fin 1024) : iblk m c 9 t (ix2 i k) = Wo (ix2 (ic i) k) := (blk9 m c t i k).trans (eWo ▸ rfl)

theorem hgt : (grid0.coords t 0 : ℕ) = t.val := (blockOf t).2.2.2.2.2.2.2.2.2.2.2.2.2.2

include eA eGa eWo eD in
theorem step0 (y : S1x16x32x512.Idx) : (outsAt0 m c t.val t.isLt).1 y = daAt A Ga Wo D (at' t (y 1) (y 2)) (y 3) := by
  have key : k0_pay15 (F := Ideal) (k0_pay9 (iblk m c 0 t) (iblk m c 8 t)) (k0_pay11 (iblk m c 2 t)) (iblk m c 6 t) y = daAt A Ga Wo D (at' t (y 1) (y 2)) (y 3) := by
    idx_vars y
    obtain rfl : y0 = 0 := Subsingleton.elim _ _
    rw [(blk6 m c t).trans eGa]
    exact pay15 A Ga Wo D t _ _ _ (hD m D c t eD) (hA m A c t eA) (hwa m Wo c t eWo) y1 y2 y3
  by_cases h0 : t.val % 8 = 0
  · rw [outsAt0_A m c t h0 (by omega) h0 (by have := lt8 t; omega)]; frame_out; exact key
  by_cases h1 : t.val % 8 = 7
  · rw [outsAt0_C m c t h0 h1 h0 (by omega)]; frame_out; exact key
  · rw [outsAt0_B m c t h0 h1 h0 (by omega)]; frame_out; exact key

include eA eGa eWo eD in
theorem step1 (hf : ∀ n c, zz A Ga Wo D n c - zz A Ga Wo D n c = 0) (y : S1x16x32x512.Idx) : (outsAt0 m c t.val t.isLt).2.1 y = dsAt A Ga Wo D (at' t (y 1) (y 2)) (y 3) := by
  have key : k0_pay17 (F := Ideal) (k0_pay16 (k0_pay9 (iblk m c 0 t) (iblk m c 8 t)) (k0_pay11 (iblk m c 2 t)) (iblk m c 6 t) (iblk m c 10 t)) y = dsAt A Ga Wo D (at' t (y 1) (y 2)) (y 3) := by
    idx_vars y
    obtain rfl : y0 = 0 := Subsingleton.elim _ _
    rw [(blk6 m c t).trans eGa]
    exact pay17 A Ga Wo D t _ _ _ _ (hD m D c t eD) (hA m A c t eA) (hwa m Wo c t eWo) (blk10 m c t) hf y1 y2 y3
  by_cases h0 : t.val % 8 = 0
  · rw [outsAt0_A m c t h0 (by omega) h0 (by have := lt8 t; omega)]; frame_out; exact key
  by_cases h1 : t.val % 8 = 7
  · rw [outsAt0_C m c t h0 h1 h0 (by omega)]; frame_out; exact key
  · rw [outsAt0_B m c t h0 h1 h0 (by omega)]; frame_out; exact key

include eZ eW eGc eWo eD in
theorem step2 (y : S1x16x32x512.Idx) : (outsAt0 m c t.val t.isLt).2.2.1 y = dcAt Z W Gc Wo D (at' t (y 1) (y 2)) (y 3) := by
  have key : k0_pay29 (F := Ideal) (k0_pay10 (iblk m c 0 t) (iblk m c 9 t)) (iblk m c 5 t) (k0_pay19 (iblk m c 3 t)) (k0_pay20 (iblk m c 3 t))
      (k0_pay22 (BitVec.ofNat 32 (grid0.coords t 0 : ℕ)) (iblk m c 3 t) (iblk m c 4 t)) (k0_pay23 (BitVec.ofNat 32 (grid0.coords t 0 : ℕ)) (iblk m c 3 t) (iblk m c 4 t))
      (k0_pay24 (BitVec.ofNat 32 (grid0.coords t 0 : ℕ)) (iblk m c 3 t) (iblk m c 4 t)) (k0_pay25 (iblk m c 3 t)) (iblk m c 7 t) y = dcAt Z W Gc Wo D (at' t (y 1) (y 2)) (y 3) := by
    idx_vars y
    obtain rfl : y0 = 0 := Subsingleton.elim _ _
    rw [(blk7 m c t).trans eGc, (blk5 m c t).trans eW]
    exact pay29 Z W Gc Wo D t _ (hgt t) _ _ _ _ (hD m D c t eD) (hz m Z c t eZ) (hp m Z c t eZ) (hwb m Wo c t eWo) y1 y2 y3
  by_cases h0 : t.val % 8 = 0
  · rw [outsAt0_A m c t h0 (by omega) h0 (by have := lt8 t; omega)]; frame_out; exact key
  by_cases h1 : t.val % 8 = 7
  · rw [outsAt0_C m c t h0 h1 h0 (by omega)]; frame_out; exact key
  · rw [outsAt0_B m c t h0 h1 h0 (by omega)]; frame_out; exact key

include eA eWo eD in
theorem addGa (k : Fin 512) : k0_pay1 (F := Ideal) (k0_pay30 (k0_pay9 (iblk m c 0 t) (iblk m c 8 t)) (k0_pay13 (k0_pay11 (iblk m c 2 t)))) (ix2 0 k) = part (fun n => gaAt A Wo D n k) t :=
  (pay1_ga A Wo D t _ _ _ (hD m D c t eD) (hA m A c t eA) (hwa m Wo c t eWo) k).trans (part_at (fun n => gaAt A Wo D n k) t)

include eA eWo eD in
theorem step3_A (h0 : t.val % 8 = 0) (y : S1x512.Idx) : (outsAt0 m c t.val t.isLt).2.2.2.1 y = part (fun n => gaAt A Wo D n (y 1)) t := by
  rw [outsAt0_A m c t h0 (by omega) h0 (by have := lt8 t; omega)]; frame_out
  idx_vars y
  obtain rfl : y0 = 0 := Subsingleton.elim _ _
  exact addGa m A Wo D c t eA eWo eD y1

include eA eWo eD in
theorem step3_B (h0 : ¬t.val % 8 = 0) (y : S1x512.Idx) : (outsAt0 m c t.val t.isLt).2.2.2.1 y
    = (outsAt0 m c (t.val - 1) (Nat.lt_of_le_of_lt (Nat.sub_le _ _) t.isLt)).2.2.2.1 y + part (fun n => gaAt A Wo D n (y 1)) t := by
  have key : ∀ X : FVec Ideal S1x512 .f32, k0_pay3 (F := Ideal) (k0_pay30 (k0_pay9 (iblk m c 0 t) (iblk m c 8 t)) (k0_pay13 (k0_pay11 (iblk m c 2 t)))) X y
      = X y + part (fun n => gaAt A Wo D n (y 1)) t := by
    intro X
    idx_vars y
    obtain rfl : y0 = 0 := Subsingleton.elim _ _
    pointwise [k0_pay3]
    exact congrArg (X (ix2 0 y1) + ·) (addGa m A Wo D c t eA eWo eD y1)
  by_cases h1 : t.val % 8 = 7
  · rw [outsAt0_C m c t h0 h1 h0 (by omega)]; frame_out; exact key _
  · rw [outsAt0_B m c t h0 h1 h0 (by omega)]; frame_out; exact key _

include eZ eW eWo eD in
theorem addGc (k : Fin 512) : k0_pay2 (F := Ideal) (k0_pay10 (iblk m c 0 t) (iblk m c 9 t)) (hBlk (iblk m c 5 t) (iblk m c 3 t) (iblk m c 4 t) (BitVec.ofNat 32 (grid0.coords t 0 : ℕ))) (ix2 0 k)
    = part (fun n => gcAt Z W Wo D n k) t := by
  rw [(blk5 m c t).trans eW]
  exact (pay2_gc Z W Wo D t _ (hgt t) _ _ _ _ (hD m D c t eD) (hz m Z c t eZ) (hp m Z c t eZ) (hwb m Wo c t eWo) k).trans (part_at (fun n => gcAt Z W Wo D n k) t)

include eZ eW eWo eD in
theorem step4_A (h0 : t.val % 8 = 0) (y : S1x512.Idx) : (outsAt0 m c t.val t.isLt).2.2.2.2.1 y = part (fun n => gcAt Z W Wo D n (y 1)) t := by
  rw [outsAt0_A m c t h0 (by omega) h0 (by have := lt8 t; omega)]; frame_out
  idx_vars y
  obtain rfl : y0 = 0 := Subsingleton.elim _ _
  exact addGc m Z W Wo D c t eZ eW eWo eD y1

include eZ eW eWo eD in
theorem step4_B (h0 : ¬t.val % 8 = 0) (y : S1x512.Idx) : (outsAt0 m c t.val t.isLt).2.2.2.2.1 y
    = (outsAt0 m c (t.val - 1) (Nat.lt_of_le_of_lt (Nat.sub_le _ _) t.isLt)).2.2.2.2.1 y + part (fun n => gcAt Z W Wo D n (y 1)) t := by
  have key : ∀ X : FVec Ideal S1x512 .f32, k0_pay4 (F := Ideal) (k0_pay10 (iblk m c 0 t) (iblk m c 9 t)) (hBlk (iblk m c 5 t) (iblk m c 3 t) (iblk m c 4 t) (BitVec.ofNat 32 (grid0.coords t 0 : ℕ))) X y
      = X y + part (fun n => gcAt Z W Wo D n (y 1)) t := by
    intro X
    idx_vars y
    obtain rfl : y0 = 0 := Subsingleton.elim _ _
    refine Eq.trans ?_ (congrArg (X (ix2 0 y1) + ·) (addGc m Z W Wo D c t eZ eW eWo eD y1))
    generalize hBlk (iblk m c 5 t) _ _ _ = H
    pointwise [k0_pay4]
  by_cases h1 : t.val % 8 = 7
  · rw [outsAt0_C m c t h0 h1 h0 (by omega)]; frame_out; exact key _
  · rw [outsAt0_B m c t h0 h1 h0 (by omega)]; frame_out; exact key _

/-- A row's contribution to the weight's gradient. -/
def gwAt (M : FVec Ideal S4096x1024 .f32) (i k : Fin 1024) (n : Fin 4096) : EReal := M (ix2 n i) * D (ix2 n k)

include eA eZ eW eGa eGc eM eD in
theorem addW (X : FVec Ideal S1024x1024 .f32) (i k : Fin 1024) : k0_pay7 (F := Ideal) (iblk m c 0 t) X (iblk m c 1 t) (ix2 i k) = X (ix2 i k) + part (gwAt D M i k) t := by
  refine (pay7 (D := D) (t := t) (g := grid0.coords t) (M := M) (hM := blk1 m c t M (by rw [← eM, ← eA, ← eZ, ← eW, ← eGa, ← eGc]; exact entry77 m c)) (hD := hD m D c t eD) (acc := X) (i := i) (k := k)).trans (congrArg (X (ix2 i k) + ·) ?_)
  exact part_res (gwAt D M i k) t

include eA eZ eW eGa eGc eM eD in
theorem step6_A (h0 : t.val % 8 = 0) (y : S1024x1024.Idx) : (outsAt0 m c t.val t.isLt).2.2.2.2.2.2 y = part (gwAt D M (y 0) (y 1)) t := by
  rw [outsAt0_A m c t h0 (by omega) h0 (by have := lt8 t; omega)]; frame_out
  idx_vars y
  rw [addW m A Z W Ga Gc D M c t eA eZ eW eGa eGc eD eM]
  pointwise [k0_pay6]

include eA eZ eW eGa eGc eM eD in
theorem step6_B (h0 : ¬t.val % 8 = 0) (y : S1024x1024.Idx) : (outsAt0 m c t.val t.isLt).2.2.2.2.2.2 y
    = (outsAt0 m c (t.val - 1) (Nat.lt_of_le_of_lt (Nat.sub_le _ _) t.isLt)).2.2.2.2.2.2 y + part (gwAt D M (y 0) (y 1)) t := by
  by_cases h1 : t.val % 8 = 7
  · rw [outsAt0_C m c t h0 h1 h0 (by omega)]; frame_out
    refine (congrArg (fun X => k0_pay7 (F := Ideal) (iblk m c 0 t) X (iblk m c 1 t) y) (Memref.IsWhole.read_unread (Memref.isWhole_whole _) _)).trans ?_
    idx_vars y
    exact addW m A Z W Ga Gc D M c t eA eZ eW eGa eGc eD eM _ y0 y1
  · rw [outsAt0_B m c t h0 h1 h0 (by omega)]; frame_out
    refine (congrArg (fun X => k0_pay7 (F := Ideal) (iblk m c 0 t) X (iblk m c 1 t) y) (Memref.IsWhole.read_unread (Memref.isWhole_whole _) _)).trans ?_
    idx_vars y
    exact addW m A Z W Ga Gc D M c t eA eZ eW eGa eGc eD eM _ y0 y1

/-- At the last step the accumulator is handed out. -/
theorem step5_C (h1 : t.val % 8 = 7) (y : S1024x1024.Idx) : (outsAt0 m c t.val t.isLt).2.2.2.2.2.1 y = (outsAt0 m c t.val t.isLt).2.2.2.2.2.2 y := by
  rw [outsAt0_C m c t (by omega) h1 (by omega) (by omega)]; frame_out
  pointwise [k0_pay8]
end Step

section Final
variable (A : FVec Ideal S4096x512 .f32) (Z : FVec Ideal S4096x1536 .f32) (W : FVec Ideal S3x512 .f32) (Ga Gc : FVec Ideal S1x512 .f32)
  (Wo : FVec Ideal S1024x1024 .f32) (D : FVec Ideal S4096x1024 .f32) (M : FVec Ideal S4096x1024 .f32) (c : Dev nD)
  (eA : m ((c : Thread nD τ).loc main_arg0) = A) (eZ : m ((c : Thread nD τ).loc main_arg1) = Z) (eW : m ((c : Thread nD τ).loc main_arg2) = W)
  (eGa : m ((c : Thread nD τ).loc main_arg3) = Ga) (eGc : m ((c : Thread nD τ).loc main_arg4) = Gc) (eWo : m ((c : Thread nD τ).loc main_arg5) = Wo)
  (eD : m ((c : Thread nD τ).loc main_arg6) = D) (eM : Cert.Reference7Ideal.Read.val_main_v59 (F := Ideal) A Z W Ga Gc = M)

/-- Rows where the kernel keeps them: by sequence, residue and segment. -/
def kept (f : Fin 4096 → Fin 512 → EReal) : FVec Ideal S2x16x128x512 .f32 := fun i => f (pos (i 0) (i 1) (i 2)) (i 3)

theorem kept_at (f : Fin 4096 → Fin 512 → EReal) (i : S2x16x128x512.Idx) (t : Fin cfg0.N) (y : S1x16x32x512.Idx)
    (h0 : (i 0 : ℕ) = t / 4) (h1 : (i 1 : ℕ) = y 1) (h2 : (i 2 : ℕ) = t % 4 * 32 + y 2) (h3 : (i 3 : ℕ) = y 3) : f (at' t (y 1) (y 2)) (y 3) = kept f i := by
  unfold kept
  refine congrArg₂ f (Fin.ext ?_) (Fin.ext h3.symm)
  show 512 * (t : ℕ) + 16 * (y 2 : ℕ) + (y 1 : ℕ) = 2048 * (i 0 : ℕ) + 16 * (i 2 : ℕ) + (i 1 : ℕ)
  omega

include eA eGa eWo eD in
theorem final11 : (dats m 0 c).arrAt 11 (cfgs 0).N = kept (daAt A Ga Wo D) := by
  refine (dats m 0 c).arrAt_eq_of_covers 11 _ (by decide +kernel) fun t _ y => ?_
  blk_simp
  rw [after0_11, step0 m A Ga Wo D c t eA eGa eWo eD]
  have e := (blockOf t).2.2.2.2.2.2.2.2.2.2.2.1
  have ht := lt8 t
  refine kept_at _ _ t y ?_ ?_ ?_ ?_ <;> blk_simp <;> simp [e]

include eA eGa eWo eD in
theorem final12 (hf : ∀ n c, zz A Ga Wo D n c - zz A Ga Wo D n c = 0) : (dats m 0 c).arrAt 12 (cfgs 0).N = kept (dsAt A Ga Wo D) := by
  refine (dats m 0 c).arrAt_eq_of_covers 12 _ (by decide +kernel) fun t _ y => ?_
  blk_simp
  rw [after0_12, step1 m A Ga Wo D c t eA eGa eWo eD hf]
  have e := (blockOf t).2.2.2.2.2.2.2.2.2.2.2.2.1
  have ht := lt8 t
  refine kept_at _ _ t y ?_ ?_ ?_ ?_ <;> blk_simp <;> simp [e]

include eZ eW eGc eWo eD in
theorem final13 : (dats m 0 c).arrAt 13 (cfgs 0).N = kept (dcAt Z W Gc Wo D) := by
  refine (dats m 0 c).arrAt_eq_of_covers 13 _ (by decide +kernel) fun t _ y => ?_
  blk_simp
  rw [after0_13, step2 m Z W Gc Wo D c t eZ eW eGc eWo eD]
  have e := (blockOf t).2.2.2.2.2.2.2.2.2.2.2.2.2.1
  have ht := lt8 t
  refine kept_at _ _ t y ?_ ?_ ?_ ?_ <;> blk_simp <;> simp [e]

include eA eWo eD in
theorem final14 : (dats m 0 c).arrAt 14 (cfgs 0).N = fun i : S1x512.Idx => ∑ n, gaAt A Wo D n (i 1) := by
  refine (dats m 0 c).arrAt_eq_of_after_last 14 t0_7 (by decide +kernel) _ fun j => ?_
  blk_simp
  rw [after0_14]
  exact (Pipeline.eq_sum_fin_of_reset_step_apply_last (fun n h => (outsAt0 m c n h).2.2.2.1) 8 (fun _ => 0) (fun t y => part (fun n => gaAt A Wo D n (y 1)) t)
    (fun t h y => (step3_A m A Wo D c t eA eWo eD h y).trans (zero_add _).symm) (fun t h y => step3_B m A Wo D c t eA eWo eD h y) (le_of_eq N_0) t0_7 rfl j).trans
    ((zero_add _).trans (part_sum _))

include eZ eW eWo eD in
theorem final15 : (dats m 0 c).arrAt 15 (cfgs 0).N = fun i : S1x512.Idx => ∑ n, gcAt Z W Wo D n (i 1) := by
  refine (dats m 0 c).arrAt_eq_of_after_last 15 t0_7 (by decide +kernel) _ fun j => ?_
  blk_simp
  rw [after0_15]
  exact (Pipeline.eq_sum_fin_of_reset_step_apply_last (fun n h => (outsAt0 m c n h).2.2.2.2.1) 8 (fun _ => 0) (fun t y => part (fun n => gcAt Z W Wo D n (y 1)) t)
    (fun t h y => (step4_A m Z W Wo D c t eZ eW eWo eD h y).trans (zero_add _).symm) (fun t h y => step4_B m Z W Wo D c t eZ eW eWo eD h y) (le_of_eq N_0) t0_7 rfl j).trans
    ((zero_add _).trans (part_sum _))

include eA eZ eW eGa eGc eM eD in
theorem final16 : (dats m 0 c).arrAt 16 (cfgs 0).N = fun i : S1024x1024.Idx => ∑ n, gwAt D M (i 0) (i 1) n := by
  refine (dats m 0 c).arrAt_eq_of_after_last 16 t0_7 (by decide +kernel) _ fun j => ?_
  blk_simp
  rw [after0_16, step5_C m c t0_7 rfl]
  exact (Pipeline.eq_sum_fin_of_reset_step_apply_last (fun n h => (outsAt0 m c n h).2.2.2.2.2.2) 8 (fun _ => 0) (fun t y => part (gwAt D M (y 0) (y 1)) t)
    (fun t h y => (step6_A m A Z W Ga Gc D M c t eA eZ eW eGa eGc eD eM h y).trans (zero_add _).symm) (fun t h y => step6_B m A Z W Ga Gc D M c t eA eZ eW eGa eGc eD eM h y)
    (le_of_eq N_0) t0_7 rfl j).trans ((zero_add _).trans (part_sum _))
end Final
end Cert.Mix
end
-- ==== Proof.Mix.lean ====
/- The mixer's gradient (`_mixer_bwd`): the host lines after the kernel, the reference, and the claim. -/
module

public import proofs.«01_k».proof.Proof.Gen.Kernel7Ideal.Frame
public import proofs.«01_k».proof.Proof.ConvSpec
public import proofs.«01_k».proof.Proof.Norm
public import proofs.«01_k».proof.Proof.Soft
public import proofs.«01_k».proof.Proof.MixStep
public import proofs.«01_k».proof.Proof.Gen.Reference7Ideal.Run
public import proofs.«01_k».proof.Proof.Gen.Pre_pre7
public import proofs.«01_k».proof.Defs
public import proofs.«01_k».proof.Proof.Gen.Reference7Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Mix
open Cert.Kernel7Ideal Cert.Kernel7Ideal.Gen Idealize.ShloMosaic.StableHlo

variable (m : (ℓ : Loc nD τ sig) → Buf (Elt Ideal) ℓ)

/-- The array a window of the kernel leaves, as the host lines after it find it. -/
theorem left (c : Dev nD) (w : Fin 17) :
    Pipeline.withArrays (cfgs 0).spec c (V0 m c) (fun w => (dats m 0 c).arrAt w (cfgs 0).N) (Proc.tc.devRef (Pipeline.arrRef spec0 w)) = (dats m 0 c).arrAt w (cfgs 0).N :=
  (dats m 0 c).withArrays_arrAt sharedIn0 _ (A_eq m c) w

/-- Regrouped by residue and back, a row is in its place. -/
theorem place (f : Fin 4096 → Fin 512 → EReal) {n n' : Fin 4096} {k k' : Fin 512} (h : (n : ℕ) = n') (h' : (k : ℕ) = k') : f n k = f n' k' := by
  rw [Fin.ext h, Fin.ext h']

section Tail
variable (A : FVec Ideal S4096x512 .f32) (Z : FVec Ideal S4096x1536 .f32) (W : FVec Ideal S3x512 .f32) (Ga Gc : FVec Ideal S1x512 .f32)
  (Wo : FVec Ideal S1024x1024 .f32) (D : FVec Ideal S4096x1024 .f32) (M : FVec Ideal S4096x1024 .f32) (c : Dev nD)
  (eA : m ((c : Thread nD τ).loc main_arg0) = A) (eZ : m ((c : Thread nD τ).loc main_arg1) = Z) (eW : m ((c : Thread nD τ).loc main_arg2) = W)
  (eGa : m ((c : Thread nD τ).loc main_arg3) = Ga) (eGc : m ((c : Thread nD τ).loc main_arg4) = Gc) (eWo : m ((c : Thread nD τ).loc main_arg5) = Wo)
  (eD : m ((c : Thread nD τ).loc main_arg6) = D)

include eA eGa eWo eD in
theorem tail87 : Pipeline.afterTail₀ cfgs (dats m) 0 (V0 m) [hostOps1] c main_v87 = fun i : S4096x512.Idx => daAt A Ga Wo D (i 0) (i 1) := by
  simp only [Pipeline.afterTail₀, hostOps1, List.flatten_cons, List.flatten_nil, List.append_nil, List.cons_append, List.nil_append]
  after_results
  rw [(left m c 11).trans (final11 m A Ga Wo D c eA eGa eWo eD)]
  funext i
  idx_vars i
  pointwise [kept]
  exact place (daAt A Ga Wo D) (by dsimp only [pos]; omega) (by dsimp only)

include eA eGa eWo eD in
theorem tail90 (hf : ∀ n c, zz A Ga Wo D n c - zz A Ga Wo D n c = 0) :
    Pipeline.afterTail₀ cfgs (dats m) 0 (V0 m) [hostOps1] c main_v90 = fun i : S4096x512.Idx => dsAt A Ga Wo D (i 0) (i 1) := by
  simp only [Pipeline.afterTail₀, hostOps1, List.flatten_cons, List.flatten_nil, List.append_nil, List.cons_append, List.nil_append]
  after_results
  rw [(left m c 12).trans (final12 m A Ga Wo D c eA eGa eWo eD hf)]
  funext i
  idx_vars i
  pointwise [kept]
  exact place (dsAt A Ga Wo D) (by dsimp only [pos]; omega) (by dsimp only)

include eZ eW eGc eWo eD in
theorem tail93 : Pipeline.afterTail₀ cfgs (dats m) 0 (V0 m) [hostOps1] c main_v93 = fun i : S4096x512.Idx => dcAt Z W Gc Wo D (i 0) (i 1) := by
  simp only [Pipeline.afterTail₀, hostOps1, List.flatten_cons, List.flatten_nil, List.append_nil, List.cons_append, List.nil_append]
  after_results
  rw [(left m c 13).trans (final13 m Z W Gc Wo D c eZ eW eGc eWo eD)]
  funext i
  idx_vars i
  pointwise [kept]
  exact place (dcAt Z W Gc Wo D) (by dsimp only [pos]; omega) (by dsimp only)

end Tail

section Reference
open Cert.Reference7Ideal.Read
variable (A : FVec Ideal S4096x512 .f32) (Z : FVec Ideal S4096x1536 .f32) (W : FVec Ideal S3x512 .f32) (Ga Gc : FVec Ideal S1x512 .f32)
  (Wo : FVec Ideal S1024x1024 .f32) (D : FVec Ideal S4096x1024 .f32) (n : Fin 4096) (k : Fin 512)

theorem ref_dm (i : Fin 1024) : val_main_v63 (F := Ideal) Wo D (ix2 n i) = dm Wo D n i := by
  pointwise [val_main_v63]
  rfl

theorem ref_yy : val_main_v28 (F := Ideal) Z W (ix2 n k) = yy Z W n k := by
  pointwise [val_main_v28, val_main_v27, val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7, val_main_v6, val_main_v5, val_main_v4, val_main_v3, val_main_v2, val_main_v1, val_main_v0]
  pointwise [val_main_cst, val_main_cst_0]
  unfold yy
  refine congrArg₂ (· * ·) (Conv.row_at (fun p => Z (ix2 p ⟨k, by omega⟩)) n n.isLt) ?_
  first | rw [← Conv.ref_conv Z W n k k.isLt] | (rw [← Conv.ref_conv Z W n k k.isLt, zero_add])

theorem ref_ma : val_main_v35 (F := Ideal) A (ix2 n 0) = Norm.ms (fun k => A (ix2 n k)) 512 := by
  pointwise [val_main_v35, val_main_v34, val_main_v33, val_main_v32, val_main_v31, val_main_v30, val_main_v29]
  pointwise [val_main_cst_1, val_main_cst_2, val_main_cst_3]
  unfold Norm.ms Norm.eps
  rw [← Norm.n512]

theorem ref_ra : val_main_v36 (F := Ideal) A (ix2 n 0) = Norm.rinv (fun k => A (ix2 n k)) 512 := by
  pointwise [val_main_v36]
  exact congrArg Ideal.rsqrt (ref_ma A n)

theorem ref_my : val_main_v50 (F := Ideal) Z W (ix2 n 0) = Norm.ms (yy Z W n) 512 := by
  pointwise [val_main_v50, val_main_v49, val_main_v48, val_main_v47, val_main_v46, val_main_v45, val_main_v44]
  pointwise [val_main_cst_5, val_main_cst_6, val_main_cst_7]
  simp only [ref_yy]
  unfold Norm.ms Norm.eps
  rw [← Norm.n512]

theorem ref_ry : val_main_v51 (F := Ideal) Z W (ix2 n 0) = Norm.rinv (yy Z W n) 512 := by
  pointwise [val_main_v51]
  exact congrArg Ideal.rsqrt (ref_my Z W n)

theorem ref_ga : val_main_v89 (F := Ideal) Ga Wo D (ix2 n k) = dm Wo D n (ia k) * Ga (ix2 0 k) := by
  pointwise [val_main_v89, val_main_v88, val_main_v64]
  rw [ref_dm]

theorem ref_gc : val_main_v70 (F := Ideal) Gc Wo D (ix2 n k) = dm Wo D n (ic k) * Gc (ix2 0 k) := by
  pointwise [val_main_v70, val_main_v69, val_main_v65]
  rw [ref_dm]

theorem ref_ca : val_main_v97 (F := Ideal) A Ga Wo D (ix2 n 0) = Norm.chain (fun k => A (ix2 n k)) (fun k => dm Wo D n (ia k) * Ga (ix2 0 k)) 512 := by
  pointwise [val_main_v97, val_main_v96, val_main_v95, val_main_v92, val_main_v91, val_main_v90, val_main_v39, val_main_v38, val_main_v37]
  pointwise [val_main_cst_4, val_main_cst_14, val_main_cst_15]
  simp only [ref_ga, ref_ra, ref_ma]
  unfold Norm.chain
  rw [← Norm.n512, ← Norm.half_neg]

theorem ref_cy : val_main_v78 (F := Ideal) Z W Gc Wo D (ix2 n 0) = Norm.chain (yy Z W n) (fun k => dm Wo D n (ic k) * Gc (ix2 0 k)) 512 := by
  pointwise [val_main_v78, val_main_v77, val_main_v76, val_main_v73, val_main_v72, val_main_v71, val_main_v54, val_main_v53, val_main_v52]
  pointwise [val_main_cst_8, val_main_cst_10, val_main_cst_11]
  simp only [ref_gc, ref_ry, ref_my, ref_yy]
  unfold Norm.chain
  rw [← Norm.n512, ← Norm.half_neg]

theorem ref_da : val_main_v103 (F := Ideal) A Ga Wo D (ix2 n k) = daAt A Ga Wo D n k := by
  refine Eq.trans ?_ (Norm.back_eq _ _ 512 (by norm_num) k).symm
  pointwise [val_main_v103, val_main_v102, val_main_v101, val_main_v100, val_main_v99, val_main_v98, val_main_v94, val_main_v93]
  pointwise [val_main_cst_16]
  simp only [ref_ga, ref_ra, Finset.univ_unique, Finset.sum_singleton]
  rw [show val_main_v97 (F := Ideal) A Ga Wo D (ix2 n default) = _ from ref_ca A Ga Wo D n]

theorem ref_dc : val_main_v84 (F := Ideal) Z W Gc Wo D (ix2 n k) = dcAt Z W Gc Wo D n k := by
  refine Eq.trans ?_ (Norm.back_eq _ _ 512 (by norm_num) k).symm
  pointwise [val_main_v84, val_main_v83, val_main_v82, val_main_v81, val_main_v80, val_main_v79, val_main_v75, val_main_v74]
  pointwise [val_main_cst_12]
  simp only [ref_gc, ref_ry, ref_yy, Finset.univ_unique, Finset.sum_singleton]
  rw [show val_main_v78 (F := Ideal) Z W Gc Wo D (ix2 n default) = _ from ref_cy Z W Gc Wo D n]

theorem ref_ds : val_main_v108 (F := Ideal) A Ga Wo D (ix2 n k) = dsAt A Ga Wo D n k := by
  pointwise [val_main_v108, val_main_v107, val_main_v106, val_main_v105, val_main_v104]
  pointwise [val_main_cst_17]
  simp only [ref_da]
  unfold dsAt
  rw [Fin.sum_univ_tiles 8 64 rfl, Finset.sum_eq_single (⟨(k : ℕ) / 64, by omega⟩ : Fin 8)]
  · refine Finset.sum_congr rfl fun x _ => (if_pos ?_).symm
    dsimp only; omega
  · intro s _ hs
    refine Finset.sum_eq_zero fun x _ => if_neg fun h => hs (Fin.ext ?_)
    dsimp only at h ⊢; omega
  · exact fun h => absurd (Finset.mem_univ _) h

theorem ref_dga : val_main_v87 (F := Ideal) A Wo D (ix2 0 k) = ∑ n, gaAt A Wo D n k := by
  pointwise [val_main_v87, val_main_v86, val_main_v85, val_main_v64, val_main_v41, val_main_v40]
  pointwise [val_main_cst_13]
  simp only [ref_dm, ref_ra]
  exact Finset.sum_congr rfl fun _ _ => mul_comm _ _

theorem ref_dgc : val_main_v68 (F := Ideal) Z W Wo D (ix2 0 k) = ∑ n, gcAt Z W Wo D n k := by
  pointwise [val_main_v68, val_main_v67, val_main_v66, val_main_v65, val_main_v56, val_main_v55]
  pointwise [val_main_cst_9]
  simp only [ref_dm, ref_ry, ref_yy]
  exact Finset.sum_congr rfl fun _ _ => mul_comm _ _

theorem ref_dw (i j : Fin 1024) : val_main_v109 (F := Ideal) A Z W Ga Gc D (ix2 i j) = ∑ n, gwAt D (val_main_v59 (F := Ideal) A Z W Ga Gc) i j n := by
  pointwise [val_main_v109, val_main_v62, val_main_v61]
  exact Finset.sum_congr rfl fun _ _ => mul_comm _ _
end Reference

section Pre
theorem fin_sub {y z : EReal} (a : Soft.Fin' y) (b : Soft.Fin' z) : Soft.Fin' (y - z) := by
  obtain ⟨r, rfl⟩ := a
  obtain ⟨s, rfl⟩ := b
  exact ⟨r - s, rfl⟩

theorem fin_rinv {n : ℕ} (x : Fin n → EReal) : Soft.Fin' (Norm.rinv x 512) := by
  rcases Norm.rinv_cases x 512 (by norm_num) with ⟨-, h⟩ | ⟨-, r, -, -, h, -⟩
  · exact ⟨0, h⟩
  · exact ⟨r, h⟩

/-- Of finite rows and cotangents, a norm's gradient is finite. -/
theorem fin_back {n : ℕ} (x gy : Fin n → EReal) (hx : ∀ k, Soft.Fin' (x k)) (hg : ∀ k, Soft.Fin' (gy k)) (k : Fin n) : Soft.Fin' (Norm.back x gy 512 k) := by
  have hh := fun k => Soft.fin_mul (hx k) (fin_rinv x)
  unfold Norm.back
  rw [Norm.div_coe _ _ (by norm_num)]
  exact Soft.fin_mul (fin_rinv x) (fin_sub (hg k) (Soft.fin_mul (hh k) (Soft.fin_mul (Soft.fin_sum _ _ fun k => Soft.fin_mul (hh k) (hg k)) ⟨_, rfl⟩)))

/-- The precondition: what the split of the head sums' rows subtracts is finite. -/
theorem pre_fin (a0 a1 a2 a3 a4 a5 a6) (e : Cert.Pre_pre7.fn (F := Ideal) a0 a1 a2 a3 a4 a5 a6 = fun _ => 1#1) (n : Fin 4096) (c : Fin 512) :
    zz a0 a3 a5 a6 n c - zz a0 a3 a5 a6 n c = 0 := by
  have e0 := congrFun e (Shape.Idx.first Cert.Pre_pre7.Gen.h_S_)
  unfold Cert.Pre_pre7.fn at e0
  obtain ⟨e123, e4⟩ := IntOp.andi_eq_one.1 e0
  obtain ⟨e12, e3⟩ := IntOp.andi_eq_one.1 e123
  obtain ⟨e1, e2⟩ := IntOp.andi_eq_one.1 e12
  have : Subsingleton Cert.Pre_pre7.S_.Idx := ⟨fun a b => funext fun k => k.elim0⟩
  have hA : ∀ k, Soft.Fin' (a0 (ix2 n k)) := fun k => Soft.fin_of_test _ (Host.reduce_andi_all _ _ _ _ _ e1 _)
  have hG : ∀ k, Soft.Fin' (a3 (ix2 0 k)) := fun k => Soft.fin_of_test _ (Host.reduce_andi_all _ _ _ _ _ e2 _)
  have hD : ∀ k, Soft.Fin' (a6 (ix2 n k)) := fun k => Soft.fin_of_test _ (Host.reduce_andi_all _ _ _ _ _ e4 _)
  have hW : ∀ i k, Soft.Fin' (a5 (ix2 (ia i) k)) := fun i k => by
    refine Eq.mp (congrArg Soft.Fin' ?_) (Soft.fin_of_test _ (Host.reduce_andi_all _ _ _ _ _ e3 (ix2 i k)))
    exact extractStridedSlice_apply ![0, 0] a5 _ (ix2 i k) (ix2 (ia i) k) (fun a => match a with
      | ⟨0, _⟩ => by show (i : ℕ) = 0 + i; omega
      | ⟨1, _⟩ => by show (k : ℕ) = 0 + k; omega)
  obtain ⟨r, h⟩ : Soft.Fin' (zz a0 a3 a5 a6 n c) :=
    Soft.fin_mul (fin_back _ _ hA (fun k => Soft.fin_mul (Soft.fin_sum _ _ fun q => Soft.fin_mul (hD q) (hW k q)) (hG k)) c) (hA c)
  rw [h]
  rw [← EReal.coe_sub, sub_self]; rfl
end Pre

/-- The kernel's arrays are the reference's. -/
theorem result : Cert.algebraic_Kernel7Ideal_Reference7Ideal_pre_pre7 (hKernel7Ideal := Cert.Kernel7Ideal.Gen.facts) (hReference7Ideal := Cert.Reference7Ideal.Gen.facts) (hPre_pre7 := Cert.Pre_pre7.Gen.facts) := by
  intro m g m' g' hp hagree
  refine ⟨fun c i => daAt (m ((c : Thread nD τ).loc main_arg0)) (m ((c : Thread nD τ).loc main_arg3)) (m ((c : Thread nD τ).loc main_arg5)) (m ((c : Thread nD τ).loc main_arg6)) (i 0) (i 1), fun c i => dsAt (m ((c : Thread nD τ).loc main_arg0)) (m ((c : Thread nD τ).loc main_arg3)) (m ((c : Thread nD τ).loc main_arg5)) (m ((c : Thread nD τ).loc main_arg6)) (i 0) (i 1),
    fun c i => dcAt (m ((c : Thread nD τ).loc main_arg1)) (m ((c : Thread nD τ).loc main_arg2)) (m ((c : Thread nD τ).loc main_arg4)) (m ((c : Thread nD τ).loc main_arg5)) (m ((c : Thread nD τ).loc main_arg6)) (i 0) (i 1), fun c => fun i : S1x512.Idx => (∑ n, gaAt (m ((c : Thread nD τ).loc main_arg0)) (m ((c : Thread nD τ).loc main_arg5)) (m ((c : Thread nD τ).loc main_arg6)) n (i 1) : EReal), fun c => fun i : S1x512.Idx => (∑ n, gcAt (m ((c : Thread nD τ).loc main_arg1)) (m ((c : Thread nD τ).loc main_arg2)) (m ((c : Thread nD τ).loc main_arg5)) (m ((c : Thread nD τ).loc main_arg6)) n (i 1) : EReal),
    fun c => fun i : S1024x1024.Idx => (∑ n, gwAt (m ((c : Thread nD τ).loc main_arg6)) (Cert.Reference7Ideal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (i 0) (i 1) n : EReal), ?_, ?_⟩
  · exact θ_run_mono (Idealize.ShloMosaic.θ_run_and (Cert.Kernel7Ideal.Gen.run_main m g) (Cert.Kernel7Ideal.Gen.unchanged m g)) fun r h c =>
      ⟨((h.1 c).2 main_v87 (Pipeline.mem_restRefs_of main_v87 (by decide) (by decide))).trans (tail87 m _ _ _ _ c rfl rfl rfl rfl),
        ((h.1 c).2 main_v90 (Pipeline.mem_restRefs_of main_v90 (by decide) (by decide))).trans (tail90 m _ _ _ _ c rfl rfl rfl rfl (pre_fin _ _ _ _ _ _ _ (hp c))),
        ((h.1 c).2 main_v93 (Pipeline.mem_restRefs_of main_v93 (by decide) (by decide))).trans (tail93 m _ _ _ _ _ c rfl rfl rfl rfl rfl),
        ((h.1 c).1 14).trans (final14 m _ _ _ c rfl rfl rfl), ((h.1 c).1 15).trans (final15 m _ _ _ _ c rfl rfl rfl rfl),
        ((h.1 c).1 16).trans (final16 m _ _ _ _ _ _ _ c rfl rfl rfl rfl rfl rfl rfl), h.2 c⟩
  · exact θ_run_mono (Cert.Reference7Ideal.Value.run m' g') fun r h c => by
      obtain ⟨a0, a1, a2, a3, a4, a5, a6⟩ := hagree c
      obtain ⟨h0, h1, h2, h3, h4, h5, hk⟩ := h c
      refine ⟨h0.trans ?_, h1.trans ?_, h2.trans ?_, h3.trans ?_, h4.trans ?_, h5.trans ?_, hk⟩
      · rw [Cert.Reference7Ideal.Read.val_main_v103_eq, a0, a3, a5, a6]; funext i; idx_vars i; exact ref_da _ _ _ _ i0 i1
      · rw [Cert.Reference7Ideal.Read.val_main_v108_eq, a0, a3, a5, a6]; funext i; idx_vars i; exact ref_ds _ _ _ _ i0 i1
      · rw [Cert.Reference7Ideal.Read.val_main_v84_eq, a1, a2, a4, a5, a6]; funext i; idx_vars i; exact ref_dc _ _ _ _ _ i0 i1
      · rw [Cert.Reference7Ideal.Read.val_main_v87_eq, a0, a5, a6]; funext i; idx_vars i; obtain rfl : i0 = 0 := Subsingleton.elim _ _; exact ref_dga _ _ _ i1
      · rw [Cert.Reference7Ideal.Read.val_main_v68_eq, a1, a2, a5, a6]; funext i; idx_vars i; obtain rfl : i0 = 0 := Subsingleton.elim _ _; exact ref_dgc _ _ _ _ i1
      · rw [Cert.Reference7Ideal.Read.val_main_v109_eq, a0, a1, a2, a3, a4, a6]; funext i; idx_vars i; exact ref_dw _ _ _ _ _ _ i0 i1
end Cert.Mix
end
-- ==== Proof.MixDxSlab.lean ====
/- The scratch slabs of `mixer_dx`: each block of columns is stored row by row at stride sixteen, which puts the rows back in their order. -/
module

public import proofs.«01_k».proof.Proof.Gen.Kernel8Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MixDx
open Cert.Kernel8Ideal Cert.Kernel8Ideal.Gen Idealize.ShloMosaic.StableHlo

/-- Where the kernel holds the row that ends at place `r` of a tile. -/
def held (r : ℕ) : ℕ := r % 16 * 32 + r / 16

theorem held_lt (r : ℕ) (h : r < 512) : held r < 512 := by unfold held; omega

/-- The rows in their order: slab `z 0`, row `z 1`, column `z 2`. -/
def rows (P : FVec Ideal S512x1024 .f32) : S8x512x128.Idx → EReal := fun z =>
  P (ix2 ⟨held (z 1), held_lt _ (z 1).isLt⟩ ⟨(z 0).val * 128 + (z 2).val, by have := (z 0).isLt; have := (z 2).isLt; simp only [S8x512x128, Matrix.cons_val_zero, Matrix.cons_val] at *; omega⟩)

/-- The rows `q`, `q + 16`, … of a slab. -/
def every (q : ℕ) (hq : q < 16) : Rect S512x128 where
  off := ![q, 0]
  size := ![32, 128]
  stride := ![16, 1]
  inb := fun a => match a with
    | ⟨0, _⟩ => Or.inr (by show q + 16 * (32 - 1) < 512; omega)
    | ⟨1, _⟩ => Or.inr (by show 0 + 1 * (128 - 1) < 128; omega)
  stride_pos := fun a => match a with
    | ⟨0, _⟩ => (by decide : 0 < 16)
    | ⟨1, _⟩ => (by decide : 0 < 1)

theorem unit0 : (![1, 512, 128] : Fin 3 → ℕ) 0 = 1 := rfl

theorem unitS : ∀ i : Fin 2, (![1, 512, 128] : Fin 3 → ℕ) i.succ = (![512, 128] : Fin 2 → ℕ) i := by decide

/-- Slab `s`. -/
def whole (s : ℕ) (hs : s < 8) : Rect S8x512x128 := Rect.unit (s := S8x512x128) ![s, 0, 0] ![1, 512, 128] (fun a => match a with
    | ⟨0, _⟩ => by show s + 1 ≤ 8; omega
    | ⟨1, _⟩ => le_refl 512
    | ⟨2, _⟩ => le_refl 128)

/-- The rows `q`, `q + 16`, … of slab `s`. -/
def stripe (s q : ℕ) (hs : s < 8) (hq : q < 16) : Rect S8x512x128 :=
  (whole s hs).within ((every q hq).consLift ![1, 512, 128] unit0 unitS) (fun _ => rfl)

/-- One strided store. -/
def piece (s q : ℕ) (hs : s < 8) (hq : q < 16) (w : FVec Ideal S32x128 .f32) : View.Piece (Elt Ideal) S8x512x128 .f32 :=
  ⟨stripe s q hs hq, Rect.payAlong ((every q hq).numel_consLift ![1, 512, 128] unit0 unitS) w⟩

/-- The rows that stripe `q` of slab `s` takes. -/
def cut (P : FVec Ideal S512x1024 .f32) (s q : ℕ) (hs : s < 8) (hq : q < 16) : FVec Ideal S32x128 .f32 := fun y =>
  P (ix2 ⟨q * 32 + (y 0).val, by have : (y 0).val < 32 := (y 0).isLt; omega⟩ ⟨s * 128 + (y 1).val, by have : (y 1).val < 128 := (y 1).isLt; omega⟩)

theorem piece_at (P : FVec Ideal S512x1024 .f32) (s q : ℕ) (hs : s < 8) (hq : q < 16) (x : (stripe s q hs hq).shape.Idx) :
    Rect.payAlong ((every q hq).numel_consLift ![1, 512, 128] unit0 unitS) (cut P s q hs hq) x = rows P ((stripe s q hs hq).emb x) := by
  have x0 : (x 0).val < 1 := (x 0).isLt
  have x1 : (x 1).val < 32 := (x 1).isLt
  have x2 : (x 2).val < 128 := (x 2).isLt
  refine (Rect.payAlong_consLift (every q hq) ![1, 512, 128] unit0 unitS (cut P s q hs hq) _ x (ix2 ⟨(x 1).val, x1⟩ ⟨(x 2).val, x2⟩) fun i => match i with
    | ⟨0, _⟩ => rfl
    | ⟨1, _⟩ => rfl).trans ?_
  unfold cut rows
  refine congrArg₂ (fun a b => P (ix2 a b)) (Fin.ext ?_) (Fin.ext ?_)
  · show q * 32 + (x 1).val = held ((0 + q) + 16 * (x 1).val)
    unfold held
    omega
  · show s * 128 + (x 2).val = ((s + 0) + 1 * (x 0).val) * 128 + ((0 + 0) + 1 * (x 2).val)
    omega

theorem mem_stripe (s q : ℕ) (hs : s < 8) (hq : q < 16) (r : Fin 512) (k : Fin 128) (h : r.val % 16 = q) : (ix3 (⟨s, hs⟩ : Fin 8) r k : S8x512x128.Idx) ∈ (stripe s q hs hq).set := by
  refine (stripe s q hs hq).mem_set.mpr fun a => match a with
    | ⟨0, _⟩ => ⟨0, (by decide : 0 < 1), by show s = (s + 0) + 1 * 0; omega⟩
    | ⟨1, _⟩ => ⟨r.val / 16, by show r.val / 16 < 32; omega, by show r.val = (0 + q) + 16 * (r.val / 16); omega⟩
    | ⟨2, _⟩ => ⟨k.val, k.isLt, by show k.val = (0 + 0) + 1 * k.val; omega⟩

/-- Every store agrees with the rows in their order. -/
def Good (P : FVec Ideal S512x1024 .f32) (L : List (View.Piece (Elt Ideal) S8x512x128 .f32)) : Prop := ∀ p ∈ L, ∀ x : p.1.shape.Idx, p.2 x = rows P (p.1.emb x)

/-- Slab `s` is stored whole. -/
def Whole (s : ℕ) (hs : s < 8) (L : List (View.Piece (Elt Ideal) S8x512x128 .f32)) : Prop := ∀ (q : ℕ) (hq : q < 16), ∃ w, piece s q hs hq w ∈ L

theorem good_cons (P : FVec Ideal S512x1024 .f32) (s q : ℕ) (hs : s < 8) (hq : q < 16) (w : FVec Ideal S32x128 .f32) (L : List (View.Piece (Elt Ideal) S8x512x128 .f32))
    (hw : w = cut P s q hs hq) (h : Good P L) : Good P (piece s q hs hq w :: L) := by
  intro p hp
  rcases List.mem_cons.1 hp with rfl | hp
  · rw [hw]; exact piece_at P s q hs hq
  · exact h p hp

/-- A slab read back holds the rows in their order. -/
theorem slab_read (P : FVec Ideal S512x1024 .f32) (s : ℕ) (hs : s < 8) (L : List (View.Piece (Elt Ideal) S8x512x128 .f32)) (hg : Good P L) (hw : Whole s hs L)
    (B : LoadRect S8x512x128) (x : B.shape.Idx) (r : Fin 512) (k : Fin 128) (hB : B.idx x = (ix3 (⟨s, hs⟩ : Fin 8) r k : S8x512x128.Idx)) :
    (View.whole cc0_scratch0).readCov L B x = P (ix2 ⟨held r, held_lt _ r.isLt⟩ ⟨s * 128 + k.val, by omega⟩) := by
  rw [View.readCov_eq_canon']
  show View.canon L (B.idx x) = _
  rw [hB]
  refine View.canon_eq_of_allAt L _ _ ?_ fun p hp x e => ?_
  · obtain ⟨w, h⟩ := hw (r.val % 16) (by omega)
    exact ⟨_, h, mem_stripe s (r.val % 16) hs (by omega) r k rfl⟩
  · rw [hg p hp x, e]
    rfl

/-- Sixteen stores, which fill a slab. -/
def slab (s : ℕ) (hs : s < 8) (w : Fin 16 → FVec Ideal S32x128 .f32) (L : List (View.Piece (Elt Ideal) S8x512x128 .f32)) : List (View.Piece (Elt Ideal) S8x512x128 .f32) :=
  piece s 15 hs (by decide) (w 15) :: piece s 14 hs (by decide) (w 14) :: piece s 13 hs (by decide) (w 13) :: piece s 12 hs (by decide) (w 12) :: piece s 11 hs (by decide) (w 11) :: piece s 10 hs (by decide) (w 10) :: piece s 9 hs (by decide) (w 9) :: piece s 8 hs (by decide) (w 8) :: piece s 7 hs (by decide) (w 7) :: piece s 6 hs (by decide) (w 6) :: piece s 5 hs (by decide) (w 5) :: piece s 4 hs (by decide) (w 4) :: piece s 3 hs (by decide) (w 3) :: piece s 2 hs (by decide) (w 2) :: piece s 1 hs (by decide) (w 1) :: piece s 0 hs (by decide) (w 0) :: L

theorem whole_slab (s : ℕ) (hs : s < 8) (w : Fin 16 → FVec Ideal S32x128 .f32) (L : List (View.Piece (Elt Ideal) S8x512x128 .f32)) : Whole s hs (slab s hs w L) := by
  intro q hq
  refine ⟨w ⟨q, hq⟩, ?_⟩
  unfold slab
  interval_cases q <;> simp only [List.mem_cons] <;> tauto

theorem good_slab (P : FVec Ideal S512x1024 .f32) (s : ℕ) (hs : s < 8) (w : Fin 16 → FVec Ideal S32x128 .f32) (L : List (View.Piece (Elt Ideal) S8x512x128 .f32))
    (hw : ∀ q : Fin 16, w q = cut P s q.val hs q.isLt) (h : Good P L) : Good P (slab s hs w L) := by
  unfold slab
  iterate 16 refine good_cons P s _ hs _ _ _ (hw _) ?_
  exact h

theorem slab_at (P : FVec Ideal S512x1024 .f32) (s : ℕ) (hs : s < 8) (L : List (View.Piece (Elt Ideal) S8x512x128 .f32)) (hg : Good (P) L) (hw : Whole s hs L) (inb) (r : Fin 512) (k : Fin 128) :
    (View.whole cc0_scratch0).readCov L (Rect.unit (s := S8x512x128) ![s, 0, 0] ![1, 512, 128] inb).toLoadRect (ix3 0 r k) = P (ix2 ⟨held r, held_lt _ r.isLt⟩ ⟨s * 128 + k.val, by omega⟩) :=
  slab_read _ s hs L hg hw _ _ r k (funext fun a => Fin.ext (match a with
    | ⟨0, _⟩ => by show s + 1 * 0 = s; omega
    | ⟨1, _⟩ => by show 0 + 1 * r.val = r.val; omega
    | ⟨2, _⟩ => by show 0 + 1 * k.val = k.val; omega))

/-- A block written in eight blocks of columns. -/
def cols (R0 R1 R2 R3 R4 R5 R6 R7 : FVec Ideal S1x512x128 .f32) : FVec Ideal S512x1024 .f32 := View.canon (Val := Elt Ideal) (e := .f32)
   [⟨Rect.unit ![0, 896] ![512, 128] inb_S512x1024_S512x128_0_896, k0_pay2 (F := Ideal) R7⟩,
    ⟨Rect.unit ![0, 768] ![512, 128] inb_S512x1024_S512x128_0_768, k0_pay151 (F := Ideal) R6⟩,
    ⟨Rect.unit ![0, 640] ![512, 128] inb_S512x1024_S512x128_0_640, k0_pay131 (F := Ideal) R5⟩,
    ⟨Rect.unit ![0, 512] ![512, 128] inb_S512x1024_S512x128_0_512, k0_pay111 (F := Ideal) R4⟩,
    ⟨Rect.unit ![0, 384] ![512, 128] inb_S512x1024_S512x128_0_384, k0_pay91 (F := Ideal) R3⟩,
    ⟨Rect.unit ![0, 256] ![512, 128] inb_S512x1024_S512x128_0_256, k0_pay71 (F := Ideal) R2⟩,
    ⟨Rect.unit ![0, 128] ![512, 128] inb_S512x1024_S512x128_0_128, k0_pay51 (F := Ideal) R1⟩,
    ⟨Rect.unit ![0, 0] ![512, 128] inb_S512x1024_S512x128_0_0, k0_pay31 (F := Ideal) R0⟩]

theorem cols_at (R0 R1 R2 R3 R4 R5 R6 R7 : FVec Ideal S1x512x128 .f32) (f : Fin 512 → Fin 1024 → EReal)
    (h0 : ∀ (r : Fin 512) (k : Fin 128), R0 (ix3 0 r k) = f r ⟨0 * 128 + k.val, by omega⟩) (h1 : ∀ (r : Fin 512) (k : Fin 128), R1 (ix3 0 r k) = f r ⟨1 * 128 + k.val, by omega⟩) (h2 : ∀ (r : Fin 512) (k : Fin 128), R2 (ix3 0 r k) = f r ⟨2 * 128 + k.val, by omega⟩) (h3 : ∀ (r : Fin 512) (k : Fin 128), R3 (ix3 0 r k) = f r ⟨3 * 128 + k.val, by omega⟩) (h4 : ∀ (r : Fin 512) (k : Fin 128), R4 (ix3 0 r k) = f r ⟨4 * 128 + k.val, by omega⟩) (h5 : ∀ (r : Fin 512) (k : Fin 128), R5 (ix3 0 r k) = f r ⟨5 * 128 + k.val, by omega⟩) (h6 : ∀ (r : Fin 512) (k : Fin 128), R6 (ix3 0 r k) = f r ⟨6 * 128 + k.val, by omega⟩) (h7 : ∀ (r : Fin 512) (k : Fin 128), R7 (ix3 0 r k) = f r ⟨7 * 128 + k.val, by omega⟩)
    (y : S512x1024.Idx) : cols R0 R1 R2 R3 R4 R5 R6 R7 y = f (y 0) (y 1) := by
  unfold cols
  canon_tiles x hx
  · idx_vars x; pointwise [k0_pay2]; exact (h7 x0 x1).trans (congrArg₂ f (Fin.ext (by omega)) (Fin.ext (by show 7 * 128 + x1.val = _; omega)))
  · idx_vars x; pointwise [k0_pay151]; exact (h6 x0 x1).trans (congrArg₂ f (Fin.ext (by omega)) (Fin.ext (by show 6 * 128 + x1.val = _; omega)))
  · idx_vars x; pointwise [k0_pay131]; exact (h5 x0 x1).trans (congrArg₂ f (Fin.ext (by omega)) (Fin.ext (by show 5 * 128 + x1.val = _; omega)))
  · idx_vars x; pointwise [k0_pay111]; exact (h4 x0 x1).trans (congrArg₂ f (Fin.ext (by omega)) (Fin.ext (by show 4 * 128 + x1.val = _; omega)))
  · idx_vars x; pointwise [k0_pay91]; exact (h3 x0 x1).trans (congrArg₂ f (Fin.ext (by omega)) (Fin.ext (by show 3 * 128 + x1.val = _; omega)))
  · idx_vars x; pointwise [k0_pay71]; exact (h2 x0 x1).trans (congrArg₂ f (Fin.ext (by omega)) (Fin.ext (by show 2 * 128 + x1.val = _; omega)))
  · idx_vars x; pointwise [k0_pay51]; exact (h1 x0 x1).trans (congrArg₂ f (Fin.ext (by omega)) (Fin.ext (by show 1 * 128 + x1.val = _; omega)))
  · idx_vars x; pointwise [k0_pay31]; exact (h0 x0 x1).trans (congrArg₂ f (Fin.ext (by omega)) (Fin.ext (by show 0 * 128 + x1.val = _; omega)))

section Stores
variable (v46 : FVec Ideal S512x1024 .f32) (v47 : FVec Ideal S1x1024 .f32) (v59 : FVec Ideal S512x1 .f32) (v61 : FVec Ideal S512x1024 .f32) (v74 : FVec Ideal S1x16x32x1024 .f32)

/-- What is stored into slab 0. -/
def w0 : Fin 16 → FVec Ideal S32x128 .f32 := ![k0_pay12 v46 v47 v59 v61 v74, k0_pay13 v46 v47 v59 v61 v74, k0_pay14 v46 v47 v59 v61 v74, k0_pay16 (k0_pay15 v46 v47 v59 v61 v74), k0_pay17 (k0_pay11 v46 v47 v59 v61 v74), k0_pay18 (k0_pay11 v46 v47 v59 v61 v74), k0_pay19 (k0_pay11 v46 v47 v59 v61 v74), k0_pay20 (k0_pay11 v46 v47 v59 v61 v74), k0_pay22 (k0_pay21 (k0_pay11 v46 v47 v59 v61 v74)), k0_pay23 (k0_pay11 v46 v47 v59 v61 v74), k0_pay24 (k0_pay11 v46 v47 v59 v61 v74), k0_pay25 (k0_pay11 v46 v47 v59 v61 v74), k0_pay26 (k0_pay11 v46 v47 v59 v61 v74), k0_pay28 (k0_pay27 (k0_pay11 v46 v47 v59 v61 v74)), k0_pay29 (k0_pay11 v46 v47 v59 v61 v74), k0_pay30 (k0_pay11 v46 v47 v59 v61 v74)]

theorem w0_eq (q : Fin 16) : w0 v46 v47 v59 v61 v74 q = cut (k0_pay11 v46 v47 v59 v61 v74) 0 q.val (by decide) q.isLt := by
  fin_cases q <;> funext y <;> idx_vars y <;> pointwise [w0, cut, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]

/-- What is stored into slab 1. -/
def w1 (P : FVec Ideal S512x1024 .f32) : Fin 16 → FVec Ideal S32x128 .f32 := ![k0_pay32 P, k0_pay34 (k0_pay33 P), k0_pay35 P, k0_pay36 P, k0_pay37 P, k0_pay38 P, k0_pay40 (k0_pay39 P), k0_pay41 P, k0_pay42 P, k0_pay43 P, k0_pay44 P, k0_pay46 (k0_pay45 P), k0_pay47 P, k0_pay48 P, k0_pay49 P, k0_pay50 P]

theorem w1_eq (P : FVec Ideal S512x1024 .f32) (q : Fin 16) : w1 P q = cut P 1 q.val (by decide) q.isLt := by
  fin_cases q <;> funext y <;> idx_vars y <;> pointwise [w1, cut, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50]

/-- What is stored into slab 2. -/
def w2 (P : FVec Ideal S512x1024 .f32) : Fin 16 → FVec Ideal S32x128 .f32 := ![k0_pay52 P, k0_pay53 P, k0_pay54 P, k0_pay55 P, k0_pay57 (k0_pay56 P), k0_pay58 P, k0_pay59 P, k0_pay60 P, k0_pay61 P, k0_pay63 (k0_pay62 P), k0_pay64 P, k0_pay65 P, k0_pay66 P, k0_pay67 P, k0_pay69 (k0_pay68 P), k0_pay70 P]

theorem w2_eq (P : FVec Ideal S512x1024 .f32) (q : Fin 16) : w2 P q = cut P 2 q.val (by decide) q.isLt := by
  fin_cases q <;> funext y <;> idx_vars y <;> pointwise [w2, cut, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70]

/-- What is stored into slab 3. -/
def w3 (P : FVec Ideal S512x1024 .f32) : Fin 16 → FVec Ideal S32x128 .f32 := ![k0_pay72 P, k0_pay73 P, k0_pay75 (k0_pay74 P), k0_pay76 P, k0_pay77 P, k0_pay78 P, k0_pay79 P, k0_pay81 (k0_pay80 P), k0_pay82 P, k0_pay83 P, k0_pay84 P, k0_pay85 P, k0_pay87 (k0_pay86 P), k0_pay88 P, k0_pay89 P, k0_pay90 P]

theorem w3_eq (P : FVec Ideal S512x1024 .f32) (q : Fin 16) : w3 P q = cut P 3 q.val (by decide) q.isLt := by
  fin_cases q <;> funext y <;> idx_vars y <;> pointwise [w3, cut, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90]

/-- What is stored into slab 4. -/
def w4 (P : FVec Ideal S512x1024 .f32) : Fin 16 → FVec Ideal S32x128 .f32 := ![k0_pay92 P, k0_pay94 (k0_pay93 P), k0_pay95 P, k0_pay96 P, k0_pay97 P, k0_pay98 P, k0_pay100 (k0_pay99 P), k0_pay101 P, k0_pay102 P, k0_pay103 P, k0_pay104 P, k0_pay106 (k0_pay105 P), k0_pay107 P, k0_pay108 P, k0_pay109 P, k0_pay110 P]

theorem w4_eq (P : FVec Ideal S512x1024 .f32) (q : Fin 16) : w4 P q = cut P 4 q.val (by decide) q.isLt := by
  fin_cases q <;> funext y <;> idx_vars y <;> pointwise [w4, cut, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110]

/-- What is stored into slab 5. -/
def w5 (P : FVec Ideal S512x1024 .f32) : Fin 16 → FVec Ideal S32x128 .f32 := ![k0_pay112 P, k0_pay113 P, k0_pay114 P, k0_pay115 P, k0_pay117 (k0_pay116 P), k0_pay118 P, k0_pay119 P, k0_pay120 P, k0_pay121 P, k0_pay123 (k0_pay122 P), k0_pay124 P, k0_pay125 P, k0_pay126 P, k0_pay127 P, k0_pay129 (k0_pay128 P), k0_pay130 P]

theorem w5_eq (P : FVec Ideal S512x1024 .f32) (q : Fin 16) : w5 P q = cut P 5 q.val (by decide) q.isLt := by
  fin_cases q <;> funext y <;> idx_vars y <;> pointwise [w5, cut, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130]

/-- What is stored into slab 6. -/
def w6 (P : FVec Ideal S512x1024 .f32) : Fin 16 → FVec Ideal S32x128 .f32 := ![k0_pay132 P, k0_pay133 P, k0_pay135 (k0_pay134 P), k0_pay136 P, k0_pay137 P, k0_pay138 P, k0_pay139 P, k0_pay141 (k0_pay140 P), k0_pay142 P, k0_pay143 P, k0_pay144 P, k0_pay145 P, k0_pay147 (k0_pay146 P), k0_pay148 P, k0_pay149 P, k0_pay150 P]

theorem w6_eq (P : FVec Ideal S512x1024 .f32) (q : Fin 16) : w6 P q = cut P 6 q.val (by decide) q.isLt := by
  fin_cases q <;> funext y <;> idx_vars y <;> pointwise [w6, cut, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150]

/-- What is stored into slab 7. -/
def w7 (P : FVec Ideal S512x1024 .f32) : Fin 16 → FVec Ideal S32x128 .f32 := ![k0_pay153 (k0_pay152 P), k0_pay154 P, k0_pay155 P, k0_pay156 P, k0_pay157 P, k0_pay159 (k0_pay158 P), k0_pay160 P, k0_pay161 P, k0_pay162 P, k0_pay163 P, k0_pay165 (k0_pay164 P), k0_pay166 P, k0_pay167 P, k0_pay168 P, k0_pay169 P, k0_pay1 (k0_pay170 P)]

theorem w7_eq (P : FVec Ideal S512x1024 .f32) (q : Fin 16) : w7 P q = cut P 7 q.val (by decide) q.isLt := by
  fin_cases q <;> funext y <;> idx_vars y <;> pointwise [w7, cut, k0_pay1, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170]

/-- The stores up to slab 0. -/
def st0 : List (View.Piece (Elt Ideal) S8x512x128 .f32) := slab 0 (by decide) (w0 v46 v47 v59 v61 v74) []

theorem st0_good : Good (k0_pay11 v46 v47 v59 v61 v74) (st0 v46 v47 v59 v61 v74) :=
  good_slab _ 0 _ _ _ (w0_eq v46 v47 v59 v61 v74) (fun _ h => absurd h List.not_mem_nil)

/-- The stores up to slab 1. -/
def st1 : List (View.Piece (Elt Ideal) S8x512x128 .f32) := slab 1 (by decide) (w1 (k0_pay11 v46 v47 v59 v61 v74)) (st0 v46 v47 v59 v61 v74)

theorem st1_good : Good (k0_pay11 v46 v47 v59 v61 v74) (st1 v46 v47 v59 v61 v74) :=
  good_slab _ 1 _ _ _ (w1_eq (k0_pay11 v46 v47 v59 v61 v74)) (st0_good v46 v47 v59 v61 v74)

/-- The stores up to slab 2. -/
def st2 : List (View.Piece (Elt Ideal) S8x512x128 .f32) := slab 2 (by decide) (w2 (k0_pay11 v46 v47 v59 v61 v74)) (st1 v46 v47 v59 v61 v74)

theorem st2_good : Good (k0_pay11 v46 v47 v59 v61 v74) (st2 v46 v47 v59 v61 v74) :=
  good_slab _ 2 _ _ _ (w2_eq (k0_pay11 v46 v47 v59 v61 v74)) (st1_good v46 v47 v59 v61 v74)

/-- The stores up to slab 3. -/
def st3 : List (View.Piece (Elt Ideal) S8x512x128 .f32) := slab 3 (by decide) (w3 (k0_pay11 v46 v47 v59 v61 v74)) (st2 v46 v47 v59 v61 v74)

theorem st3_good : Good (k0_pay11 v46 v47 v59 v61 v74) (st3 v46 v47 v59 v61 v74) :=
  good_slab _ 3 _ _ _ (w3_eq (k0_pay11 v46 v47 v59 v61 v74)) (st2_good v46 v47 v59 v61 v74)

/-- The stores up to slab 4. -/
def st4 : List (View.Piece (Elt Ideal) S8x512x128 .f32) := slab 4 (by decide) (w4 (k0_pay11 v46 v47 v59 v61 v74)) (st3 v46 v47 v59 v61 v74)

theorem st4_good : Good (k0_pay11 v46 v47 v59 v61 v74) (st4 v46 v47 v59 v61 v74) :=
  good_slab _ 4 _ _ _ (w4_eq (k0_pay11 v46 v47 v59 v61 v74)) (st3_good v46 v47 v59 v61 v74)

/-- The stores up to slab 5. -/
def st5 : List (View.Piece (Elt Ideal) S8x512x128 .f32) := slab 5 (by decide) (w5 (k0_pay11 v46 v47 v59 v61 v74)) (st4 v46 v47 v59 v61 v74)

theorem st5_good : Good (k0_pay11 v46 v47 v59 v61 v74) (st5 v46 v47 v59 v61 v74) :=
  good_slab _ 5 _ _ _ (w5_eq (k0_pay11 v46 v47 v59 v61 v74)) (st4_good v46 v47 v59 v61 v74)

/-- The stores up to slab 6. -/
def st6 : List (View.Piece (Elt Ideal) S8x512x128 .f32) := slab 6 (by decide) (w6 (k0_pay11 v46 v47 v59 v61 v74)) (st5 v46 v47 v59 v61 v74)

theorem st6_good : Good (k0_pay11 v46 v47 v59 v61 v74) (st6 v46 v47 v59 v61 v74) :=
  good_slab _ 6 _ _ _ (w6_eq (k0_pay11 v46 v47 v59 v61 v74)) (st5_good v46 v47 v59 v61 v74)

/-- The stores up to slab 7. -/
def st7 : List (View.Piece (Elt Ideal) S8x512x128 .f32) := slab 7 (by decide) (w7 (k0_pay11 v46 v47 v59 v61 v74)) (st6 v46 v47 v59 v61 v74)

theorem st7_good : Good (k0_pay11 v46 v47 v59 v61 v74) (st7 v46 v47 v59 v61 v74) :=
  good_slab _ 7 _ _ _ (w7_eq (k0_pay11 v46 v47 v59 v61 v74)) (st6_good v46 v47 v59 v61 v74)

/-- Slab 0, read back. -/
def read0 : FVec Ideal S1x512x128 .f32 := (View.whole cc0_scratch0).readCov (st0 v46 v47 v59 v61 v74) (Rect.unit (s := S8x512x128) ![0, 0, 0] ![1, 512, 128] inb_S8x512x128_S1x512x128_0_0_0).toLoadRect

theorem read0_at (r : Fin 512) (k : Fin 128) : read0 v46 v47 v59 v61 v74 (ix3 0 r k) = k0_pay11 v46 v47 v59 v61 v74 (ix2 ⟨held r, held_lt _ r.isLt⟩ ⟨0 * 128 + k.val, by omega⟩) := by
  unfold read0
  exact slab_at _ 0 (by decide) _ (st0_good v46 v47 v59 v61 v74) (by unfold st0; exact whole_slab _ _ _ _) inb_S8x512x128_S1x512x128_0_0_0 r k

/-- Slab 1, read back. -/
def read1 : FVec Ideal S1x512x128 .f32 := (View.whole cc0_scratch0).readCov (st1 v46 v47 v59 v61 v74) (Rect.unit (s := S8x512x128) ![1, 0, 0] ![1, 512, 128] inb_S8x512x128_S1x512x128_1_0_0).toLoadRect

theorem read1_at (r : Fin 512) (k : Fin 128) : read1 v46 v47 v59 v61 v74 (ix3 0 r k) = k0_pay11 v46 v47 v59 v61 v74 (ix2 ⟨held r, held_lt _ r.isLt⟩ ⟨1 * 128 + k.val, by omega⟩) := by
  unfold read1
  exact slab_at _ 1 (by decide) _ (st1_good v46 v47 v59 v61 v74) (by unfold st1; exact whole_slab _ _ _ _) inb_S8x512x128_S1x512x128_1_0_0 r k

/-- Slab 2, read back. -/
def read2 : FVec Ideal S1x512x128 .f32 := (View.whole cc0_scratch0).readCov (st2 v46 v47 v59 v61 v74) (Rect.unit (s := S8x512x128) ![2, 0, 0] ![1, 512, 128] inb_S8x512x128_S1x512x128_2_0_0).toLoadRect

theorem read2_at (r : Fin 512) (k : Fin 128) : read2 v46 v47 v59 v61 v74 (ix3 0 r k) = k0_pay11 v46 v47 v59 v61 v74 (ix2 ⟨held r, held_lt _ r.isLt⟩ ⟨2 * 128 + k.val, by omega⟩) := by
  unfold read2
  exact slab_at _ 2 (by decide) _ (st2_good v46 v47 v59 v61 v74) (by unfold st2; exact whole_slab _ _ _ _) inb_S8x512x128_S1x512x128_2_0_0 r k

/-- Slab 3, read back. -/
def read3 : FVec Ideal S1x512x128 .f32 := (View.whole cc0_scratch0).readCov (st3 v46 v47 v59 v61 v74) (Rect.unit (s := S8x512x128) ![3, 0, 0] ![1, 512, 128] inb_S8x512x128_S1x512x128_3_0_0).toLoadRect

theorem read3_at (r : Fin 512) (k : Fin 128) : read3 v46 v47 v59 v61 v74 (ix3 0 r k) = k0_pay11 v46 v47 v59 v61 v74 (ix2 ⟨held r, held_lt _ r.isLt⟩ ⟨3 * 128 + k.val, by omega⟩) := by
  unfold read3
  exact slab_at _ 3 (by decide) _ (st3_good v46 v47 v59 v61 v74) (by unfold st3; exact whole_slab _ _ _ _) inb_S8x512x128_S1x512x128_3_0_0 r k

/-- Slab 4, read back. -/
def read4 : FVec Ideal S1x512x128 .f32 := (View.whole cc0_scratch0).readCov (st4 v46 v47 v59 v61 v74) (Rect.unit (s := S8x512x128) ![4, 0, 0] ![1, 512, 128] inb_S8x512x128_S1x512x128_4_0_0).toLoadRect

theorem read4_at (r : Fin 512) (k : Fin 128) : read4 v46 v47 v59 v61 v74 (ix3 0 r k) = k0_pay11 v46 v47 v59 v61 v74 (ix2 ⟨held r, held_lt _ r.isLt⟩ ⟨4 * 128 + k.val, by omega⟩) := by
  unfold read4
  exact slab_at _ 4 (by decide) _ (st4_good v46 v47 v59 v61 v74) (by unfold st4; exact whole_slab _ _ _ _) inb_S8x512x128_S1x512x128_4_0_0 r k

/-- Slab 5, read back. -/
def read5 : FVec Ideal S1x512x128 .f32 := (View.whole cc0_scratch0).readCov (st5 v46 v47 v59 v61 v74) (Rect.unit (s := S8x512x128) ![5, 0, 0] ![1, 512, 128] inb_S8x512x128_S1x512x128_5_0_0).toLoadRect

theorem read5_at (r : Fin 512) (k : Fin 128) : read5 v46 v47 v59 v61 v74 (ix3 0 r k) = k0_pay11 v46 v47 v59 v61 v74 (ix2 ⟨held r, held_lt _ r.isLt⟩ ⟨5 * 128 + k.val, by omega⟩) := by
  unfold read5
  exact slab_at _ 5 (by decide) _ (st5_good v46 v47 v59 v61 v74) (by unfold st5; exact whole_slab _ _ _ _) inb_S8x512x128_S1x512x128_5_0_0 r k

/-- Slab 6, read back. -/
def read6 : FVec Ideal S1x512x128 .f32 := (View.whole cc0_scratch0).readCov (st6 v46 v47 v59 v61 v74) (Rect.unit (s := S8x512x128) ![6, 0, 0] ![1, 512, 128] inb_S8x512x128_S1x512x128_6_0_0).toLoadRect

theorem read6_at (r : Fin 512) (k : Fin 128) : read6 v46 v47 v59 v61 v74 (ix3 0 r k) = k0_pay11 v46 v47 v59 v61 v74 (ix2 ⟨held r, held_lt _ r.isLt⟩ ⟨6 * 128 + k.val, by omega⟩) := by
  unfold read6
  exact slab_at _ 6 (by decide) _ (st6_good v46 v47 v59 v61 v74) (by unfold st6; exact whole_slab _ _ _ _) inb_S8x512x128_S1x512x128_6_0_0 r k

/-- Slab 7, read back. -/
def read7 : FVec Ideal S1x512x128 .f32 := (View.whole cc0_scratch0).readCov (st7 v46 v47 v59 v61 v74) (Rect.unit (s := S8x512x128) ![7, 0, 0] ![1, 512, 128] inb_S8x512x128_S1x512x128_7_0_0).toLoadRect

theorem read7_at (r : Fin 512) (k : Fin 128) : read7 v46 v47 v59 v61 v74 (ix3 0 r k) = k0_pay11 v46 v47 v59 v61 v74 (ix2 ⟨held r, held_lt _ r.isLt⟩ ⟨7 * 128 + k.val, by omega⟩) := by
  unfold read7
  exact slab_at _ 7 (by decide) _ (st7_good v46 v47 v59 v61 v74) (by unfold st7; exact whole_slab _ _ _ _) inb_S8x512x128_S1x512x128_7_0_0 r k

/-- The block, put together of the slabs. -/
def joined : FVec Ideal S512x1024 .f32 := cols (read0 v46 v47 v59 v61 v74) (read1 v46 v47 v59 v61 v74) (read2 v46 v47 v59 v61 v74) (read3 v46 v47 v59 v61 v74) (read4 v46 v47 v59 v61 v74) (read5 v46 v47 v59 v61 v74) (read6 v46 v47 v59 v61 v74) (read7 v46 v47 v59 v61 v74)

theorem joined_at (f : Fin 512 → Fin 1024 → EReal) (h : ∀ (r : Fin 512) (n : Fin 1024), k0_pay11 v46 v47 v59 v61 v74 (ix2 ⟨held r, held_lt _ r.isLt⟩ n) = f r n) (y : S512x1024.Idx) : joined v46 v47 v59 v61 v74 y = f (y 0) (y 1) :=
  cols_at (read0 v46 v47 v59 v61 v74) (read1 v46 v47 v59 v61 v74) (read2 v46 v47 v59 v61 v74) (read3 v46 v47 v59 v61 v74) (read4 v46 v47 v59 v61 v74) (read5 v46 v47 v59 v61 v74) (read6 v46 v47 v59 v61 v74) (read7 v46 v47 v59 v61 v74) f
    (fun r k => (read0_at v46 v47 v59 v61 v74 r k).trans (h r _)) (fun r k => (read1_at v46 v47 v59 v61 v74 r k).trans (h r _)) (fun r k => (read2_at v46 v47 v59 v61 v74 r k).trans (h r _)) (fun r k => (read3_at v46 v47 v59 v61 v74 r k).trans (h r _)) (fun r k => (read4_at v46 v47 v59 v61 v74 r k).trans (h r _)) (fun r k => (read5_at v46 v47 v59 v61 v74 r k).trans (h r _)) (fun r k => (read6_at v46 v47 v59 v61 v74 r k).trans (h r _)) (fun r k => (read7_at v46 v47 v59 v61 v74 r k).trans (h r _)) y

end Stores
end Cert.MixDx
end
-- ==== Proof.MixDxBlk.lean ====
/- The blocks of the product fused with a norm's gradient, over stacked column blocks and rows grouped by residue (`_matmul_nt_normbwd` as `mixer_dx`). -/
module

public import proofs.«01_k».proof.Proof.Gen.Kernel8Ideal.Value
public import proofs.«01_k».proof.Proof.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixDx
open Cert.Kernel8Ideal Cert.Kernel8Ideal.Gen Idealize.ShloMosaic.StableHlo

variable (m : (ℓ : Loc nD τ sig) → Buf (Elt Ideal) ℓ)

/-- Where each window's block sits. -/
theorem blockOf : ∀ t : Fin cfg0.N, win0_0.index t = ![0, t.val / 4, 0, t.val % 4, 0] ∧ win0_1.index t = ![0, 0] ∧ win0_2.index t = ![t.val / 4, 0, t.val % 4, 0]
    ∧ win0_3.index t = ![0, 0] ∧ win0_4.index t = ![t.val / 4, 0, t.val % 4, 0] ∧ win0_5.index t = ![t.val, 0] ∧ win0_6.index t = ![0, 0] :=
  (by decide +kernel : ∀ t : Fin grid0.N, _)

/-- The gradient that reaches the normed rows. -/
def dh (Y : FVec Ideal S4096x3072 .f32) (W : FVec Ideal S1024x3072 .f32) (n : Fin 4096) (j : Fin 1024) : EReal := ∑ k : Fin 3072, Y (ix2 n k) * W (ix2 j k)

/-- An entry of the gradient of the rows. -/
def dxAt (Y : FVec Ideal S4096x3072 .f32) (W : FVec Ideal S1024x3072 .f32) (X : FVec Ideal S4096x1024 .f32) (G : FVec Ideal S1x1024 .f32) (D : FVec Ideal S4096x1024 .f32)
    (n : Fin 4096) (j : Fin 1024) : EReal :=
  Norm.back (fun k => X (ix2 n k)) (fun k => dh Y W n k * G (ix2 0 k)) 1024 j + D (ix2 n j)

/-- What a row contributes to the gain's gradient. -/
def gain (Y : FVec Ideal S4096x3072 .f32) (W : FVec Ideal S1024x3072 .f32) (X : FVec Ideal S4096x1024 .f32) (n : Fin 4096) (j : Fin 1024) : EReal :=
  dh Y W n j * (X (ix2 n j) * Norm.rinv (fun k => X (ix2 n k)) 1024)

/-- Position `s` of residue `q` in half `h`. -/
def pos (h : Fin 2) (q : Fin 16) (s : Fin 128) : Fin 4096 := ⟨h.val * 2048 + s.val * 16 + q.val, by omega⟩

/-- The position that row `p` of grid step `t` holds. -/
def at' (t : Fin cfg0.N) (p : Fin 512) : Fin 4096 := ⟨t.val * 512 + (p.val % 32 * 16 + p.val / 32), by have : t.val < 8 := lt_of_lt_of_eq t.isLt N_0; omega⟩

section Blocks
variable (c : Dev nD) (t : Fin cfg0.N)

theorem entry0 (i : Fin 6) (h : Fin 2) (q : Fin 16) (s : Fin 128) (k : Fin 512) :
    (V m c main_v11 : Vec Ideal S6x2x16x128x512 .bf16) (ix5 i h q s k) = m ((c : Thread nD τ).loc main_arg0) (ix2 (pos h q s) (⟨i.val * 512 + k.val, by omega⟩ : Fin 3072)) := by
  entry_read
  pointwise [pos]
  refine congrArg (fun n : Fin 4096 => m ((c : Thread nD τ).loc main_arg0) (ix2 n (⟨i.val * 512 + k.val, by omega⟩ : Fin 3072))) (Fin.ext ?_)
  show (h.val * 2048 + q.val * 128 + s.val) / 2048 * 2048 + (h.val * 2048 + q.val * 128 + s.val) % 128 * 16 + (h.val * 2048 + q.val * 128 + s.val) / 128 % 16 = h.val * 2048 + s.val * 16 + q.val
  omega

theorem entry1 : V m c main_v4 = m ((c : Thread nD τ).loc main_arg1) := by
  entry_read
  funext i
  pointwise []

theorem entry2 (h : Fin 2) (q : Fin 16) (s : Fin 128) (k : Fin 1024) :
    (V m c main_v12 : Vec Ideal S2x16x128x1024 .f32) (ix4 h q s k) = m ((c : Thread nD τ).loc main_arg2) (ix2 (pos h q s) k) := by
  entry_read
  pointwise [pos]

theorem entry4 (h : Fin 2) (q : Fin 16) (s : Fin 128) (k : Fin 1024) :
    (V m c main_v13 : Vec Ideal S2x16x128x1024 .f32) (ix4 h q s k) = m ((c : Thread nD τ).loc main_arg4) (ix2 (pos h q s) k) := by
  entry_read
  pointwise [pos]

/-- The half that grid step `t` works in. -/
def half (t : Fin cfg0.N) : Fin 2 := ⟨t.val / 4, by have : t.val < 8 := lt_of_lt_of_eq t.isLt N_0; omega⟩
/-- Place `j` of grid step `t` in its half. -/
def seg (t : Fin cfg0.N) (j : Fin 32) : Fin 128 := ⟨t.val % 4 * 32 + j.val, by omega⟩

theorem pos_at (p : Fin 512) (q : Fin 16) (j : Fin 32) (hq : q.val = p.val / 32) (hj : j.val = p.val % 32) : pos (half t) q (seg t j) = at' t p := by
  have : t.val < 8 := lt_of_lt_of_eq t.isLt N_0
  unfold pos at' half seg
  refine Fin.ext ?_
  show t.val / 4 * 2048 + (t.val % 4 * 32 + j.val) * 16 + q.val = t.val * 512 + (p.val % 32 * 16 + p.val / 32)
  omega

theorem blk0 (i : Fin 6) (q : Fin 16) (j : Fin 32) (k : Fin 512) :
    (iblk m c 0 t : Vec Ideal S6x1x16x32x512 .bf16) (ix5 i 0 q j k) = m ((c : Thread nD τ).loc main_arg0) (ix2 (pos (half t) q (seg t j)) (⟨i.val * 512 + k.val, by omega⟩ : Fin 3072)) := by
  have e := (blockOf t).1
  rw [← entry0 m c i (half t) q (seg t j) k]
  unfold iblk
  blk_simp
  unfold half seg
  blk_ext <;> simp [e]

theorem blk1 (Z : FVec Ideal S1024x3072 .f32) (h : V m c (Pipeline.arrRef spec0 1) = Z) (j : Fin 1024) (k : Fin 3072) : iblk m c 1 t (ix2 j k) = Z (ix2 j k) := by
  have e := (blockOf t).2.1
  unfold iblk
  rw [h]
  blk_simp
  blk_ext <;> simp [e]

theorem blk2Z (Z : Vec Ideal S2x16x128x1024 .f32) (h : V m c (Pipeline.arrRef spec0 2) = Z) (q : Fin 16) (j : Fin 32) (k : Fin 1024) :
    (iblk m c 2 t : Vec Ideal S1x16x32x1024 .f32) (ix4 0 q j k) = Z (ix4 (half t) q (seg t j) k) := by
  have e := (blockOf t).2.2.1
  unfold iblk
  rw [h]
  blk_simp
  unfold half seg
  blk_ext <;> simp [e]

theorem blk2 (q : Fin 16) (j : Fin 32) (k : Fin 1024) :
    (iblk m c 2 t : Vec Ideal S1x16x32x1024 .f32) (ix4 0 q j k) = m ((c : Thread nD τ).loc main_arg2) (ix2 (pos (half t) q (seg t j)) k) :=
  (blk2Z m c t (V m c main_v12) rfl q j k).trans (entry2 m c (half t) q (seg t j) k)

theorem blk3 (Z : FVec Ideal S1x1024 .f32) (h : V m c (Pipeline.arrRef spec0 3) = Z) (k : Fin 1024) : iblk m c 3 t (ix2 0 k) = Z (ix2 0 k) := by
  have e := (blockOf t).2.2.2.1
  unfold iblk
  rw [h]
  blk_simp
  blk_ext <;> simp [e]

theorem blk4Z (Z : Vec Ideal S2x16x128x1024 .f32) (h : V m c (Pipeline.arrRef spec0 4) = Z) (q : Fin 16) (j : Fin 32) (k : Fin 1024) :
    (iblk m c 4 t : Vec Ideal S1x16x32x1024 .f32) (ix4 0 q j k) = Z (ix4 (half t) q (seg t j) k) := by
  have e := (blockOf t).2.2.2.2.1
  unfold iblk
  rw [h]
  blk_simp
  unfold half seg
  blk_ext <;> simp [e]

theorem blk4 (q : Fin 16) (j : Fin 32) (k : Fin 1024) :
    (iblk m c 4 t : Vec Ideal S1x16x32x1024 .f32) (ix4 0 q j k) = m ((c : Thread nD τ).loc main_arg4) (ix2 (pos (half t) q (seg t j)) k) :=
  (blk4Z m c t (V m c main_v13) rfl q j k).trans (entry4 m c (half t) q (seg t j) k)

end Blocks

end Cert.MixDx
end
-- ==== Proof.MixDx.lean ====
/- The product fused with a norm's gradient, over stacked column blocks and rows grouped by residue (`_matmul_nt_normbwd` as `mixer_dx`): what the kernel leaves is the reference's gradient. -/
module

public import proofs.«01_k».proof.Proof.Gen.Kernel8Ideal.Value
public import proofs.«01_k».proof.Proof.Gen.Reference8Ideal.Run
public import proofs.«01_k».proof.Proof.MixDxSlab
public import proofs.«01_k».proof.Proof.MixDxBlk
public import proofs.«01_k».proof.Proof.Norm
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixDx
open Cert.Kernel8Ideal Cert.Kernel8Ideal.Gen Idealize.ShloMosaic.StableHlo

variable (m : (ℓ : Loc nD τ sig) → Buf (Elt Ideal) ℓ)

section Pay
/-- Six blocks of columns. -/
theorem six (f : Fin 3072 → EReal) : ∑ k, f k = (∑ k : Fin 512, f ⟨0 * 512 + k.val, by omega⟩) + (∑ k : Fin 512, f ⟨1 * 512 + k.val, by omega⟩) + (∑ k : Fin 512, f ⟨2 * 512 + k.val, by omega⟩)
    + (∑ k : Fin 512, f ⟨3 * 512 + k.val, by omega⟩) + (∑ k : Fin 512, f ⟨4 * 512 + k.val, by omega⟩) + (∑ k : Fin 512, f ⟨5 * 512 + k.val, by omega⟩) := by
  have e : ∀ (i : ℕ) (hi : i < 6), ∑ k : Fin 512, Norm.rowOf f (i * 512 + k.val) = ∑ k : Fin 512, f ⟨i * 512 + k.val, by omega⟩ := fun i hi =>
    Finset.sum_congr rfl fun k _ => (Norm.rowOf_at f _ _).symm
  refine (Norm.sum_rows 6 512 rfl f).symm.trans ((Fin.sum_univ_six _).trans ?_)
  exact congrArg₂ (· + ·) (congrArg₂ (· + ·) (congrArg₂ (· + ·) (congrArg₂ (· + ·) (congrArg₂ (· + ·) (e 0 (by decide)) (e 1 (by decide))) (e 2 (by decide))) (e 3 (by decide))) (e 4 (by decide))) (e 5 (by decide))

theorem ld_block (o : ℕ) (ho : o < 6) (inb) (Z : Vec Ideal S6x1x16x32x512 .bf16) (q : Fin 16) (j : Fin 32) (k : Fin 512) :
    View.ld Z (Rect.unit (s := S6x1x16x32x512) ![o, 0, 0, 0, 0] ![1, 1, 16, 32, 512] inb) (ix5 0 0 q j k) = Z (ix5 (⟨o, ho⟩ : Fin 6) 0 q j k) :=
  congrArg Z (funext fun a => Fin.ext (match a with
    | ⟨0, _⟩ => by show o + 1 * 0 = o; omega
    | ⟨1, _⟩ => rfl
    | ⟨2, _⟩ => by show 0 + 1 * q.val = q.val; omega
    | ⟨3, _⟩ => by show 0 + 1 * j.val = j.val; omega
    | ⟨4, _⟩ => by show 0 + 1 * k.val = k.val; omega))

theorem ld_cols (o : ℕ) (i : ℕ) (ho : o = i * 512) (hi : i < 6) (inb) (Z : Vec Ideal S1024x3072 .bf16) (n : Fin 1024) (k : Fin 512) :
    View.ld Z (Rect.unit (s := S1024x3072) ![0, o] ![1024, 512] inb) (ix2 n k) = Z (ix2 n (⟨i * 512 + k.val, by omega⟩ : Fin 3072)) :=
  congrArg Z (funext fun a => Fin.ext (match a with
    | ⟨0, _⟩ => by show 0 + 1 * n.val = n.val; omega
    | ⟨1, _⟩ => by show o + 1 * k.val = i * 512 + k.val; omega))

section Step
variable (c : Dev nD) (t : Fin cfg0.N)
  (Y : FVec Ideal S4096x3072 .f32) (W : FVec Ideal S1024x3072 .f32) (X : FVec Ideal S4096x1024 .f32) (G : FVec Ideal S1x1024 .f32) (D : FVec Ideal S4096x1024 .f32)
  (eY : m ((c : Thread nD τ).loc main_arg0) = Y) (eW : m ((c : Thread nD τ).loc main_arg1) = W) (eX : m ((c : Thread nD τ).loc main_arg2) = X)
  (eG : m ((c : Thread nD τ).loc main_arg3) = G) (eD : m ((c : Thread nD τ).loc main_arg4) = D)

/-- What the six products add up to. -/
theorem sum6 (y : Fin 6 → Vec Ideal S1x1x16x32x512 .bf16) (w : Fin 6 → Vec Ideal S1024x512 .bf16) (p : Fin 512) (n : Fin 1024) (f : Fin 3072 → EReal)
    (h : ∀ (i : Fin 6) (k : Fin 512), y i (ix5 0 0 (⟨p.val / 32, by omega⟩ : Fin 16) (⟨p.val % 32, by omega⟩ : Fin 32) k) * w i (ix2 n k) = f ⟨i.val * 512 + k.val, by omega⟩) :
    k0_pay7 (F := Ideal) (k0_pay5 (y 0) (w 0) (y 1) (w 1) (y 2) (w 2)) (k0_pay6 (y 3)) (w 3) (y 4) (w 4) (y 5) (w 5) (ix2 p n) = ∑ k, f k := by
  pointwise [k0_pay7, k0_pay6, k0_pay5]
  rw [six f]
  have e : ∀ i : Fin 6, ∑ k : Fin 512, y i (ix5 0 0 (⟨p.val / 32, by omega⟩ : Fin 16) (⟨p.val % 32, by omega⟩ : Fin 32) k) * w i (ix2 n k) = ∑ k : Fin 512, f ⟨i.val * 512 + k.val, by omega⟩ :=
    fun i => Finset.sum_congr rfl fun k _ => h i k
  exact congrArg₂ (· + ·) (congrArg₂ (· + ·) (congrArg₂ (· + ·) (congrArg₂ (· + ·) (congrArg₂ (· + ·) (e 0) (e 1)) (e 2)) (e 3)) (e 4)) (e 5)

/-- Stacked block `i` of a grid step. -/
def stacked (Z : Vec Ideal S6x1x16x32x512 .bf16) : Fin 6 → Vec Ideal S1x1x16x32x512 .bf16 :=
  ![View.ld Z (Rect.unit ![0, 0, 0, 0, 0] ![1, 1, 16, 32, 512] inb_S6x1x16x32x512_S1x1x16x32x512_0_0_0_0_0),
    View.ld Z (Rect.unit ![1, 0, 0, 0, 0] ![1, 1, 16, 32, 512] inb_S6x1x16x32x512_S1x1x16x32x512_1_0_0_0_0),
    View.ld Z (Rect.unit ![2, 0, 0, 0, 0] ![1, 1, 16, 32, 512] inb_S6x1x16x32x512_S1x1x16x32x512_2_0_0_0_0),
    View.ld Z (Rect.unit ![3, 0, 0, 0, 0] ![1, 1, 16, 32, 512] inb_S6x1x16x32x512_S1x1x16x32x512_3_0_0_0_0),
    View.ld Z (Rect.unit ![4, 0, 0, 0, 0] ![1, 1, 16, 32, 512] inb_S6x1x16x32x512_S1x1x16x32x512_4_0_0_0_0),
    View.ld Z (Rect.unit ![5, 0, 0, 0, 0] ![1, 1, 16, 32, 512] inb_S6x1x16x32x512_S1x1x16x32x512_5_0_0_0_0)]

/-- Its columns of the weight. -/
def weight (Z : Vec Ideal S1024x3072 .bf16) : Fin 6 → Vec Ideal S1024x512 .bf16 :=
  ![View.ld Z (Rect.unit ![0, 0] ![1024, 512] inb_S1024x3072_S1024x512_0_0), View.ld Z (Rect.unit ![0, 512] ![1024, 512] inb_S1024x3072_S1024x512_0_512),
    View.ld Z (Rect.unit ![0, 1024] ![1024, 512] inb_S1024x3072_S1024x512_0_1024), View.ld Z (Rect.unit ![0, 1536] ![1024, 512] inb_S1024x3072_S1024x512_0_1536),
    View.ld Z (Rect.unit ![0, 2048] ![1024, 512] inb_S1024x3072_S1024x512_0_2048), View.ld Z (Rect.unit ![0, 2560] ![1024, 512] inb_S1024x3072_S1024x512_0_2560)]

theorem stacked_at (Z : Vec Ideal S6x1x16x32x512 .bf16) (i : Fin 6) (q : Fin 16) (j : Fin 32) (k : Fin 512) : stacked Z i (ix5 0 0 q j k) = Z (ix5 i 0 q j k) := by
  fin_cases i
  · exact ld_block 0 (by decide) _ Z q j k
  · exact ld_block 1 (by decide) _ Z q j k
  · exact ld_block 2 (by decide) _ Z q j k
  · exact ld_block 3 (by decide) _ Z q j k
  · exact ld_block 4 (by decide) _ Z q j k
  · exact ld_block 5 (by decide) _ Z q j k

theorem weight_at (Z : Vec Ideal S1024x3072 .bf16) (i : Fin 6) (n : Fin 1024) (k : Fin 512) : weight Z i (ix2 n k) = Z (ix2 n (⟨i.val * 512 + k.val, by omega⟩ : Fin 3072)) := by
  fin_cases i
  · exact ld_cols 0 0 rfl (by decide) _ Z n k
  · exact ld_cols 512 1 rfl (by decide) _ Z n k
  · exact ld_cols 1024 2 rfl (by decide) _ Z n k
  · exact ld_cols 1536 3 rfl (by decide) _ Z n k
  · exact ld_cols 2048 4 rfl (by decide) _ Z n k
  · exact ld_cols 2560 5 rfl (by decide) _ Z n k

/-- The gradient that reaches the normed rows, on a grid step. -/
def prod : FVec Ideal S512x1024 .f32 :=
  k0_pay7 (F := Ideal) (k0_pay5 (stacked (iblk m c 0 t) 0) (weight (iblk m c 1 t) 0) (stacked (iblk m c 0 t) 1) (weight (iblk m c 1 t) 1) (stacked (iblk m c 0 t) 2) (weight (iblk m c 1 t) 2))
    (k0_pay6 (stacked (iblk m c 0 t) 3)) (weight (iblk m c 1 t) 3) (stacked (iblk m c 0 t) 4) (weight (iblk m c 1 t) 4) (stacked (iblk m c 0 t) 5) (weight (iblk m c 1 t) 5)

include eY eW in
theorem prod_at (p : Fin 512) (n : Fin 1024) : prod m c t (ix2 p n) = dh Y W (at' t p) n :=
  sum6 (stacked (iblk m c 0 t)) (weight (iblk m c 1 t)) p n (fun k => Y (ix2 (at' t p) k) * W (ix2 n k)) fun i k =>
    congrArg₂ (· * ·) ((stacked_at _ i _ _ k).trans ((blk0 m c t i _ _ k).trans (by rw [eY, pos_at t p _ _ rfl rfl])))
      ((weight_at _ i n k).trans (blk1 m c t W ((entry1 m c).trans eW) n _))

include eX in
theorem row_at (p : Fin 512) (n : Fin 1024) : k0_pay8 (F := Ideal) (iblk m c 2 t) (ix2 p n) = X (ix2 (at' t p) n) := by
  pointwise [k0_pay8]
  rw [blk2 m c t, eX, pos_at t p _ _ rfl rfl]

include eX in
theorem recip (p : Fin 512) : k0_pay9 (F := Ideal) (iblk m c 2 t) (ix2 p 0) = Norm.rinv (fun k => X (ix2 (at' t p) k)) 1024 := by
  pointwise [k0_pay9]
  simp only [row_at m c t X eX]
  unfold Norm.rinv Norm.ms Norm.eps
  rw [Norm.n1024]

/-- The rows' gradient on a grid step, in the order the kernel holds the rows. -/
def held' : FVec Ideal S512x1024 .f32 := k0_pay11 (F := Ideal) (prod m c t) (iblk m c 3 t) (k0_pay9 (iblk m c 2 t)) (k0_pay10 (iblk m c 2 t)) (iblk m c 4 t)

include eY eW eX eG eD in
theorem held_at (p : Fin 512) (n : Fin 1024) : held' m c t (ix2 p n) = dxAt Y W X G D (at' t p) n := by
  unfold held'
  pointwise [k0_pay11, k0_pay10]
  simp only [prod_at m c t Y W eY eW, row_at m c t X eX, recip m c t X eX, blk3 m c t G ((V_main_arg3 m c).trans eG)]
  rw [blk4 m c t, eD, pos_at t p _ _ rfl rfl]
  unfold dxAt Norm.back
  rw [Norm.n1024]

theorem at_held (r : Fin 512) : (at' t ⟨held r, held_lt _ r.isLt⟩).val = t.val * 512 + r.val := by
  show t.val * 512 + (held r.val % 32 * 16 + held r.val / 32) = _
  unfold held
  omega

/-- Row `r` of the block that grid step `t` writes. -/
def row (t : Fin cfg0.N) (r : Fin 512) : Fin 4096 := ⟨t.val * 512 + r.val, by have : t.val < 8 := lt_of_lt_of_eq t.isLt N_0; omega⟩

/-- The order in which the kernel holds a block's rows. -/
def order : Fin 512 ≃ Fin 512 where
  toFun p := ⟨p.val % 32 * 16 + p.val / 32, by omega⟩
  invFun r := ⟨held r, held_lt _ r.isLt⟩
  left_inv p := Fin.ext (by show (p.val % 32 * 16 + p.val / 32) % 16 * 32 + (p.val % 32 * 16 + p.val / 32) / 16 = p.val; omega)
  right_inv r := Fin.ext (by show (r.val % 16 * 32 + r.val / 16) % 32 * 16 + (r.val % 16 * 32 + r.val / 16) / 32 = r.val; omega)

include eY eW eX eG eD in
theorem block_at (y : S512x1024.Idx) : joined (prod m c t) (iblk m c 3 t) (k0_pay9 (iblk m c 2 t)) (k0_pay10 (iblk m c 2 t)) (iblk m c 4 t) y = dxAt Y W X G D (row t (y 0)) (y 1) :=
  joined_at _ _ _ _ _ (fun r n => dxAt Y W X G D (row t r) n) (fun r n =>
    (held_at m c t Y W X G D eY eW eX eG eD _ _).trans (congrArg (fun n' => dxAt Y W X G D n' _) (Fin.ext (at_held t r)))) y

include eY eW eX eG eD in
set_option maxHeartbeats 3200000 in
theorem step5 (y : S512x1024.Idx) : (outsAt0 m c t.val t.isLt).1 y = dxAt Y W X G D (row t (y 0)) (y 1) := by
  have hb := block_at m c t Y W X G D eY eW eX eG eD y
  revert hb
  generalize dxAt Y W X G D (row t (y 0)) (y 1) = v
  by_cases h0 : t.val % 8 = 0
  · rw [outsAt0_A m c t h0 (by have : t.val < 8 := lt_of_lt_of_eq t.isLt N_0; omega)]; frame_out
    intro hb
    generalize hp : k0_pay7 (F := Ideal) _ _ _ _ _ _ _ = v46
    rw [show prod m c t = v46 from hp] at hb
    clear hp
    revert hb
    generalize k0_pay9 (F := Ideal) _ = v59
    generalize k0_pay10 (F := Ideal) _ = v61
    generalize iblk m c 3 t = v47
    generalize iblk m c 4 t = v74
    unfold joined cols read0 read1 read2 read3 read4 read5 read6 read7 st7 st6 st5 st4 st3 st2 st1 st0 slab piece stripe every whole w0 w1 w2 w3 w4 w5 w6 w7
    exact id
  · rw [outsAt0_B m c t h0 (by omega)]; frame_out
    intro hb
    generalize hp : k0_pay7 (F := Ideal) _ _ _ _ _ _ _ = v46
    rw [show prod m c t = v46 from hp] at hb
    clear hp
    revert hb
    generalize k0_pay9 (F := Ideal) _ = v59
    generalize k0_pay10 (F := Ideal) _ = v61
    generalize iblk m c 3 t = v47
    generalize iblk m c 4 t = v74
    unfold joined cols read0 read1 read2 read3 read4 read5 read6 read7 st7 st6 st5 st4 st3 st2 st1 st0 slab piece stripe every whole w0 w1 w2 w3 w4 w5 w6 w7
    exact id

include eY eW eX in
theorem stepG (k : Fin 1024) : k0_pay3 (F := Ideal) (prod m c t) (k0_pay10 (iblk m c 2 t)) (ix2 0 k) = ∑ r : Fin 512, gain Y W X (row t r) k := by
  pointwise [k0_pay3, k0_pay10]
  simp only [prod_at m c t Y W eY eW, row_at m c t X eX, recip m c t X eX]
  exact Fintype.sum_equiv order _ _ fun p => congrArg (fun n => gain Y W X n k) (Fin.ext rfl)

include eY eW eX in
theorem step6_A (h0 : t.val % 8 = 0) (y : S1x1024.Idx) : (outsAt0 m c t.val t.isLt).2 y = ∑ r : Fin 512, gain Y W X (row t r) (y 1) := by
  rw [outsAt0_A m c t h0 (by have : t.val < 8 := lt_of_lt_of_eq t.isLt N_0; omega)]; frame_out
  idx_vars y
  obtain rfl : y0 = 0 := Subsingleton.elim _ _
  exact stepG m c t Y W X eY eW eX y1

include eY eW eX in
theorem step6_B (h0 : ¬t.val % 8 = 0) (y : S1x1024.Idx) : (outsAt0 m c t.val t.isLt).2 y
    = (outsAt0 m c (t.val - 1) (Nat.lt_of_le_of_lt (Nat.sub_le _ _) t.isLt)).2 y + ∑ r : Fin 512, gain Y W X (row t r) (y 1) := by
  rw [outsAt0_B m c t h0 (by omega)]; frame_out
  idx_vars y
  obtain rfl : y0 = 0 := Subsingleton.elim _ _
  pointwise [k0_pay4]
  exact congrArg (_ + ·) (stepG m c t Y W X eY eW eX y1)
end Step
end Pay

/-- The rows' gradient. -/
def DX (Y : FVec Ideal S4096x3072 .f32) (W : FVec Ideal S1024x3072 .f32) (X : FVec Ideal S4096x1024 .f32) (G : FVec Ideal S1x1024 .f32) (D : FVec Ideal S4096x1024 .f32) :
    FVec Ideal S4096x1024 .f32 := fun i => dxAt Y W X G D (i 0) (i 1)

/-- The gain's gradient. -/
def DG (Y : FVec Ideal S4096x3072 .f32) (W : FVec Ideal S1024x3072 .f32) (X : FVec Ideal S4096x1024 .f32) : FVec Ideal S1x1024 .f32 := fun y => ∑ n : Fin 4096, gain Y W X n (y 1)

/-- The rows' gradient, block by block. -/
theorem final5 (c : Dev nD) : (dats m 0 c).arrAt 5 (cfgs 0).N = DX (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  refine (step5 m c t _ _ _ _ _ rfl rfl rfl rfl rfl _).trans ?_
  have e := (blockOf t).2.2.2.2.2.1
  refine (congrArg₂ (dxAt _ _ _ _ _) (Fin.ext ?_) (Fin.ext ?_) : _)
  · blk_simp
    simp [row, e]
  · blk_simp
    simp [e]

/-- The gain's gradient: every row's contribution. -/
theorem final6 (c : Dev nD) : (dats m 0 c).arrAt 6 (cfgs 0).N =
      DG (m ((c : Thread nD τ).loc main_arg0)) (m ((c : Thread nD τ).loc main_arg1)) (m ((c : Thread nD τ).loc main_arg2)) := by
  refine (dats m 0 c).arrAt_eq_of_after_last 6 t0_7 (by decide +kernel) _ fun j => ?_
  blk_simp
  rw [after0_6]
  refine (Pipeline.eq_sum_fin_of_reset_step_apply_last (fun n h => (outsAt0 m c n h).2) 8 (fun _ => 0)
    (fun t y => ∑ j : Fin 512, Norm.rowOf (fun n => gain (m ((c : Thread nD τ).loc main_arg0)) (m ((c : Thread nD τ).loc main_arg1)) (m ((c : Thread nD τ).loc main_arg2)) n (y 1)) (t * 512 + j))
    (fun t h y => ?_) (fun t h y => ?_) (le_of_eq N_0) t0_7 rfl j).trans ?_
  · rw [zero_add, step6_A m c t _ _ _ rfl rfl rfl h]
    exact Finset.sum_congr rfl fun j _ => Norm.rowOf_at (fun n => gain _ _ _ n (y 1)) _ (row t j).isLt
  · rw [step6_B m c t _ _ _ rfl rfl rfl h]
    exact congrArg (_ + ·) (Finset.sum_congr rfl fun j _ => Norm.rowOf_at (fun n => gain _ _ _ n (y 1)) _ (row t j).isLt)
  · rw [zero_add]
    exact Norm.sum_rows 8 512 rfl _

/-- The reference's sum. -/
theorem chained (Y : FVec Ideal S4096x3072 .f32) (W : FVec Ideal S1024x3072 .f32) (X : FVec Ideal S4096x1024 .f32) (G : FVec Ideal S1x1024 .f32) (D : FVec Ideal S4096x1024 .f32) (n : Fin 4096) (j : Fin 1024) :
    dxAt Y W X G D n j = D (ix2 n j) + dh Y W n j * G (ix2 0 j) * Norm.rinv (fun k => X (ix2 n k)) 1024
        + X (ix2 n j) * Norm.chain (fun k => X (ix2 n k)) (fun k => dh Y W n k * G (ix2 0 k)) 1024
        + Norm.chain (fun k => X (ix2 n k)) (fun k => dh Y W n k * G (ix2 0 k)) 1024 * X (ix2 n j) := by
  unfold dxAt
  rw [Norm.back_eq _ _ _ (by norm_num), add_comm, add_assoc, add_assoc, add_assoc]

section Reference
variable (m' : (ℓ : Loc Cert.Reference8Ideal.nD Cert.Reference8Ideal.τ Cert.Reference8Ideal.sig) → Buf (Elt Ideal) ℓ) (c : Dev Cert.Reference8Ideal.nD)
  (Y : FVec Ideal S4096x3072 .f32) (W : FVec Ideal S1024x3072 .f32) (X : FVec Ideal S4096x1024 .f32) (G : FVec Ideal S1x1024 .f32) (D : FVec Ideal S4096x1024 .f32)
  (eY : m' ((c : Thread Cert.Reference8Ideal.nD Cert.Reference8Ideal.τ).loc Cert.Reference8Ideal.main_arg0) = Y)
  (eW : m' ((c : Thread Cert.Reference8Ideal.nD Cert.Reference8Ideal.τ).loc Cert.Reference8Ideal.main_arg1) = W)
  (eX : m' ((c : Thread Cert.Reference8Ideal.nD Cert.Reference8Ideal.τ).loc Cert.Reference8Ideal.main_arg2) = X)
  (eG : m' ((c : Thread Cert.Reference8Ideal.nD Cert.Reference8Ideal.τ).loc Cert.Reference8Ideal.main_arg3) = G)
  (eD : m' ((c : Thread Cert.Reference8Ideal.nD Cert.Reference8Ideal.τ).loc Cert.Reference8Ideal.main_arg4) = D)

include eY eW eX eG eD in
theorem ref0 : Cert.Reference8Ideal.Value.res_main_v36 m' c = DX Y W X G D := by
  unfold Cert.Reference8Ideal.Value.res_main_v36
  rw [eY, eW, eX, eG, eD]
  funext i
  idx_vars i
  refine Eq.trans ?_ (chained Y W X G D i0 i1).symm
  pointwise []
  unfold Norm.chain Norm.rinv Norm.ms Norm.eps dh
  rw [← Norm.n1024, ← Norm.half_neg]
  simp only [Finset.univ_unique, Finset.sum_singleton]

end Reference

/-- The kernel's arrays are the reference's. -/
theorem result : Cert.algebraic_Kernel8Ideal_Reference8Ideal (hKernel8Ideal := Cert.Kernel8Ideal.Gen.facts) (hReference8Ideal := Cert.Reference8Ideal.Gen.facts) := by
  intro m g m' g' _ hagree
  refine ⟨fun c => DX (m ((c : Thread nD τ).loc main_arg0)) (m ((c : Thread nD τ).loc main_arg1)) (m ((c : Thread nD τ).loc main_arg2)) (m ((c : Thread nD τ).loc main_arg3)) (m ((c : Thread nD τ).loc main_arg4)),
    fun c => DG (m ((c : Thread nD τ).loc main_arg0)) (m ((c : Thread nD τ).loc main_arg1)) (m ((c : Thread nD τ).loc main_arg2)), ?_, ?_⟩
  · exact θ_run_mono (Cert.Kernel8Ideal.Value.run_blocks m g) fun r h c =>
      ⟨(h c).1.trans (final5 m c), (h c).2.1.trans (final6 m c), (h c).2.2⟩
  · exact θ_run_mono (Cert.Reference8Ideal.Value.run m' g') fun r h c => by
      obtain ⟨a0, a1, a2, a3, a4⟩ := hagree c
      obtain ⟨h0, h1, hk⟩ := h c
      refine ⟨h0.trans (ref0 m' c _ _ _ _ _ a0 a1 a2 a3 a4), h1.trans ?_, hk⟩
      rw [a0, a1, a2]
      funext i
      idx_vars i
      pointwise [DG]
      unfold gain Norm.rinv Norm.ms Norm.eps dh
      rw [← Norm.n1024]
      exact Finset.sum_congr rfl fun _ _ => mul_comm _ _
end Cert.MixDx
end
-- ==== Proof.MixFwdPay.lean ====
/- The mixer's forward pass (`_mixer_fwd`): its mathematics, and what each payload computes. -/
module

public import proofs.«01_k».proof.Proof.Gen.Kernel9Ideal.Frame
public import proofs.«01_k».proof.Proof.ConvSpec
public import proofs.«01_k».proof.Proof.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixFwd
open Cert.Kernel9Ideal Cert.Kernel9Ideal.Gen Idealize.ShloMosaic.StableHlo

/-- The weight's row for the attention's channel. -/
def lo (i : Fin 512) : Fin 1024 := ⟨i, by omega⟩
/-- The weight's row for the convolution's channel. -/
def hi (i : Fin 512) : Fin 1024 := ⟨512 + i, by omega⟩

section Spec
variable (X : FVec Ideal S4096x1024 .f32) (A : FVec Ideal S4096x512 .f32) (Z : FVec Ideal S4096x1536 .f32) (W : FVec Ideal S3x512 .f32) (Ga Gc : FVec Ideal S1x512 .f32)
  (Wo : FVec Ideal S1024x1024 .f32) (n : Fin 4096)

/-- The gated convolution. -/
def gated (c : Fin 512) : EReal := Conv.bg Z n c * Conv.conv Z W n c
/-- The attention's output, normed. -/
def na (c : Fin 512) : EReal := A (ix2 n c) * Norm.rinv (fun k => A (ix2 n k)) 512 * Ga (ix2 0 c)
/-- The gated convolution, normed. -/
def nc (c : Fin 512) : EReal := gated Z W n c * Norm.rinv (gated Z W n) 512 * Gc (ix2 0 c)
/-- The two, next to each other. -/
def both (i : Fin 1024) : EReal := if h : (i : ℕ) < 512 then na A Ga n ⟨i, h⟩ else nc Z W Gc n ⟨i - 512, by omega⟩
/-- The row with their product added. -/
def x1 (k : Fin 1024) : EReal := X (ix2 n k) + ((∑ c : Fin 512, na A Ga n c * Wo (ix2 (lo c) k)) + ∑ c : Fin 512, nc Z W Gc n c * Wo (ix2 (hi c) k))
end Spec

/-- Row `(r, j)` of step `t`'s block is position `512 t + 16 j + r`. -/
def at' (t : Fin cfg0.N) (r : Fin 16) (j : Fin 32) : Fin 4096 := ⟨512 * (t : ℕ) + 16 * (j : ℕ) + (r : ℕ), by have : t.val < 8 := lt_of_lt_of_eq t.isLt N_0; omega⟩

section Payloads
variable (X : FVec Ideal S4096x1024 .f32) (A : FVec Ideal S4096x512 .f32) (Z : FVec Ideal S4096x1536 .f32) (W : FVec Ideal S3x512 .f32) (Ga Gc : FVec Ideal S1x512 .f32)
  (Wo : FVec Ideal S1024x1024 .f32) (t : Fin cfg0.N) (g : grid0.Coords) (hgt : (g 0 : ℕ) = t.val)
  (xb : FVec Ideal S1x16x32x1024 .f32) (ab : FVec Ideal S1x16x32x512 .f32) (zb : FVec Ideal S1x16x32x1536 .bf16) (zp : FVec Ideal S1x2x16x1536 .bf16)
  (wa wb : FVec Ideal S512x1024 .bf16)
  (hX : ∀ r j k, xb (ix4 0 r j k) = X (ix2 (at' t r j) k))
  (hA : ∀ r j k, ab (ix4 0 r j k) = A (ix2 (at' t r j) k))
  (hz : ∀ r j k, zb (ix4 0 r j k) = Conv.row (fun p => Z (ix2 p k)) (512 * t + 16 * j + r))
  (hp : 0 < (t : ℕ) → ∀ r k, zp (ix4 0 r 15 k) = Conv.row (fun p => Z (ix2 p k)) (512 * t - 2 + r))
  (hwa : ∀ (i : Fin 512) k, wa (ix2 i k) = Wo (ix2 (lo i) k)) (hwb : ∀ (i : Fin 512) k, wb (ix2 i k) = Wo (ix2 (hi i) k))

include hA in
theorem pay5 (r : Fin 16) (j : Fin 32) (c : Fin 512) : k0_pay5 (F := Ideal) ab Ga (ix3 r j c) = na A Ga (at' t r j) c := by
  pointwise [k0_pay5]
  simp only [hA, Norm.n512]
  rfl

include hz in
theorem pay7 (r : Fin 16) (j : Fin 32) (c : Fin 512) : k0_pay7 (F := Ideal) zb (ix3 r j c) = Conv.bg Z (512 * t + 16 * j + r) c := by
  pointwise [k0_pay7, k0_pay6]
  rw [hz]; rfl

include hz in
theorem pay8 (r : Fin 16) (j : Fin 32) (c : Fin 512) : k0_pay8 (F := Ideal) zb (ix3 r j c) = Conv.back Z 0 (512 * t + 16 * j + r) c := by
  pointwise [k0_pay8, k0_pay6]
  rw [hz, hz]; rfl

include hz in
theorem pay10 (j : Fin 32) (c : Fin 512) : k0_pay10 (F := Ideal) zb (ix2 j c) = Conv.back Z 0 (512 * t + 16 * j + 15) c := by
  pointwise [k0_pay10]
  exact pay8 Z t zb hz 15 j c

include hp hgt in
/-- The last two tokens before a step. -/
theorem pay9 (q : Fin 2) (c : Fin 512) : k0_pay9 (F := Ideal) g zp (ix3 q 15 c) = Conv.back Z (2 - q) (512 * t) c := by
  pointwise [k0_pay9]
  have ht : t.val < 8 := lt_of_lt_of_eq t.isLt N_0
  unfold Scalar.cmpi
  rw [Conv.sel _ _ (by omega) (by omega), hgt]
  split_ifs with h
  · rw [Conv.back_zero _ _ (by omega)]
  · rw [hp (by omega), hp (by omega)]
    exact Conv.back_one Z c (by omega)

include hp hgt in
theorem pay11 (c : Fin 512) : k0_pay11 (F := Ideal) g zp (ix2 0 c) = Conv.back Z 1 (512 * t) c := by
  pointwise [k0_pay11]
  exact pay9 Z t g hgt zp hp 1 c

include hz hp hgt in
theorem pay12 (r : Fin 16) (j : Fin 32) (c : Fin 512) :
    k0_pay12 (F := Ideal) W (k0_pay7 zb) (k0_pay8 zb) (k0_pay9 g zp) (k0_pay10 zb) (k0_pay11 g zp) (ix3 r j c) = gated Z W (at' t r j) c * Norm.rinv (gated Z W (at' t r j)) 512 := by
  pointwise [k0_pay12]
  have hs : ∀ a b : EReal, Scalar.select (IntOp.cmpi .eq (BitVec.ofNat 32 (j : ℕ)) 0#32) a b = if (j : ℕ) = 0 then a else b := fun a b => Conv.sel _ _ (by omega) (by omega) a b
  simp only [pay7 Z t zb hz, pay8 Z t zb hz, pay9 Z t g hgt zp hp, pay10 Z t zb hz, pay11 Z t g hgt zp hp, hs, dite_eq_ite, Norm.n512]
  have b1 : ∀ c, (if (r : ℕ) < 1 then if (j : ℕ) = 0 then Conv.back Z 1 (512 * t) c else Conv.back Z 0 (512 * t + 16 * (((j : ℕ) + 32 - 1) % 32) + 15) c
      else Conv.back Z 0 (512 * t + 16 * j + ((r : ℕ) - 1)) c) = Conv.back Z 1 (at' t r j) c := fun c => by
    split_ifs <;> exact Conv.back_eq Z c (by simp [at'] <;> omega)
  have b2 : ∀ c, (if (r : ℕ) < 1 then if (j : ℕ) = 0 then Conv.back Z (2 - ((0 : Fin 2) : ℕ)) (512 * t) c else Conv.back Z 0 (512 * t + 16 * (((j : ℕ) + 32 - 1) % 32) + ((14 : Fin 16) : ℕ)) c
      else if (r : ℕ) - 1 < 1 then if (j : ℕ) = 0 then Conv.back Z 1 (512 * t) c else Conv.back Z 0 (512 * t + 16 * (((j : ℕ) + 32 - 1) % 32) + 15) c
      else Conv.back Z 0 (512 * t + 16 * j + ((r : ℕ) - 1 - 1)) c) = Conv.back Z 2 (at' t r j) c := fun c => by
    split_ifs <;> exact Conv.back_eq Z c (by simp [at'] <;> omega)
  simp only [b1, b2]
  rfl

include hz hp hgt in
/-- The gated convolution, normed. -/
theorem pay1 (r : Fin 16) (j : Fin 32) (c : Fin 512) :
    k0_pay1 (F := Ideal) Gc (k0_pay12 W (k0_pay7 zb) (k0_pay8 zb) (k0_pay9 g zp) (k0_pay10 zb) (k0_pay11 g zp)) (ix3 r j c) = nc Z W Gc (at' t r j) c := by
  pointwise [k0_pay1]
  rw [pay12 Z W t g hgt zb zp hz hp]
  rfl

/-- A left block of merged columns is the attention's. -/
theorem pay2 (v : FVec Ideal S16x32x512 .bf16) (r : Fin 16) (j : Fin 32) (c : Fin 512) : k0_pay2 (F := Ideal) v (ix4 0 r j c) = v (ix3 r j c) := by
  pointwise [k0_pay2]

include hz hp hgt in
/-- A right block of merged columns is the convolution's. -/
theorem pay3 (r : Fin 16) (j : Fin 32) (c : Fin 512) :
    k0_pay3 (F := Ideal) Gc (k0_pay12 W (k0_pay7 zb) (k0_pay8 zb) (k0_pay9 g zp) (k0_pay10 zb) (k0_pay11 g zp)) (ix4 0 r j c) = nc Z W Gc (at' t r j) c := by
  pointwise [k0_pay3]
  exact pay1 Z W Gc t g hgt zb zp hz hp r j c

include hX hA hz hp hgt hwa hwb in
/-- The rows with the product added. -/
theorem pay4 (r : Fin 16) (j : Fin 32) (k : Fin 1024) :
    k0_pay4 (F := Ideal) (k0_pay5 ab Ga) Gc (k0_pay12 W (k0_pay7 zb) (k0_pay8 zb) (k0_pay9 g zp) (k0_pay10 zb) (k0_pay11 g zp)) wa wb xb (ix4 0 r j k) = x1 X A Z W Ga Gc Wo (at' t r j) k := by
  pointwise [k0_pay4]
  simp only [pay5 A Ga t ab hA, pay1 Z W Gc t g hgt zb zp hz hp, hX, hwa, hwb]
  rfl
end Payloads
end Cert.MixFwd
end
-- ==== Proof.MixFwdStep.lean ====
/- The mixer (`_mixer_fwd`): what the host hands the kernel, what each step writes, and what the kernel leaves. -/
module

public import proofs.«01_k».proof.Proof.Gen.Kernel9Ideal.Frame
public import proofs.«01_k».proof.Proof.ConvSpec
public import proofs.«01_k».proof.Proof.Norm
public import proofs.«01_k».proof.Proof.Soft
public import proofs.«01_k».proof.Proof.MixFwdPay
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixFwd
open Cert.Kernel9Ideal Cert.Kernel9Ideal.Gen Idealize.ShloMosaic.StableHlo

variable (m : (ℓ : Loc nD τ sig) → Buf (Elt Ideal) ℓ) (c : Dev nD)

/-- Where each window's block sits. -/
theorem blockOf : ∀ t : Fin cfg0.N, win0_0.index t = ![t.val / 4, 0, t.val % 4, 0] ∧ win0_1.index t = ![t.val / 4, 0, t.val % 4, 0]
    ∧ win0_2.index t = ![t.val / 4, 0, t.val % 4, 0] ∧ win0_3.index t = ![(t.val - 1) / 4, 7, (t.val - 1) % 4 * 2 + 1, 0]
    ∧ win0_4.index t = ![0, 0] ∧ win0_5.index t = ![0, 0] ∧ win0_6.index t = ![0, 0] ∧ win0_7.index t = ![0, 0] ∧ win0_8.index t = ![1, 0]
    ∧ win0_9.index t = ![t.val / 4, 0, t.val % 4, 0] ∧ win0_10.index t = ![t.val / 4, 0, t.val % 4, 0] ∧ (grid0.coords t 0 : ℕ) = t.val :=
  (by decide +kernel : ∀ t : Fin grid0.N, _)

/-- Row `(b, r, j)` of an array regrouped by residue is position `2048 b + 16 j + r`. -/
def pos (b : Fin 2) (r : Fin 16) (j : Fin 128) : Fin 4096 := ⟨2048 * (b : ℕ) + 16 * (j : ℕ) + (r : ℕ), by omega⟩

theorem entry13 : V m c main_v13 = fun i : S2x16x128x1024.Idx => m ((c : Thread nD τ).loc main_arg0) (ix2 (pos (i 0) (i 1) (i 2)) (i 3)) := by
  simp only [V, V0, hostOps0, List.flatten_cons, List.flatten_nil, List.append_nil, List.cons_append, List.nil_append]
  after_results
  funext i
  pointwise []
  unfold pos
  blk_ext

theorem entry14 : V m c main_v14 = fun i : S2x16x128x512.Idx => m ((c : Thread nD τ).loc main_arg1) (ix2 (pos (i 0) (i 1) (i 2)) (i 3)) := by
  simp only [V, V0, hostOps0, List.flatten_cons, List.flatten_nil, List.append_nil, List.cons_append, List.nil_append]
  after_results
  funext i
  pointwise []
  unfold pos
  blk_ext

theorem entry15 : V m c main_v15 = fun i : S2x16x128x1536.Idx => m ((c : Thread nD τ).loc main_arg2) (ix2 (pos (i 0) (i 1) (i 2)) (i 3)) := by
  simp only [V, V0, hostOps0, List.flatten_cons, List.flatten_nil, List.append_nil, List.cons_append, List.nil_append]
  after_results
  funext i
  pointwise []
  unfold pos
  blk_ext

theorem entry16 : V m c main_v16 = fun i : S2x16x128x1536.Idx => m ((c : Thread nD τ).loc main_arg2) (ix2 (pos (i 0) (i 1) (i 2)) (i 3)) := by
  simp only [V, V0, hostOps0, List.flatten_cons, List.flatten_nil, List.append_nil, List.cons_append, List.nil_append]
  after_results
  funext i
  pointwise []
  unfold pos
  blk_ext

theorem entry10 : V m c main_v10 = m ((c : Thread nD τ).loc main_arg6) := by
  simp only [V, V0, hostOps0, List.flatten_cons, List.flatten_nil, List.append_nil, List.cons_append, List.nil_append]
  after_results
  funext i
  pointwise []

section Blocks
variable (t : Fin cfg0.N)

theorem blk0 (X : FVec Ideal S4096x1024 .f32) (hX : V m c (Pipeline.arrRef spec0 0) = fun i : S2x16x128x1024.Idx => X (ix2 (pos (i 0) (i 1) (i 2)) (i 3))) (r : Fin 16) (j : Fin 32) (k : Fin 1024) :
    iblk m c 0 t (ix4 0 r j k) = X (ix2 (at' t r j) k) := by
  have ht : t.val < 8 := lt_of_lt_of_eq t.isLt N_0
  have e := (blockOf t).1
  unfold iblk
  rw [hX]
  blk_simp
  unfold pos at'
  blk_ext <;> simp [e] <;> omega

theorem blk1 (A : FVec Ideal S4096x512 .f32) (hX : V m c (Pipeline.arrRef spec0 1) = fun i : S2x16x128x512.Idx => A (ix2 (pos (i 0) (i 1) (i 2)) (i 3))) (r : Fin 16) (j : Fin 32) (k : Fin 512) :
    iblk m c 1 t (ix4 0 r j k) = A (ix2 (at' t r j) k) := by
  have ht : t.val < 8 := lt_of_lt_of_eq t.isLt N_0
  have e := (blockOf t).2.1
  unfold iblk
  rw [hX]
  blk_simp
  unfold pos at'
  blk_ext <;> simp [e] <;> omega

theorem blk2 (Z : FVec Ideal S4096x1536 .f32) (hX : V m c (Pipeline.arrRef spec0 2) = fun i : S2x16x128x1536.Idx => Z (ix2 (pos (i 0) (i 1) (i 2)) (i 3))) (r : Fin 16) (j : Fin 32) (k : Fin 1536) :
    iblk m c 2 t (ix4 0 r j k) = Conv.row (fun p => Z (ix2 p k)) (512 * t + 16 * j + r) := by
  have ht : t.val < 8 := lt_of_lt_of_eq t.isLt N_0
  have e := (blockOf t).2.2.1
  unfold Conv.row
  rw [dif_pos (by omega)]
  unfold iblk
  rw [hX]
  blk_simp
  unfold pos
  blk_ext <;> simp [e] <;> omega

theorem blk3 (Z : FVec Ideal S4096x1536 .f32) (hX : V m c (Pipeline.arrRef spec0 3) = fun i : S2x16x128x1536.Idx => Z (ix2 (pos (i 0) (i 1) (i 2)) (i 3))) (hg : 0 < (t : ℕ)) (r : Fin 2) (k : Fin 1536) :
    iblk m c 3 t (ix4 0 r 15 k) = Conv.row (fun p => Z (ix2 p k)) (512 * t - 2 + r) := by
  have ht : t.val < 8 := lt_of_lt_of_eq t.isLt N_0
  have e := (blockOf t).2.2.2.1
  unfold Conv.row
  rw [dif_pos (by omega)]
  unfold iblk
  rw [hX]
  blk_simp
  unfold pos
  blk_ext <;> simp [e] <;> omega

theorem blk4 : iblk m c 4 t = m ((c : Thread nD τ).loc main_arg3) := by
  have e := (blockOf t).2.2.2.2.1
  funext i
  blk_ext [iblk, V] <;> simp [e]

theorem blk5 : iblk m c 5 t = m ((c : Thread nD τ).loc main_arg4) := by
  have e := (blockOf t).2.2.2.2.2.1
  funext i
  blk_ext [iblk, V] <;> simp [e]

theorem blk6 : iblk m c 6 t = m ((c : Thread nD τ).loc main_arg5) := by
  have e := (blockOf t).2.2.2.2.2.2.1
  funext i
  blk_ext [iblk, V] <;> simp [e]

/-- The half of the weight that takes the attention's channels. -/
theorem blk7 (i : Fin 512) (k : Fin 1024) : iblk m c 7 t (ix2 i k) = m ((c : Thread nD τ).loc main_arg6) (ix2 (lo i) k) := by
  have e := (blockOf t).2.2.2.2.2.2.2.1
  unfold iblk
  rw [show V m c (Pipeline.arrRef spec0 7) = _ from entry10 m c]
  unfold lo
  blk_ext <;> simp [e]

/-- The half that takes the convolution's. -/
theorem blk8 (i : Fin 512) (k : Fin 1024) : iblk m c 8 t (ix2 i k) = m ((c : Thread nD τ).loc main_arg6) (ix2 (hi i) k) := by
  have e := (blockOf t).2.2.2.2.2.2.2.2.1
  unfold iblk
  rw [show V m c (Pipeline.arrRef spec0 8) = _ from entry10 m c]
  unfold hi
  blk_ext <;> simp [e]

end Blocks

section Step
variable (X : FVec Ideal S4096x1024 .f32) (A : FVec Ideal S4096x512 .f32) (Z : FVec Ideal S4096x1536 .f32) (W : FVec Ideal S3x512 .f32) (Ga Gc : FVec Ideal S1x512 .f32)
  (Wo : FVec Ideal S1024x1024 .f32) (t : Fin cfg0.N)
  (eX : m ((c : Thread nD τ).loc main_arg0) = X) (eA : m ((c : Thread nD τ).loc main_arg1) = A) (eZ : m ((c : Thread nD τ).loc main_arg2) = Z)
  (eW : m ((c : Thread nD τ).loc main_arg3) = W) (eGa : m ((c : Thread nD τ).loc main_arg4) = Ga) (eGc : m ((c : Thread nD τ).loc main_arg5) = Gc)
  (eWo : m ((c : Thread nD τ).loc main_arg6) = Wo)

theorem na_congr {n n' : Fin 4096} {k k' : Fin 512} (h : n = n') (h' : k = k') : na A Ga n k = na A Ga n' k' := by rw [h, h']
theorem nc_congr {n n' : Fin 4096} {k k' : Fin 512} (h : n = n') (h' : k = k') : nc Z W Gc n k = nc Z W Gc n' k' := by rw [h, h']

theorem hgt : (grid0.coords t 0 : ℕ) = t.val := (blockOf t).2.2.2.2.2.2.2.2.2.2.2

include eX in
theorem hX : ∀ r j k, iblk m c 0 t (ix4 0 r j k) = X (ix2 (at' t r j) k) := by
  subst eX
  exact blk0 m c t _ (entry13 m c)

include eA in
theorem hA : ∀ r j k, iblk m c 1 t (ix4 0 r j k) = A (ix2 (at' t r j) k) := by
  subst eA
  exact blk1 m c t _ (entry14 m c)

include eZ in
theorem hz : ∀ r j k, iblk m c 2 t (ix4 0 r j k) = Conv.row (fun p => Z (ix2 p k)) (512 * t + 16 * j + r) := by
  subst eZ
  exact blk2 m c t _ (entry15 m c)

include eZ in
theorem hp : 0 < (t : ℕ) → ∀ r k, iblk m c 3 t (ix4 0 r 15 k) = Conv.row (fun p => Z (ix2 p k)) (512 * t - 2 + r) := by
  subst eZ
  exact blk3 m c t _ (entry16 m c)

include eWo in
theorem hwa : ∀ (i : Fin 512) k, iblk m c 7 t (ix2 i k) = Wo (ix2 (lo i) k) := by
  subst eWo
  exact blk7 m c t

include eWo in
theorem hwb : ∀ (i : Fin 512) k, iblk m c 8 t (ix2 i k) = Wo (ix2 (hi i) k) := by
  subst eWo
  exact blk8 m c t

include eX eA eZ eW eGa eGc eWo in
theorem step9 (y : S1x16x32x1024.Idx) : out0_9 (grid0.coords t) (iblk m c 0 t) (iblk m c 1 t) (iblk m c 2 t) (iblk m c 3 t) (iblk m c 4 t) (iblk m c 5 t) (iblk m c 6 t) (iblk m c 7 t) (iblk m c 8 t) y
    = x1 X A Z W Ga Gc Wo (at' t (y 1) (y 2)) (y 3) := by
  frame_out
  unfold k0_pay13 k0_pay14
  simp (disch := decide) only [View.ld_unit_lit']
  idx_vars y
  obtain rfl : y0 = 0 := Subsingleton.elim _ _
  rw [(blk4 m c t).trans eW, (blk5 m c t).trans eGa, (blk6 m c t).trans eGc]
  exact pay4 X A Z W Ga Gc Wo t _ (hgt t) _ _ _ _ _ _ (hX m c X t eX) (hA m c A t eA) (hz m c Z t eZ) (hp m c Z t eZ) (hwa m c Wo t eWo) (hwb m c Wo t eWo) y1 y2 y3

include eA eZ eW eGa eGc in
theorem step10 (y : S1x16x32x1024.Idx) : out0_10 (grid0.coords t) (iblk m c 0 t) (iblk m c 1 t) (iblk m c 2 t) (iblk m c 3 t) (iblk m c 4 t) (iblk m c 5 t) (iblk m c 6 t) (iblk m c 7 t) (iblk m c 8 t) y
    = both A Z W Ga Gc (at' t (y 1) (y 2)) (y 3) := by
  frame_out
  unfold k0_pay13 k0_pay14
  simp (disch := decide) only [View.ld_unit_lit']
  rw [(blk4 m c t).trans eW, (blk5 m c t).trans eGa, (blk6 m c t).trans eGc]
  canon_tiles z h
  · have hy : ¬((y 3 : Fin 1024) : ℕ) < 512 := by omega
    unfold both
    rw [dif_neg hy]
    idx_vars z
    obtain rfl : z0 = 0 := Subsingleton.elim _ _
    refine (pay3 Z W Gc t _ (hgt t) _ _ (hz m c Z t eZ) (hp m c Z t eZ) z1 z2 z3).trans (nc_congr Z W Gc (Fin.ext ?_) (Fin.ext ?_))
    · simp [at', h1, h2]
    · show (z3 : ℕ) = (y 3 : ℕ) - 512
      omega
  · have hy : ((y 3 : Fin 1024) : ℕ) < 512 := by omega
    unfold both
    rw [dif_pos hy]
    idx_vars z
    obtain rfl : z0 = 0 := Subsingleton.elim _ _
    refine (pay2 _ z1 z2 z3).trans ((pay5 A Ga t _ (hA m c A t eA) z1 z2 z3).trans (na_congr A Ga (Fin.ext ?_) (Fin.ext ?_)))
    · simp [at', h1, h2]
    · exact h3.symm

/-- What the kernel leaves, regrouped by residue. -/
def kept (f : Fin 4096 → Fin 1024 → EReal) : FVec Ideal S2x16x128x1024 .f32 := fun i => f (pos (i 0) (i 1) (i 2)) (i 3)

theorem kept_at (f : Fin 4096 → Fin 1024 → EReal) (i : S2x16x128x1024.Idx) (t : Fin cfg0.N) (y : S1x16x32x1024.Idx)
    (h0 : (i 0 : ℕ) = t / 4) (h1 : (i 1 : ℕ) = y 1) (h2 : (i 2 : ℕ) = t % 4 * 32 + y 2) (h3 : (i 3 : ℕ) = y 3) : f (at' t (y 1) (y 2)) (y 3) = kept f i := by
  unfold kept
  refine congrArg₂ f (Fin.ext ?_) (Fin.ext h3.symm)
  show 512 * (t : ℕ) + 16 * (y 2 : ℕ) + (y 1 : ℕ) = 2048 * (i 0 : ℕ) + 16 * (i 2 : ℕ) + (i 1 : ℕ)
  omega

include eX eA eZ eW eGa eGc eWo in
theorem final9 : (dats m 0 c).arrAt 9 (cfgs 0).N = kept (x1 X A Z W Ga Gc Wo) := by
  refine (dats m 0 c).arrAt_eq_of_covers 9 _ (by decide +kernel) fun t _ y => ?_
  blk_simp
  rw [after0_9, step9 m c X A Z W Ga Gc Wo t eX eA eZ eW eGa eGc eWo]
  have e := (blockOf t).2.2.2.2.2.2.2.2.2.1
  have ht : t.val < 8 := lt_of_lt_of_eq t.isLt N_0
  refine kept_at _ _ t y ?_ ?_ ?_ ?_ <;> blk_simp <;> simp [e]

include eA eZ eW eGa eGc in
theorem final10 : (dats m 0 c).arrAt 10 (cfgs 0).N = kept (both A Z W Ga Gc) := by
  refine (dats m 0 c).arrAt_eq_of_covers 10 _ (by decide +kernel) fun t _ y => ?_
  blk_simp
  rw [after0_10, step10 m c A Z W Ga Gc t eA eZ eW eGa eGc]
  have e := (blockOf t).2.2.2.2.2.2.2.2.2.2.1
  have ht : t.val < 8 := lt_of_lt_of_eq t.isLt N_0
  refine kept_at _ _ t y ?_ ?_ ?_ ?_ <;> blk_simp <;> simp [e]
end Step
end Cert.MixFwd
end
-- ==== Proof.MixFwd.lean ====
/- The mixer (`_mixer_fwd`): the host lines after the kernel, the reference, and the claim. -/
module

public import proofs.«01_k».proof.Proof.Gen.Kernel9Ideal.Frame
public import proofs.«01_k».proof.Proof.ConvSpec
public import proofs.«01_k».proof.Proof.Norm
public import proofs.«01_k».proof.Proof.MixFwdStep
public import proofs.«01_k».proof.Proof.Gen.Reference9Ideal.Run
public import proofs.«01_k».proof.Defs
public import proofs.«01_k».proof.Proof.Gen.Reference9Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixFwd
open Cert.Kernel9Ideal Cert.Kernel9Ideal.Gen Idealize.ShloMosaic.StableHlo

variable (m : (ℓ : Loc nD τ sig) → Buf (Elt Ideal) ℓ)

/-- The array a window of the kernel leaves, as the host lines after it find it. -/
theorem left (c : Dev nD) (w : Fin 11) :
    Pipeline.withArrays (cfgs 0).spec c (V0 m c) (fun w => (dats m 0 c).arrAt w (cfgs 0).N) (Proc.tc.devRef (Pipeline.arrRef spec0 w)) = (dats m 0 c).arrAt w (cfgs 0).N :=
  (dats m 0 c).withArrays_arrAt sharedIn0 _ (A_eq m c) w

/-- Regrouped by residue and back, a row is in its place. -/
theorem place (f : Fin 4096 → Fin 1024 → EReal) {n n' : Fin 4096} {k k' : Fin 1024} (h : (n : ℕ) = n') (h' : (k : ℕ) = k') : f n k = f n' k' := by
  rw [Fin.ext h, Fin.ext h']

section Tail
variable (X : FVec Ideal S4096x1024 .f32) (A : FVec Ideal S4096x512 .f32) (Z : FVec Ideal S4096x1536 .f32) (W : FVec Ideal S3x512 .f32) (Ga Gc : FVec Ideal S1x512 .f32)
  (Wo : FVec Ideal S1024x1024 .f32) (c : Dev nD)
  (eX : m ((c : Thread nD τ).loc main_arg0) = X) (eA : m ((c : Thread nD τ).loc main_arg1) = A) (eZ : m ((c : Thread nD τ).loc main_arg2) = Z)
  (eW : m ((c : Thread nD τ).loc main_arg3) = W) (eGa : m ((c : Thread nD τ).loc main_arg4) = Ga) (eGc : m ((c : Thread nD τ).loc main_arg5) = Gc)
  (eWo : m ((c : Thread nD τ).loc main_arg6) = Wo)

include eX eA eZ eW eGa eGc eWo in
theorem tail22 : Pipeline.afterTail₀ cfgs (dats m) 0 (V0 m) [hostOps1] c main_v22 = fun i : S4096x1024.Idx => x1 X A Z W Ga Gc Wo (i 0) (i 1) := by
  simp only [Pipeline.afterTail₀, hostOps1, List.flatten_cons, List.flatten_nil, List.append_nil, List.cons_append, List.nil_append]
  after_results
  rw [(left m c 9).trans (final9 m c X A Z W Ga Gc Wo eX eA eZ eW eGa eGc eWo)]
  funext i
  idx_vars i
  pointwise [kept]
  exact place (x1 X A Z W Ga Gc Wo) (by dsimp only [pos]; omega) (by dsimp only)

include eA eZ eW eGa eGc in
theorem tail25 : Pipeline.afterTail₀ cfgs (dats m) 0 (V0 m) [hostOps1] c main_v25 = fun i : S4096x1024.Idx => both A Z W Ga Gc (i 0) (i 1) := by
  simp only [Pipeline.afterTail₀, hostOps1, List.flatten_cons, List.flatten_nil, List.append_nil, List.cons_append, List.nil_append]
  after_results
  rw [(left m c 10).trans (final10 m c A Z W Ga Gc eA eZ eW eGa eGc)]
  funext i
  idx_vars i
  pointwise [kept]
  exact place (both A Z W Ga Gc) (by dsimp only [pos]; omega) (by dsimp only)
end Tail

section Reference
open Cert.Reference9Ideal.Read
variable (X : FVec Ideal S4096x1024 .f32) (A : FVec Ideal S4096x512 .f32) (Z : FVec Ideal S4096x1536 .f32) (W : FVec Ideal S3x512 .f32) (Ga Gc : FVec Ideal S1x512 .f32)
  (Wo : FVec Ideal S1024x1024 .f32) (n : Fin 4096) (k : Fin 512)

theorem ref_gated : val_main_v28 (F := Ideal) Z W (ix2 n k) = gated Z W n k := by
  pointwise [val_main_v28, val_main_v27, val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7, val_main_v6, val_main_v5, val_main_v4, val_main_v3, val_main_v2, val_main_v1, val_main_v0]
  pointwise [val_main_cst, val_main_cst_0]
  unfold gated
  refine congrArg₂ (· * ·) (Conv.row_at (fun p => Z (ix2 p ⟨k, by omega⟩)) n n.isLt) ?_
  first | rw [← Conv.ref_conv Z W n k k.isLt] | (rw [← Conv.ref_conv Z W n k k.isLt, zero_add])

theorem ref_na : val_main_v40 (F := Ideal) A Ga (ix2 n k) = na A Ga n k := by
  pointwise [val_main_v40, val_main_v39, val_main_v38, val_main_v37, val_main_v36, val_main_v35, val_main_v34, val_main_v33, val_main_v32, val_main_v31, val_main_v30, val_main_v29]
  pointwise [val_main_cst_1, val_main_cst_2, val_main_cst_3]
  unfold na Norm.rinv Norm.ms Norm.eps
  rw [← Norm.n512]

theorem ref_nc : val_main_v52 (F := Ideal) Z W Gc (ix2 n k) = nc Z W Gc n k := by
  pointwise [val_main_v52, val_main_v51, val_main_v50, val_main_v49, val_main_v48, val_main_v47, val_main_v46, val_main_v45, val_main_v44, val_main_v43, val_main_v42, val_main_v41]
  pointwise [val_main_cst_4, val_main_cst_5, val_main_cst_6]
  simp only [ref_gated]
  unfold nc Norm.rinv Norm.ms Norm.eps
  rw [← Norm.n512]

theorem ref_both (i : Fin 1024) : val_main_v53 (F := Ideal) A Z W Ga Gc (ix2 n i) = both A Z W Ga Gc n i := by
  pointwise [val_main_v53]
  unfold both
  split_ifs
  · exact ref_na A Ga n _
  all_goals exact ref_nc Z W Gc n _

theorem ref_merged (i : Fin 1024) : val_main_v56 (F := Ideal) A Z W Ga Gc (ix2 n i) = both A Z W Ga Gc n i := by
  pointwise [val_main_v56]
  exact ref_both A Z W Ga Gc n i

theorem ref_x1 (i : Fin 1024) : val_main_v55 (F := Ideal) X A Z W Ga Gc Wo (ix2 n i) = x1 X A Z W Ga Gc Wo n i := by
  pointwise [val_main_v55, val_main_v54]
  simp only [ref_both]
  unfold x1
  refine congrArg (X (ix2 n i) + ·) ?_
  rw [Fin.sum_univ_tiles 2 512 rfl, Fin.sum_univ_two]
  refine congrArg₂ (· + ·) (Finset.sum_congr rfl fun c _ => ?_) (Finset.sum_congr rfl fun c _ => ?_)
  · refine congrArg₂ (fun a b : EReal => a * b) ?_ (congrArg Wo (congrArg (fun q => ix2 q i) (Fin.ext ?_)))
    · unfold both
      rw [dif_pos (by simp)]
      exact congrArg (na A Ga n) (Fin.ext (by simp))
    · simp [lo]
  · refine congrArg₂ (fun a b : EReal => a * b) ?_ (congrArg Wo (congrArg (fun q => ix2 q i) (Fin.ext ?_)))
    · unfold both
      rw [dif_neg (by simp)]
      exact congrArg (nc Z W Gc n) (Fin.ext (by simp))
    · simp [hi]
end Reference

/-- The kernel's arrays are the reference's. -/
theorem result : Cert.algebraic_Kernel9Ideal_Reference9Ideal (hKernel9Ideal := Cert.Kernel9Ideal.Gen.facts) (hReference9Ideal := Cert.Reference9Ideal.Gen.facts) := by
  intro m g m' g' _ hagree
  refine ⟨fun c i => x1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1),
    fun c i => both (m ((c : Thread nD τ).loc main_arg1)) (m ((c : Thread nD τ).loc main_arg2)) (m ((c : Thread nD τ).loc main_arg3)) (m ((c : Thread nD τ).loc main_arg4)) (m ((c : Thread nD τ).loc main_arg5)) (i 0) (i 1), ?_, ?_⟩
  · exact θ_run_mono (Idealize.ShloMosaic.θ_run_and (Cert.Kernel9Ideal.Gen.run_main m g) (Cert.Kernel9Ideal.Gen.unchanged m g)) fun r h c =>
      ⟨((h.1 c).2 main_v22 (Pipeline.mem_restRefs_of main_v22 (by decide) (by decide))).trans (tail22 m _ _ _ _ _ _ _ c rfl rfl rfl rfl rfl rfl rfl),
        ((h.1 c).2 main_v25 (Pipeline.mem_restRefs_of main_v25 (by decide) (by decide))).trans (tail25 m _ _ _ _ _ c rfl rfl rfl rfl rfl), h.2 c⟩
  · exact θ_run_mono (Cert.Reference9Ideal.Value.run m' g') fun r h c => by
      obtain ⟨a0, a1, a2, a3, a4, a5, a6⟩ := hagree c
      obtain ⟨h0, h1, hk⟩ := h c
      refine ⟨h0.trans ?_, h1.trans ?_, hk⟩
      · rw [Cert.Reference9Ideal.Read.val_main_v55_eq, a0, a1, a2, a3, a4, a5, a6]; funext i; idx_vars i; exact ref_x1 _ _ _ _ _ _ _ i0 i1
      · rw [Cert.Reference9Ideal.Read.val_main_v56_eq, a1, a2, a3, a4, a5]; funext i; idx_vars i; exact ref_merged _ _ _ _ _ i0 i1
end Cert.MixFwd
end
-- ==== Proof.XattnFwdStep.lean ====
/- The memory attention's forward pass (`_xattn_fwd`): the rows with the attention added, the normed rows, the queries and the heads' outputs. -/
module

public import proofs.«01_k».proof.Proof.XattnPay
public import proofs.«01_k».proof.Proof.Gen.Kernel10Ideal.Value

@[expose] public section

set_option maxRecDepth 16384

noncomputable section

open Idealize.ShloMosaic Idealize.ShloMosaic.TcCoe Idealize.SL.Sem
open Idealize.ShloMosaic.Pipeline (Dat)

namespace Cert.XattnFwd
open Cert.Cols Cert.Kernel10Ideal Cert.Kernel10Ideal.Gen Idealize.ShloMosaic.StableHlo
open Cert.Xattn (key val rr xh qq sc pr scale)

section Spec
variable (X : FVec Ideal S4096x1024 .f32) (G : FVec Ideal S1x1024 .f32) (Wq : FVec Ideal S1024x1024 .f32) (KV : FVec Ideal S256x2048 .f32)
  (Wo : FVec Ideal S1024x1024 .f32) (n : Fin 4096)

/-- The normed row. -/
def hh (i : Fin 1024) : EReal := xh X n i * G (ix2 0 i)
/-- A head's output: the values, weighted by the softmax of the scores. -/
def oh (h : Fin 4) (e : Fin 256) : EReal := ∑ k, pr X G Wq KV n h k * KV (ix2 k (val (col h e)))
/-- The heads' outputs, next to each other. -/
def oo (i : Fin 1024) : EReal := oh X G Wq KV n (headOf i) (posOf i)
/-- The row with the attention added. -/
def yy (i : Fin 1024) : EReal := X (ix2 n i) + ∑ j, oo X G Wq KV n j * Wo (ix2 j i)
end Spec

section Heads
variable (X : FVec Ideal S4096x1024 .f32) (G : FVec Ideal S1x1024 .f32) (Wq : FVec Ideal S1024x1024 .f32) (KV : FVec Ideal S256x2048 .f32)
  (row : Fin 512 → Fin 4096) (q : FVec Ideal S512x1024 .bf16) (vk vv : FVec Ideal S256x256 .bf16)
  (x0 : FVec Ideal S512x1024 .f32) (x1 : FVec Ideal S1x1024 .f32) (x2 : FVec Ideal S1024x1024 .bf16)

/-- What is asked of a head's keys and values: they are its columns. -/
def Ops (h : Fin 4) : Prop := (∀ k e, vk (ix2 k e) = KV (ix2 k (key (col h e)))) ∧ ∀ k e, vv (ix2 k e) = KV (ix2 k (val (col h e)))

theorem head0 (hq : ∀ j i, k0_pay3 (F := Ideal) x0 x1 x2 (ix2 j i) = qq X G Wq (row j) i) (o : Ops KV vk vv 0) (j : Fin 512) (e : Fin 256) :
    k0_pay5 (F := Ideal) (k0_pay4 x0 x1 x2 vk) vv (ix2 j e) = oh X G Wq KV (row j) 0 e := by
  have w : ∀ e : Fin 256, (⟨0 + (e : ℕ), by omega⟩ : Fin 1024) = col 0 e := fun e => Fin.ext (by simp [col])
  pointwise [k0_pay5, k0_pay4]
  simp only [hq, o.1, o.2]
  have w : ∀ e : Fin 256, (⟨(e : ℕ), by omega⟩ : Fin 1024) = col 0 e := fun e => Fin.ext (by simp [col])
  simp only [w]
  rfl

variable (hq : ∀ j i, q (ix2 j i) = qq X G Wq (row j) i)
include hq

theorem head1 (o : Ops KV vk vv 1) (j : Fin 512) (e : Fin 256) : k0_pay6 (F := Ideal) q vk vv (ix2 j e) = oh X G Wq KV (row j) 1 e := by
  pointwise [k0_pay6]
  simp only [hq, o.1, o.2]
  rfl

theorem head2 (o : Ops KV vk vv 2) (j : Fin 512) (e : Fin 256) : k0_pay8 (F := Ideal) (k0_pay7 q vk) vv (ix2 j e) = oh X G Wq KV (row j) 2 e := by
  pointwise [k0_pay8, k0_pay7]
  simp only [hq, o.1, o.2]
  rfl

theorem head3 (o : Ops KV vk vv 3) (j : Fin 512) (e : Fin 256) : k0_pay9 (F := Ideal) q vk vv (ix2 j e) = oh X G Wq KV (row j) 3 e := by
  pointwise [k0_pay9]
  simp only [hq, o.1, o.2]
  rfl
end Heads

variable (m : (ℓ : Loc nD τ sig) → Buf (Elt Ideal) ℓ)

/-- Where each window's block sits. -/
theorem blockOf : ∀ t : Fin cfg0.N, win0_0.index t = ![t.val, 0] ∧ win0_1.index t = ![0, 0] ∧ win0_2.index t = ![0, 0]
    ∧ win0_3.index t = ![0, 0] ∧ win0_4.index t = ![0, 1] ∧ win0_5.index t = ![0, 0] ∧ win0_6.index t = ![t.val, 0] ∧ win0_7.index t = ![t.val, 0]
    ∧ win0_8.index t = ![t.val, 0] ∧ win0_9.index t = ![t.val, 0] :=
  (by decide +kernel : ∀ t : Fin grid0.N, _)

/-- Row `j` of grid step `t`. -/
def at' (t : Fin cfg0.N) (j : Fin 512) : Fin 4096 := ⟨t.val * 512 + j, by have : t.val < 8 := lt_of_lt_of_eq t.isLt N_0; omega⟩

section Blocks
variable (c : Dev nD) (t : Fin cfg0.N)

/-- The weights, keys and values as the host hands them to the kernel. -/
theorem entries : V m c main_v0 = m ((c : Thread nD τ).loc main_arg2) ∧ V m c main_v1 = m ((c : Thread nD τ).loc main_arg3) ∧ V m c main_v2 = m ((c : Thread nD τ).loc main_arg4) := by
  refine ⟨?_, ?_, ?_⟩ <;> (entry_read; funext i; pointwise [])

theorem blk0 (Z : FVec Ideal S4096x1024 .f32) (h : V m c (Pipeline.arrRef spec0 0) = Z) (j : Fin 512) (k : Fin 1024) : iblk m c 0 t (ix2 j k) = Z (ix2 (at' t j) k) := by
  have e := (blockOf t).1
  unfold iblk
  rw [h]
  blk_simp
  unfold at'
  blk_ext <;> simp [e]

theorem blk1 (Z : FVec Ideal S1x1024 .f32) (h : V m c (Pipeline.arrRef spec0 1) = Z) (k : Fin 1024) : iblk m c 1 t (ix2 0 k) = Z (ix2 0 k) := by
  have e := (blockOf t).2.1
  unfold iblk
  rw [h]
  blk_simp
  blk_ext <;> simp [e]

theorem blk2 (Z : FVec Ideal S1024x1024 .bf16) (h : V m c (Pipeline.arrRef spec0 2) = Z) (j k : Fin 1024) : iblk m c 2 t (ix2 j k) = Z (ix2 j k) := by
  have e := (blockOf t).2.2.1
  unfold iblk
  rw [h]
  blk_simp
  blk_ext <;> simp [e]

theorem blk3 (Z : FVec Ideal S256x2048 .bf16) (h : V m c (Pipeline.arrRef spec0 3) = Z) (k : Fin 256) (i : Fin 1024) : iblk m c 3 t (ix2 k i) = Z (ix2 k (key i)) := by
  have e := (blockOf t).2.2.2.1
  unfold iblk
  rw [h]
  blk_simp
  unfold key
  blk_ext <;> simp [e]

theorem blk4 (Z : FVec Ideal S256x2048 .bf16) (h : V m c (Pipeline.arrRef spec0 4) = Z) (k : Fin 256) (i : Fin 1024) : iblk m c 4 t (ix2 k i) = Z (ix2 k (val i)) := by
  have e := (blockOf t).2.2.2.2.1
  unfold iblk
  rw [h]
  blk_simp
  unfold val
  blk_ext <;> simp [e]

theorem blk5 (Z : FVec Ideal S1024x1024 .bf16) (h : V m c (Pipeline.arrRef spec0 5) = Z) (j k : Fin 1024) : iblk m c 5 t (ix2 j k) = Z (ix2 j k) := by
  have e := (blockOf t).2.2.2.2.2.1
  unfold iblk
  rw [h]
  blk_simp
  blk_ext <;> simp [e]
end Blocks

section Step
variable (X : FVec Ideal S4096x1024 .f32) (G : FVec Ideal S1x1024 .f32) (Wq : FVec Ideal S1024x1024 .f32) (KV : FVec Ideal S256x2048 .f32)
  (Wo : FVec Ideal S1024x1024 .f32) (c : Dev nD) (t : Fin cfg0.N)
  (eX : m ((c : Thread nD τ).loc main_arg0) = X) (eG : m ((c : Thread nD τ).loc main_arg1) = G) (eQ : m ((c : Thread nD τ).loc main_arg2) = Wq)
  (eK : m ((c : Thread nD τ).loc main_arg3) = KV) (eO : m ((c : Thread nD τ).loc main_arg4) = Wo)

include eK in
/-- The keys and values of head `h`. -/
theorem ops (h : Fin 4) (o : ℕ) (ho : o = 256 * h) (i3 i4) : Ops KV
    (View.ld (Val := Elt Ideal) (e' := .bf16) (iblk m c 3 t) (Rect.unit (s := S256x1024) ![0, o] ![256, 256] i3))
    (View.ld (Val := Elt Ideal) (e' := .bf16) (iblk m c 4 t) (Rect.unit (s := S256x1024) ![0, o] ![256, 256] i4)) h := by
  refine ⟨fun k e => ?_, fun k e => ?_⟩
  · exact (ld_head o h ho _ _ k e).trans (blk3 m c t KV ((entries m c).2.1.trans eK) k _)
  · exact (ld_head o h ho _ _ k e).trans (blk4 m c t KV ((entries m c).2.1.trans eK) k _)

include eX eG in
theorem rows (j : Fin 512) (i : Fin 1024) : k0_pay2 (F := Ideal) (iblk m c 0 t) (iblk m c 1 t) (ix2 j i) = hh X G (at' t j) i := by
  pointwise [k0_pay2]
  simp only [blk0 m c t X ((V_main_arg0 m c).trans eX), blk1 m c t G ((V_main_arg1 m c).trans eG)]
  unfold hh xh rr Norm.rinv Norm.ms Norm.eps
  rw [← Norm.n1024]

include eX eG eQ in
theorem queries (j : Fin 512) (i : Fin 1024) : k0_pay3 (F := Ideal) (iblk m c 0 t) (iblk m c 1 t) (iblk m c 2 t) (ix2 j i) = qq X G Wq (at' t j) i := by
  pointwise [k0_pay3]
  simp only [rows m X G c t eX eG, blk2 m c t Wq ((entries m c).1.trans eQ)]
  rfl

include eX eG in
theorem step7 (y : S512x1024.Idx) : (outsAt0 m c t).2.1 y = hh X G (at' t (y 0)) (y 1) := by
  idx_vars y
  unfold outsAt0
  frame_out
  exact rows m X G c t eX eG _ _

include eX eG eQ in
theorem step8 (y : S512x1024.Idx) : (outsAt0 m c t).2.2.1 y = qq X G Wq (at' t (y 0)) (y 1) := by
  idx_vars y
  unfold outsAt0
  frame_out
  exact queries m X G Wq c t eX eG eQ _ _

section Four
variable (k0 k1 k2 k3 v0 v1 v2 v3 : FVec Ideal S256x256 .bf16) (o0 : Ops KV k0 v0 0) (o1 : Ops KV k1 v1 1) (o2 : Ops KV k2 v2 2) (o3 : Ops KV k3 v3 3)

include eX eG eQ o0 o1 o2 o3 in
/-- The four heads' outputs, next to each other. -/
theorem heads (Z) (j : Fin 512) (i : Fin 1024) :
    colSet (φ := .bf16) 768 (k0_pay9 (F := Ideal) (k0_pay3 (iblk m c 0 t) (iblk m c 1 t) (iblk m c 2 t)) k3 v3)
      (colSet (φ := .bf16) 512 (k0_pay8 (F := Ideal) (k0_pay7 (k0_pay3 (iblk m c 0 t) (iblk m c 1 t) (iblk m c 2 t)) k2) v2)
      (colSet (φ := .bf16) 256 (k0_pay6 (F := Ideal) (k0_pay3 (iblk m c 0 t) (iblk m c 1 t) (iblk m c 2 t)) k1 v1)
      (colSet (φ := .bf16) 0 (k0_pay5 (F := Ideal) (k0_pay4 (iblk m c 0 t) (iblk m c 1 t) (iblk m c 2 t) k0) v0) Z))) (ix2 j i) = oo X G Wq KV (at' t j) i := by
  have q := queries m X G Wq c t eX eG eQ
  exact cols4 (φ := .bf16) _ _ _ _ _ (fun j h e => oh X G Wq KV (at' t j) h e)
    (fun j e => head0 X G Wq KV (at' t) k0 v0 _ _ _ q o0 j e)
    (fun j e => head1 X G Wq KV (at' t) _ k1 v1 q o1 j e)
    (fun j e => head2 X G Wq KV (at' t) _ k2 v2 q o2 j e)
    (fun j e => head3 X G Wq KV (at' t) _ k3 v3 q o3 j e) j i
end Four

include eX eO in
/-- The attention added to a row. -/
theorem added (z : FVec Ideal S512x1024 .bf16) (f : Fin 512 → Fin 1024 → EReal) (hz : ∀ j i, z (ix2 j i) = f j i) (y : S512x1024.Idx) :
    k0_pay1 (F := Ideal) (iblk m c 0 t) (k0_pay10 z (iblk m c 5 t)) y = X (ix2 (at' t (y 0)) (y 1)) + ∑ k, f (y 0) k * Wo (ix2 k (y 1)) := by
  idx_vars y
  pointwise [k0_pay1, k0_pay10]
  simp only [hz, blk0 m c t X ((V_main_arg0 m c).trans eX), blk5 m c t Wo ((entries m c).2.2.trans eO)]

include eX eG eQ eK in
theorem step9 (y : S512x1024.Idx) : (outsAt0 m c t).2.2.2 y = oo X G Wq KV (at' t (y 0)) (y 1) := by
  idx_vars y
  unfold outsAt0
  frame_out
  simp only [canon_col]
  exact heads m X G Wq KV c t eX eG eQ _ _ _ _ _ _ _ _ (ops m KV c t eK 0 0 rfl _ _) (ops m KV c t eK 1 256 rfl _ _)
    (ops m KV c t eK 2 512 rfl _ _) (ops m KV c t eK 3 768 rfl _ _) _ _ _

include eX eG eQ eK eO in
theorem step6 (y : S512x1024.Idx) : (outsAt0 m c t).1 y = yy X G Wq KV Wo (at' t (y 0)) (y 1) := by
  unfold outsAt0
  frame_out
  rw [read_all]
  exact added m X Wo c t eX eO _ (fun j i => oo X G Wq KV (at' t j) i) (fun j i => (ld_all _ _ j i).trans
    (heads m X G Wq KV c t eX eG eQ _ _ _ _ _ _ _ _ (ops m KV c t eK 0 0 rfl _ _) (ops m KV c t eK 1 256 rfl _ _)
      (ops m KV c t eK 2 512 rfl _ _) (ops m KV c t eK 3 768 rfl _ _) _ _ _)) y
end Step
end Cert.XattnFwd
end
-- ==== Proof.XattnFwd.lean ====
/- The memory attention's forward pass: the reference computes the same, and what the kernel leaves is what it computes. -/
module

public import proofs.«01_k».proof.Proof.XattnFwdStep
public import proofs.«01_k».proof.Proof.Gen.Reference10Ideal.Read
public import proofs.«01_k».proof.Proof.Gen.Reference10Ideal.Run

@[expose] public section

set_option maxRecDepth 16384

noncomputable section

open Idealize.ShloMosaic Idealize.ShloMosaic.TcCoe Idealize.SL.Sem
open Idealize.ShloMosaic.Pipeline (Dat)

namespace Cert.XattnFwd
open Cert.Cols Idealize.ShloMosaic.StableHlo
open Cert.Xattn (key val rr xh qq sc pr scale)

section Reference
open Cert.Reference10Ideal Cert.Reference10Ideal.Read
variable (X : FVec Ideal S4096x1024 .f32) (G : FVec Ideal S1x1024 .f32) (Wq : FVec Ideal S1024x1024 .f32) (KV : FVec Ideal S256x2048 .f32)
  (Wo : FVec Ideal S1024x1024 .f32)

theorem ref_h (n : Fin 4096) (i : Fin 1024) : val_main_v11 (F := Ideal) X G (ix2 n i) = hh X G n i := by
  pointwise [val_main_v11, val_main_v10, val_main_v9, val_main_v8, val_main_v7, val_main_v6, val_main_v5, val_main_cst_1, val_main_v4, val_main_v3, val_main_cst_0, val_main_v2, val_main_v1, val_main_cst, val_main_v0]
  unfold hh xh rr Norm.rinv Norm.ms Norm.eps
  rw [← Norm.n1024]

theorem ref_q (n : Fin 4096) (j : Fin 1024) : val_main_v12 (F := Ideal) X G Wq (ix2 n j) = qq X G Wq n j := by
  pointwise [val_main_v12]
  simp only [ref_h]
  rfl

/-- A head's column, written with the head first. -/
theorem head_col (h : Fin 4) (e : Fin 256) (p) : (⟨(h : ℕ) * 256 + e, p⟩ : Fin 1024) = col h e := Fin.ext (by show (h : ℕ) * 256 + e = 256 * h + e; omega)

theorem ref_k (h : Fin 4) (k e : Fin 256) : val_main_v16 (F := Ideal) KV (ix3 k h e) = KV (ix2 k (key (col h e))) := by
  pointwise [val_main_v16, val_main_v13]
  exact congrArg (fun i => KV (ix2 k i)) (Fin.ext (by show (h : ℕ) * 256 + e = 256 * h + e; omega))

theorem ref_v (h : Fin 4) (k e : Fin 256) : val_main_v17 (F := Ideal) KV (ix3 k h e) = KV (ix2 k (val (col h e))) := by
  pointwise [val_main_v17, val_main_v14]
  exact congrArg (fun i => KV (ix2 k i)) (Fin.ext (by show 1024 + ((h : ℕ) * 256 + e) = 1024 + (256 * h + e); omega))

/-- Dividing by sixteen is multiplying by the kernel's scale. -/
theorem over16 (z : EReal) : Ideal.div z (Ideal.ofBits .f32 0x41800000#32) = z * scale := by
  have a : Ideal.ofBits .f32 0x41800000#32 = ((16 : ℝ) : EReal) := by simp [Ideal.ofBits, Ideal.ieee, -EReal.coe_mul]; norm_num
  rw [a, Norm.div_coe _ _ (by norm_num)]
  unfold scale
  congr 1
  simp [Ideal.ofBits, Ideal.ieee, -EReal.coe_mul]
  norm_num

theorem ref_s (n : Fin 4096) (h : Fin 4) (k : Fin 256) : val_main_v20 (F := Ideal) X G Wq KV (ix3 h n k) = sc X G Wq KV n h k := by
  pointwise [val_main_v20, val_main_v18, val_main_v19, val_main_cst_2, val_main_v15]
  simp only [ref_q, ref_k, head_col]
  rw [over16]
  rfl

theorem ref_top (n : Fin 4096) (h : Fin 4) : val_main_v23 (F := Ideal) X G Wq KV (ix2 h n) = Soft.top (K := 255) (sc X G Wq KV n h) := by
  rw [val_main_v23_apply]
  unfold val_main_v21
  rw [Host.reduce_eq_fold_single FloatOps.maximumf _ _ _ (by decide) _]
  pointwise [val_main_v22, val_main_cst_4, val_main_cst_3]
  rw [show Ideal.ofBits .f32 0xFF800000#32 = (⊥ : EReal) by simp [Ideal.ofBits, Ideal.ieee]]
  refine (max_eq_right bot_le).trans ?_
  refine congrArg (fun f => Finset.fold max (⊥ : EReal) f (Finset.univ : Finset (Fin 256))) (funext fun k => ?_)
  exact (congrArg (val_main_v20 (F := Ideal) X G Wq KV) (funext fun a => Fin.ext (by match a with | ⟨0, _⟩ => rfl | ⟨1, _⟩ => rfl | ⟨2, _⟩ => rfl))).trans (ref_s X G Wq KV n h k)

theorem ref_e (n : Fin 4096) (h : Fin 4) (k : Fin 256) : val_main_v27 (F := Ideal) X G Wq KV (ix3 h n k) = Soft.weight (K := 255) (sc X G Wq KV n h) k := by
  pointwise [val_main_v27, val_main_v26, val_main_v25, val_main_v24]
  rw [ref_top, ref_s]
  rfl

theorem ref_p (n : Fin 4096) (h : Fin 4) (k : Fin 256) : val_main_v31 (F := Ideal) X G Wq KV (ix3 h n k) = pr X G Wq KV n h k := by
  pointwise [val_main_v31, val_main_v30, val_main_v29, val_main_v28, val_main_cst_5]
  simp only [ref_e]
  rfl

theorem ref_o (n : Fin 4096) (i : Fin 1024) : val_main_v34 (F := Ideal) X G Wq KV (ix2 n i) = oo X G Wq KV n i := by
  pointwise [val_main_v34, val_main_v33, val_main_v32]
  simp only [ref_p, ref_v]
  exact Finset.sum_congr rfl fun k _ => mul_comm _ _

/-- The reference's four results. -/
theorem refs : val_main_v36 (F := Ideal) X G Wq KV Wo = (fun i => yy X G Wq KV Wo (i 0) (i 1)) ∧ val_main_v37 (F := Ideal) X G = (fun i => hh X G (i 0) (i 1))
    ∧ val_main_v38 (F := Ideal) X G Wq = (fun i => qq X G Wq (i 0) (i 1)) ∧ val_main_v39 (F := Ideal) X G Wq KV = (fun i => oo X G Wq KV (i 0) (i 1)) := by
  refine ⟨funext fun i => ?_, funext fun i => ?_, funext fun i => ?_, funext fun i => ?_⟩ <;> idx_vars i
  · pointwise [val_main_v36, val_main_v35]
    simp only [ref_o]
    rfl
  · pointwise [val_main_v37]
    exact ref_h X G _ _
  · pointwise [val_main_v38]
    exact ref_q X G Wq _ _
  · pointwise [val_main_v39]
    exact ref_o X G Wq KV _ _
end Reference

open Cert.Kernel10Ideal Cert.Kernel10Ideal.Gen

section Final
variable (m : (ℓ : Loc nD τ sig) → Buf (Elt Ideal) ℓ) (c : Dev nD)
  (X : FVec Ideal S4096x1024 .f32) (G : FVec Ideal S1x1024 .f32) (Wq : FVec Ideal S1024x1024 .f32) (KV : FVec Ideal S256x2048 .f32)
  (Wo : FVec Ideal S1024x1024 .f32)
  (eX : m ((c : Thread nD τ).loc main_arg0) = X) (eG : m ((c : Thread nD τ).loc main_arg1) = G) (eQ : m ((c : Thread nD τ).loc main_arg2) = Wq)
  (eK : m ((c : Thread nD τ).loc main_arg3) = KV) (eO : m ((c : Thread nD τ).loc main_arg4) = Wo)

include eX eG eQ eK eO in
theorem final6 : (dats m 0 c).arrAt 6 (cfgs 0).N = (fun i => yy X G Wq KV Wo (i 0) (i 1) : FVec Ideal S4096x1024 .f32) := by
  refine (dats m 0 c).arrAt_eq_of_covers 6 _ (by decide +kernel) fun t _ y => ?_
  blk_simp
  rw [after0_6, step6 m _ _ _ _ _ c t eX eG eQ eK eO]
  have e := (blockOf t).2.2.2.2.2.2.1
  refine congrArg₂ (yy X G Wq KV Wo) (Fin.ext ?_) (Fin.ext ?_) <;> (blk_simp; simp [at', e])

include eX eG in
theorem final7 : (dats m 0 c).arrAt 7 (cfgs 0).N = (fun i => hh X G (i 0) (i 1) : FVec Ideal S4096x1024 .bf16) := by
  refine (dats m 0 c).arrAt_eq_of_covers 7 _ (by decide +kernel) fun t _ y => ?_
  blk_simp
  rw [after0_7, step7 m _ _ c t eX eG]
  have e := (blockOf t).2.2.2.2.2.2.2.1
  refine congrArg₂ (hh X G) (Fin.ext ?_) (Fin.ext ?_) <;> (blk_simp; simp [at', e])

include eX eG eQ in
theorem final8 : (dats m 0 c).arrAt 8 (cfgs 0).N = (fun i => qq X G Wq (i 0) (i 1) : FVec Ideal S4096x1024 .bf16) := by
  refine (dats m 0 c).arrAt_eq_of_covers 8 _ (by decide +kernel) fun t _ y => ?_
  blk_simp
  rw [after0_8, step8 m _ _ _ c t eX eG eQ]
  have e := (blockOf t).2.2.2.2.2.2.2.2.1
  refine congrArg₂ (qq X G Wq) (Fin.ext ?_) (Fin.ext ?_) <;> (blk_simp; simp [at', e])

include eX eG eQ eK in
theorem final9 : (dats m 0 c).arrAt 9 (cfgs 0).N = (fun i => oo X G Wq KV (i 0) (i 1) : FVec Ideal S4096x1024 .bf16) := by
  refine (dats m 0 c).arrAt_eq_of_covers 9 _ (by decide +kernel) fun t _ y => ?_
  blk_simp
  rw [after0_9, step9 m _ _ _ _ c t eX eG eQ eK]
  have e := (blockOf t).2.2.2.2.2.2.2.2.2
  refine congrArg₂ (oo X G Wq KV) (Fin.ext ?_) (Fin.ext ?_) <;> (blk_simp; simp [at', e])
end Final

/-- The kernel's four results are the reference's. -/
theorem result : Cert.algebraic_Kernel10Ideal_Reference10Ideal (hKernel10Ideal := Cert.Kernel10Ideal.Gen.facts) (hReference10Ideal := Cert.Reference10Ideal.Gen.facts) := by
  intro m g m' g' _ hagree
  refine ⟨fun c i => yy (m ((c : Thread nD τ).loc main_arg0)) (m ((c : Thread nD τ).loc main_arg1)) (m ((c : Thread nD τ).loc main_arg2)) (m ((c : Thread nD τ).loc main_arg3)) (m ((c : Thread nD τ).loc main_arg4)) (i 0) (i 1),
    fun c i => hh (m ((c : Thread nD τ).loc main_arg0)) (m ((c : Thread nD τ).loc main_arg1)) (i 0) (i 1),
    fun c i => qq (m ((c : Thread nD τ).loc main_arg0)) (m ((c : Thread nD τ).loc main_arg1)) (m ((c : Thread nD τ).loc main_arg2)) (i 0) (i 1),
    fun c i => oo (m ((c : Thread nD τ).loc main_arg0)) (m ((c : Thread nD τ).loc main_arg1)) (m ((c : Thread nD τ).loc main_arg2)) (m ((c : Thread nD τ).loc main_arg3)) (i 0) (i 1), ?_, ?_⟩
  · exact θ_run_mono (Cert.Kernel10Ideal.Value.run_blocks m g) fun r h c =>
      ⟨(h c).1.trans (final6 m c _ _ _ _ _ rfl rfl rfl rfl rfl), (h c).2.1.trans (final7 m c _ _ rfl rfl),
        (h c).2.2.1.trans (final8 m c _ _ _ rfl rfl rfl), (h c).2.2.2.1.trans (final9 m c _ _ _ _ rfl rfl rfl rfl), (h c).2.2.2.2⟩
  · exact θ_run_mono (Cert.Reference10Ideal.Value.run m' g') fun r h c => by
      obtain ⟨a0, a1, a2, a3, a4⟩ := hagree c
      obtain ⟨h0, h1, h2, h3, hk⟩ := h c
      obtain ⟨r0, r1, r2, r3⟩ := refs (m ((c : Thread nD τ).loc main_arg0)) (m ((c : Thread nD τ).loc main_arg1)) (m ((c : Thread nD τ).loc main_arg2)) (m ((c : Thread nD τ).loc main_arg3)) (m ((c : Thread nD τ).loc main_arg4))
      refine ⟨h0.trans ?_, h1.trans ?_, h2.trans ?_, h3.trans ?_, hk⟩
      · rw [Cert.Reference10Ideal.Read.val_main_v36_eq, a0, a1, a2, a3, a4]; exact r0
      · rw [a0, a1]; exact r1
      · rw [a0, a1, a2]; exact r2
      · rw [Cert.Reference10Ideal.Read.val_main_v39_eq, a0, a1, a2, a3]; exact r3
end Cert.XattnFwd
end
-- ==== Proof.Held.lean ====
/- A buffer that a body fills whole, and one that a pipeline keeps from one grid point to the next. -/
module

public import Idealize.ShloMosaic.Lib.Pipeline.ValueKit
public import Idealize.ShloMosaic.Lib.Claim

@[expose] public section

noncomputable section

namespace Cert.Held
open Idealize.ShloMosaic Idealize.ShloMosaic.TcCoe Idealize.SL Idealize.SL.RA
open Idealize.ShloMosaic.Pipeline (Dat Cfg)

/-- A buffer after one store that fills it reads as what was stored. -/
theorem read_filled {F : FTy → Type} [FloatOps F] {sig : RefSig} {κ : Kind} {sp : Space} {S : Shape} {e : EltTy} (v : View sig κ sp S e)
    (f : v.ty.Contents (Elt F)) {off : Fin S.rank → ℕ} (inb : ∀ a, off a + S.size a ≤ S.size a) (w : S.Idx → Elt F e)
    (h : ∀ a, off a = 0) :
    v.read (Elt F) (v.writes (Elt F) f [⟨Rect.unit off S.size inb, w⟩]) = w := by
  have hc : ∀ y : S.Idx, ∃ p ∈ ([⟨Rect.unit off S.size inb, w⟩] : List (View.Piece (Elt F) S e)), y ∈ p.1.set := fun y =>
    ⟨_, List.mem_cons_self, by
      obtain rfl : off = fun _ => 0 := funext h
      show y ∈ (Rect.whole S).set
      rw [Rect.set_whole]; exact Finset.mem_univ y⟩
  rw [View.read_writes_of_cover v f v v.junk _ hc, View.read_writes_junk_eq_canon, View.canon_cons_unit_lit' inb w [] h]

/-- A result's buffer that the point before filled and did not write back still holds what that point left. -/
theorem before_held {nD : ℕ} {τ : Topo} {sig : RefSig} {F : FTy → Type} {Λ₀ : Idealize.SL.Sem.Labels} {U : Type} [URA U]
    {cfg : Cfg sig Λ₀} {c : Dev nD} (dat : Dat τ (Elt F) Unit ℕ U ℕ cfg c) (w : Fin cfg.W) (t s : Fin cfg.N) (hs : s.val + 1 = t.val)
    (ho : (cfg.win w).isOut = true) (hf : (cfg.win w).flush s = false) (hi : cfg.idle w (cfg.grid.coords s) = false)
    (hc : ∀ a, (cfg.win w).clip (cfg.grid.coords s) a = none) (ha : dat.after w s = dat.after w t) (d) : dat.before w t d = dat.after w t := by
  obtain rfl : s = ⟨t.val - 1, Nat.lt_of_le_of_lt (Nat.sub_le _ _) t.isLt⟩ := Fin.ext (by show s.val = t.val - 1; omega)
  rw [Dat.before_of_pos _ w t (by omega) ((cfg.win w).fetch_out ho t), hf, if_neg Bool.false_ne_true]
  unfold Dat.left; rw [hi]; dsimp only
  unfold Dat.kept
  rw [Pipeline.fill_of_clip_none w _ hc d (dat.after w _), Pipeline.Window.fill_cut, ha]

end Cert.Held
end
-- ==== Proof.UpRun.lean ====
/- The squared-ReLU layer's first product (`_norm_matmul`, `mlp_up`): a run of the whole call, for any float values.

   The grid is four blocks of rows by two blocks of columns. At the first column block of a row block the body norms
   the rows, keeps them in its scratch and hands them out; at the second it uses the scratch again. -/
module

public import proofs.«01_k».proof.Proof.Gen.Kernel11Ideal.Frame
public import proofs.«01_k».proof.Proof.Gen.Kernel11Ideal.Skeleton
public import proofs.«01_k».proof.Proof.Held
public import Idealize.ShloMosaic.Lib.Pipeline.ValueKit
public import Idealize.ShloMosaic.Lib.Claim

@[expose] public section

set_option maxRecDepth 16384

noncomputable section

namespace Cert.Up
open Cert.Held Cert.Kernel11Ideal Cert.Kernel11Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- The resources of a device's core. -/
abbrev Res (F : FTy → Type) := MT nD τ sig Unit (Elt F) ℕ (UR sig nD τ) ℕ

variable (m : (ℓ : Loc nD τ sig) → Buf (Elt F) ℓ) (ρ : Dev nD → PrngReg)

/-- The body's branch is taken at the first column block of each row block. -/
theorem first_iff : ∀ t : Fin cfg0.N, k0_cond1 (grid0.coords t) = 1#1 ↔ t.val % 2 = 0 :=
  (by decide +kernel : ∀ t : Fin grid0.N, k0_cond1 (grid0.coords t) = 1#1 ↔ t.val % 2 = 0)

section Body
variable (c : Dev nD) (i : grid0.Coords)
  (arg2 : Memref sig .tc .vmem S1024x1024 .f32) (harg2 : arg2.IsWhole) (arg3 : Memref sig .tc .vmem S1x1024 .f32) (harg3 : arg3.IsWhole)
  (arg4 : Memref sig .tc .vmem S1024x2048 .bf16) (harg4 : arg4.IsWhole) (arg5 : Memref sig .tc .vmem S1024x2048 .bf16) (harg5 : arg5.IsWhole)
  (arg6 : Memref sig .tc .vmem S1024x1024 .bf16) (harg6 : arg6.IsWhole) (arg7 : Memref sig .tc .vmem S1024x1024 .bf16) (harg7 : arg7.IsWhole)
  (x : Vec F S1024x1024 .f32) (g : Vec F S1x1024 .f32) (w : Vec F S1024x2048 .bf16)

/-- The body where it norms the rows: from any contents of outputs and scratch, it leaves the normed rows in the
    scratch and in the second output, and the rectified product in the first. -/
theorem body_first (hc : k0_cond1 i = 1#1) (E : Set ℕ) (K : PUnit → sProp (Res F)) :
    iprop(owns (c : Thread nD τ) arg2 fullShare x ∗ owns (c : Thread nD τ) arg3 fullShare g ∗ owns (c : Thread nD τ) arg4 fullShare w
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x ∗ owns (c : Thread nD τ) arg3 fullShare g ∗ owns (c : Thread nD τ) arg4 fullShare w
            ∗ owns (c : Thread nD τ) arg5 fullShare (k0_pay3 (k0_pay2 x g) w) ∗ owns (c : Thread nD τ) arg6 fullShare (k0_pay1 x g)
            ∗ owns (c : Thread nD τ) arg7 fullShare (k0_pay2 x g)) -∗ K ⟨⟩))
      ⊢ wp frame (wpE (defs₀ (F := F)) Variants.none c none) E
          (cc0_mlp_up i arg2 harg2 arg3 harg3 arg4 harg4 arg5 harg5 arg6 harg6 arg7 harg7) K := by
  simp only [cc0_mlp_up_eq_skeleton]; unfold cc0_mlp_up_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (read_filled _ _ _ _ (by decide)).trans ?_
    delta body_first.sl.v3 body_first.sl.H5_1
    simp (disch := decide) only [View.readAt_eq_ld, View.ld_unit_lit', View.readCov_unit_lit', Memref.IsWhole.read_unread]
  isplitl [H4]
  · iexists _; isplitr
    swap; · iexact H4
    ipureintro
    refine (read_filled _ _ _ _ (by decide)).trans ?_
    simp (disch := decide) only [View.readAt_eq_ld, View.ld_unit_lit', View.readCov_cons_unit_lit', Memref.IsWhole.read_unread]
  iexists _; isplitr
  swap; · iexact H5
  ipureintro
  refine (read_filled _ _ _ _ (by decide)).trans ?_
  simp (disch := decide) only [View.readAt_eq_ld, View.ld_unit_lit', View.readCov_cons_unit_lit', Memref.IsWhole.read_unread]

/-- The body at a later column block: the scratch and the second output stay as they are. -/
theorem body_later (hc : ¬ k0_cond1 i = 1#1) (h s : Vec F S1024x1024 .bf16) (E : Set ℕ) (K : PUnit → sProp (Res F)) :
    iprop(owns (c : Thread nD τ) arg2 fullShare x ∗ owns (c : Thread nD τ) arg3 fullShare g ∗ owns (c : Thread nD τ) arg4 fullShare w
        ∗ (∃ d, owns (c : Thread nD τ) arg5 fullShare d) ∗ owns (c : Thread nD τ) arg6 fullShare h ∗ owns (c : Thread nD τ) arg7 fullShare s
        ∗ (iprop(owns (c : Thread nD τ) arg2 fullShare x ∗ owns (c : Thread nD τ) arg3 fullShare g ∗ owns (c : Thread nD τ) arg4 fullShare w
            ∗ owns (c : Thread nD τ) arg5 fullShare (k0_pay3 s w) ∗ owns (c : Thread nD τ) arg6 fullShare h
            ∗ owns (c : Thread nD τ) arg7 fullShare s) -∗ K ⟨⟩))
      ⊢ wp frame (wpE (defs₀ (F := F)) Variants.none c none) E
          (cc0_mlp_up i arg2 harg2 arg3 harg3 arg4 harg4 arg5 harg5 arg6 harg6 arg7 harg7) K := by
  simp only [cc0_mlp_up_eq_skeleton]; unfold cc0_mlp_up_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg2.eq_unread hf0; obtain rfl := harg3.eq_unread hf1; obtain rfl := harg4.eq_unread hf2
  obtain rfl := harg6.eq_unread hf4; obtain rfl := harg7.eq_unread hf5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (read_filled _ _ _ _ (by decide)).trans ?_
    simp (disch := decide) only [View.readAt_eq_ld, View.ld_unit_lit', View.readCov_cons_unit_lit', Memref.IsWhole.read_unread]
  isplitl [H4]
  · iexists _; isplitr; · ipureintro; exact harg6.read_unread _
    iexact H4
  iexists _; isplitr; · ipureintro; exact harg7.read_unread _
  iexact H5
end Body

/-! ## What the buffers hold, point by point -/

/-- The point of a row block that norms its rows. -/
def lead (n : ℕ) : Fin cfg0.N := ⟨n / 2 * 2 % 8, lt_of_lt_of_eq (Nat.mod_lt _ (by decide)) (show cfg0.N = 8 from N_0).symm⟩

theorem lead_first (t : Fin cfg0.N) (h : t.val % 2 = 0) : lead t.val = t := by
  have hN : t.val < 8 := lt_of_lt_of_eq t.isLt N_0
  exact Fin.ext (by show t.val / 2 * 2 % 8 = t.val; omega)

theorem lead_prev (n : ℕ) (h : ¬ n % 2 = 0) : lead (n - 1) = lead n := Fin.ext (by
  show (n - 1) / 2 * 2 % 8 = n / 2 * 2 % 8
  congr 2; omega)

/-- The normed rows of point `n`'s row block. -/
abbrev rows (c : Dev nD) (n : ℕ) : Vec F S1024x1024 .bf16 := k0_pay1 (iblk m c 0 (lead n)) (iblk m c 1 (lead n))
/-- The same as the scratch holds them. -/
abbrev kept (c : Dev nD) (n : ℕ) : Vec F S1024x1024 .bf16 := k0_pay2 (iblk m c 0 (lead n)) (iblk m c 1 (lead n))

/-- The scratch buffer. -/
abbrev scr : Memref sig .tc .vmem S1024x1024 .bf16 := Memref.whole cc0_scratch0

/-- Between the points: the scratch at anything at first, then at the rows the last point used. -/
def inv (c : Dev nD) : ℕ → sProp (Res F)
  | 0 => Pipeline.ΦA spec0 c
  | n + 1 => iprop(owns (c : Thread nD τ) scr fullShare (kept m c n) ∗ (∃ r, prngReg c r))

/-- What the pipeline's buffers hold after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (kept m c t.val) (iblk m c 2 t)
    | ⟨4, _⟩ => rows m c t.val
  Φ t := inv m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay3 (kept m c t.val) (iblk m c 2 t) := by dsimp only [dats]
theorem after_4 (c : Dev nD) (t : Fin cfg0.N) : (dats m 0 c).after 4 t = rows m c t.val := by dsimp only [dats]
theorem inv_of (c : Dev nD) (t : Fin cfg0.N) : (dats m 0 c).Φ t.castSucc = inv m c t.val := by dsimp only [dats]; rfl
theorem inv_next (c : Dev nD) (t : Fin cfg0.N) :
    (dats m 0 c).Φ t.succ = iprop(owns (c : Thread nD τ) scr fullShare (kept m c t.val) ∗ (∃ r, prngReg c r)) := by dsimp only [dats]; rfl

/-- At whatever point, the scratch is there with some contents. -/
theorem inv_some (c : Dev nD) (n : ℕ) : inv m c n ⊢ iprop((∃ d, owns (c : Thread nD τ) scr fullShare d) ∗ (∃ r, prngReg c r)) := by
  cases n with
  | zero => unfold inv Pipeline.ΦA; rw [scopedRest0_eq]; simp only [scr, owns_whole]; exact .rfl
  | succ n =>
    unfold inv
    iintro ⟨H, Hg⟩
    isplitl [H]
    · iexists _; iexact H
    iexact Hg

/-- And it can be handed back so. -/
theorem some_launch (c : Dev nD) : iprop((∃ d, owns (c : Thread nD τ) scr fullShare d) ∗ (∃ r, prngReg c r)) ⊢ (Pipeline.ΦA spec0 c : sProp (Res F)) := by
  unfold Pipeline.ΦA; rw [scopedRest0_eq]; simp only [scr, owns_whole]; exact .rfl

/-- At a later column block the second output's buffer still holds the normed rows. -/
theorem before_rows (c : Dev nD) (t : Fin cfg0.N) (h : ¬ t.val % 2 = 0) (d) : (dats m 0 c).before 4 t d = rows m c t.val := by
  have h1 : (⟨t.val - 1, Nat.lt_of_le_of_lt (Nat.sub_le _ _) t.isLt⟩ : Fin cfg0.N).val % 2 = 0 := by dsimp only; omega
  exact (before_held (dats m 0 c) 4 t ⟨t.val - 1, Nat.lt_of_le_of_lt (Nat.sub_le _ _) t.isLt⟩ (by show t.val - 1 + 1 = t.val; omega) rfl
    (Bool.eq_false_iff.mpr fun e => by have := (flush0_4 _).mp e; omega)
    (by show (!(k0_cond1 _ == 1#1)) = false; rw [(first_iff _).mpr h1]; rfl) (fun _ => rfl)
    (by rw [after_4, after_4]; unfold rows; rw [lead_prev _ h]) d).trans (after_4 m c t)

/-- The second output's buffer is left at the normed rows at every point. -/
theorem leaves_rows (c : Dev nD) (t : Fin cfg0.N) :
    (dats m 0 c).leavesExact 4 t = owns (c : Thread nD τ) (st0_4 t) fullShare ((dats m 0 c).after 4 t) := by
  unfold Dat.leavesExact
  by_cases h : t.val % 2 = 0
  · rw [show cfg0.idle 4 (cfg0.grid.coords t) = false by show (!(k0_cond1 _ == 1#1)) = false; rw [(first_iff t).mpr h]; rfl]
  · rw [(flush0_4 t).mpr (by omega)]
    split <;> rfl

/-! ## The body at a point -/

/-- What the body is called with at point `t`, -/
def pre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it gives back. -/
def post (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1600000 in
theorem body_at (c : Dev nD) (t : Fin cfg0.N) :
    pre m c t ⊢ wp frame (wpE (defs₀ (F := F)) Variants.none c none) Set.univ (bodyAt0 t) (fun _ => post m c t) := by
  unfold pre post bodyAt0
  simp only [before0_0_of m (dats m 0 c) (A_eq m c 0) (after_0 m c), before0_1_of m (dats m 0 c) (A_eq m c 1) (after_1 m c),
    before0_2_of m (dats m 0 c) (A_eq m c 2) (after_2 m c)]
  rw [show (dats m 0 c).owesAt () t.succ = (dats m 0 c).owesAt () t.castSucc from rfl,
    after_0, after_1, after_2, after_3, after_4, inv_of, inv_next]
  by_cases h : t.val % 2 = 0
  · unfold kept rows; rw [lead_first t h]
    iintro ⟨Hi, Ho, ⟨%d0, H0⟩, ⟨%d1, H1⟩, ⟨%d2, H2⟩, ⟨%d3, H3⟩, ⟨%d4, H4⟩⟩
    ihave Hi := (inv_some m c t.val) $$ Hi
    icases Hi with ⟨HS, Hg⟩
    iapply (body_first c (grid0.coords t) _ _ _ _ _ _ _ _ _ _ _ _ (iblk m c 0 t) (iblk m c 1 t) (iblk m c 2 t) ((first_iff t).mpr h) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · obtain ⟨n, hn⟩ : ∃ n, t.val = n + 1 := ⟨t.val - 1, by omega⟩
    have hk : kept m c n = kept m c t.val := by
      have := lead_prev t.val h
      rw [hn, Nat.add_sub_cancel] at this
      unfold kept; rw [hn, this]
    have hi : inv m c t.val = iprop(owns (c : Thread nD τ) scr fullShare (kept m c t.val) ∗ (∃ r, prngReg c r)) := by
      conv_lhs => rw [hn]
      show iprop(owns (c : Thread nD τ) scr fullShare (kept m c n) ∗ (∃ r, prngReg c r)) = _
      rw [hk]
    rw [hi]
    simp only [before_rows m c t h]
    iintro ⟨⟨HS, Hg⟩, Ho, ⟨%d0, H0⟩, ⟨%d1, H1⟩, ⟨%d2, H2⟩, ⟨%d3, H3⟩, ⟨%d4, H4⟩⟩
    iapply (body_later c (grid0.coords t) _ _ _ _ _ _ _ _ _ _ _ _ (iblk m c 0 t) (iblk m c 1 t) (iblk m c 2 t) (fun e => h ((first_iff t).mp e)) _ _ Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4

/-- The body table's row is the body at the point. -/
theorem row_at (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_at]
  refine triple_restated (body_at m c t) rfl .rfl fun _ => ?_
  show post m c t ⊢ iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)
  rw [leaves_rows]
  exact .rfl

/-! ## The whole call -/

set_option backward.isDefEq.respectTransparency.types false in
/-- The call runs to its end, its arrays at what the proof data say, every counter at zero. -/
theorem run_zero : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => by rw [show (dats m 0 c).Φ 0 = Pipeline.ΦA spec0 c from rfl])
    (hout := fun c => by
      rw [show (dats m 0 c).Φ (Fin.last (cfgs 0).N) = inv m c cfg0.N from rfl]
      exact (inv_some m c _).trans (some_launch c))

theorem run_main : θ_run defs (onTc (τ := τ) (main (F := F))) (s₀ m ρ) (Pipeline.FramePost cfgs (dats m) 0 (V m)) :=
  (θ_run defs _ _).mono (fun _ h => h.1) (run_zero m ρ)

/-- The frame: the call ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_zero m ρ))

end Cert.Up

end
-- ==== Proof.Up.lean ====
/- The squared-ReLU layer's first product (`_norm_matmul`, `mlp_up`): what the kernel leaves is the reference's rectified product of the normed rows, and the normed rows. -/
module

public import proofs.«01_k».proof.Proof.UpRun
public import proofs.«01_k».proof.Proof.Gen.Kernel11
public import proofs.«01_k».proof.Proof.Gen.Reference11Ideal.Read
public import proofs.«01_k».proof.Proof.Gen.Reference11Ideal.Run
public import proofs.«01_k».proof.Proof.Norm
public import proofs.«01_k».proof.Defs
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Up
open Idealize.ShloMosaic.StableHlo

section Spec
variable (X : FVec Ideal Kernel11Ideal.S4096x1024 .f32) (G : FVec Ideal Kernel11Ideal.S1x1024 .f32) (W : FVec Ideal Kernel11Ideal.S1024x4096 .f32) (n : Fin 4096)
/-- A normed row. -/
def hh (i : Fin 1024) : EReal := X (ix2 n i) * Norm.rinv (fun k => X (ix2 n k)) 1024 * G (ix2 0 i)
/-- Its product with the weights, negative entries made zero. -/
def up (k : Fin 4096) : EReal := max (∑ i, hh X G n i * W (ix2 i k)) 0
end Spec

section Reference
open Cert.Reference11Ideal Cert.Reference11Ideal.Read
variable (X : FVec Ideal S4096x1024 .f32) (G : FVec Ideal S1x1024 .f32) (W : FVec Ideal S1024x4096 .f32)

theorem ref_h (n : Fin 4096) (i : Fin 1024) : val_main_v11 (F := Ideal) X G (ix2 n i) = hh X G n i := by
  pointwise [val_main_v11, val_main_v10, val_main_v9, val_main_v8, val_main_v7, val_main_v6, val_main_v5, val_main_cst_1, val_main_v4, val_main_v3, val_main_cst_0, val_main_v2, val_main_v1, val_main_cst, val_main_v0]
  unfold hh Norm.rinv Norm.ms Norm.eps
  rw [← Norm.n1024]

/-- The reference's two results. -/
theorem refs : val_main_v14 (F := Ideal) X G W = (fun i => up X G W (i 0) (i 1)) ∧ val_main_v15 (F := Ideal) X G = (fun i => hh X G (i 0) (i 1)) := by
  refine ⟨funext fun i => ?_, funext fun i => ?_⟩ <;> idx_vars i
  · pointwise [val_main_v14, val_main_v13, val_main_v12, val_main_call0_v0, val_main_call0_cst]
    simp only [ref_h]
    rfl
  · pointwise [val_main_v15]
    exact ref_h X G _ _
end Reference

open Cert.Kernel11Ideal Cert.Kernel11Ideal.Gen

/-- Where each window's block sits. -/
theorem blockOf : ∀ t : Fin cfg0.N, win0_0.index t = ![t.val / 2, 0] ∧ win0_1.index t = ![0, 0] ∧ win0_2.index t = ![0, t.val % 2]
    ∧ win0_3.index t = ![t.val / 2, t.val % 2] ∧ win0_4.index t = ![t.val / 2, 0] :=
  (by decide +kernel : ∀ t : Fin grid0.N, _)

/-- Row `j` of grid step `t`. -/
def at' (t : Fin cfg0.N) (j : Fin 1024) : Fin 4096 := ⟨t.val / 2 * 1024 + j, by have : t.val < 8 := lt_of_lt_of_eq t.isLt N_0; omega⟩
/-- Column `k` of grid step `t`. -/
def col (t : Fin cfg0.N) (k : Fin 2048) : Fin 4096 := ⟨t.val % 2 * 2048 + k, by omega⟩

/-- The row block's first step has its rows. -/
theorem at_lead (t : Fin cfg0.N) (j : Fin 1024) : at' (lead t.val) j = at' t j := Fin.ext (by
  have : t.val < 8 := lt_of_lt_of_eq t.isLt N_0
  show t.val / 2 * 2 % 8 / 2 * 1024 + (j : ℕ) = t.val / 2 * 1024 + j
  omega)

variable (m : (ℓ : Loc nD τ sig) → Buf (Elt Ideal) ℓ) (c : Dev nD) (t : Fin cfg0.N)

theorem entry2 : V m c main_v0 = m ((c : Thread nD τ).loc main_arg2) := by
  entry_read
  funext i
  pointwise []

theorem blk0 (Z : FVec Ideal S4096x1024 .f32) (h : V m c (Pipeline.arrRef spec0 0) = Z) (j k : Fin 1024) : iblk m c 0 t (ix2 j k) = Z (ix2 (at' t j) k) := by
  have e := (blockOf t).1
  unfold iblk
  rw [h]
  blk_simp
  unfold at'
  blk_ext <;> simp [e]

theorem blk1 (Z : FVec Ideal S1x1024 .f32) (h : V m c (Pipeline.arrRef spec0 1) = Z) (k : Fin 1024) : iblk m c 1 t (ix2 0 k) = Z (ix2 0 k) := by
  have e := (blockOf t).2.1
  unfold iblk
  rw [h]
  blk_simp
  blk_ext <;> simp [e]

theorem blk2 (Z : FVec Ideal S1024x4096 .bf16) (h : V m c (Pipeline.arrRef spec0 2) = Z) (j : Fin 1024) (k : Fin 2048) : iblk m c 2 t (ix2 j k) = Z (ix2 j (col t k)) := by
  have e := (blockOf t).2.2.1
  unfold iblk
  rw [h]
  blk_simp
  unfold col
  blk_ext <;> simp [e]

variable (X : FVec Ideal S4096x1024 .f32) (G : FVec Ideal S1x1024 .f32) (W : FVec Ideal S1024x4096 .f32)
  (eX : m ((c : Thread nD τ).loc main_arg0) = X) (eG : m ((c : Thread nD τ).loc main_arg1) = G) (eW : m ((c : Thread nD τ).loc main_arg2) = W)

include eX eG

theorem row (j i : Fin 1024) : rows m c t.val (ix2 j i) = hh X G (at' t j) i := by
  rw [← at_lead]
  unfold rows
  pointwise [k0_pay1]
  simp only [blk0 m c _ X ((V_main_arg0 m c).trans eX), blk1 m c _ G ((V_main_arg1 m c).trans eG)]
  unfold hh Norm.rinv Norm.ms Norm.eps
  rw [← Norm.n1024]

theorem normed (j i : Fin 1024) : kept m c t.val (ix2 j i) = hh X G (at' t j) i := by
  rw [← row m c t X G eX eG]
  unfold kept rows k0_pay2
  generalize k0_pay1 (F := Ideal) _ _ = z
  pointwise []

theorem step4 (y : S1024x1024.Idx) : rows m c t.val y = hh X G (at' t (y 0)) (y 1) := by
  idx_vars y
  rw [row m c t X G eX eG]

include eW in
theorem step3 (y : S1024x2048.Idx) : k0_pay3 (F := Ideal) (kept m c t.val) (iblk m c 2 t) y = up X G W (at' t (y 0)) (col t (y 1)) := by
  idx_vars y
  pointwise [k0_pay3]
  simp only [normed m c t X G eX eG, blk2 m c t W ((entry2 m c).trans eW)]
  rfl

include eW in
theorem final3 : (dats m 0 c).arrAt 3 (cfgs 0).N = (fun i => up X G W (i 0) (i 1) : FVec Ideal S4096x4096 .bf16) := by
  refine (dats m 0 c).arrAt_eq_of_covers 3 _ (by decide +kernel) fun t _ y => ?_
  blk_simp
  rw [after_3, step3 m c t X G W eX eG eW]
  have e := (blockOf t).2.2.2.1
  refine congrArg₂ (up X G W) (Fin.ext ?_) (Fin.ext ?_) <;> (blk_simp; simp [at', col, e])

theorem final4 : (dats m 0 c).arrAt 4 (cfgs 0).N = (fun i => hh X G (i 0) (i 1) : FVec Ideal S4096x1024 .bf16) := by
  refine (dats m 0 c).arrAt_eq_of_covers 4 _ (by decide +kernel) fun t _ y => ?_
  blk_simp
  rw [after_4, step4 m c t X G eX eG]
  have e := (blockOf t).2.2.2.2
  refine congrArg₂ (hh X G) (Fin.ext ?_) (Fin.ext ?_) <;> (blk_simp; simp [at', e])

omit eX eG

/-- The kernel's two results are the reference's. -/
theorem result : Cert.algebraic_Kernel11Ideal_Reference11Ideal (hKernel11Ideal := Cert.Kernel11Ideal.Gen.facts) (hReference11Ideal := Cert.Reference11Ideal.Gen.facts) := by
  intro m g m' g' _ hagree
  refine ⟨fun c i => up (m ((c : Thread nD τ).loc main_arg0)) (m ((c : Thread nD τ).loc main_arg1)) (m ((c : Thread nD τ).loc main_arg2)) (i 0) (i 1),
    fun c i => hh (m ((c : Thread nD τ).loc main_arg0)) (m ((c : Thread nD τ).loc main_arg1)) (i 0) (i 1), ?_, ?_⟩
  · exact θ_run_mono (θ_run_and (run_main m g) (frame m g)) fun r h c =>
      ⟨((h.1 c).1 3).trans (final3 m c _ _ _ rfl rfl rfl), ((h.1 c).1 4).trans (final4 m c _ _ rfl rfl), h.2.1 c⟩
  · exact θ_run_mono (Cert.Reference11Ideal.Value.run m' g') fun r h c => by
      obtain ⟨a0, a1, a2⟩ := hagree c
      obtain ⟨h0, h1, hk⟩ := h c
      obtain ⟨r0, r1⟩ := refs (m ((c : Thread nD τ).loc main_arg0)) (m ((c : Thread nD τ).loc main_arg1)) (m ((c : Thread nD τ).loc main_arg2))
      refine ⟨h0.trans ?_, h1.trans ?_, hk⟩
      · rw [Cert.Reference11Ideal.Read.val_main_v14_eq, a0, a1, a2]; exact r0
      · rw [Cert.Reference11Ideal.Read.val_main_v15_eq, a0, a1]; exact r1

/-- The kernel's frame, from the same run. -/
theorem frame_kernel : Cert.quiescent_Kernel11 (hKernel11 := Cert.Kernel11.Gen.facts) := fun m g _ => by
  refine Eq.mp ?_ (frame (F := Bits) m g)
  sl_kernel_rfl
/-- The idealized kernel's frame. -/
theorem frame_ideal : Cert.quiescent_Kernel11Ideal (hKernel11Ideal := Cert.Kernel11Ideal.Gen.facts) := fun m g _ => frame m g
end Cert.Up
end
-- ==== Proof.ProjRun.lean ====
/- The attention's projection (`_proj`): a run of the whole call, for any float values.

   The grid is four blocks of rows by two column blocks, the queries, keys and values first and the gates second. At
   the first the body norms the rows, keeps them in its scratch and hands them out; at the second it uses them again. -/
module

public import proofs.«01_k».proof.Proof.Gen.Kernel12Ideal.Frame
public import proofs.«01_k».proof.Proof.Gen.Kernel12Ideal.Skeleton
public import proofs.«01_k».proof.Proof.Held
public import Idealize.ShloMosaic.Lib.Pipeline.ValueKit
public import Idealize.ShloMosaic.Lib.Claim

@[expose] public section

set_option maxRecDepth 16384

noncomputable section

namespace Cert.Proj
open Cert.Held Cert.Kernel12Ideal Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- The resources of a device's core. -/
abbrev Res (F : FTy → Type) := MT nD τ sig Unit (Elt F) ℕ (UR sig nD τ) ℕ

variable (m : (ℓ : Loc nD τ sig) → Buf (Elt F) ℓ) (ρ : Dev nD → PrngReg)

/-- The first column block of each row block is the one that norms the rows, -/
theorem first_iff : ∀ t : Fin cfg0.N, k0_cond1 (grid0.coords t) = 1#1 ↔ t.val % 2 = 0 :=
  (by decide +kernel : ∀ t : Fin grid0.N, k0_cond1 (grid0.coords t) = 1#1 ↔ t.val % 2 = 0)
/-- and that stores the queries, keys and values; -/
theorem qkv_iff : ∀ t : Fin cfg0.N, k0_cond2 (grid0.coords t) = 1#1 ↔ t.val % 2 = 0 :=
  (by decide +kernel : ∀ t : Fin grid0.N, k0_cond2 (grid0.coords t) = 1#1 ↔ t.val % 2 = 0)
/-- the second stores the gates. -/
theorem gates_iff : ∀ t : Fin cfg0.N, k0_cond3 (grid0.coords t) = 1#1 ↔ ¬ t.val % 2 = 0 :=
  (by decide +kernel : ∀ t : Fin grid0.N, k0_cond3 (grid0.coords t) = 1#1 ↔ ¬ t.val % 2 = 0)

section Body
variable (c : Dev nD) (i : grid0.Coords)
  (arg2 : Memref sig .tc .vmem S1024x1024 .f32) (harg2 : arg2.IsWhole) (arg3 : Memref sig .tc .vmem S1x1024 .f32) (harg3 : arg3.IsWhole)
  (arg4 : Memref sig .tc .vmem S1024x1536 .bf16) (harg4 : arg4.IsWhole) (arg5 : Memref sig .tc .vmem S1024x1536 .f32) (harg5 : arg5.IsWhole)
  (arg6 : Memref sig .tc .vmem S1024x1536 .bf16) (harg6 : arg6.IsWhole) (arg7 : Memref sig .tc .vmem S1024x1024 .bf16) (harg7 : arg7.IsWhole)
  (arg8 : Memref sig .tc .vmem S1024x1024 .bf16) (harg8 : arg8.IsWhole)
  (x : Vec F S1024x1024 .f32) (g : Vec F S1x1024 .f32) (w : Vec F S1024x1536 .bf16)

/-- The body where it norms the rows: it leaves them in the scratch and in the third result, and their product with
    the weights in the first; the second it leaves alone. -/
theorem body_first (h1 : k0_cond1 i = 1#1) (h2 : k0_cond2 i = 1#1) (h3 : ¬ k0_cond3 i = 1#1) (z : Vec F S1024x1536 .bf16)
    (E : Set ℕ) (K : PUnit → sProp (Res F)) :
    iprop(owns (c : Thread nD τ) arg2 fullShare x ∗ owns (c : Thread nD τ) arg3 fullShare g ∗ owns (c : Thread nD τ) arg4 fullShare w
        ∗ (∃ d, owns (c : Thread nD τ) arg5 fullShare d) ∗ owns (c : Thread nD τ) arg6 fullShare z ∗ (∃ d, owns (c : Thread nD τ) arg7 fullShare d)
        ∗ (∃ d, owns (c : Thread nD τ) arg8 fullShare d)
        ∗ (iprop(owns (c : Thread nD τ) arg2 fullShare x ∗ owns (c : Thread nD τ) arg3 fullShare g ∗ owns (c : Thread nD τ) arg4 fullShare w
            ∗ owns (c : Thread nD τ) arg5 fullShare (k0_pay3 (k0_pay2 x g) w) ∗ owns (c : Thread nD τ) arg6 fullShare z
            ∗ owns (c : Thread nD τ) arg7 fullShare (k0_pay1 x g) ∗ owns (c : Thread nD τ) arg8 fullShare (k0_pay2 x g)) -∗ K ⟨⟩))
      ⊢ wp frame (wpE (defs₀ (F := F)) Variants.none c none) E
          (cc0_proj i arg2 harg2 arg3 harg3 arg4 harg4 arg5 harg5 arg6 harg6 arg7 harg7 arg8 harg8) K := by
  simp only [cc0_proj_eq_skeleton]; unfold cc0_proj_skel
  unfold owns
  iintro ⟨⟨%f0, %hf0, H0⟩, ⟨%f1, %hf1, H1⟩, ⟨%f2, %hf2, H2⟩, ⟨%d3, %f3, -, H3⟩, ⟨%f4, %hf4, H4⟩, ⟨%d5, %f5, -, H5⟩, ⟨%d6, %f6, -, H6⟩, Hk⟩
  obtain rfl := harg2.eq_unread hf0; obtain rfl := harg3.eq_unread hf1; obtain rfl := harg4.eq_unread hf2
  obtain rfl := harg6.eq_unread hf4
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (read_filled _ _ _ _ (by decide)).trans ?_
    delta body_first.sl.v3 body_first.sl.H6_1
    simp (disch := decide) only [View.readAt_eq_ld, View.ld_unit_lit', View.readCov_unit_lit', Memref.IsWhole.read_unread]
  isplitl [H4]
  · iexists _; isplitr; · ipureintro; exact harg6.read_unread _
    iexact H4
  isplitl [H5]
  · iexists _; isplitr
    swap; · iexact H5
    ipureintro
    refine (read_filled _ _ _ _ (by decide)).trans ?_
    simp (disch := decide) only [View.readAt_eq_ld, View.ld_unit_lit', View.readCov_cons_unit_lit', Memref.IsWhole.read_unread]
  iexists _; isplitr
  swap; · iexact H6
  ipureintro
  refine (read_filled _ _ _ _ (by decide)).trans ?_
  simp (disch := decide) only [View.readAt_eq_ld, View.ld_unit_lit', View.readCov_cons_unit_lit', Memref.IsWhole.read_unread]

/-- The body at the second column block: it stores the gates and nothing else. -/
theorem body_later (h1 : ¬ k0_cond1 i = 1#1) (h2 : ¬ k0_cond2 i = 1#1) (h3 : k0_cond3 i = 1#1) (p : Vec F S1024x1536 .f32) (h s : Vec F S1024x1024 .bf16)
    (E : Set ℕ) (K : PUnit → sProp (Res F)) :
    iprop(owns (c : Thread nD τ) arg2 fullShare x ∗ owns (c : Thread nD τ) arg3 fullShare g ∗ owns (c : Thread nD τ) arg4 fullShare w
        ∗ owns (c : Thread nD τ) arg5 fullShare p ∗ (∃ d, owns (c : Thread nD τ) arg6 fullShare d) ∗ owns (c : Thread nD τ) arg7 fullShare h
        ∗ owns (c : Thread nD τ) arg8 fullShare s
        ∗ (iprop(owns (c : Thread nD τ) arg2 fullShare x ∗ owns (c : Thread nD τ) arg3 fullShare g ∗ owns (c : Thread nD τ) arg4 fullShare w
            ∗ owns (c : Thread nD τ) arg5 fullShare p ∗ owns (c : Thread nD τ) arg6 fullShare (k0_pay4 s w)
            ∗ owns (c : Thread nD τ) arg7 fullShare h ∗ owns (c : Thread nD τ) arg8 fullShare s) -∗ K ⟨⟩))
      ⊢ wp frame (wpE (defs₀ (F := F)) Variants.none c none) E
          (cc0_proj i arg2 harg2 arg3 harg3 arg4 harg4 arg5 harg5 arg6 harg6 arg7 harg7 arg8 harg8) K := by
  simp only [cc0_proj_eq_skeleton]; unfold cc0_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg7.eq_unread hf5; obtain rfl := harg8.eq_unread hf6
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (read_filled _ _ _ _ (by decide)).trans ?_
    simp (disch := decide) only [View.readAt_eq_ld, View.ld_unit_lit', View.readCov_cons_unit_lit', Memref.IsWhole.read_unread]
  isplitl [H5]
  · iexists _; isplitr; · ipureintro; exact harg7.read_unread _
    iexact H5
  iexists _; isplitr; · ipureintro; exact harg8.read_unread _
  iexact H6
end Body

/-! ## What the buffers hold, point by point -/

/-- The point of a row block that norms its rows. -/
def lead (n : ℕ) : Fin cfg0.N := ⟨n / 2 * 2 % 8, lt_of_lt_of_eq (Nat.mod_lt _ (by decide)) (show cfg0.N = 8 from N_0).symm⟩

theorem lead_first (t : Fin cfg0.N) (h : t.val % 2 = 0) : lead t.val = t := by
  have hN : t.val < 8 := lt_of_lt_of_eq t.isLt N_0
  exact Fin.ext (by show t.val / 2 * 2 % 8 = t.val; omega)

theorem lead_prev (n k : ℕ) (hk : k + 1 = n) (h : ¬ n % 2 = 0) : lead k = lead n := Fin.ext (by
  show k / 2 * 2 % 8 = n / 2 * 2 % 8
  congr 2; omega)

/-- The point before. -/
def prev (t : Fin cfg0.N) : Fin cfg0.N := ⟨t.val - 1, Nat.lt_of_le_of_lt (Nat.sub_le _ _) t.isLt⟩
theorem prev_succ (t : Fin cfg0.N) (h : ¬ t.val % 2 = 0) : (prev t).val + 1 = t.val := by show t.val - 1 + 1 = t.val; omega
theorem prev_even (t : Fin cfg0.N) (h : ¬ t.val % 2 = 0) : (prev t).val % 2 = 0 := by have := prev_succ t h; omega

/-- The normed rows of point `n`'s row block. -/
abbrev rows (c : Dev nD) (n : ℕ) : Vec F S1024x1024 .bf16 := k0_pay1 (iblk m c 0 (lead n)) (iblk m c 1 (lead n))
/-- The same as the scratch holds them. -/
abbrev kept (c : Dev nD) (n : ℕ) : Vec F S1024x1024 .bf16 := k0_pay2 (iblk m c 0 (lead n)) (iblk m c 1 (lead n))
/-- The row block's queries, keys and values. -/
abbrev qkv (c : Dev nD) (n : ℕ) : Vec F S1024x1536 .f32 := k0_pay3 (kept m c n) (iblk m c 2 (lead n))

/-- The scratch buffer. -/
abbrev scr : Memref sig .tc .vmem S1024x1024 .bf16 := Memref.whole cc0_scratch0

/-- Between the points: the scratch at anything at first, then at the rows the last point used. -/
def inv (c : Dev nD) : ℕ → sProp (Res F)
  | 0 => Pipeline.ΦA spec0 c
  | n + 1 => iprop(owns (c : Thread nD τ) scr fullShare (kept m c n) ∗ (∃ r, prngReg c r))

/-- What the pipeline's buffers hold after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => qkv m c t.val
    | ⟨4, _⟩ => k0_pay4 (kept m c t.val) (iblk m c 2 t)
    | ⟨5, _⟩ => rows m c t.val
  Φ t := inv m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = qkv m c t.val := by dsimp only [dats]
theorem after_4 (c : Dev nD) (t : Fin cfg0.N) : (dats m 0 c).after 4 t = k0_pay4 (kept m c t.val) (iblk m c 2 t) := by dsimp only [dats]
theorem after_5 (c : Dev nD) (t : Fin cfg0.N) : (dats m 0 c).after 5 t = rows m c t.val := by dsimp only [dats]
theorem inv_of (c : Dev nD) (t : Fin cfg0.N) : (dats m 0 c).Φ t.castSucc = inv m c t.val := by dsimp only [dats]; rfl
theorem inv_next (c : Dev nD) (t : Fin cfg0.N) :
    (dats m 0 c).Φ t.succ = iprop(owns (c : Thread nD τ) scr fullShare (kept m c t.val) ∗ (∃ r, prngReg c r)) := by dsimp only [dats]; rfl

/-- At whatever point, the scratch is there with some contents. -/
theorem inv_some (c : Dev nD) (n : ℕ) : inv m c n ⊢ iprop((∃ d, owns (c : Thread nD τ) scr fullShare d) ∗ (∃ r, prngReg c r)) := by
  cases n with
  | zero => unfold inv Pipeline.ΦA; rw [scopedRest0_eq]; simp only [scr, owns_whole]; exact .rfl
  | succ n =>
    unfold inv
    iintro ⟨H, Hg⟩
    isplitl [H]
    · iexists _; iexact H
    iexact Hg

/-- And it can be handed back so. -/
theorem some_launch (c : Dev nD) : iprop((∃ d, owns (c : Thread nD τ) scr fullShare d) ∗ (∃ r, prngReg c r)) ⊢ (Pipeline.ΦA spec0 c : sProp (Res F)) := by
  unfold Pipeline.ΦA; rw [scopedRest0_eq]; simp only [scr, owns_whole]; exact .rfl

/-- At the second column block the first result's buffer still holds the row block's queries, keys and values, -/
theorem before_qkv (c : Dev nD) (t : Fin cfg0.N) (h : ¬ t.val % 2 = 0) (d) : (dats m 0 c).before 3 t d = qkv m c t.val :=
  (before_held (dats m 0 c) 3 t (prev t) (prev_succ t h) rfl
    (Bool.eq_false_iff.mpr fun e => by have := (flush0_3 _).mp e; have := prev_even t h; omega)
    (by show (!(k0_cond2 _ == 1#1)) = false; rw [(qkv_iff _).mpr (prev_even t h)]; rfl) (fun _ => rfl)
    (by rw [after_3, after_3]; unfold qkv kept; rw [lead_prev _ _ (prev_succ t h) h]) d).trans (after_3 m c t)

/-- and the third's the normed rows. -/
theorem before_rows (c : Dev nD) (t : Fin cfg0.N) (h : ¬ t.val % 2 = 0) (d) : (dats m 0 c).before 5 t d = rows m c t.val :=
  (before_held (dats m 0 c) 5 t (prev t) (prev_succ t h) rfl
    (Bool.eq_false_iff.mpr fun e => by have := (flush0_5 _).mp e; have := prev_even t h; omega)
    (by show (!(k0_cond1 _ == 1#1)) = false; rw [(first_iff _).mpr (prev_even t h)]; rfl) (fun _ => rfl)
    (by rw [after_5, after_5]; unfold rows; rw [lead_prev _ _ (prev_succ t h) h]) d).trans (after_5 m c t)

/-- The first result's buffer is left at them at every point, -/
theorem leaves_qkv (c : Dev nD) (t : Fin cfg0.N) :
    (dats m 0 c).leavesExact 3 t = owns (c : Thread nD τ) (st0_3 t) fullShare ((dats m 0 c).after 3 t) := by
  unfold Dat.leavesExact
  by_cases h : t.val % 2 = 0
  · rw [show cfg0.idle 3 (cfg0.grid.coords t) = false by show (!(k0_cond2 _ == 1#1)) = false; rw [(qkv_iff t).mpr h]; rfl]
  · rw [(flush0_3 t).mpr (by omega)]
    split <;> rfl

/-- the third's at the normed rows, -/
theorem leaves_rows (c : Dev nD) (t : Fin cfg0.N) :
    (dats m 0 c).leavesExact 5 t = owns (c : Thread nD τ) (st0_5 t) fullShare ((dats m 0 c).after 5 t) := by
  unfold Dat.leavesExact
  by_cases h : t.val % 2 = 0
  · rw [show cfg0.idle 5 (cfg0.grid.coords t) = false by show (!(k0_cond1 _ == 1#1)) = false; rw [(first_iff t).mpr h]; rfl]
  · rw [(flush0_5 t).mpr (by omega)]
    split <;> rfl

/-- the second's as it was found at the first column block, -/
theorem leaves_found (c : Dev nD) (t : Fin cfg0.N) (h : t.val % 2 = 0) :
    (dats m 0 c).leavesExact 4 t = iprop(∃ d, owns (c : Thread nD τ) (st0_4 t) fullShare ((dats m 0 c).before 4 t d)) :=
  Dat.leavesExact_idle _ 4 t (by
    show (!(k0_cond3 _ == 1#1)) = true
    rw [beq_eq_false_iff_ne.mpr fun e => (gates_iff t).mp e h]; rfl)
    (Bool.eq_false_iff.mpr fun e => by have := (flush0_4 _).mp e; omega)

/-- and at the gates at the second. -/
theorem leaves_gates (c : Dev nD) (t : Fin cfg0.N) (h : ¬ t.val % 2 = 0) :
    (dats m 0 c).leavesExact 4 t = owns (c : Thread nD τ) (st0_4 t) fullShare ((dats m 0 c).after 4 t) := by
  unfold Dat.leavesExact
  rw [show cfg0.idle 4 (cfg0.grid.coords t) = false by show (!(k0_cond3 _ == 1#1)) = false; rw [(gates_iff t).mpr h]; rfl]

/-! ## The body at a point -/

/-- What the body is called with at point `t`, -/
def pre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it gives back. -/
def post (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ owns (c : Thread nD τ) (st0_5 t) fullShare ((dats m 0 c).after 5 t))

set_option maxHeartbeats 1600000 in
theorem body_at (c : Dev nD) (t : Fin cfg0.N) :
    pre m c t ⊢ wp frame (wpE (defs₀ (F := F)) Variants.none c none) Set.univ (bodyAt0 t) (fun _ => post m c t) := by
  unfold pre post bodyAt0
  simp only [before0_0_of m (dats m 0 c) (A_eq m c 0) (after_0 m c), before0_1_of m (dats m 0 c) (A_eq m c 1) (after_1 m c),
    before0_2_of m (dats m 0 c) (A_eq m c 2) (after_2 m c)]
  rw [show (dats m 0 c).owesAt () t.succ = (dats m 0 c).owesAt () t.castSucc from rfl,
    after_0, after_1, after_2, after_3, after_5, inv_of, inv_next]
  by_cases h : t.val % 2 = 0
  · rw [leaves_found m c t h]
    unfold qkv kept rows; rw [lead_first t h]
    iintro ⟨Hi, Ho, ⟨%d0, H0⟩, ⟨%d1, H1⟩, ⟨%d2, H2⟩, ⟨%d3, H3⟩, ⟨%d4, H4⟩, ⟨%d5, H5⟩⟩
    ihave Hi := (inv_some m c t.val) $$ Hi
    icases Hi with ⟨HS, Hg⟩
    iapply (body_first c (grid0.coords t) _ _ _ _ _ _ _ _ _ _ _ _ _ _ (iblk m c 0 t) (iblk m c 1 t) (iblk m c 2 t)
      ((first_iff t).mpr h) ((qkv_iff t).mpr h) (fun e => (gates_iff t).mp e h) _ Set.univ _)
    isplitl [H0]; · iexact H0
    isplitl [H1]; · iexact H1
    isplitl [H2]; · iexact H2
    isplitl [H3]; · iexists _; iexact H3
    isplitl [H4]; · iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexists _; iexact H4
    iexact H5
  · rw [leaves_gates m c t h, after_4]
    obtain ⟨n, hn⟩ : ∃ n, n + 1 = t.val := ⟨_, prev_succ t h⟩
    have hi : inv m c t.val = iprop(owns (c : Thread nD τ) scr fullShare (kept m c t.val) ∗ (∃ r, prngReg c r)) := by
      conv_lhs => rw [← hn]
      show iprop(owns (c : Thread nD τ) scr fullShare (kept m c n) ∗ (∃ r, prngReg c r)) = _
      unfold kept; rw [lead_prev _ _ hn h]
    rw [hi]
    simp only [before_rows m c t h, before_qkv m c t h]
    iintro ⟨⟨HS, Hg⟩, Ho, ⟨%d0, H0⟩, ⟨%d1, H1⟩, ⟨%d2, H2⟩, ⟨%d3, H3⟩, ⟨%d4, H4⟩, ⟨%d5, H5⟩⟩
    iapply (body_later c (grid0.coords t) _ _ _ _ _ _ _ _ _ _ _ _ _ _ (iblk m c 0 t) (iblk m c 1 t) (iblk m c 2 t)
      (fun e => h ((first_iff t).mp e)) (fun e => h ((qkv_iff t).mp e)) ((gates_iff t).mpr h) _ _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row is the body at the point. -/
theorem row_at (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_at]
  refine triple_restated (body_at m c t) rfl .rfl fun _ => ?_
  show post m c t ⊢ iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t ∗ (dats m 0 c).leavesExact 4 t ∗ (dats m 0 c).leavesExact 5 t)
  rw [leaves_qkv, leaves_rows]
  exact .rfl

/-! ## The whole call -/

set_option backward.isDefEq.respectTransparency.types false in
/-- The call runs to its end, its arrays at what the proof data say, every counter at zero. -/
theorem run_zero : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => by rw [show (dats m 0 c).Φ 0 = Pipeline.ΦA spec0 c from rfl])
    (hout := fun c => by
      rw [show (dats m 0 c).Φ (Fin.last (cfgs 0).N) = inv m c cfg0.N from rfl]
      exact (inv_some m c _).trans (some_launch c))

theorem run_main : θ_run defs (onTc (τ := τ) (main (F := F))) (s₀ m ρ) (Pipeline.FramePost cfgs (dats m) 0 (V m)) :=
  (θ_run defs _ _).mono (fun _ h => h.1) (run_zero m ρ)

/-- The frame: the call ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_zero m ρ))

end Cert.Proj

end
-- ==== Proof.Proj.lean ====
/- The attention's projection (`_proj`): what the kernel leaves is the reference's queries, keys and values, its gates and its normed rows. -/
module

public import proofs.«01_k».proof.Proof.ProjRun
public import proofs.«01_k».proof.Proof.Gen.Kernel12
public import proofs.«01_k».proof.Proof.Gen.Reference12Ideal.Read
public import proofs.«01_k».proof.Proof.Gen.Reference12Ideal.Run
public import proofs.«01_k».proof.Proof.Norm
public import proofs.«01_k».proof.Defs
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proj
open Idealize.ShloMosaic.StableHlo

section Spec
variable (X : FVec Ideal Kernel12Ideal.S4096x1024 .f32) (G : FVec Ideal Kernel12Ideal.S1x1024 .f32) (W : FVec Ideal Kernel12Ideal.S1024x3072 .f32) (n : Fin 4096)
/-- A normed row. -/
def hh (i : Fin 1024) : EReal := X (ix2 n i) * Norm.rinv (fun k => X (ix2 n k)) 1024 * G (ix2 0 i)
/-- Its product with the weights. -/
def pp (k : Fin 3072) : EReal := ∑ i, hh X G n i * W (ix2 i k)
end Spec

/-- The columns of the queries, keys and values, -/
def low (k : Fin 1536) : Fin 3072 := ⟨k, by omega⟩
/-- and those of the gates. -/
def high (k : Fin 1536) : Fin 3072 := ⟨1536 + k, by omega⟩

section Reference
open Cert.Reference12Ideal Cert.Reference12Ideal.Read
variable (X : FVec Ideal S4096x1024 .f32) (G : FVec Ideal S1x1024 .f32) (W : FVec Ideal S1024x3072 .f32)

theorem ref_h (n : Fin 4096) (i : Fin 1024) : val_main_v11 (F := Ideal) X G (ix2 n i) = hh X G n i := by
  pointwise [val_main_v11, val_main_v10, val_main_v9, val_main_v8, val_main_v7, val_main_v6, val_main_v5, val_main_cst_1, val_main_v4, val_main_v3, val_main_cst_0, val_main_v2, val_main_v1, val_main_cst, val_main_v0]
  unfold hh Norm.rinv Norm.ms Norm.eps
  rw [← Norm.n1024]

theorem ref_p (n : Fin 4096) (k : Fin 3072) : val_main_v12 (F := Ideal) X G W (ix2 n k) = pp X G W n k := by
  pointwise [val_main_v12]
  simp only [ref_h]
  rfl

/-- The reference's three results. -/
theorem refs : val_main_v13 (F := Ideal) X G W = (fun i => pp X G W (i 0) (low (i 1))) ∧ val_main_v15 (F := Ideal) X G W = (fun i => pp X G W (i 0) (high (i 1)))
    ∧ val_main_v16 (F := Ideal) X G = (fun i => hh X G (i 0) (i 1)) := by
  refine ⟨funext fun i => ?_, funext fun i => ?_, funext fun i => ?_⟩ <;> idx_vars i
  · pointwise [val_main_v13]
    exact ref_p X G W _ _
  · pointwise [val_main_v15, val_main_v14]
    exact ref_p X G W _ _
  · pointwise [val_main_v16]
    exact ref_h X G _ _
end Reference

open Cert.Kernel12Ideal Cert.Kernel12Ideal.Gen

/-- Where each window's block sits. -/
theorem blockOf : ∀ t : Fin cfg0.N, win0_0.index t = ![t.val / 2, 0] ∧ win0_1.index t = ![0, 0] ∧ win0_2.index t = ![0, t.val % 2]
    ∧ win0_3.index t = ![t.val / 2, 0] ∧ win0_4.index t = ![t.val / 2, 0] ∧ win0_5.index t = ![t.val / 2, 0] :=
  (by decide +kernel : ∀ t : Fin grid0.N, _)

/-- Row `j` of grid step `t`. -/
def at' (t : Fin cfg0.N) (j : Fin 1024) : Fin 4096 := ⟨t.val / 2 * 1024 + j, by have : t.val < 8 := lt_of_lt_of_eq t.isLt N_0; omega⟩
/-- Column `k` of grid step `t`. -/
def col (t : Fin cfg0.N) (k : Fin 1536) : Fin 3072 := ⟨t.val % 2 * 1536 + k, by omega⟩

/-- The row block's first step has its rows -/
theorem at_lead (t : Fin cfg0.N) (j : Fin 1024) : at' (lead t.val) j = at' t j := Fin.ext (by
  have : t.val < 8 := lt_of_lt_of_eq t.isLt N_0
  show t.val / 2 * 2 % 8 / 2 * 1024 + (j : ℕ) = t.val / 2 * 1024 + j
  omega)

/-- and the first columns; -/
theorem col_lead (n : ℕ) (k : Fin 1536) : col (lead n) k = low k := Fin.ext (by
  show n / 2 * 2 % 8 % 2 * 1536 + (k : ℕ) = k
  omega)

/-- the second step has the others. -/
theorem col_second (t : Fin cfg0.N) (h : t.val % 2 = 1) (k : Fin 1536) : col t k = high k := Fin.ext (by
  show t.val % 2 * 1536 + (k : ℕ) = 1536 + k
  omega)

variable (m : (ℓ : Loc nD τ sig) → Buf (Elt Ideal) ℓ) (c : Dev nD) (t : Fin cfg0.N)

theorem entry2 : V m c main_v0 = m ((c : Thread nD τ).loc main_arg2) := by
  entry_read
  funext i
  pointwise []

theorem blk0 (Z : FVec Ideal S4096x1024 .f32) (h : V m c (Pipeline.arrRef spec0 0) = Z) (j k : Fin 1024) : iblk m c 0 t (ix2 j k) = Z (ix2 (at' t j) k) := by
  have e := (blockOf t).1
  unfold iblk
  rw [h]
  blk_simp
  unfold at'
  blk_ext <;> simp [e]

theorem blk1 (Z : FVec Ideal S1x1024 .f32) (h : V m c (Pipeline.arrRef spec0 1) = Z) (k : Fin 1024) : iblk m c 1 t (ix2 0 k) = Z (ix2 0 k) := by
  have e := (blockOf t).2.1
  unfold iblk
  rw [h]
  blk_simp
  blk_ext <;> simp [e]

theorem blk2 (Z : FVec Ideal S1024x3072 .bf16) (h : V m c (Pipeline.arrRef spec0 2) = Z) (j : Fin 1024) (k : Fin 1536) : iblk m c 2 t (ix2 j k) = Z (ix2 j (col t k)) := by
  have e := (blockOf t).2.2.1
  unfold iblk
  rw [h]
  blk_simp
  unfold col
  blk_ext <;> simp [e]

variable (X : FVec Ideal S4096x1024 .f32) (G : FVec Ideal S1x1024 .f32) (W : FVec Ideal S1024x3072 .f32)
  (eX : m ((c : Thread nD τ).loc main_arg0) = X) (eG : m ((c : Thread nD τ).loc main_arg1) = G) (eW : m ((c : Thread nD τ).loc main_arg2) = W)

include eX eG

theorem row (j i : Fin 1024) : rows m c t.val (ix2 j i) = hh X G (at' t j) i := by
  rw [← at_lead]
  unfold rows
  pointwise [k0_pay1]
  simp only [blk0 m c _ X ((V_main_arg0 m c).trans eX), blk1 m c _ G ((V_main_arg1 m c).trans eG)]
  unfold hh Norm.rinv Norm.ms Norm.eps
  rw [← Norm.n1024]

theorem normed (j i : Fin 1024) : kept m c t.val (ix2 j i) = hh X G (at' t j) i := by
  rw [← row m c t X G eX eG]
  unfold kept rows k0_pay2
  generalize k0_pay1 (F := Ideal) _ _ = z
  pointwise []

theorem step5 (y : S1024x1024.Idx) : rows m c t.val y = hh X G (at' t (y 0)) (y 1) := by
  idx_vars y
  rw [row m c t X G eX eG]

include eW in
theorem step3 (y : S1024x1536.Idx) : qkv m c t.val y = pp X G W (at' t (y 0)) (low (y 1)) := by
  idx_vars y
  unfold qkv
  pointwise [k0_pay3]
  simp only [normed m c t X G eX eG, blk2 m c _ W ((entry2 m c).trans eW), col_lead]
  rfl

include eW in
theorem step4 (y : S1024x1536.Idx) : k0_pay4 (F := Ideal) (kept m c t.val) (iblk m c 2 t) y = pp X G W (at' t (y 0)) (col t (y 1)) := by
  idx_vars y
  pointwise [k0_pay4, k0_pay3]
  simp only [normed m c t X G eX eG, blk2 m c _ W ((entry2 m c).trans eW)]
  rfl

include eW in
theorem final3 : (dats m 0 c).arrAt 3 (cfgs 0).N = (fun i => pp X G W (i 0) (low (i 1)) : FVec Ideal S4096x1536 .f32) := by
  refine (dats m 0 c).arrAt_eq_of_covers 3 _ (by decide +kernel) fun t _ y => ?_
  blk_simp
  rw [after_3, step3 m c t X G W eX eG eW]
  have e := (blockOf t).2.2.2.1
  refine congrArg₂ (pp X G W) (Fin.ext ?_) (congrArg low (Fin.ext ?_)) <;> (blk_simp; simp [at', e])

include eW in
theorem final4 : (dats m 0 c).arrAt 4 (cfgs 0).N = (fun i => pp X G W (i 0) (high (i 1)) : FVec Ideal S4096x1536 .bf16) := by
  refine (dats m 0 c).arrAt_eq_of_covers 4 _ (by decide +kernel) fun t hf y => ?_
  blk_simp
  rw [after_4, step4 m c t X G W eX eG eW]
  have e := (blockOf t).2.2.2.2.1
  refine congrArg₂ (pp X G W) (Fin.ext ?_) ((col_second t ((flush0_4 t).mp hf) _).trans (congrArg high (Fin.ext ?_))) <;> (blk_simp; simp [at', e])

theorem final5 : (dats m 0 c).arrAt 5 (cfgs 0).N = (fun i => hh X G (i 0) (i 1) : FVec Ideal S4096x1024 .bf16) := by
  refine (dats m 0 c).arrAt_eq_of_covers 5 _ (by decide +kernel) fun t _ y => ?_
  blk_simp
  rw [after_5, step5 m c t X G eX eG]
  have e := (blockOf t).2.2.2.2.2
  refine congrArg₂ (hh X G) (Fin.ext ?_) (Fin.ext ?_) <;> (blk_simp; simp [at', e])

omit eX eG

/-- The kernel's three results are the reference's. -/
theorem result : Cert.algebraic_Kernel12Ideal_Reference12Ideal (hKernel12Ideal := Cert.Kernel12Ideal.Gen.facts) (hReference12Ideal := Cert.Reference12Ideal.Gen.facts) := by
  intro m g m' g' _ hagree
  refine ⟨fun c i => pp (m ((c : Thread nD τ).loc main_arg0)) (m ((c : Thread nD τ).loc main_arg1)) (m ((c : Thread nD τ).loc main_arg2)) (i 0) (low (i 1)),
    fun c i => pp (m ((c : Thread nD τ).loc main_arg0)) (m ((c : Thread nD τ).loc main_arg1)) (m ((c : Thread nD τ).loc main_arg2)) (i 0) (high (i 1)),
    fun c i => hh (m ((c : Thread nD τ).loc main_arg0)) (m ((c : Thread nD τ).loc main_arg1)) (i 0) (i 1), ?_, ?_⟩
  · exact θ_run_mono (θ_run_and (run_main m g) (frame m g)) fun r h c =>
      ⟨((h.1 c).1 3).trans (final3 m c _ _ _ rfl rfl rfl), ((h.1 c).1 4).trans (final4 m c _ _ _ rfl rfl rfl),
        ((h.1 c).1 5).trans (final5 m c _ _ rfl rfl), h.2.1 c⟩
  · exact θ_run_mono (Cert.Reference12Ideal.Value.run m' g') fun r h c => by
      obtain ⟨a0, a1, a2⟩ := hagree c
      obtain ⟨h0, h1, h2, hk⟩ := h c
      obtain ⟨r0, r1, r2⟩ := refs (m ((c : Thread nD τ).loc main_arg0)) (m ((c : Thread nD τ).loc main_arg1)) (m ((c : Thread nD τ).loc main_arg2))
      refine ⟨h0.trans ?_, h1.trans ?_, h2.trans ?_, hk⟩
      · rw [Cert.Reference12Ideal.Read.val_main_v13_eq, a0, a1, a2]; exact r0
      · rw [Cert.Reference12Ideal.Read.val_main_v15_eq, a0, a1, a2]; exact r1
      · rw [Cert.Reference12Ideal.Read.val_main_v16_eq, a0, a1]; exact r2

/-- The kernel's frame, from the same run. -/
theorem frame_kernel : Cert.quiescent_Kernel12 (hKernel12 := Cert.Kernel12.Gen.facts) := fun m g _ => by
  refine Eq.mp ?_ (frame (F := Bits) m g)
  sl_kernel_rfl
/-- The idealized kernel's frame. -/
theorem frame_ideal : Cert.quiescent_Kernel12Ideal (hKernel12Ideal := Cert.Kernel12Ideal.Gen.facts) := fun m g _ => frame m g
end Cert.Proj
end
-- ==== Proof.MemKvRun.lean ====
/- The memory's keys and values (`_norm_matmul`, `mem_kv`): a run of the whole call, for any float values.

   The grid is one block of rows by two blocks of columns. At the first column block the body norms
   the rows, keeps them in its scratch and hands them out; at the second it uses the scratch again. -/
module

public import proofs.«01_k».proof.Proof.Gen.Kernel13Ideal.Frame
public import proofs.«01_k».proof.Proof.Gen.Kernel13Ideal.Skeleton
public import proofs.«01_k».proof.Proof.Held
public import Idealize.ShloMosaic.Lib.Pipeline.ValueKit
public import Idealize.ShloMosaic.Lib.Claim

@[expose] public section

set_option maxRecDepth 16384

noncomputable section

namespace Cert.MemKv
open Cert.Held Cert.Kernel13Ideal Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- The resources of a device's core. -/
abbrev Res (F : FTy → Type) := MT nD τ sig Unit (Elt F) ℕ (UR sig nD τ) ℕ

variable (m : (ℓ : Loc nD τ sig) → Buf (Elt F) ℓ) (ρ : Dev nD → PrngReg)

/-- The body's branch is taken at the first column block of each row block. -/
theorem first_iff : ∀ t : Fin cfg0.N, k0_cond1 (grid0.coords t) = 1#1 ↔ t.val % 2 = 0 :=
  (by decide +kernel : ∀ t : Fin grid0.N, k0_cond1 (grid0.coords t) = 1#1 ↔ t.val % 2 = 0)

section Body
variable (c : Dev nD) (i : grid0.Coords)
  (arg2 : Memref sig .tc .vmem S256x1024 .f32) (harg2 : arg2.IsWhole) (arg3 : Memref sig .tc .vmem S1x1024 .f32) (harg3 : arg3.IsWhole)
  (arg4 : Memref sig .tc .vmem S1024x1024 .bf16) (harg4 : arg4.IsWhole) (arg5 : Memref sig .tc .vmem S256x1024 .bf16) (harg5 : arg5.IsWhole)
  (arg6 : Memref sig .tc .vmem S256x1024 .bf16) (harg6 : arg6.IsWhole) (arg7 : Memref sig .tc .vmem S256x1024 .bf16) (harg7 : arg7.IsWhole)
  (x : Vec F S256x1024 .f32) (g : Vec F S1x1024 .f32) (w : Vec F S1024x1024 .bf16)

/-- The body where it norms the rows: from any contents of outputs and scratch, it leaves the normed rows in the
    scratch and in the second output, and the product in the first. -/
theorem body_first (hc : k0_cond1 i = 1#1) (E : Set ℕ) (K : PUnit → sProp (Res F)) :
    iprop(owns (c : Thread nD τ) arg2 fullShare x ∗ owns (c : Thread nD τ) arg3 fullShare g ∗ owns (c : Thread nD τ) arg4 fullShare w
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x ∗ owns (c : Thread nD τ) arg3 fullShare g ∗ owns (c : Thread nD τ) arg4 fullShare w
            ∗ owns (c : Thread nD τ) arg5 fullShare (k0_pay3 (k0_pay2 x g) w) ∗ owns (c : Thread nD τ) arg6 fullShare (k0_pay1 x g)
            ∗ owns (c : Thread nD τ) arg7 fullShare (k0_pay2 x g)) -∗ K ⟨⟩))
      ⊢ wp frame (wpE (defs₀ (F := F)) Variants.none c none) E
          (cc0_mem_kv i arg2 harg2 arg3 harg3 arg4 harg4 arg5 harg5 arg6 harg6 arg7 harg7) K := by
  simp only [cc0_mem_kv_eq_skeleton]; unfold cc0_mem_kv_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (read_filled _ _ _ _ (by decide)).trans ?_
    delta body_first.sl.v3 body_first.sl.H5_1
    simp (disch := decide) only [View.readAt_eq_ld, View.ld_unit_lit', View.readCov_unit_lit', Memref.IsWhole.read_unread]
  isplitl [H4]
  · iexists _; isplitr
    swap; · iexact H4
    ipureintro
    refine (read_filled _ _ _ _ (by decide)).trans ?_
    simp (disch := decide) only [View.readAt_eq_ld, View.ld_unit_lit', View.readCov_cons_unit_lit', Memref.IsWhole.read_unread]
  iexists _; isplitr
  swap; · iexact H5
  ipureintro
  refine (read_filled _ _ _ _ (by decide)).trans ?_
  simp (disch := decide) only [View.readAt_eq_ld, View.ld_unit_lit', View.readCov_cons_unit_lit', Memref.IsWhole.read_unread]

/-- The body at a later column block: the scratch and the second output stay as they are. -/
theorem body_later (hc : ¬ k0_cond1 i = 1#1) (h s : Vec F S256x1024 .bf16) (E : Set ℕ) (K : PUnit → sProp (Res F)) :
    iprop(owns (c : Thread nD τ) arg2 fullShare x ∗ owns (c : Thread nD τ) arg3 fullShare g ∗ owns (c : Thread nD τ) arg4 fullShare w
        ∗ (∃ d, owns (c : Thread nD τ) arg5 fullShare d) ∗ owns (c : Thread nD τ) arg6 fullShare h ∗ owns (c : Thread nD τ) arg7 fullShare s
        ∗ (iprop(owns (c : Thread nD τ) arg2 fullShare x ∗ owns (c : Thread nD τ) arg3 fullShare g ∗ owns (c : Thread nD τ) arg4 fullShare w
            ∗ owns (c : Thread nD τ) arg5 fullShare (k0_pay3 s w) ∗ owns (c : Thread nD τ) arg6 fullShare h
            ∗ owns (c : Thread nD τ) arg7 fullShare s) -∗ K ⟨⟩))
      ⊢ wp frame (wpE (defs₀ (F := F)) Variants.none c none) E
          (cc0_mem_kv i arg2 harg2 arg3 harg3 arg4 harg4 arg5 harg5 arg6 harg6 arg7 harg7) K := by
  simp only [cc0_mem_kv_eq_skeleton]; unfold cc0_mem_kv_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg2.eq_unread hf0; obtain rfl := harg3.eq_unread hf1; obtain rfl := harg4.eq_unread hf2
  obtain rfl := harg6.eq_unread hf4; obtain rfl := harg7.eq_unread hf5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (read_filled _ _ _ _ (by decide)).trans ?_
    simp (disch := decide) only [View.readAt_eq_ld, View.ld_unit_lit', View.readCov_cons_unit_lit', Memref.IsWhole.read_unread]
  isplitl [H4]
  · iexists _; isplitr; · ipureintro; exact harg6.read_unread _
    iexact H4
  iexists _; isplitr; · ipureintro; exact harg7.read_unread _
  iexact H5
end Body

/-! ## What the buffers hold, point by point -/

/-- The point of a row block that norms its rows. -/
def lead (n : ℕ) : Fin cfg0.N := ⟨n / 2 * 2 % 2, lt_of_lt_of_eq (Nat.mod_lt _ (by decide)) (show cfg0.N = 2 from N_0).symm⟩

theorem lead_first (t : Fin cfg0.N) (h : t.val % 2 = 0) : lead t.val = t := by
  have hN : t.val < 2 := lt_of_lt_of_eq t.isLt N_0
  exact Fin.ext (by show t.val / 2 * 2 % 2 = t.val; omega)

theorem lead_prev (n : ℕ) (h : ¬ n % 2 = 0) : lead (n - 1) = lead n := Fin.ext (by
  show (n - 1) / 2 * 2 % 2 = n / 2 * 2 % 2
  congr 2; omega)

/-- The normed rows of point `n`'s row block. -/
abbrev rows (c : Dev nD) (n : ℕ) : Vec F S256x1024 .bf16 := k0_pay1 (iblk m c 0 (lead n)) (iblk m c 1 (lead n))
/-- The same as the scratch holds them. -/
abbrev kept (c : Dev nD) (n : ℕ) : Vec F S256x1024 .bf16 := k0_pay2 (iblk m c 0 (lead n)) (iblk m c 1 (lead n))

/-- The scratch buffer. -/
abbrev scr : Memref sig .tc .vmem S256x1024 .bf16 := Memref.whole cc0_scratch0

/-- Between the points: the scratch at anything at first, then at the rows the last point used. -/
def inv (c : Dev nD) : ℕ → sProp (Res F)
  | 0 => Pipeline.ΦA spec0 c
  | n + 1 => iprop(owns (c : Thread nD τ) scr fullShare (kept m c n) ∗ (∃ r, prngReg c r))

/-- What the pipeline's buffers hold after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (kept m c t.val) (iblk m c 2 t)
    | ⟨4, _⟩ => rows m c t.val
  Φ t := inv m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay3 (kept m c t.val) (iblk m c 2 t) := by dsimp only [dats]
theorem after_4 (c : Dev nD) (t : Fin cfg0.N) : (dats m 0 c).after 4 t = rows m c t.val := by dsimp only [dats]
theorem inv_of (c : Dev nD) (t : Fin cfg0.N) : (dats m 0 c).Φ t.castSucc = inv m c t.val := by dsimp only [dats]; rfl
theorem inv_next (c : Dev nD) (t : Fin cfg0.N) :
    (dats m 0 c).Φ t.succ = iprop(owns (c : Thread nD τ) scr fullShare (kept m c t.val) ∗ (∃ r, prngReg c r)) := by dsimp only [dats]; rfl

/-- At whatever point, the scratch is there with some contents. -/
theorem inv_some (c : Dev nD) (n : ℕ) : inv m c n ⊢ iprop((∃ d, owns (c : Thread nD τ) scr fullShare d) ∗ (∃ r, prngReg c r)) := by
  cases n with
  | zero => unfold inv Pipeline.ΦA; rw [scopedRest0_eq]; simp only [scr, owns_whole]; exact .rfl
  | succ n =>
    unfold inv
    iintro ⟨H, Hg⟩
    isplitl [H]
    · iexists _; iexact H
    iexact Hg

/-- And it can be handed back so. -/
theorem some_launch (c : Dev nD) : iprop((∃ d, owns (c : Thread nD τ) scr fullShare d) ∗ (∃ r, prngReg c r)) ⊢ (Pipeline.ΦA spec0 c : sProp (Res F)) := by
  unfold Pipeline.ΦA; rw [scopedRest0_eq]; simp only [scr, owns_whole]; exact .rfl

/-- At a later column block the second output's buffer still holds the normed rows. -/
theorem before_rows (c : Dev nD) (t : Fin cfg0.N) (h : ¬ t.val % 2 = 0) (d) : (dats m 0 c).before 4 t d = rows m c t.val := by
  have h1 : (⟨t.val - 1, Nat.lt_of_le_of_lt (Nat.sub_le _ _) t.isLt⟩ : Fin cfg0.N).val % 2 = 0 := by dsimp only; omega
  exact (before_held (dats m 0 c) 4 t ⟨t.val - 1, Nat.lt_of_le_of_lt (Nat.sub_le _ _) t.isLt⟩ (by show t.val - 1 + 1 = t.val; omega) rfl
    (Bool.eq_false_iff.mpr fun e => by have := (flush0_4 _).mp e; omega)
    (by show (!(k0_cond1 _ == 1#1)) = false; rw [(first_iff _).mpr h1]; rfl) (fun _ => rfl)
    (by rw [after_4, after_4]; unfold rows; rw [lead_prev _ h]) d).trans (after_4 m c t)

/-- The second output's buffer is left at the normed rows at every point. -/
theorem leaves_rows (c : Dev nD) (t : Fin cfg0.N) :
    (dats m 0 c).leavesExact 4 t = owns (c : Thread nD τ) (st0_4 t) fullShare ((dats m 0 c).after 4 t) := by
  unfold Dat.leavesExact
  by_cases h : t.val % 2 = 0
  · rw [show cfg0.idle 4 (cfg0.grid.coords t) = false by show (!(k0_cond1 _ == 1#1)) = false; rw [(first_iff t).mpr h]; rfl]
  · rw [(flush0_4 t).mpr (by omega)]
    split <;> rfl

/-! ## The body at a point -/

/-- What the body is called with at point `t`, -/
def pre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it gives back. -/
def post (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1600000 in
theorem body_at (c : Dev nD) (t : Fin cfg0.N) :
    pre m c t ⊢ wp frame (wpE (defs₀ (F := F)) Variants.none c none) Set.univ (bodyAt0 t) (fun _ => post m c t) := by
  unfold pre post bodyAt0
  simp only [before0_0_of m (dats m 0 c) (A_eq m c 0) (after_0 m c), before0_1_of m (dats m 0 c) (A_eq m c 1) (after_1 m c),
    before0_2_of m (dats m 0 c) (A_eq m c 2) (after_2 m c)]
  rw [show (dats m 0 c).owesAt () t.succ = (dats m 0 c).owesAt () t.castSucc from rfl,
    after_0, after_1, after_2, after_3, after_4, inv_of, inv_next]
  by_cases h : t.val % 2 = 0
  · unfold kept rows; rw [lead_first t h]
    iintro ⟨Hi, Ho, ⟨%d0, H0⟩, ⟨%d1, H1⟩, ⟨%d2, H2⟩, ⟨%d3, H3⟩, ⟨%d4, H4⟩⟩
    ihave Hi := (inv_some m c t.val) $$ Hi
    icases Hi with ⟨HS, Hg⟩
    iapply (body_first c (grid0.coords t) _ _ _ _ _ _ _ _ _ _ _ _ (iblk m c 0 t) (iblk m c 1 t) (iblk m c 2 t) ((first_iff t).mpr h) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  · obtain ⟨n, hn⟩ : ∃ n, t.val = n + 1 := ⟨t.val - 1, by omega⟩
    have hk : kept m c n = kept m c t.val := by
      have := lead_prev t.val h
      rw [hn, Nat.add_sub_cancel] at this
      unfold kept; rw [hn, this]
    have hi : inv m c t.val = iprop(owns (c : Thread nD τ) scr fullShare (kept m c t.val) ∗ (∃ r, prngReg c r)) := by
      conv_lhs => rw [hn]
      show iprop(owns (c : Thread nD τ) scr fullShare (kept m c n) ∗ (∃ r, prngReg c r)) = _
      rw [hk]
    rw [hi]
    simp only [before_rows m c t h]
    iintro ⟨⟨HS, Hg⟩, Ho, ⟨%d0, H0⟩, ⟨%d1, H1⟩, ⟨%d2, H2⟩, ⟨%d3, H3⟩, ⟨%d4, H4⟩⟩
    iapply (body_later c (grid0.coords t) _ _ _ _ _ _ _ _ _ _ _ _ (iblk m c 0 t) (iblk m c 1 t) (iblk m c 2 t) (fun e => h ((first_iff t).mp e)) _ _ Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4

/-- The body table's row is the body at the point. -/
theorem row_at (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_at]
  refine triple_restated (body_at m c t) rfl .rfl fun _ => ?_
  show post m c t ⊢ iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)
  rw [leaves_rows]
  exact .rfl

/-! ## The whole call -/

set_option backward.isDefEq.respectTransparency.types false in
/-- The call runs to its end, its arrays at what the proof data say, every counter at zero. -/
theorem run_zero : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => by rw [show (dats m 0 c).Φ 0 = Pipeline.ΦA spec0 c from rfl])
    (hout := fun c => by
      rw [show (dats m 0 c).Φ (Fin.last (cfgs 0).N) = inv m c cfg0.N from rfl]
      exact (inv_some m c _).trans (some_launch c))

theorem run_main : θ_run defs (onTc (τ := τ) (main (F := F))) (s₀ m ρ) (Pipeline.FramePost cfgs (dats m) 0 (V m)) :=
  (θ_run defs _ _).mono (fun _ h => h.1) (run_zero m ρ)

/-- The frame: the call ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_zero m ρ))

end Cert.MemKv

end
-- ==== Proof.MemKv.lean ====
/- The memory's keys and values (`_norm_matmul`, `mem_kv`): what the kernel leaves is the reference's product of the normed rows, and the normed rows. -/
module

public import proofs.«01_k».proof.Proof.MemKvRun
public import proofs.«01_k».proof.Proof.Gen.Kernel13
public import proofs.«01_k».proof.Proof.Gen.Reference13Ideal.Read
public import proofs.«01_k».proof.Proof.Gen.Reference13Ideal.Run
public import proofs.«01_k».proof.Proof.Norm
public import proofs.«01_k».proof.Defs
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MemKv
open Idealize.ShloMosaic.StableHlo

section Spec
variable (X : FVec Ideal Kernel13Ideal.S256x1024 .f32) (G : FVec Ideal Kernel13Ideal.S1x1024 .f32) (W : FVec Ideal Kernel13Ideal.S1024x2048 .f32) (n : Fin 256)
/-- A normed row. -/
def hh (i : Fin 1024) : EReal := X (ix2 n i) * Norm.rinv (fun k => X (ix2 n k)) 1024 * G (ix2 0 i)
/-- Its product with the weights. -/
def kv (k : Fin 2048) : EReal := ∑ i, hh X G n i * W (ix2 i k)
end Spec

section Reference
open Cert.Reference13Ideal Cert.Reference13Ideal.Read
variable (X : FVec Ideal S256x1024 .f32) (G : FVec Ideal S1x1024 .f32) (W : FVec Ideal S1024x2048 .f32)

theorem ref_h (n : Fin 256) (i : Fin 1024) : val_main_v11 (F := Ideal) X G (ix2 n i) = hh X G n i := by
  pointwise [val_main_v11, val_main_v10, val_main_v9, val_main_v8, val_main_v7, val_main_v6, val_main_v5, val_main_cst_1, val_main_v4, val_main_v3, val_main_cst_0, val_main_v2, val_main_v1, val_main_cst, val_main_v0]
  unfold hh Norm.rinv Norm.ms Norm.eps
  rw [← Norm.n1024]

/-- The reference's two results. -/
theorem refs : val_main_v13 (F := Ideal) X G W = (fun i => kv X G W (i 0) (i 1)) ∧ val_main_v14 (F := Ideal) X G = (fun i => hh X G (i 0) (i 1)) := by
  refine ⟨funext fun i => ?_, funext fun i => ?_⟩ <;> idx_vars i
  · pointwise [val_main_v13, val_main_v12]
    simp only [ref_h]
    rfl
  · pointwise [val_main_v14]
    exact ref_h X G _ _
end Reference

open Cert.Kernel13Ideal Cert.Kernel13Ideal.Gen

/-- Where each window's block sits. -/
theorem blockOf : ∀ t : Fin cfg0.N, win0_0.index t = ![t.val / 2, 0] ∧ win0_1.index t = ![0, 0] ∧ win0_2.index t = ![0, t.val % 2]
    ∧ win0_3.index t = ![t.val / 2, t.val % 2] ∧ win0_4.index t = ![t.val / 2, 0] :=
  (by decide +kernel : ∀ t : Fin grid0.N, _)

/-- Row `j` of grid step `t`. -/
def at' (t : Fin cfg0.N) (j : Fin 256) : Fin 256 := ⟨t.val / 2 * 256 + j, by have : t.val < 2 := lt_of_lt_of_eq t.isLt N_0; omega⟩
/-- Column `k` of grid step `t`. -/
def col (t : Fin cfg0.N) (k : Fin 1024) : Fin 2048 := ⟨t.val % 2 * 1024 + k, by omega⟩

/-- The row block's first step has its rows. -/
theorem at_lead (t : Fin cfg0.N) (j : Fin 256) : at' (lead t.val) j = at' t j := Fin.ext (by
  have : t.val < 2 := lt_of_lt_of_eq t.isLt N_0
  show t.val / 2 * 2 % 2 / 2 * 256 + (j : ℕ) = t.val / 2 * 256 + j
  omega)

variable (m : (ℓ : Loc nD τ sig) → Buf (Elt Ideal) ℓ) (c : Dev nD) (t : Fin cfg0.N)

theorem entry2 : V m c main_v0 = m ((c : Thread nD τ).loc main_arg2) := by
  entry_read
  funext i
  pointwise []

theorem blk0 (Z : FVec Ideal S256x1024 .f32) (h : V m c (Pipeline.arrRef spec0 0) = Z) (j : Fin 256) (k : Fin 1024) : iblk m c 0 t (ix2 j k) = Z (ix2 (at' t j) k) := by
  have e := (blockOf t).1
  unfold iblk
  rw [h]
  blk_simp
  unfold at'
  blk_ext <;> simp [e]

theorem blk1 (Z : FVec Ideal S1x1024 .f32) (h : V m c (Pipeline.arrRef spec0 1) = Z) (k : Fin 1024) : iblk m c 1 t (ix2 0 k) = Z (ix2 0 k) := by
  have e := (blockOf t).2.1
  unfold iblk
  rw [h]
  blk_simp
  blk_ext <;> simp [e]

theorem blk2 (Z : FVec Ideal S1024x2048 .bf16) (h : V m c (Pipeline.arrRef spec0 2) = Z) (j k : Fin 1024) : iblk m c 2 t (ix2 j k) = Z (ix2 j (col t k)) := by
  have e := (blockOf t).2.2.1
  unfold iblk
  rw [h]
  blk_simp
  unfold col
  blk_ext <;> simp [e]

variable (X : FVec Ideal S256x1024 .f32) (G : FVec Ideal S1x1024 .f32) (W : FVec Ideal S1024x2048 .f32)
  (eX : m ((c : Thread nD τ).loc main_arg0) = X) (eG : m ((c : Thread nD τ).loc main_arg1) = G) (eW : m ((c : Thread nD τ).loc main_arg2) = W)

include eX eG

theorem row (j : Fin 256) (i : Fin 1024) : rows m c t.val (ix2 j i) = hh X G (at' t j) i := by
  rw [← at_lead]
  unfold rows
  pointwise [k0_pay1]
  simp only [blk0 m c _ X ((V_main_arg0 m c).trans eX), blk1 m c _ G ((V_main_arg1 m c).trans eG)]
  unfold hh Norm.rinv Norm.ms Norm.eps
  rw [← Norm.n1024]

theorem normed (j : Fin 256) (i : Fin 1024) : kept m c t.val (ix2 j i) = hh X G (at' t j) i := by
  rw [← row m c t X G eX eG]
  unfold kept rows k0_pay2
  generalize k0_pay1 (F := Ideal) _ _ = z
  pointwise []

theorem step4 (y : S256x1024.Idx) : rows m c t.val y = hh X G (at' t (y 0)) (y 1) := by
  idx_vars y
  rw [row m c t X G eX eG]

include eW in
theorem step3 (y : S256x1024.Idx) : k0_pay3 (F := Ideal) (kept m c t.val) (iblk m c 2 t) y = kv X G W (at' t (y 0)) (col t (y 1)) := by
  idx_vars y
  pointwise [k0_pay3]
  simp only [normed m c t X G eX eG, blk2 m c t W ((entry2 m c).trans eW)]
  rfl

include eW in
theorem final3 : (dats m 0 c).arrAt 3 (cfgs 0).N = (fun i => kv X G W (i 0) (i 1) : FVec Ideal S256x2048 .bf16) := by
  refine (dats m 0 c).arrAt_eq_of_covers 3 _ (by decide +kernel) fun t _ y => ?_
  blk_simp
  rw [after_3, step3 m c t X G W eX eG eW]
  have e := (blockOf t).2.2.2.1
  refine congrArg₂ (kv X G W) (Fin.ext ?_) (Fin.ext ?_) <;> (blk_simp; simp [at', col, e])

theorem final4 : (dats m 0 c).arrAt 4 (cfgs 0).N = (fun i => hh X G (i 0) (i 1) : FVec Ideal S256x1024 .bf16) := by
  refine (dats m 0 c).arrAt_eq_of_covers 4 _ (by decide +kernel) fun t _ y => ?_
  blk_simp
  rw [after_4, step4 m c t X G eX eG]
  have e := (blockOf t).2.2.2.2
  refine congrArg₂ (hh X G) (Fin.ext ?_) (Fin.ext ?_) <;> (blk_simp; simp [at', e])

omit eX eG

/-- The kernel's two results are the reference's. -/
theorem result : Cert.algebraic_Kernel13Ideal_Reference13Ideal (hKernel13Ideal := Cert.Kernel13Ideal.Gen.facts) (hReference13Ideal := Cert.Reference13Ideal.Gen.facts) := by
  intro m g m' g' _ hagree
  refine ⟨fun c i => kv (m ((c : Thread nD τ).loc main_arg0)) (m ((c : Thread nD τ).loc main_arg1)) (m ((c : Thread nD τ).loc main_arg2)) (i 0) (i 1),
    fun c i => hh (m ((c : Thread nD τ).loc main_arg0)) (m ((c : Thread nD τ).loc main_arg1)) (i 0) (i 1), ?_, ?_⟩
  · exact θ_run_mono (θ_run_and (run_main m g) (frame m g)) fun r h c =>
      ⟨((h.1 c).1 3).trans (final3 m c _ _ _ rfl rfl rfl), ((h.1 c).1 4).trans (final4 m c _ _ rfl rfl), h.2.1 c⟩
  · exact θ_run_mono (Cert.Reference13Ideal.Value.run m' g') fun r h c => by
      obtain ⟨a0, a1, a2⟩ := hagree c
      obtain ⟨h0, h1, hk⟩ := h c
      obtain ⟨r0, r1⟩ := refs (m ((c : Thread nD τ).loc main_arg0)) (m ((c : Thread nD τ).loc main_arg1)) (m ((c : Thread nD τ).loc main_arg2))
      refine ⟨h0.trans ?_, h1.trans ?_, hk⟩
      · rw [Cert.Reference13Ideal.Read.val_main_v13_eq, a0, a1, a2]; exact r0
      · rw [Cert.Reference13Ideal.Read.val_main_v14_eq, a0, a1]; exact r1

/-- The kernel's frame, from the same run. -/
theorem frame_kernel : Cert.quiescent_Kernel13 (hKernel13 := Cert.Kernel13.Gen.facts) := fun m g _ => by
  refine Eq.mp ?_ (frame (F := Bits) m g)
  sl_kernel_rfl
/-- The idealized kernel's frame. -/
theorem frame_ideal : Cert.quiescent_Kernel13Ideal (hKernel13Ideal := Cert.Kernel13Ideal.Gen.facts) := fun m g _ => frame m g
end Cert.MemKv
end
-- ==== Proof.GradW.lean ====
/- The gradient of `w_down` (`_matmul_tn` with the square of its left factor): the array the kernel leaves is the reference's term. -/
module

public import proofs.«01_k».proof.Proof.Gen.Kernel14Ideal.Value
public import proofs.«01_k».proof.Proof.Gen.Reference14Ideal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradW
open Cert.Kernel14Ideal Cert.Kernel14Ideal.Gen Idealize.ShloMosaic.StableHlo

variable (m : (ℓ : Loc nD τ sig) → Buf (Elt Ideal) ℓ)

/-- Every grid point takes 512 columns of the squared factor, the whole of the other, and leaves 512 rows. -/
theorem blockOf : ∀ t : Fin cfg0.N, win0_0.index t = ![0, t.val] ∧ win0_1.index t = ![0, 0] ∧ win0_2.index t = ![t.val, 0] :=
  (by decide +kernel : ∀ t : Fin grid0.N, _)

/-- The gradient at one place: the sum over the positions of the squared value times the cotangent. -/
def G (a : FVec Ideal S4096x4096 .f32) (dx : FVec Ideal S4096x1024 .f32) : FVec Ideal S4096x1024 .f32 := fun i =>
  ∑ k : Fin 4096, a (ix2 k (i 0)) * a (ix2 k (i 0)) * dx (ix2 k (i 1))

/-- What the kernel leaves, in closed form. -/
theorem final (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, G]
  blk_point [iblk, V, blockOf t]

/-- The kernel's array is the reference's. -/
theorem result : Cert.algebraic_Kernel14Ideal_Reference14Ideal (hKernel14Ideal := Cert.Kernel14Ideal.Gen.facts) (hReference14Ideal := Cert.Reference14Ideal.Gen.facts) := by
  pair_intro
  · run_from Cert.Kernel14Ideal.Value.run_blocks m g
  · run_from Cert.Reference14Ideal.Value.run m' g'
    rw [final m c]
    funext i
    idx_vars i
    pointwise [G]
    exact Finset.sum_congr rfl fun k _ => mul_comm _ _

end Cert.GradW
end
-- ==== Proof.Adam.lean ====
/- The sum of the parts of one gradient and its optimiser step (`_sum_adamw`): the four arrays the kernel leaves are the reference's terms. -/
module

public import proofs.«01_k».proof.Proof.Gen.Kernel16Ideal.Value
public import proofs.«01_k».proof.Proof.Gen.Reference16Ideal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Adam
open Cert.Kernel16Ideal Cert.Kernel16Ideal.Gen Idealize.ShloMosaic.StableHlo

variable (m : (ℓ : Loc nD τ sig) → Buf (Elt Ideal) ℓ)

/-- Every grid point takes 512 rows of each of the eight parts and of the three other arrays, and leaves 512 rows. -/
theorem blockOf : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem N_0 : cfg0.N = 2 := by decide +kernel

/-- Row `j` of grid point `t`'s block. -/
def at' (t : Fin cfg0.N) (j : Fin 512) : Fin 1024 := ⟨t.val * 512 + j, by have : t.val < 2 := lt_of_lt_of_eq t.isLt N_0; omega⟩

/-- A constant of the optimiser, by its word. -/
abbrev lit (b : BitVec 32) : EReal := Ideal.ofBits .f32 b

/-- The first moment, of the gradient and the old moment. -/
def first (g m1 : EReal) : EReal := lit 0x3F666666#32 * m1 + lit 0x3DCCCCCD#32 * g

/-- The second moment, of the gradient and the old moment. -/
def second (g m2 : EReal) : EReal := lit 0x3F7FBE77#32 * m2 + lit 0x3A83126F#32 * (g * g)

/-- The step, of the gradient, the weight and the old moments. -/
def step (g w m1 m2 : EReal) : EReal :=
  lit 0xBA83126F#32 * (Ideal.div (Ideal.div (first g m1) (lit 0x3F26BD02#32))
    (Ideal.sqrt (Ideal.div (second g m2) (lit 0x3C231ACC#32)) + lit 0x322BCC77#32) + lit 0x3C23D70A#32 * w)

/-- The gradient: the sum of the eight parts. -/
def G (p : FVec Ideal S8x1024x512 .f32) : FVec Ideal S1024x512 .f32 := fun i => ∑ k : Fin 8, p (ix3 k (i 0) (i 1))

def M (p : FVec Ideal S8x1024x512 .f32) (m1 : FVec Ideal S1024x512 .f32) : FVec Ideal S1024x512 .f32 := fun i => first (G p i) (m1 i)

def M2 (p : FVec Ideal S8x1024x512 .f32) (m2 : FVec Ideal S1024x512 .f32) : FVec Ideal S1024x512 .f32 := fun i => second (G p i) (m2 i)

def D (p : FVec Ideal S8x1024x512 .f32) (w m1 m2 : FVec Ideal S1024x512 .f32) : FVec Ideal S1024x512 .f32 := fun i =>
  step (G p i) (w i) (m1 i) (m2 i)

/-- The sum of the eight parts in a block. -/
def add8 (x : FVec Ideal S8x512x512 .bf16) (y : S512x512.Idx) : EReal := ∑ k : Fin 8, x (ix3 k (y 0) (y 1))

section Step
variable (x0 : FVec Ideal S8x512x512 .bf16) (x1 x2 x3 : FVec Ideal S512x512 .f32) (y : S512x512.Idx)

theorem step4 : out0_4 (F := Ideal) x0 x1 x2 x3 y = add8 x0 y := by
  frame_out
  pointwise [k0_pay5, k0_pay4, add8]
  simp only [Fin.sum_univ_eight]

theorem step5 : out0_5 (F := Ideal) x0 x1 x2 x3 y = step (add8 x0 y) (x1 y) (x2 y) (x3 y) := by
  refine Eq.trans ?_ (congrArg (step · (x1 y) (x2 y) (x3 y)) (step4 x0 x1 x2 x3 y))
  frame_out
  pointwise [k0_pay5, k0_pay3]
  generalize k0_pay4 (F := Ideal) _ _ _ _ _ _ _ _ = z
  rfl

theorem step6 : out0_6 (F := Ideal) x0 x1 x2 x3 y = first (add8 x0 y) (x2 y) := by
  refine Eq.trans ?_ (congrArg (first · (x2 y)) (step4 x0 x1 x2 x3 y))
  frame_out
  unfold k0_pay5
  generalize k0_pay4 (F := Ideal) _ _ _ _ _ _ _ _ = z
  rfl

theorem step7 : out0_7 (F := Ideal) x0 x1 x2 x3 y = second (add8 x0 y) (x3 y) := by
  refine Eq.trans ?_ (congrArg (second · (x3 y)) (step4 x0 x1 x2 x3 y))
  frame_out
  unfold k0_pay5
  generalize k0_pay4 (F := Ideal) _ _ _ _ _ _ _ _ = z
  rfl

end Step

section Final
variable (c : Dev nD) (t : Fin cfg0.N) (y : S512x512.Idx)

theorem parts (k : Fin 8) : iblk m c 0 t (ix3 k (y 0) (y 1)) = (m ((c : Thread nD τ).loc main_arg0)) (ix3 k (at' t (y 0)) (y 1)) := by
  have e := (blockOf t).1
  have h : V m c main_v0 = (m ((c : Thread nD τ).loc main_arg0)) := by
    entry_read
    funext i
    pointwise []
  unfold iblk
  erw [h]
  blk_simp
  unfold at'
  blk_ext <;> simp [e]

theorem own1 : iblk m c 1 t y = (m ((c : Thread nD τ).loc main_arg1)) (ix2 (at' t (y 0)) (y 1)) := by
  have e := (blockOf t).2.1
  unfold iblk
  blk_simp
  unfold at'
  blk_ext <;> simp [e]

theorem own2 : iblk m c 2 t y = (m ((c : Thread nD τ).loc main_arg2)) (ix2 (at' t (y 0)) (y 1)) := by
  have e := (blockOf t).2.2.1
  unfold iblk
  blk_simp
  unfold at'
  blk_ext <;> simp [e]

theorem own3 : iblk m c 3 t y = (m ((c : Thread nD τ).loc main_arg3)) (ix2 (at' t (y 0)) (y 1)) := by
  have e := (blockOf t).2.2.2.1
  unfold iblk
  blk_simp
  unfold at'
  blk_ext <;> simp [e]

theorem place4 : (win0_4.blk t).view.emb y = ix2 (at' t (y 0)) (y 1) := by
  have e := (blockOf t).2.2.2.2.1
  unfold at'
  blk_ext <;> simp [e]

theorem place5 : (win0_5.blk t).view.emb y = ix2 (at' t (y 0)) (y 1) := by
  have e := (blockOf t).2.2.2.2.2.1
  unfold at'
  blk_ext <;> simp [e]

theorem place6 : (win0_6.blk t).view.emb y = ix2 (at' t (y 0)) (y 1) := by
  have e := (blockOf t).2.2.2.2.2.2.1
  unfold at'
  blk_ext <;> simp [e]

theorem place7 : (win0_7.blk t).view.emb y = ix2 (at' t (y 0)) (y 1) := by
  have e := (blockOf t).2.2.2.2.2.2.2
  unfold at'
  blk_ext <;> simp [e]

theorem summed : add8 (iblk m c 0 t) y = G (m ((c : Thread nD τ).loc main_arg0)) (ix2 (at' t (y 0)) (y 1)) :=
  Finset.sum_congr rfl fun k _ => parts m c t y k

theorem final4 : (dats m 0 c).arrAt 4 (cfgs 0).N = G (m ((c : Thread nD τ).loc main_arg0)) := by
  refine (dats m 0 c).arrAt_eq_of_covers 4 _ (by decide +kernel) fun t _ y => ?_
  blk_simp
  rw [after0_4, step4, place4]
  exact summed m c t y

theorem final5 : (dats m 0 c).arrAt 5 (cfgs 0).N = D (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, step5, place5]
  exact congr (congr (congrArg₂ step (summed m c t y) (own1 m c t y)) (own2 m c t y)) (own3 m c t y)

theorem final6 : (dats m 0 c).arrAt 6 (cfgs 0).N = M (m ((c : Thread nD τ).loc main_arg0)) (m ((c : Thread nD τ).loc main_arg2)) := by
  refine (dats m 0 c).arrAt_eq_of_covers 6 _ (by decide +kernel) fun t _ y => ?_
  blk_simp
  rw [after0_6, step6, place6]
  exact congrArg₂ first (summed m c t y) (own2 m c t y)

theorem final7 : (dats m 0 c).arrAt 7 (cfgs 0).N = M2 (m ((c : Thread nD τ).loc main_arg0)) (m ((c : Thread nD τ).loc main_arg3)) := by
  refine (dats m 0 c).arrAt_eq_of_covers 7 _ (by decide +kernel) fun t _ y => ?_
  blk_simp
  rw [after0_7, step7, place7]
  exact congrArg₂ second (summed m c t y) (own3 m c t y)
end Final

/-- The reference's sum of the parts. -/
theorem total (p : FVec Ideal S8x1024x512 .f32) : Host.reduceAdd p (constant Cert.Reference16Ideal.S_ .f32 0#32)
    Cert.Reference16Ideal.Gen.reducesTo_S8x1024x512_S1024x512_d0 Cert.Reference16Ideal.Gen.h_S_ = G p := by
  funext i
  idx_vars i
  pointwise [G]

/-- The kernel's arrays are the reference's. -/
theorem result : Cert.algebraic_Kernel16Ideal_Reference16Ideal (hKernel16Ideal := Cert.Kernel16Ideal.Gen.facts) (hReference16Ideal := Cert.Reference16Ideal.Gen.facts) := by
  intro m g m' g' _ hagree
  refine ⟨fun c => G (m ((c : Thread nD τ).loc main_arg0)), fun c => D (m ((c : Thread nD τ).loc main_arg0)) (m ((c : Thread nD τ).loc main_arg1)) (m ((c : Thread nD τ).loc main_arg2)) (m ((c : Thread nD τ).loc main_arg3)), fun c => M (m ((c : Thread nD τ).loc main_arg0)) (m ((c : Thread nD τ).loc main_arg2)), fun c => M2 (m ((c : Thread nD τ).loc main_arg0)) (m ((c : Thread nD τ).loc main_arg3)), ?_, ?_⟩
  · exact θ_run_mono (Cert.Kernel16Ideal.Value.run_blocks m g) fun r h c =>
      ⟨(h c).1.trans (final4 m c), (h c).2.1.trans (final5 m c), (h c).2.2.1.trans (final6 m c), (h c).2.2.2.1.trans (final7 m c), (h c).2.2.2.2⟩
  · refine θ_run_mono (Cert.Reference16Ideal.Value.run m' g') fun r h c => ?_
    obtain ⟨e0, e1, e2, e3⟩ := hagree c
    obtain ⟨h0, h1, h2, h3, hk⟩ := h c
    rw [e0] at h0
    rw [e0, e1, e2, e3, total] at h1
    rw [e0, e2, total] at h2
    rw [e0, e3, total] at h3
    exact ⟨h0.trans (total _), h1.trans (funext fun i => by pointwise [D, step, first, second]), h2.trans (funext fun i => by pointwise [M, first]),
      h3.trans (funext fun i => by pointwise [M2, second]), hk⟩
end Cert.Adam
end
-- ==== Proof.Pack.lean ====
/- The packing of the small gradients into one array (`_pack_small`): the array the kernel leaves is the reference's. -/
module

public import proofs.«01_k».proof.Proof.Gen.Kernel17Ideal.Value
public import proofs.«01_k».proof.Proof.Gen.Reference17Ideal.Read
public import proofs.«01_k».proof.Defs
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Pack
open Cert.Kernel17Ideal Cert.Kernel17Ideal.Gen Idealize.ShloMosaic.StableHlo

variable (m : (ℓ : Loc nD τ sig) → Buf (Elt Ideal) ℓ)

/-- The box of `R` rows and `C` columns at row `r` and column `o` overwritten. -/
def boxSet (r o R C : ℕ) (w : Vec Ideal ⟨2, ![R, C]⟩ (.f32)) (X : Vec Ideal S16x1024 (.f32)) : Vec Ideal S16x1024 (.f32) :=
  fun y => if h : (r ≤ (y 0 : ℕ) ∧ (y 0 : ℕ) < r + R) ∧ o ≤ (y 1 : ℕ) ∧ (y 1 : ℕ) < o + C then
    w (ix2 ⟨(y 0 : ℕ) - r, by omega⟩ ⟨(y 1 : ℕ) - o, by omega⟩) else X y

theorem canon_box (r o R C : ℕ) (inb) (w : Vec Ideal ⟨2, ![R, C]⟩ (.f32)) (L : List (View.Piece (Elt Ideal) S16x1024 (.f32))) :
    View.canon ((⟨Rect.unit ![r, o] ![R, C] inb, w⟩ : View.Piece (Elt Ideal) S16x1024 (.f32)) :: L) = boxSet r o R C w (View.canon L) := by
  funext y
  unfold boxSet
  split_ifs with h
  · have e : (Rect.unit (s := S16x1024) ![r, o] ![R, C] inb).emb (ix2 ⟨(y 0 : ℕ) - r, by omega⟩ ⟨(y 1 : ℕ) - o, by omega⟩) = y := by
      funext a; apply Fin.ext
      fin_cases a
      · show r + 1 * ((y 0 : ℕ) - r) = (y 0 : ℕ); omega
      · show o + 1 * ((y 1 : ℕ) - o) = (y 1 : ℕ); omega
    conv_lhs => rw [← e]
    exact View.canon_cons_emb _ _ _ _
  · refine View.canon_cons_of_not_mem _ _ ?_
    rw [Rect.mem_set_unit]
    intro hall
    exact h ⟨hall 0, hall 1⟩

/-- The packed array: five gains, the pair of gains of the mixer's heads, the loss, and the taps; zero elsewhere. -/
def P (g0 g1 g2 g3 g4 : FVec Ideal S1x1024 .f32) (ga gc : FVec Ideal S1x512 .f32) (taps : FVec Ideal S8x512 .f32)
    (loss : FVec Ideal S8x128 .f32) : FVec Ideal S16x1024 .f32 :=
  boxSet 8 0 8 512 taps <| boxSet 6 0 1 128 (fun i => loss (ix2 0 (i 1))) <| boxSet 5 512 1 512 gc <| boxSet 5 0 1 512 ga <|
    boxSet 4 0 1 1024 g4 <| boxSet 3 0 1 1024 g3 <| boxSet 2 0 1 1024 g2 <| boxSet 1 0 1 1024 g1 <| boxSet 0 0 1 1024 g0 fun _ => 0

/-- Each array is one block. -/
theorem blockOf : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] :=
  (by decide +kernel : ∀ t : Fin grid0.N, _)

section Blocks
variable (c : Dev nD) (t : Fin cfg0.N)

theorem blk0 : iblk m c 0 t = (m ((c : Thread nD τ).loc main_arg0)) := by
  unfold iblk
  funext y
  blk_simp
  have e := (blockOf t).1
  blk_ext <;> simp [e]

theorem blk1 : iblk m c 1 t = (m ((c : Thread nD τ).loc main_arg1)) := by
  unfold iblk
  funext y
  blk_simp
  have e := (blockOf t).2.1
  blk_ext <;> simp [e]

theorem blk2 : iblk m c 2 t = (m ((c : Thread nD τ).loc main_arg2)) := by
  unfold iblk
  funext y
  blk_simp
  have e := (blockOf t).2.2.1
  blk_ext <;> simp [e]

theorem blk3 : iblk m c 3 t = (m ((c : Thread nD τ).loc main_arg3)) := by
  unfold iblk
  funext y
  blk_simp
  have e := (blockOf t).2.2.2.1
  blk_ext <;> simp [e]

theorem blk4 : iblk m c 4 t = (m ((c : Thread nD τ).loc main_arg4)) := by
  unfold iblk
  funext y
  blk_simp
  have e := (blockOf t).2.2.2.2.1
  blk_ext <;> simp [e]

theorem blk5 : iblk m c 5 t = (m ((c : Thread nD τ).loc main_arg5)) := by
  unfold iblk
  funext y
  blk_simp
  have e := (blockOf t).2.2.2.2.2.1
  blk_ext <;> simp [e]

theorem blk6 : iblk m c 6 t = (m ((c : Thread nD τ).loc main_arg6)) := by
  unfold iblk
  funext y
  blk_simp
  have e := (blockOf t).2.2.2.2.2.2.1
  blk_ext <;> simp [e]

theorem blk7 : iblk m c 7 t = (m ((c : Thread nD τ).loc main_arg7)) := by
  unfold iblk
  funext y
  blk_simp
  have e := (blockOf t).2.2.2.2.2.2.2.1
  blk_ext <;> simp [e]

theorem blk8 : iblk m c 8 t = (m ((c : Thread nD τ).loc main_arg8)) := by
  unfold iblk
  funext y
  blk_simp
  have e := (blockOf t).2.2.2.2.2.2.2.2.1
  blk_ext <;> simp [e]
end Blocks

theorem final (c : Dev nD) : (dats m 0 c).arrAt 9 (cfgs 0).N = P (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t _ y => ?_
  blk_simp
  rw [after0_9]
  unfold outsAt0
  frame_out
  have ey : ((View.whole main_v0).slice (win0_9.rect t)).emb y = y := by
    have e := (blockOf t).2.2.2.2.2.2.2.2.2
    blk_ext <;> simp [e]
  rw [ey]
  simp only [canon_box, read_unread_whole, blk0 m c t, blk1 m c t, blk2 m c t, blk3 m c t, blk4 m c t, blk5 m c t, blk6 m c t, blk7 m c t, blk8 m c t]
  unfold P
  have ez : boxSet 0 0 16 1024 (k0_pay1 (F := Ideal)) (View.canon []) = fun _ => 0 := by
    funext z
    unfold boxSet
    rw [dif_pos ⟨⟨Nat.zero_le _, (z 0).isLt.trans_eq (zero_add 16).symm⟩, Nat.zero_le _, (z 1).isLt.trans_eq (zero_add 1024).symm⟩]
    pointwise [k0_pay1]
  have el : View.ld (m ((c : Thread nD τ).loc main_arg8)) (Rect.unit ![0, 0] ![1, 128] inb_S8x128_S1x128_0_0) = fun i => m ((c : Thread nD τ).loc main_arg8) (ix2 0 (i 1)) := by
    funext z
    refine congrArg (m ((c : Thread nD τ).loc main_arg8)) (funext fun a => Fin.ext ?_)
    have hz : (z 0 : ℕ) < 1 := (z 0).isLt
    fin_cases a
    · show 0 + 1 * (z 0 : ℕ) = 0; omega
    · show 0 + 1 * (z 1 : ℕ) = (z 1 : ℕ); omega
  rw [ez]
  exact congrFun (congrArg (fun w => boxSet 8 0 8 512 _ (boxSet 6 0 1 128 w _)) el) y
/-- The reference's array, of any nine arrays. -/
theorem packed (g0 g1 g2 g3 g4 : FVec Ideal S1x1024 .f32) (g5 g6 : FVec Ideal S1x512 .f32) (g7 : FVec Ideal S8x512 .f32)
    (g8 : FVec Ideal S8x128 .f32) (i0 : Fin 16) (i1 : Fin 1024) :
    Cert.Reference17Ideal.Read.val_main_v7 (F := Ideal) g0 g1 g2 g3 g4 g5 g6 g7 g8 (ix2 i0 i1) = P g0 g1 g2 g3 g4 g5 g6 g7 g8 (ix2 i0 i1) := by
  unfold Cert.Reference17Ideal.Read.val_main_v7
  pointwise [P, boxSet, Cert.Reference17Ideal.Read.val_main_v0, Cert.Reference17Ideal.Read.val_main_v1, Cert.Reference17Ideal.Read.val_main_v2,
    Cert.Reference17Ideal.Read.val_main_v3, Cert.Reference17Ideal.Read.val_main_v4, Cert.Reference17Ideal.Read.val_main_v5,
    Cert.Reference17Ideal.Read.val_main_v6, Cert.Reference17Ideal.Read.val_main_cst, Cert.Reference17Ideal.Read.val_main_cst_0, Cert.Reference17Ideal.Read.val_main_cst_1]
  obtain ⟨r, hr⟩ := i0
  interval_cases r <;> simp
  by_cases h : (i1 : ℕ) < 512
  · rw [dif_pos h, dif_neg (not_le.mpr h), dif_pos h]
  · rw [dif_neg h, dif_pos (not_lt.mp h)]

theorem result : Cert.algebraic_Kernel17Ideal_Reference17Ideal (hKernel17Ideal := Cert.Kernel17Ideal.Gen.facts) (hReference17Ideal := Cert.Reference17Ideal.Gen.facts) := by
  pair_intro
  · run_from Cert.Kernel17Ideal.Value.run_blocks m g
  · run_from Cert.Reference17Ideal.Value.run m' g'
    rw [final m c]
    funext i
    idx_vars i
    obtain ⟨-, -, -, -, e4, e5, e6, e7, e8⟩ := hagree c
    generalize m' ((c : Thread Cert.Reference17Ideal.nD Cert.Reference17Ideal.τ).loc Cert.Reference17Ideal.main_arg4) = r4 at e4 ⊢
    generalize m' ((c : Thread Cert.Reference17Ideal.nD Cert.Reference17Ideal.τ).loc Cert.Reference17Ideal.main_arg5) = r5 at e5 ⊢
    generalize m' ((c : Thread Cert.Reference17Ideal.nD Cert.Reference17Ideal.τ).loc Cert.Reference17Ideal.main_arg6) = r6 at e6 ⊢
    generalize m' ((c : Thread Cert.Reference17Ideal.nD Cert.Reference17Ideal.τ).loc Cert.Reference17Ideal.main_arg7) = r7 at e7 ⊢
    generalize m' ((c : Thread Cert.Reference17Ideal.nD Cert.Reference17Ideal.τ).loc Cert.Reference17Ideal.main_arg8) = r8 at e8 ⊢
    subst e4 e5 e6 e7 e8
    generalize m ((c : Thread nD τ).loc main_arg0) = g0
    generalize m ((c : Thread nD τ).loc main_arg1) = g1
    generalize m ((c : Thread nD τ).loc main_arg2) = g2
    generalize m ((c : Thread nD τ).loc main_arg3) = g3
    generalize m ((c : Thread nD τ).loc main_arg4) = g4
    generalize m ((c : Thread nD τ).loc main_arg5) = g5
    generalize m ((c : Thread nD τ).loc main_arg6) = g6
    generalize m ((c : Thread nD τ).loc main_arg7) = g7
    generalize m ((c : Thread nD τ).loc main_arg8) = g8
    exact packed g0 g1 g2 g3 g4 g5 g6 g7 g8 i0 i1

end Cert.Pack
end
-- ==== Proof.Reorder.lean ====
/- The move of the positions into the order of their residues (`_reorder`): the arrays the kernel leaves are the reference's. -/
module

public import proofs.«01_k».proof.Proof.Gen.Kernel19Ideal.Value
public import proofs.«01_k».proof.Proof.Gen.Reference19Ideal.Read
public import proofs.«01_k».proof.Defs
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reorder
open Cert.Kernel19Ideal Cert.Kernel19Ideal.Gen Idealize.ShloMosaic.StableHlo

variable (m : (ℓ : Loc nD τ sig) → Buf (Elt Ideal) ℓ)

/-- Every grid point takes 512 positions and leaves them as 32 places of each of the 16 residues. -/
theorem blockOf : ∀ t : Fin cfg0.N, win0_0.index t = ![t.val, 0] ∧ win0_1.index t = ![t.val, 0]
    ∧ win0_2.index t = ![t.val / 4, 0, t.val % 4, 0] ∧ win0_3.index t = ![t.val / 4, 0, t.val % 4, 0] :=
  (by decide +kernel : ∀ t : Fin grid0.N, _)

/-- One block in the order of the residues. -/
def B (x : Vec Ideal S512x1024 (.f32)) : Vec Ideal S1x16x32x1024 (.f32) := fun y =>
  x (ix2 (n0 := 512) (n1 := 1024) ⟨16 * (y 2 : ℕ) + (y 1 : ℕ), by have h1 : (y 1 : ℕ) < 16 := (y 1).isLt; have h2 : (y 2 : ℕ) < 32 := (y 2).isLt; omega⟩ (y 3))

/-- One store: 32 positions of one residue and 128 columns, read back from the slab just filled. -/
theorem piece (v : View sig .tc .vmem S8x512x128 (.f32)) (x : Vec Ideal S512x1024 (.f32)) (cb r o : ℕ) (ho : o = 128 * cb)
    (L : List (View.Piece (Elt Ideal) S8x512x128 (.f32))) (i1 i2 i3 h1 h2 h3 hR i4 hc hc2) (z : S1x1x32x128.Idx) :
    shapeCast S1x1x32x128 (LoadRect.valAlong (lr := (⟨![r, 0], ![32, 128], ![16, 1], i3⟩ : LoadRect S512x128)) hR (v.readCov
      ((⟨Rect.unit (s := S8x512x128) ![cb, 0, 0] ![1, 512, 128] i1, shapeCast S1x512x128 (View.ld x (Rect.unit (s := S512x1024) ![0, o] ![512, 128] i2)) hc⟩ : View.Piece (Elt Ideal) S8x512x128 (.f32)) :: L)
      (Rect.withinL (Rect.unit (s := S8x512x128) ![cb, 0, 0] ![1, 512, 128] i1) (LoadRect.consLift (n := 2) (d := ![512, 128]) ⟨![r, 0], ![32, 128], ![16, 1], i3⟩ ![1, 512, 128] h1 h2) h3))) hc2 z
    = B x ((Rect.unit (s := S1x16x32x1024) ![0, r, 0, o] ![1, 1, 32, 128] i4).emb z) := by
  have z0 : (z 0 : ℕ) < 1 := (z 0).isLt
  have z1 : (z 1 : ℕ) < 1 := (z 1).isLt
  have z2 : (z 2 : ℕ) < 32 := (z 2).isLt
  have z3 : (z 3 : ℕ) < 128 := (z 3).isLt
  have hr : r < 16 := by have := i4 1; simp at this; omega
  rw [shapeCast_apply _ hc2 z (ix2 (n0 := 32) (n1 := 128) ⟨z 2, z2⟩ ⟨z 3, z3⟩) (by
    rw [Shape.rowMajor_val_two, Shape.rowMajor_val_four]; simp)]
  show v.readCov _ _ (Shape.reshapeEquiv hR _) = _
  have hx : Shape.reshapeEquiv hR (ix2 (n0 := 32) (n1 := 128) ⟨z 2, z2⟩ ⟨z 3, z3⟩) = Fin.cons ⟨0, Nat.one_pos⟩ (ix2 (n0 := 32) (n1 := 128) ⟨z 2, z2⟩ ⟨z 3, z3⟩) :=
    Shape.reshapeEquiv_cons_one (d := ![32, 128]) _ _
  rw [View.readCov_eq_canon']
  have ej : LoadRect.idx _ (Shape.reshapeEquiv hR (ix2 (n0 := 32) (n1 := 128) ⟨z 2, z2⟩ ⟨z 3, z3⟩)) = (Rect.unit (s := S8x512x128) ![cb, 0, 0] ![1, 512, 128] i1).emb
      (ix3 (n0 := 1) (n1 := 512) (n2 := 128) ⟨0, Nat.one_pos⟩ ⟨r + 16 * z 2, by omega⟩ ⟨z 3, z3⟩) := by
    refine (congrArg _ hx).trans ((Rect.idx_withinL _ _ h3 _).trans (congrArg _ (funext fun a => Fin.ext ?_)))
    fin_cases a
    · exact Nat.zero_add _
    · rfl
    · show 0 + 1 * (z 3 : ℕ) = (z 3 : ℕ); omega
  refine (congrArg (View.canon _) ej).trans ((View.canon_cons_emb _ _ _ _).trans ?_)
  rw [shapeCast_apply _ hc _ (ix2 (n0 := 512) (n1 := 128) ⟨r + 16 * z 2, by omega⟩ ⟨z 3, z3⟩) (by
    rw [Shape.rowMajor_val_two, Shape.rowMajor_val_three]; simp)]
  unfold B View.ld
  refine congrArg x (funext fun a => Fin.ext ?_)
  fin_cases a <;> simp <;> omega

set_option maxHeartbeats 2000000 in
/-- The run's stores into the first output are the block in the order of the residues. -/
theorem out2 (c : Dev nD) (i : grid0.Coords) (a1 : Memref sig .tc .vmem S512x1024 .f32) (h1 : a1.IsWhole) (a2 : Memref sig .tc .vmem S512x1024 .f32) (h2 : a2.IsWhole)
    (a3 : Memref sig .tc .vmem S1x16x32x1024 .f32) (h3 : a3.IsWhole) (a4 : Memref sig .tc .vmem S1x16x32x1024 .f32) (h4 : a4.IsWhole)
    (a5 : Memref sig .tc .vmem S8x512x128 .f32) (h5 : a5.IsWhole) (x0 x1 : Vec Ideal S512x1024 (.f32)) :
    out0_A_2 c i a1 h1 a2 h2 a3 h3 a4 h4 a5 h5 x0 x1 = B x0 := by
  funext y
  unfold out0_A_2
  frame_out
  refine (congrFun (congrArg (View.canon (Val := Elt Ideal)) (List.append_nil _).symm) y).trans
    (View.canon_append_of_piecesOf (B x0) [] _ ?_ y (View.cover_of_tiledL (s := S1x16x32x1024) _ S1x1x32x128.size (by sl_kernel_rfl) y))
  repeat (refine And.intro (fun z => ?_) ?_; exact piece _ x0 _ _ _ rfl _ _ _ _ _ _ _ _ (by decide) _ _ z)
  trivial

/-- What the first output's buffer holds after a grid point. -/
theorem after2 (c : Dev nD) (t : Fin cfg0.N) : (dats m 0 c).after 2 t = B (iblk m c 0 t) := by
  rw [after0_2]
  unfold outsAt0
  dsimp only
  rw [out2]

set_option maxHeartbeats 2000000 in
/-- The run's stores into the second output are the block in the order of the residues. -/
theorem out3 (c : Dev nD) (i : grid0.Coords) (a1 : Memref sig .tc .vmem S512x1024 .f32) (h1 : a1.IsWhole) (a2 : Memref sig .tc .vmem S512x1024 .f32) (h2 : a2.IsWhole)
    (a3 : Memref sig .tc .vmem S1x16x32x1024 .f32) (h3 : a3.IsWhole) (a4 : Memref sig .tc .vmem S1x16x32x1024 .f32) (h4 : a4.IsWhole)
    (a5 : Memref sig .tc .vmem S8x512x128 .f32) (h5 : a5.IsWhole) (x0 x1 : Vec Ideal S512x1024 (.f32)) :
    out0_A_3 c i a1 h1 a2 h2 a3 h3 a4 h4 a5 h5 x0 x1 = B x1 := by
  funext y
  unfold out0_A_3
  frame_out
  refine (congrFun (congrArg (View.canon (Val := Elt Ideal)) (List.append_nil _).symm) y).trans
    (View.canon_append_of_piecesOf (B x1) [] _ ?_ y (View.cover_of_tiledL (s := S1x16x32x1024) _ S1x1x32x128.size (by sl_kernel_rfl) y))
  repeat (refine And.intro (fun z => ?_) ?_; exact piece _ x1 _ _ _ rfl _ _ _ _ _ _ _ _ (by decide) _ _ z)
  trivial

/-- What the second output's buffer holds after a grid point. -/
theorem after3 (c : Dev nD) (t : Fin cfg0.N) : (dats m 0 c).after 3 t = B (iblk m c 1 t) := by
  rw [after0_3]
  unfold outsAt0
  dsimp only
  rw [out3]

/-- A whole array in the order of the residues. -/
def R (x : FVec Ideal S4096x1024 .f32) : FVec Ideal S2x16x128x1024 .f32 := fun i =>
  x (ix2 (n0 := 4096) (n1 := 1024) ⟨2048 * (i 0 : ℕ) + 16 * (i 2 : ℕ) + (i 1 : ℕ), by
    have h0 : (i 0 : ℕ) < 2 := (i 0).isLt; have h1 : (i 1 : ℕ) < 16 := (i 1).isLt; have h2 : (i 2 : ℕ) < 128 := (i 2).isLt; omega⟩ (i 3))

/-- The first array. -/
theorem final2 (c : Dev nD) : (dats m 0 c).arrAt 2 (cfgs 0).N = R (m ((c : Thread nD τ).loc main_arg0)) := by
  refine (dats m 0 c).arrAt_eq_of_covers 2 _ (by decide +kernel) fun t _ y => ?_
  rw [after2]
  blk_simp
  unfold B R iblk
  have e := (blockOf t).1
  have e2 := (blockOf t).2.2.1
  blk_simp
  blk_ext <;> simp [e, e2] <;> omega

/-- The second array. -/
theorem final3 (c : Dev nD) : (dats m 0 c).arrAt 3 (cfgs 0).N = R (m ((c : Thread nD τ).loc main_arg1)) := by
  refine (dats m 0 c).arrAt_eq_of_covers 3 _ (by decide +kernel) fun t _ y => ?_
  rw [after3]
  blk_simp
  unfold B R iblk
  have e := (blockOf t).2.1
  have e2 := (blockOf t).2.2.2
  blk_simp
  blk_ext <;> simp [e, e2] <;> omega

/-- The reference's first array in closed form. -/
theorem ordered (x : FVec Ideal S4096x1024 .f32) : Cert.Reference19Ideal.Read.val_main_v1 (F := Ideal) x = R x := by
  funext i
  rw [Cert.Reference19Ideal.Read.val_main_v1_apply, Cert.Reference19Ideal.Read.val_main_v0_apply]
  unfold R
  refine congrArg x (funext fun a => Fin.ext ?_)
  have h3 : (i 3 : ℕ) < 1024 := (i 3).isLt
  fin_cases a
  · show ((((i 0 : ℕ) * 128 + (i 2 : ℕ)) * 16 + (i 1 : ℕ)) * 1024 + (i 3 : ℕ)) / 1024 = 2048 * (i 0 : ℕ) + 16 * (i 2 : ℕ) + (i 1 : ℕ); omega
  · show ((((i 0 : ℕ) * 128 + (i 2 : ℕ)) * 16 + (i 1 : ℕ)) * 1024 + (i 3 : ℕ)) % 1024 = (i 3 : ℕ); omega

/-- The second is computed alike. -/
theorem ordered' (x : FVec Ideal S4096x1024 .f32) : Cert.Reference19Ideal.Read.val_main_v3 (F := Ideal) x = R x := ordered x

/-- The kernel's arrays are the reference's. -/
theorem result : Cert.algebraic_Kernel19Ideal_Reference19Ideal (hKernel19Ideal := Cert.Kernel19Ideal.Gen.facts) (hReference19Ideal := Cert.Reference19Ideal.Gen.facts) := by
  pair_intro
  · run_from Cert.Kernel19Ideal.Value.run_blocks m g
  · run_from Cert.Reference19Ideal.Value.run m' g'
    · rw [final2 m c]
      exact ordered _
    · rw [final3 m c]
      exact ordered' _

end Cert.Reorder
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Dpre
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Mem
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Conv
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.MlpDx
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Loss
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Xattn
public import proofs.«01_k».proof.Proof.Gen.Pre_pre6
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Mix
public import proofs.«01_k».proof.Proof.Gen.Pre_pre7
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.MixDx
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.MixFwd
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.XattnFwd
public import proofs.«01_k».proof.Proof.Gen.Kernel11
public import proofs.«01_k».proof.Proof.Gen.Kernel11Ideal
public import proofs.«01_k».proof.Proof.Gen.Reference11Ideal
public import proofs.«01_k».proof.Proof.Gen.Reference11Ideal.Run
public import proofs.«01_k».proof.Proof.Gen.Reference11Ideal.Read
public import proofs.«01_k».proof.Proof.Up
public import proofs.«01_k».proof.Proof.Gen.Kernel12
public import proofs.«01_k».proof.Proof.Gen.Kernel12Ideal
public import proofs.«01_k».proof.Proof.Gen.Reference12Ideal
public import proofs.«01_k».proof.Proof.Gen.Reference12Ideal.Run
public import proofs.«01_k».proof.Proof.Gen.Reference12Ideal.Read
public import proofs.«01_k».proof.Proof.Proj
public import proofs.«01_k».proof.Proof.Gen.Kernel13
public import proofs.«01_k».proof.Proof.Gen.Kernel13Ideal
public import proofs.«01_k».proof.Proof.Gen.Reference13Ideal
public import proofs.«01_k».proof.Proof.Gen.Reference13Ideal.Run
public import proofs.«01_k».proof.Proof.Gen.Reference13Ideal.Read
public import proofs.«01_k».proof.Proof.MemKv
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.GradW
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Adam
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Reference17Ideal.Read
public import proofs.«01_k».proof.Proof.Pack
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import proofs.«01_k».proof.Proof.Reorder
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel19.Gen.facts, Cert.Kernel19Ideal.Gen.facts, Cert.Reference19Ideal.Gen.facts,
  Cert.Pre_pre6.Gen.facts,
  Cert.Pre_pre7.Gen.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2, sem_eq_zero_of_no_sems (by decide) r.2⟩) (Cert.ReferenceIdeal.Value.run m ρ),
  fun m ρ _ => Cert.Kernel2.Gen.frame m ρ,
  fun m ρ _ => Cert.Kernel2Ideal.Gen.frame m ρ,
  fun m ρ _ => (θ_run Cert.Reference2Ideal.defs _ _).mono
    (fun r h => ⟨fun c => (h c).2.2, sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => (θ_run Cert.Reference3Ideal.defs _ _).mono
    (fun r h => ⟨fun c => (h c).2.2, sem_eq_zero_of_no_sems (by decide) r.2⟩) (Cert.Reference3Ideal.Value.run m ρ),
  fun m ρ _ => Cert.Kernel4.Gen.frame m ρ,
  fun m ρ _ => Cert.Kernel4Ideal.Gen.frame m ρ,
  fun m ρ _ => (θ_run Cert.Reference4Ideal.defs _ _).mono
    (fun r h => ⟨fun c => (h c).2.2.2, sem_eq_zero_of_no_sems (by decide) r.2⟩) (Cert.Reference4Ideal.Value.run m ρ),
  fun m ρ _ => Cert.Kernel5.Gen.frame m ρ,
  fun m ρ _ => Cert.Kernel5Ideal.Gen.frame m ρ,
  fun m ρ _ => (θ_run Cert.Reference5Ideal.defs _ _).mono
    (fun r h => ⟨fun c => (h c).2.2.2.2, sem_eq_zero_of_no_sems (by decide) r.2⟩) (Cert.Reference5Ideal.Value.run m ρ),
  fun m ρ _ => Cert.Kernel6.Gen.frame m ρ,
  fun m ρ _ => Cert.Kernel6Ideal.Gen.frame m ρ,
  fun m ρ _ => Cert.Kernel6Ideal.Gen.frame m ρ,
  fun m ρ _ => (θ_run Cert.Reference6Ideal.defs _ _).mono
    (fun r h => ⟨fun c => (h c).2.2.2.2.2, sem_eq_zero_of_no_sems (by decide) r.2⟩) (Cert.Reference6Ideal.Value.run m ρ),
  fun m ρ _ => (θ_run Cert.Reference6Ideal.defs _ _).mono
    (fun r h => ⟨fun c => (h c).2.2.2.2.2, sem_eq_zero_of_no_sems (by decide) r.2⟩) (Cert.Reference6Ideal.Value.run m ρ),
  fun m ρ _ => Cert.Kernel7.Gen.frame m ρ,
  fun m ρ _ => Cert.Kernel7Ideal.Gen.frame m ρ,
  fun m ρ _ => Cert.Kernel7Ideal.Gen.frame m ρ,
  fun m ρ _ => (θ_run Cert.Reference7Ideal.defs _ _).mono
    (fun r h => ⟨fun c => (h c).2.2.2.2.2.2, sem_eq_zero_of_no_sems (by decide) r.2⟩) (Cert.Reference7Ideal.Value.run m ρ),
  fun m ρ _ => (θ_run Cert.Reference7Ideal.defs _ _).mono
    (fun r h => ⟨fun c => (h c).2.2.2.2.2.2, sem_eq_zero_of_no_sems (by decide) r.2⟩) (Cert.Reference7Ideal.Value.run m ρ),
  fun m ρ _ => Cert.Kernel8.Gen.frame m ρ,
  fun m ρ _ => Cert.Kernel8Ideal.Gen.frame m ρ,
  fun m ρ _ => (θ_run Cert.Reference8Ideal.defs _ _).mono
    (fun r h => ⟨fun c => (h c).2.2, sem_eq_zero_of_no_sems (by decide) r.2⟩) (Cert.Reference8Ideal.Value.run m ρ),
  fun m ρ _ => Cert.Kernel9.Gen.frame m ρ,
  fun m ρ _ => Cert.Kernel9Ideal.Gen.frame m ρ,
  fun m ρ _ => (θ_run Cert.Reference9Ideal.defs _ _).mono
    (fun r h => ⟨fun c => (h c).2.2, sem_eq_zero_of_no_sems (by decide) r.2⟩) (Cert.Reference9Ideal.Value.run m ρ),
  fun m ρ _ => Cert.Kernel10.Gen.frame m ρ,
  fun m ρ _ => Cert.Kernel10Ideal.Gen.frame m ρ,
  fun m ρ _ => (θ_run Cert.Reference10Ideal.defs _ _).mono
    (fun r h => ⟨fun c => (h c).2.2.2.2, sem_eq_zero_of_no_sems (by decide) r.2⟩) (Cert.Reference10Ideal.Value.run m ρ),
  Cert.Up.frame_kernel,
  Cert.Up.frame_ideal,
  fun m ρ _ => (θ_run Cert.Reference11Ideal.defs _ _).mono
    (fun r h => ⟨fun c => (h c).2.2, sem_eq_zero_of_no_sems (by decide) r.2⟩) (Cert.Reference11Ideal.Value.run m ρ),
  Cert.Proj.frame_kernel,
  Cert.Proj.frame_ideal,
  fun m ρ _ => (θ_run Cert.Reference12Ideal.defs _ _).mono
    (fun r h => ⟨fun c => (h c).2.2.2, sem_eq_zero_of_no_sems (by decide) r.2⟩) (Cert.Reference12Ideal.Value.run m ρ),
  Cert.MemKv.frame_kernel,
  Cert.MemKv.frame_ideal,
  fun m ρ _ => (θ_run Cert.Reference13Ideal.defs _ _).mono
    (fun r h => ⟨fun c => (h c).2.2, sem_eq_zero_of_no_sems (by decide) r.2⟩) (Cert.Reference13Ideal.Value.run m ρ),
  fun m ρ _ => Cert.Kernel14.Gen.frame m ρ,
  fun m ρ _ => Cert.Kernel14Ideal.Gen.frame m ρ,
  fun m ρ _ => (θ_run Cert.Reference14Ideal.defs _ _).mono
    (fun r h => ⟨fun c => (h c).2, sem_eq_zero_of_no_sems (by decide) r.2⟩) (Cert.Reference14Ideal.Value.run m ρ),
  fun m ρ _ => Cert.Kernel16.Gen.frame m ρ,
  fun m ρ _ => Cert.Kernel16Ideal.Gen.frame m ρ,
  fun m ρ _ => (θ_run Cert.Reference16Ideal.defs _ _).mono
    (fun r h => ⟨fun c => (h c).2.2.2.2, sem_eq_zero_of_no_sems (by decide) r.2⟩) (Cert.Reference16Ideal.Value.run m ρ),
  fun m ρ _ => Cert.Kernel17.Gen.frame m ρ,
  fun m ρ _ => Cert.Kernel17Ideal.Gen.frame m ρ,
  fun m ρ _ => (θ_run Cert.Reference17Ideal.defs _ _).mono
    (fun r h => ⟨fun c => (h c).2, sem_eq_zero_of_no_sems (by decide) r.2⟩) (Cert.Reference17Ideal.Value.run m ρ),
  fun m ρ _ => Cert.Kernel19.Gen.frame m ρ,
  fun m ρ _ => Cert.Kernel19Ideal.Gen.frame m ρ,
  fun m ρ _ => (θ_run Cert.Reference19Ideal.defs _ _).mono
    (fun r h => ⟨fun c => (h c).2.2, sem_eq_zero_of_no_sems (by decide) r.2⟩) (Cert.Reference19Ideal.Value.run m ρ),
  trivial, Cert.Dpre.result,
  trivial, Cert.Mem.result,
  trivial, Cert.Conv.result,
  trivial, Cert.MlpDx.result,
  trivial, Cert.Loss.result,
  trivial, Cert.Xattn.result,
  trivial, Cert.Mix.result,
  trivial, Cert.MixDx.result,
  trivial, Cert.MixFwd.result,
  trivial, Cert.XattnFwd.result,
  trivial, Cert.Up.result,
  trivial, Cert.Proj.result,
  trivial, Cert.MemKv.result,
  trivial, Cert.GradW.result,
  trivial, Cert.Adam.result,
  trivial, Cert.Pack.result,
  trivial, Cert.Reorder.result⟩

end Cert.Proof

end
